-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))).1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))).2.1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))).2.2 = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_4)) (v3 : (c : Dev Cert.Kernel3Ideal.nD) → Buf (Elt Ideal) ((c.tc : Thread Cert.Kernel3Ideal.nD Cert.Kernel3Ideal.τ).loc Cert.Kernel3Ideal.main_v42)) (v4 : (c : Dev Cert.Kernel3Ideal.nD) → Buf (Elt Ideal) ((c.tc : Thread Cert.Kernel3Ideal.nD Cert.Kernel3Ideal.τ).loc Cert.Kernel3Ideal.main_v44)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_4) = v2 c
          ∧ r.2.mem ((c.tc : Thread Cert.Kernel3Ideal.nD Cert.Kernel3Ideal.τ).loc Cert.Kernel3Ideal.main_v42) = v3 c
          ∧ r.2.mem ((c.tc : Thread Cert.Kernel3Ideal.nD Cert.Kernel3Ideal.τ).loc Cert.Kernel3Ideal.main_v44) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_4)) (v3 : (c : Dev Cert.Kernel4Ideal.nD) → Buf (Elt Ideal) ((c.tc : Thread Cert.Kernel4Ideal.nD Cert.Kernel4Ideal.τ).loc Cert.Kernel4Ideal.main_v45)) (v4 : (c : Dev Cert.Kernel4Ideal.nD) → Buf (Elt Ideal) ((c.tc : Thread Cert.Kernel4Ideal.nD Cert.Kernel4Ideal.τ).loc Cert.Kernel4Ideal.main_v46)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_4) = v2 c
          ∧ r.2.mem ((c.tc : Thread Cert.Kernel4Ideal.nD Cert.Kernel4Ideal.τ).loc Cert.Kernel4Ideal.main_v45) = v3 c
          ∧ r.2.mem ((c.tc : Thread Cert.Kernel4Ideal.nD Cert.Kernel4Ideal.τ).loc Cert.Kernel4Ideal.main_v46) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32x16x1536 : Shape := ⟨3, ![32, 16, 1536]⟩
abbrev S32x16x512 : Shape := ⟨3, ![32, 16, 512]⟩
abbrev S32x16x8 : Shape := ⟨3, ![32, 16, 8]⟩
abbrev S1x32x3x1536 : Shape := ⟨4, ![1, 32, 3, 1536]⟩
abbrev S1x32x4x128x128 : Shape := ⟨5, ![1, 32, 4, 128, 128]⟩
abbrev S1x4x1536 : Shape := ⟨3, ![1, 4, 1536]⟩
abbrev S1x128 : Shape := ⟨2, ![1, 128]⟩
abbrev S_ : Shape := ⟨0, ![]⟩

class Facts : Prop where
  bcast_S_S32x16x1536 : S_.BroadcastsInDim S32x16x1536 (![] : Fin 0 → Fin S32x16x1536.rank)
  reducesTo_S32x16x1536_S_d0_1_2 : S32x16x1536.ReducesTo [0, 1, 2] S_
  h_S_ : 0 < S_.numel
  bcast_S_S32x16x8 : S_.BroadcastsInDim S32x16x8 (![] : Fin 0 → Fin S32x16x8.rank)
  reducesTo_S32x16x8_S_d0_1_2 : S32x16x8.ReducesTo [0, 1, 2] S_
  bcast_S_S1x32x3x1536 : S_.BroadcastsInDim S1x32x3x1536 (![] : Fin 0 → Fin S1x32x3x1536.rank)
  reducesTo_S1x32x3x1536_S_d0_1_2_3 : S1x32x3x1536.ReducesTo [0, 1, 2, 3] S_
  bcast_S_S1x4x1536 : S_.BroadcastsInDim S1x4x1536 (![] : Fin 0 → Fin S1x4x1536.rank)
  reducesTo_S1x4x1536_S_d0_1_2 : S1x4x1536.ReducesTo [0, 1, 2] S_

variable [Facts]

def fn_part1 {F : FTy → Type} [FloatOps F] (main_v13 : IVec S_ 1) (main_v16 : IVec S1x4x1536 1) : IVec S_ 1 :=
  let main_c_5 : IVec S_ 1 := constantI S_ 1 1#1
  let main_v17 : IVec S_ 1 := (fun x v => Host.reduce IntOp.andi x v reducesTo_S1x4x1536_S_d0_1_2 h_S_) main_v16 main_c_5
  let main_v18 : IVec S_ 1 := andi main_v13 main_v17
  main_v18

def fn {F : FTy → Type} [FloatOps F] (main_arg0 : FVec F S32x16x1536 .f32) (main_arg1 : FVec F S32x16x512 .f32) (main_arg2 : FVec F S32x16x8 .f32) (main_arg3 : FVec F S1x32x3x1536 .f32) (main_arg4 : FVec F S1x32x4x128x128 .f32) (main_arg5 : FVec F S1x4x1536 .f32) (main_arg6 : FVec F S1x128 .f32) : IVec S_ 1 :=
  let main_v0 : FVec F S32x16x1536 .f32 := Host.absf main_arg0
  let main_cst : FVec F S_ .f32 := constant S_ .f32 0x7F800000#32
  let main_v1 : FVec F S32x16x1536 .f32 := broadcastInDim S32x16x1536 ![] bcast_S_S32x16x1536 main_cst
  let main_v2 : IVec S32x16x1536 1 := cmpf .olt main_v0 main_v1
  let main_c : IVec S_ 1 := constantI S_ 1 1#1
  let main_v3 : IVec S_ 1 := (fun x v => Host.reduce IntOp.andi x v reducesTo_S32x16x1536_S_d0_1_2 h_S_) main_v2 main_c
  let main_v4 : FVec F S32x16x8 .f32 := Host.absf main_arg2
  let main_cst_0 : FVec F S_ .f32 := constant S_ .f32 0x7F800000#32
  let main_v5 : FVec F S32x16x8 .f32 := broadcastInDim S32x16x8 ![] bcast_S_S32x16x8 main_cst_0
  let main_v6 : IVec S32x16x8 1 := cmpf .olt main_v4 main_v5
  let main_c_1 : IVec S_ 1 := constantI S_ 1 1#1
  let main_v7 : IVec S_ 1 := (fun x v => Host.reduce IntOp.andi x v reducesTo_S32x16x8_S_d0_1_2 h_S_) main_v6 main_c_1
  let main_v8 : IVec S_ 1 := andi main_v3 main_v7
  let main_v9 : FVec F S1x32x3x1536 .f32 := Host.absf main_arg3
  let main_cst_2 : FVec F S_ .f32 := constant S_ .f32 0x7F800000#32
  let main_v10 : FVec F S1x32x3x1536 .f32 := broadcastInDim S1x32x3x1536 ![] bcast_S_S1x32x3x1536 main_cst_2
  let main_v11 : IVec S1x32x3x1536 1 := cmpf .olt main_v9 main_v10
  let main_c_3 : IVec S_ 1 := constantI S_ 1 1#1
  let main_v12 : IVec S_ 1 := (fun x v => Host.reduce IntOp.andi x v reducesTo_S1x32x3x1536_S_d0_1_2_3 h_S_) main_v11 main_c_3
  let main_v13 : IVec S_ 1 := andi main_v8 main_v12
  let main_v14 : FVec F S1x4x1536 .f32 := Host.absf main_arg5
  let main_cst_4 : FVec F S_ .f32 := constant S_ .f32 0x7F800000#32
  let main_v15 : FVec F S1x4x1536 .f32 := broadcastInDim S1x4x1536 ![] bcast_S_S1x4x1536 main_cst_4
  let main_v16 : IVec S1x4x1536 1 := cmpf .olt main_v14 main_v15
  fn_part1 (F := F) main_v13 main_v16
-- ==== Pre_tables.lean ====
abbrev S179 : Shape := ⟨1, ![179]⟩
abbrev S91648x1024 : Shape := ⟨2, ![91648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S178 : Shape := ⟨1, ![178]⟩
abbrev S1 : Shape := ⟨1, ![1]⟩

class Facts : Prop where
  bcast_S_S179 : S_.BroadcastsInDim S179 (![] : Fin 0 → Fin S179.rank)
  slices_S179_S178_1 : S179.Slices ![1] S178
  bcast_S_S178 : S_.BroadcastsInDim S178 (![] : Fin 0 → Fin S178.rank)
  slices_S179_S178_0 : S179.Slices ![0] S178
  slices_S179_S1_0 : S179.Slices ![0] S1
  bcast_S_S1 : S_.BroadcastsInDim S1 (![] : Fin 0 → Fin S1.rank)
  slices_S179_S1_178 : S179.Slices ![178] S1

variable [Facts]

def fn_where {F : FTy → Type} [FloatOps F] (arg0 : IVec S178 1) (arg1 : IVec S178 1) (arg2 : IVec S178 1) : IVec S178 1 :=
  let v0 : IVec S178 1 := select arg0 arg1 arg2
  v0

def fn_part2 {F : FTy → Type} [FloatOps F] (main_arg1 : IVec S179 32) (main_arg2 : IVec S179 32) (main_arg3 : IVec S179 32) (main_arg4 : IVec S179 32) (main_v13 : IVec S179 1) (main_v25 : IVec S178 1) (main_v39 : IVec S178 1) : IVec S179 1 × IVec S178 1 × IVec S1 1 :=
  let main_v40 : IVec S1 32 := (extractStridedSlice S1 ![0] · slices_S179_S1_0) main_arg2
  let main_c_7 : IVec S_ 32 := constantI S_ 32 0#32
  let main_v41 : IVec S1 32 := broadcastInDim S1 ![] bcast_S_S1 main_c_7
  let main_v42 : IVec S1 1 := cmpi .sgt main_v40 main_v41
  let main_v43 : IVec S1 32 := (extractStridedSlice S1 ![0] · slices_S179_S1_0) main_arg1
  let main_c_8 : IVec S_ 32 := constantI S_ 32 0#32
  let main_v44 : IVec S1 32 := broadcastInDim S1 ![] bcast_S_S1 main_c_8
  let main_v45 : IVec S1 1 := cmpi .eq main_v43 main_v44
  let main_v46 : IVec S1 1 := andi main_v42 main_v45
  let main_v47 : IVec S1 32 := (extractStridedSlice S1 ![0] · slices_S179_S1_0) main_arg3
  let main_c_9 : IVec S_ 32 := constantI S_ 32 1#32
  let main_v48 : IVec S1 32 := broadcastInDim S1 ![] bcast_S_S1 main_c_9
  let main_v49 : IVec S1 1 := cmpi .eq main_v47 main_v48
  let main_v50 : IVec S1 1 := andi main_v46 main_v49
  let main_v51 : IVec S1 32 := (extractStridedSlice S1 ![178] · slices_S179_S1_178) main_arg4
  let main_c_10 : IVec S_ 32 := constantI S_ 32 0#32
  let main_v52 : IVec S1 32 := broadcastInDim S1 ![] bcast_S_S1 main_c_10
  let main_v53 : IVec S1 1 := cmpi .slt main_v51 main_v52
  let main_v54 : IVec S1 1 := andi main_v50 main_v53
  let main_v55 : IVec S178 1 := andi main_v25 main_v39
  (main_v13, main_v55, main_v54)

def fn_part1 {F : FTy → Type} [FloatOps F] (main_arg0 : IVec S179 32) (main_arg1 : IVec S179 32) (main_arg2 : IVec S179 32) (main_arg3 : IVec S179 32) (main_arg4 : IVec S179 32) (main_v13 : IVec S179 1) (main_v16 : IVec S178 1) (main_v17 : IVec S178 32) : IVec S179 1 × IVec S178 1 × IVec S1 1 :=
  let main_v18 : IVec S178 32 := iotaInDim S178 32 0
  let main_c_5 : IVec S_ 32 := constantI S_ 32 1#32
  let main_v19 : IVec S178 32 := broadcastInDim S178 ![] bcast_S_S178 main_c_5
  let main_v20 : IVec S178 32 := addi main_v19 main_v18
  let main_v21 : IVec S178 1 := cmpi .eq main_v17 main_v20
  let main_v22 : IVec S178 32 := (extractStridedSlice S178 ![1] · slices_S179_S178_1) main_arg1
  let main_v23 : IVec S178 32 := (extractStridedSlice S178 ![0] · slices_S179_S178_0) main_arg1
  let main_v24 : IVec S178 1 := cmpi .eq main_v22 main_v23
  let main_v25 : IVec S178 1 := fn_where (F := F) main_v16 main_v21 main_v24
  let main_v26 : IVec S178 32 := (extractStridedSlice S178 ![1] · slices_S179_S178_1) main_arg3
  let main_c_6 : IVec S_ 32 := constantI S_ 32 1#32
  let main_v27 : IVec S178 32 := broadcastInDim S178 ![] bcast_S_S178 main_c_6
  let main_v28 : IVec S178 1 := cmpi .eq main_v26 main_v27
  let main_v29 : IVec S178 32 := (extractStridedSlice S178 ![0] · slices_S179_S178_0) main_arg4
  let main_v30 : IVec S178 32 := (extractStridedSlice S178 ![1] · slices_S179_S178_1) main_arg0
  let main_v31 : IVec S178 1 := cmpi .eq main_v29 main_v30
  let main_v32 : IVec S178 32 := (extractStridedSlice S178 ![0] · slices_S179_S178_0) main_arg4
  let main_v33 : IVec S178 32 := (extractStridedSlice S178 ![1] · slices_S179_S178_1) main_arg4
  let main_v34 : IVec S178 1 := cmpi .eq main_v32 main_v33
  let main_v35 : IVec S178 32 := (extractStridedSlice S178 ![1] · slices_S179_S178_1) main_arg0
  let main_v36 : IVec S178 32 := (extractStridedSlice S178 ![0] · slices_S179_S178_0) main_arg0
  let main_v37 : IVec S178 1 := cmpi .eq main_v35 main_v36
  let main_v38 : IVec S178 1 := andi main_v34 main_v37
  let main_v39 : IVec S178 1 := fn_where (F := F) main_v28 main_v31 main_v38
  fn_part2 (F := F) main_arg1 main_arg2 main_arg3 main_arg4 main_v13 main_v25 main_v39

def fn {F : FTy → Type} [FloatOps F] (main_arg0 : IVec S179 32) (main_arg1 : IVec S179 32) (main_arg2 : IVec S179 32) (main_arg3 : IVec S179 32) (main_arg4 : IVec S179 32) (main_arg5 : FVec F S91648x1024 .f32) (main_arg6 : FVec F S32x1024x2048 .f32) (main_arg7 : FVec F S32x1x2048 .f32) (main_arg8 : FVec F S32x1024x1024 .f32) (main_arg9 : FVec F S32x1x1024 .f32) : IVec S179 1 × IVec S178 1 × IVec S1 1 :=
  let main_c : IVec S_ 32 := constantI S_ 32 0#32
  let main_v0 : IVec S179 32 := broadcastInDim S179 ![] bcast_S_S179 main_c
  let main_v1 : IVec S179 1 := cmpi .sge main_arg0 main_v0
  let main_c_0 : IVec S_ 32 := constantI S_ 32 32#32
  let main_v2 : IVec S179 32 := broadcastInDim S179 ![] bcast_S_S179 main_c_0
  let main_v3 : IVec S179 1 := cmpi .slt main_arg0 main_v2
  let main_v4 : IVec S179 1 := andi main_v1 main_v3
  let main_c_1 : IVec S_ 32 := constantI S_ 32 32#32
  let main_v5 : IVec S179 32 := broadcastInDim S179 ![] bcast_S_S179 main_c_1
  let main_v6 : IVec S179 1 := cmpi .slt main_arg4 main_v5
  let main_v7 : IVec S179 1 := andi main_v4 main_v6
  let main_c_2 : IVec S_ 32 := constantI S_ 32 0#32
  let main_v8 : IVec S179 32 := broadcastInDim S179 ![] bcast_S_S179 main_c_2
  let main_v9 : IVec S179 1 := cmpi .sge main_arg2 main_v8
  let main_v10 : IVec S179 1 := andi main_v7 main_v9
  let main_c_3 : IVec S_ 32 := constantI S_ 32 512#32
  let main_v11 : IVec S179 32 := broadcastInDim S179 ![] bcast_S_S179 main_c_3
  let main_v12 : IVec S179 1 := cmpi .sle main_arg2 main_v11
  let main_v13 : IVec S179 1 := andi main_v10 main_v12
  let main_v14 : IVec S178 32 := (extractStridedSlice S178 ![1] · slices_S179_S178_1) main_arg2
  let main_c_4 : IVec S_ 32 := constantI S_ 32 0#32
  let main_v15 : IVec S178 32 := broadcastInDim S178 ![] bcast_S_S178 main_c_4
  let main_v16 : IVec S178 1 := cmpi .sgt main_v14 main_v15
  let main_v17 : IVec S178 32 := (extractStridedSlice S178 ![1] · slices_S179_S178_1) main_arg1
  fn_part1 (F := F) main_arg0 main_arg1 main_arg2 main_arg3 main_arg4 main_v13 main_v16 main_v17
-- ==== Kernel.lean ====
abbrev S32x16x1536 : Shape := ⟨3, ![32, 16, 1536]⟩
abbrev S32x16x512 : Shape := ⟨3, ![32, 16, 512]⟩
abbrev S32x16x8 : Shape := ⟨3, ![32, 16, 8]⟩
abbrev S1x32x3x1536 : Shape := ⟨4, ![1, 32, 3, 1536]⟩
abbrev S1x32x4x128x128 : Shape := ⟨5, ![1, 32, 4, 128, 128]⟩
abbrev S1x4x1536 : Shape := ⟨3, ![1, 4, 1536]⟩
abbrev S1x128 : Shape := ⟨2, ![1, 128]⟩
abbrev S32x8x16 : Shape := ⟨3, ![32, 8, 16]⟩
abbrev S32x3x1536 : Shape := ⟨3, ![32, 3, 1536]⟩
abbrev S32x4x128x128 : Shape := ⟨4, ![32, 4, 128, 128]⟩
abbrev S4x1536 : Shape := ⟨2, ![4, 1536]⟩
abbrev S128 : Shape := ⟨1, ![128]⟩
abbrev S8x16x1536 : Shape := ⟨3, ![8, 16, 1536]⟩
abbrev S8x16x512 : Shape := ⟨3, ![8, 16, 512]⟩
abbrev S8x16x8 : Shape := ⟨3, ![8, 16, 8]⟩
abbrev S8x8x16 : Shape := ⟨3, ![8, 8, 16]⟩
abbrev S8x3x1536 : Shape := ⟨3, ![8, 3, 1536]⟩
abbrev S8x4x128x128 : Shape := ⟨4, ![8, 4, 128, 128]⟩
abbrev S8x24x1536 : Shape := ⟨3, ![8, 24, 1536]⟩
abbrev S16x16 : Shape := ⟨2, ![16, 16]⟩
abbrev S1x16x8 : Shape := ⟨3, ![1, 16, 8]⟩
abbrev S16x8 : Shape := ⟨2, ![16, 8]⟩
abbrev S1x8x16 : Shape := ⟨3, ![1, 8, 16]⟩
abbrev S8x16 : Shape := ⟨2, ![8, 16]⟩
abbrev S1x16x128 : Shape := ⟨3, ![1, 16, 128]⟩
abbrev S16x128 : Shape := ⟨2, ![16, 128]⟩
abbrev S16 : Shape := ⟨1, ![16]⟩
abbrev S16x1 : Shape := ⟨2, ![16, 1]⟩
abbrev S128x16 : Shape := ⟨2, ![128, 16]⟩
abbrev S1x16 : Shape := ⟨2, ![1, 16]⟩
abbrev S32x128 : Shape := ⟨2, ![32, 128]⟩
abbrev S32x16 : Shape := ⟨2, ![32, 16]⟩
abbrev S16x256 : Shape := ⟨2, ![16, 256]⟩
abbrev S1x1 : Shape := ⟨2, ![1, 1]⟩
abbrev S1x1x128x128 : Shape := ⟨4, ![1, 1, 128, 128]⟩
abbrev S128x128 : Shape := ⟨2, ![128, 128]⟩
abbrev S144x16 : Shape := ⟨2, ![144, 16]⟩
abbrev S144x128 : Shape := ⟨2, ![144, 128]⟩

abbrev nBuf : Space → Nat
  | .hbm => 15
  | .vmem => 19
  | .smem => 0
  | _ => 0

abbrev bufTy : (tb : Table) → Fin (tcTables nBuf tb) → BufTy
  | .hbm, ⟨0, _⟩ => ⟨S32x16x1536, .f32⟩
  | .hbm, ⟨1, _⟩ => ⟨S32x16x512, .f32⟩
  | .hbm, ⟨2, _⟩ => ⟨S32x16x8, .f32⟩
  | .hbm, ⟨3, _⟩ => ⟨S1x32x3x1536, .f32⟩
  | .hbm, ⟨4, _⟩ => ⟨S1x32x4x128x128, .f32⟩
  | .hbm, ⟨5, _⟩ => ⟨S1x4x1536, .f32⟩
  | .hbm, ⟨6, _⟩ => ⟨S1x128, .f32⟩
  | .hbm, ⟨7, _⟩ => ⟨S32x8x16, .f32⟩
  | .hbm, ⟨8, _⟩ => ⟨S32x3x1536, .f32⟩
  | .hbm, ⟨9, _⟩ => ⟨S32x4x128x128, .f32⟩
  | .hbm, ⟨10, _⟩ => ⟨S4x1536, .f32⟩
  | .hbm, ⟨11, _⟩ => ⟨S128, .f32⟩
  | .hbm, ⟨12, _⟩ => ⟨S1x128, .f32⟩
  | .hbm, ⟨13, _⟩ => ⟨S32x16x512, .bf16⟩
  | .hbm, ⟨14, _⟩ => ⟨S32x4x128x128, .f32⟩
  | .local _ .vmem, ⟨0, _⟩ => ⟨S8x16x1536, .f32⟩
  | .local _ .vmem, ⟨1, _⟩ => ⟨S8x16x1536, .f32⟩
  | .local _ .vmem, ⟨2, _⟩ => ⟨S8x16x512, .f32⟩
  | .local _ .vmem, ⟨3, _⟩ => ⟨S8x16x512, .f32⟩
  | .local _ .vmem, ⟨4, _⟩ => ⟨S8x16x8, .f32⟩
  | .local _ .vmem, ⟨5, _⟩ => ⟨S8x16x8, .f32⟩
  | .local _ .vmem, ⟨6, _⟩ => ⟨S8x8x16, .f32⟩
  | .local _ .vmem, ⟨7, _⟩ => ⟨S8x8x16, .f32⟩
  | .local _ .vmem, ⟨8, _⟩ => ⟨S8x3x1536, .f32⟩
  | .local _ .vmem, ⟨9, _⟩ => ⟨S8x3x1536, .f32⟩
  | .local _ .vmem, ⟨10, _⟩ => ⟨S8x4x128x128, .f32⟩
  | .local _ .vmem, ⟨11, _⟩ => ⟨S8x4x128x128, .f32⟩
  | .local _ .vmem, ⟨12, _⟩ => ⟨S4x1536, .f32⟩
  | .local _ .vmem, ⟨13, _⟩ => ⟨S1x128, .f32⟩
  | .local _ .vmem, ⟨14, _⟩ => ⟨S8x16x512, .bf16⟩
  | .local _ .vmem, ⟨15, _⟩ => ⟨S8x16x512, .bf16⟩
  | .local _ .vmem, ⟨16, _⟩ => ⟨S8x4x128x128, .f32⟩
  | .local _ .vmem, ⟨17, _⟩ => ⟨S8x4x128x128, .f32⟩
  | .local _ .vmem, ⟨18, _⟩ => ⟨S8x24x1536, .f32⟩
  | _, _ => ⟨S32x16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S32x16x1536 : Shape := ⟨3, ![32, 16, 1536]⟩
abbrev S32x16x512 : Shape := ⟨3, ![32, 16, 512]⟩
abbrev S32x16x8 : Shape := ⟨3, ![32, 16, 8]⟩
abbrev S1x32x3x1536 : Shape := ⟨4, ![1, 32, 3, 1536]⟩
abbrev S1x32x4x128x128 : Shape := ⟨5, ![1, 32, 4, 128, 128]⟩
abbrev S1x4x1536 : Shape := ⟨3, ![1, 4, 1536]⟩
abbrev S1x128 : Shape := ⟨2, ![1, 128]⟩
abbrev S32x3x1536 : Shape := ⟨3, ![32, 3, 1536]⟩
abbrev S32x19x1536 : Shape := ⟨3, ![32, 19, 1536]⟩
abbrev S4x1536 : Shape := ⟨2, ![4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x16x4x128 : Shape := ⟨4, ![32, 16, 4, 128]⟩
abbrev S32x16x4 : Shape := ⟨3, ![32, 16, 4]⟩
abbrev S32x16x4x1 : Shape := ⟨4, ![32, 16, 4, 1]⟩
abbrev S32x4x16x128 : Shape := ⟨4, ![32, 4, 16, 128]⟩
abbrev S32x4x16 : Shape := ⟨3, ![32, 4, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S32x4x16x1 : Shape := ⟨4, ![32, 4, 16, 1]⟩
abbrev S32x4x1x16 : Shape := ⟨4, ![32, 4, 1, 16]⟩
abbrev S32x4x16x16 : Shape := ⟨4, ![32, 4, 16, 16]⟩
abbrev S32x4x16x256 : Shape := ⟨4, ![32, 4, 16, 256]⟩
abbrev S32x4x128x128 : Shape := ⟨4, ![32, 4, 128, 128]⟩
abbrev S32x4x1 : Shape := ⟨3, ![32, 4, 1]⟩
abbrev S32x4x1x1 : Shape := ⟨4, ![32, 4, 1, 1]⟩
abbrev S128 : Shape := ⟨1, ![128]⟩
abbrev S1x1x1x128 : Shape := ⟨4, ![1, 1, 1, 128]⟩

abbrev nBuf : Space → Nat
  | .hbm => 204
  | .vmem => 0
  | .smem => 0
  | _ => 0

abbrev hbmTy0_0 (i : Nat) : BufTy := match i % 128 with
  | 0 => ⟨S32x16x1536, .f32⟩
  | 1 => ⟨S32x16x512, .f32⟩
  | 2 => ⟨S32x16x8, .f32⟩
  | 3 => ⟨S1x32x3x1536, .f32⟩
  | 4 => ⟨S1x32x4x128x128, .f32⟩
  | 5 => ⟨S1x4x1536, .f32⟩
  | 6 => ⟨S1x128, .f32⟩
  | 7 => ⟨S32x3x1536, .f32⟩
  | 8 => ⟨S32x19x1536, .f32⟩
  | 9 => ⟨S4x1536, .f32⟩
  | 10 => ⟨S32x16x1536, .f32⟩
  | 11 => ⟨S1x1536, .f32⟩
  | 12 => ⟨S1536, .f32⟩
  | 13 => ⟨S1x1x1536, .f32⟩
  | 14 => ⟨S32x16x1536, .f32⟩
  | 15 => ⟨S32x16x1536, .f32⟩
  | 16 => ⟨S32x16x1536, .f32⟩
  | 17 => ⟨S1x1536, .f32⟩
  | 18 => ⟨S1536, .f32⟩
  | 19 => ⟨S1x1x1536, .f32⟩
  | 20 => ⟨S32x16x1536, .f32⟩
  | 21 => ⟨S32x16x1536, .f32⟩
  | 22 => ⟨S32x16x1536, .f32⟩
  | 23 => ⟨S32x16x1536, .f32⟩
  | 24 => ⟨S1x1536, .f32⟩
  | 25 => ⟨S1536, .f32⟩
  | 26 => ⟨S1x1x1536, .f32⟩
  | 27 => ⟨S32x16x1536, .f32⟩
  | 28 => ⟨S32x16x1536, .f32⟩
  | 29 => ⟨S32x16x1536, .f32⟩
  | 30 => ⟨S32x16x1536, .f32⟩
  | 31 => ⟨S1x1536, .f32⟩
  | 32 => ⟨S1536, .f32⟩
  | 33 => ⟨S1x1x1536, .f32⟩
  | 34 => ⟨S32x16x1536, .f32⟩
  | 35 => ⟨S32x16x1536, .f32⟩
  | 36 => ⟨S32x16x1536, .f32⟩
  | 37 => ⟨S32x16x1536, .f32⟩
  | 38 => ⟨S32x16x1536, .f32⟩
  | 39 => ⟨S_, .f32⟩
  | 40 => ⟨S32x16x1536, .f32⟩
  | 41 => ⟨S32x16x1536, .f32⟩
  | 42 => ⟨S_, .f32⟩
  | 43 => ⟨S32x16x1536, .f32⟩
  | 44 => ⟨S32x16x1536, .f32⟩
  | 45 => ⟨S32x16x1536, .f32⟩
  | 46 => ⟨S32x16x512, .f32⟩
  | 47 => ⟨S32x16x4x128, .f32⟩
  | 48 => ⟨S32x16x512, .f32⟩
  | 49 => ⟨S32x16x4x128, .f32⟩
  | 50 => ⟨S32x16x512, .f32⟩
  | 51 => ⟨S32x16x4x128, .f32⟩
  | 52 => ⟨S32x16x4x128, .f32⟩
  | 53 => ⟨S_, .f32⟩
  | 54 => ⟨S32x16x4, .f32⟩
  | 55 => ⟨S32x16x4x1, .f32⟩
  | 56 => ⟨S_, .f32⟩
  | 57 => ⟨S32x16x4x1, .f32⟩
  | 58 => ⟨S32x16x4x1, .f32⟩
  | 59 => ⟨S32x16x4x1, .f32⟩
  | 60 => ⟨S32x16x4x128, .f32⟩
  | 61 => ⟨S32x16x4x128, .f32⟩
  | 62 => ⟨S_, .f32⟩
  | 63 => ⟨S32x16x4x128, .f32⟩
  | 64 => ⟨S32x16x4x128, .f32⟩
  | 65 => ⟨S32x16x4x128, .f32⟩
  | 66 => ⟨S_, .f32⟩
  | 67 => ⟨S32x16x4, .f32⟩
  | 68 => ⟨S32x16x4x1, .f32⟩
  | 69 => ⟨S_, .f32⟩
  | 70 => ⟨S32x16x4x1, .f32⟩
  | 71 => ⟨S32x16x4x1, .f32⟩
  | 72 => ⟨S32x16x4x1, .f32⟩
  | 73 => ⟨S32x16x4x128, .f32⟩
  | 74 => ⟨S32x16x4x128, .f32⟩
  | 75 => ⟨S32x4x16x128, .f32⟩
  | 76 => ⟨S32x4x16x128, .f32⟩
  | 77 => ⟨S32x4x16x128, .f32⟩
  | 78 => ⟨S32x16x4, .f32⟩
  | 79 => ⟨S32x4x16, .f32⟩
  | 80 => ⟨S32x16x4, .f32⟩
  | 81 => ⟨S32x4x16, .f32⟩
  | 82 => ⟨S16, .i32⟩
  | 83 => ⟨S16x1, .i32⟩
  | 84 => ⟨S1x16, .i32⟩
  | 85 => ⟨S16x16, .i32⟩
  | 86 => ⟨S16x16, .i32⟩
  | 87 => ⟨S16x16, .i1⟩
  | 88 => ⟨S32x4x16x1, .f32⟩
  | 89 => ⟨S32x4x1x16, .f32⟩
  | 90 => ⟨S32x4x16x16, .f32⟩
  | 91 => ⟨S32x4x16x16, .f32⟩
  | 92 => ⟨S32x4x16x16, .f32⟩
  | 93 => ⟨S_, .f32⟩
  | 94 => ⟨S_, .f32⟩
  | 95 => ⟨S32x4x16x16, .i1⟩
  | 96 => ⟨S32x4x16x16, .f32⟩
  | 97 => ⟨S32x4x16x16, .f32⟩
  | 98 => ⟨S32x4x16x16, .f32⟩
  | 99 => ⟨S32x4x16x1, .f32⟩
  | 100 => ⟨S32x4x16x128, .f32⟩
  | 101 => ⟨S32x4x16x128, .f32⟩
  | 102 => ⟨S32x4x16x16, .f32⟩
  | 103 => ⟨S16x1, .i32⟩
  | 104 => ⟨S1x16, .i32⟩
  | 105 => ⟨S16x16, .i32⟩
  | 106 => ⟨S16x16, .i32⟩
  | 107 => ⟨S16x16, .i1⟩
  | 108 => ⟨S_, .f32⟩
  | 109 => ⟨S_, .f32⟩
  | 110 => ⟨S32x4x16x16, .i1⟩
  | 111 => ⟨S32x4x16x16, .f32⟩
  | 112 => ⟨S32x4x16x16, .f32⟩
  | 113 => ⟨S32x4x16x16, .f32⟩
  | 114 => ⟨S32x4x16x1, .f32⟩
  | 115 => ⟨S32x4x16x128, .f32⟩
  | 116 => ⟨S32x4x16x128, .f32⟩
  | 117 => ⟨S32x4x16, .f32⟩
  | 118 => ⟨S32x4x16x1, .f32⟩
  | 119 => ⟨S32x4x16x128, .f32⟩
  | 120 => ⟨S32x4x16x128, .f32⟩
  | 121 => ⟨S32x4x16x256, .f32⟩
  | 122 => ⟨S_, .f32⟩
  | 123 => ⟨S32x4x16x256, .f32⟩
  | 124 => ⟨S_, .i32⟩
  | 125 => ⟨S_, .i32⟩
  | 126 => ⟨S32x4x16x16, .f32⟩
  | 127 => ⟨S32x4x16x256, .f32⟩
  | _ => ⟨S32x16x1536, .f32⟩

abbrev hbmTy0_1 (i : Nat) : BufTy := match i % 128 with
  | 0 => ⟨S16, .i32⟩
  | 1 => ⟨S_, .i32⟩
  | 2 => ⟨S_, .i32⟩
  | 3 => ⟨S32x4x16x256, .f32⟩
  | 4 => ⟨S_, .i32⟩
  | 5 => ⟨S_, .i1⟩
  | 6 => ⟨S_, .i32⟩
  | 7 => ⟨S_, .i32⟩
  | 8 => ⟨S32x4x16x256, .f32⟩
  | 9 => ⟨S32x4x16x256, .f32⟩
  | 10 => ⟨S_, .i32⟩
  | 11 => ⟨S16, .i32⟩
  | 12 => ⟨S16, .i1⟩
  | 13 => ⟨S16x1, .i1⟩
  | 14 => ⟨S32x4x16x256, .i1⟩
  | 15 => ⟨S32x4x16x256, .f32⟩
  | 16 => ⟨S_, .i32⟩
  | 17 => ⟨S_, .i32⟩
  | 18 => ⟨S32x4x16x128, .f32⟩
  | 19 => ⟨S32x4x16x128, .f32⟩
  | 20 => ⟨S32x4x128x128, .f32⟩
  | 21 => ⟨S32x4x16x128, .f32⟩
  | 22 => ⟨S32x4x16x128, .f32⟩
  | 23 => ⟨S32x4x16, .f32⟩
  | 24 => ⟨S32x4x16x1, .f32⟩
  | 25 => ⟨S32x4x16x128, .f32⟩
  | 26 => ⟨S32x4x16x128, .f32⟩
  | 27 => ⟨S32x4x16x128, .f32⟩
  | 28 => ⟨S32x4x16x16, .f32⟩
  | 29 => ⟨S32x4x16x16, .f32⟩
  | 30 => ⟨S32x4x16x128, .f32⟩
  | 31 => ⟨S32x4x16x128, .f32⟩
  | 32 => ⟨S32x4x1, .f32⟩
  | 33 => ⟨S32x4x1, .f32⟩
  | 34 => ⟨S32x4x1x1, .f32⟩
  | 35 => ⟨S32x4x128x128, .f32⟩
  | 36 => ⟨S32x4x128x128, .f32⟩
  | 37 => ⟨S32x4x16, .f32⟩
  | 38 => ⟨S32x4x16, .f32⟩
  | 39 => ⟨S32x4x16, .f32⟩
  | 40 => ⟨S32x4x16x1, .f32⟩
  | 41 => ⟨S32x4x16x128, .f32⟩
  | 42 => ⟨S32x4x16x128, .f32⟩
  | 43 => ⟨S32x4x128x128, .f32⟩
  | 44 => ⟨S32x4x128x128, .f32⟩
  | 45 => ⟨S32x16x4x128, .f32⟩
  | 46 => ⟨S32x16x4x128, .f32⟩
  | 47 => ⟨S_, .f32⟩
  | 48 => ⟨S32x16x4, .f32⟩
  | 49 => ⟨S32x16x4x1, .f32⟩
  | 50 => ⟨S_, .f32⟩
  | 51 => ⟨S32x16x4x1, .f32⟩
  | 52 => ⟨S32x16x4x1, .f32⟩
  | 53 => ⟨S_, .f32⟩
  | 54 => ⟨S32x16x4x1, .f32⟩
  | 55 => ⟨S32x16x4x1, .f32⟩
  | 56 => ⟨S32x16x4x1, .f32⟩
  | 57 => ⟨S32x16x4x128, .f32⟩
  | 58 => ⟨S32x16x4x128, .f32⟩
  | 59 => ⟨S128, .f32⟩
  | 60 => ⟨S1x1x1x128, .f32⟩
  | 61 => ⟨S32x16x4x128, .f32⟩
  | 62 => ⟨S32x16x4x128, .f32⟩
  | 63 => ⟨S32x16x4x128, .f32⟩
  | 64 => ⟨S32x16x4x128, .f32⟩
  | 65 => ⟨S32x16x4x128, .f32⟩
  | 66 => ⟨S_, .f32⟩
  | 67 => ⟨S32x16x4x128, .f32⟩
  | 68 => ⟨S32x16x4x128, .f32⟩
  | 69 => ⟨S_, .f32⟩
  | 70 => ⟨S32x16x4x128, .f32⟩
  | 71 => ⟨S32x16x4x128, .f32⟩
  | 72 => ⟨S32x16x4x128, .f32⟩
  | 73 => ⟨S32x16x4x128, .f32⟩
  | 74 => ⟨S32x16x512, .f32⟩
  | 75 => ⟨S32x16x512, .bf16⟩
  | _ => ⟨S32x16x1536, .f32⟩

abbrev hbmTy (i : Nat) : BufTy := match i / 128 with
  | 0 => hbmTy0_0 i
  | 1 => hbmTy0_1 i
  | _ => ⟨S32x16x1536, .f32⟩

abbrev bufTy : (tb : Table) → Fin (tcTables nBuf tb) → BufTy
  | .hbm, ⟨i, _⟩ => hbmTy i
  | _, _ => ⟨S32x16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_6 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_7 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_8 : Ref sig .tc := ⟨.hbm, 122, rfl⟩
abbrev main_v100 : Ref sig .tc := ⟨.hbm, 123, rfl⟩
abbrev main_c : Ref sig .tc := ⟨.hbm, 124, rfl⟩
abbrev main_c_9 : Ref sig .tc := ⟨.hbm, 125, rfl⟩
abbrev main_v101_0 : Ref sig .tc := ⟨.hbm, 126, rfl⟩
abbrev main_v101_1 : Ref sig .tc := ⟨.hbm, 127, rfl⟩
abbrev main_v101_2 : Ref sig .tc := ⟨.hbm, 128, rfl⟩
abbrev main_v101_3 : Ref sig .tc := ⟨.hbm, 129, rfl⟩
abbrev main_v101_4 : Ref sig .tc := ⟨.hbm, 130, rfl⟩
abbrev main_v101_5 : Ref sig .tc := ⟨.hbm, 131, rfl⟩
abbrev main_while0c_c_20 : Ref sig .tc := ⟨.hbm, 132, rfl⟩
abbrev main_while0c_v155 : Ref sig .tc := ⟨.hbm, 133, rfl⟩
abbrev main_while0b_c_20 : Ref sig .tc := ⟨.hbm, 134, rfl⟩
abbrev main_while0b_v155 : Ref sig .tc := ⟨.hbm, 135, rfl⟩
abbrev main_while0b_v156 : Ref sig .tc := ⟨.hbm, 136, rfl⟩
abbrev main_while0b_v157 : Ref sig .tc := ⟨.hbm, 137, rfl⟩
abbrev main_while0b_v158 : Ref sig .tc := ⟨.hbm, 138, rfl⟩
abbrev main_while0b_v159 : Ref sig .tc := ⟨.hbm, 139, rfl⟩
abbrev main_while0b_v160 : Ref sig .tc := ⟨.hbm, 140, rfl⟩
abbrev main_while0b_v161 : Ref sig .tc := ⟨.hbm, 141, rfl⟩
abbrev main_while0b_call2_v0 : Ref sig .tc := ⟨.hbm, 142, rfl⟩
abbrev main_while0b_v162 : Ref sig .tc := ⟨.hbm, 143, rfl⟩
abbrev main_while0b_c_21 : Ref sig .tc := ⟨.hbm, 144, rfl⟩
abbrev main_while0b_v163 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_10 : Ref sig .tc := ⟨.hbm, 175, rfl⟩
abbrev main_v131 : Ref sig .tc := ⟨.hbm, 176, rfl⟩
abbrev main_v132 : Ref sig .tc := ⟨.hbm, 177, rfl⟩
abbrev main_cst_11 : Ref sig .tc := ⟨.hbm, 178, rfl⟩
abbrev main_v133 : Ref sig .tc := ⟨.hbm, 179, rfl⟩
abbrev main_v134 : Ref sig .tc := ⟨.hbm, 180, rfl⟩
abbrev main_cst_12 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_13 : Ref sig .tc := ⟨.hbm, 194, rfl⟩
abbrev main_v147 : Ref sig .tc := ⟨.hbm, 195, rfl⟩
abbrev main_v148 : Ref sig .tc := ⟨.hbm, 196, rfl⟩
abbrev main_cst_14 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S179 : Shape := ⟨1, ![179]⟩
abbrev S91648x1024 : Shape := ⟨2, ![91648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1 : Shape := ⟨1, ![1]⟩
abbrev S1x1x2048 : Shape := ⟨3, ![1, 1, 2048]⟩
abbrev S1x1x1024 : Shape := ⟨3, ![1, 1, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩
abbrev S512x2048 : Shape := ⟨2, ![512, 2048]⟩

abbrev nBuf : Space → Nat
  | .hbm => 6
  | .vmem => 12
  | .smem => 5
  | _ => 0

abbrev bufTy : (tb : Table) → Fin (tcTables nBuf tb) → BufTy
  | .hbm, ⟨0, _⟩ => ⟨S91648x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S91648x1024, .f32⟩
  | .local _ .vmem, ⟨0, _⟩ => ⟨S512x1024, .f32⟩
  | .local _ .vmem, ⟨1, _⟩ => ⟨S512x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S179, .i32⟩
  | .local _ .smem, ⟨1, _⟩ => ⟨S179, .i32⟩
  | .local _ .smem, ⟨2, _⟩ => ⟨S179, .i32⟩
  | .local _ .smem, ⟨3, _⟩ => ⟨S179, .i32⟩
  | .local _ .smem, ⟨4, _⟩ => ⟨S179, .i32⟩
  | _, _ => ⟨S91648x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![179], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off2 (v35 : BitVec 32) : Fin 3 → Nat :=
  let c0_i32_14 : BitVec 32 := 0#32
  let c0_i32_15 : BitVec 32 := 0#32
  ![v35.toNat, 0, 0]

def k0_off3 (v35 : BitVec 32) : Fin 3 → Nat :=
  let c0_i32_17 : BitVec 32 := 0#32
  let c0_i32_18 : BitVec 32 := 0#32
  ![v35.toNat, 0, 0]

def k0_chk1 (i : grid0.Coords) (v35 : BitVec 32) : Prop :=
  (∀ (k0_h1 : k0_cond1 i = 1#1), ∀ a, (k0_off2 v35) a + S1x1024x2048.size a ≤ S32x1024x2048.size a) ∧
  (∀ (k0_h1 : k0_cond1 i = 1#1), ∀ a, (k0_off3 v35) a + S1x1024x1024.size a ≤ S32x1024x1024.size a)
theorem k0_off2_inb : ∀ (i : grid0.Coords) (v35 : BitVec 32) (k0_hw1 : k0_chk1 i v35), ∀ (k0_h1 : k0_cond1 i = 1#1), ∀ a, (k0_off2 v35) a + S1x1024x2048.size a ≤ S32x1024x2048.size a := fun i v35 k0_hw1 k0_h1 => k0_hw1.1 k0_h1
theorem k0_off3_inb : ∀ (i : grid0.Coords) (v35 : BitVec 32) (k0_hw1 : k0_chk1 i v35), ∀ (k0_h1 : k0_cond1 i = 1#1), ∀ a, (k0_off3 v35) a + S1x1024x1024.size a ≤ S32x1024x1024.size a := fun i v35 k0_hw1 k0_h1 => k0_hw1.2 k0_h1

def k0_off4 (i : grid0.Coords) : Fin 1 → Nat :=
  let arg0 : BitVec 32 := BitVec.ofNat 32 (i 0).val
  let v35 : Index := Scalar.indexCast arg0
  ![v35.toNat]
def k0_off5 (v36 : BitVec 32) : Fin 3 → Nat :=
  let c0_i32_14 : BitVec 32 := 0#32
  let c0_i32_15 : BitVec 32 := 0#32
  ![v36.toNat, 0, 0]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v36 : BitVec 32) : Fin 3 → Nat :=
  let c0_i32_17 : BitVec 32 := 0#32
  let c0_i32_18 : BitVec 32 := 0#32
  ![v36.toNat, 0, 0]

def k0_chk2 (v4 : BitVec 32) (v36 : BitVec 32) : Prop :=
  (∀ (k0_h2 : k0_cond2 v4 = 1#1), ∀ a, (k0_off5 v36) a + S1x1024x2048.size a ≤ S32x1024x2048.size a) ∧
  (∀ (k0_h2 : k0_cond2 v4 = 1#1), ∀ a, (k0_off6 v36) a + S1x1024x1024.size a ≤ S32x1024x1024.size a)
theorem k0_off5_inb : ∀ (v4 : BitVec 32) (v36 : BitVec 32) (k0_hw2 : k0_chk2 v4 v36), ∀ (k0_h2 : k0_cond2 v4 = 1#1), ∀ a, (k0_off5 v36) a + S1x1024x2048.size a ≤ S32x1024x2048.size a := fun v4 v36 k0_hw2 k0_h2 => k0_hw2.1 k0_h2
theorem k0_off6_inb : ∀ (v4 : BitVec 32) (v36 : BitVec 32) (k0_hw2 : k0_chk2 v4 v36), ∀ (k0_h2 : k0_cond2 v4 = 1#1), ∀ a, (k0_off6 v36) a + S1x1024x1024.size a ≤ S32x1024x1024.size a := fun v4 v36 k0_hw2 k0_h2 => k0_hw2.2 k0_h2

def k0_off7 (i : grid0.Coords) : Fin 1 → Nat :=
  let arg0 : BitVec 32 := BitVec.ofNat 32 (i 0).val
  let v55 : Index := Scalar.indexCast arg0
  ![v55.toNat]
def k0_off8 (i : grid0.Coords) : Fin 1 → Nat :=
  let arg0 : BitVec 32 := BitVec.ofNat 32 (i 0).val
  let v60 : Index := Scalar.indexCast arg0
  ![v60.toNat]
def k0_off9 (v61 : BitVec 32) : Fin 3 → Nat :=
  let c0_i32_29 : BitVec 32 := 0#32
  let c0_i32_30 : BitVec 32 := 0#32
  ![v61.toNat, 0, 0]
def k0_cond3 (v56 : BitVec 32) : BitVec 1 :=
  let c0_i32_26 : BitVec 32 := 0#32
  let v57 : BitVec 1 := Scalar.cmpi .sge v56 c0_i32_26
  let v58 : BitVec 32 := Scalar.extui v57
  let c0_i32_27 : BitVec 32 := 0#32
  let v59 : BitVec 1 := Scalar.cmpi .ne v58 c0_i32_27
  v59

def k0_off10 (v61 : BitVec 32) : Fin 3 → Nat :=
  let c0_i32_32 : BitVec 32 := 0#32
  let c0_i32_33 : BitVec 32 := 0#32
  ![v61.toNat, 0, 0]

def k0_chk3 (v4 : BitVec 32) (v56 : BitVec 32) (v61 : BitVec 32) : Prop :=
  (∀ (k0_h2 : k0_cond2 v4 = 1#1), ∀ (k0_h3 : k0_cond3 v56 = 1#1), ∀ a, (k0_off9 v61) a + S1x1024x2048.size a ≤ S32x1024x2048.size a) ∧
  (∀ (k0_h2 : k0_cond2 v4 = 1#1), ∀ (k0_h3 : k0_cond3 v56 = 1#1), ∀ a, (k0_off10 v61) a + S1x1024x1024.size a ≤ S32x1024x1024.size a)
theorem k0_off9_inb : ∀ (v4 : BitVec 32) (v56 : BitVec 32) (v61 : BitVec 32) (k0_hw3 : k0_chk3 v4 v56 v61), ∀ (k0_h2 : k0_cond2 v4 = 1#1), ∀ (k0_h3 : k0_cond3 v56 = 1#1), ∀ a, (k0_off9 v61) a + S1x1024x2048.size a ≤ S32x1024x2048.size a := fun v4 v56 v61 k0_hw3 k0_h2 k0_h3 => k0_hw3.1 k0_h2 k0_h3
theorem k0_off10_inb : ∀ (v4 : BitVec 32) (v56 : BitVec 32) (v61 : BitVec 32) (k0_hw3 : k0_chk3 v4 v56 v61), ∀ (k0_h2 : k0_cond2 v4 = 1#1), ∀ (k0_h3 : k0_cond3 v56 = 1#1), ∀ a, (k0_off10 v61) a + S1x1024x1024.size a ≤ S32x1024x1024.size a := fun v4 v56 v61 k0_hw3 k0_h2 k0_h3 => k0_hw3.2 k0_h2 k0_h3

def k0_off11 (i : grid0.Coords) : Fin 1 → Nat :=
  let arg0 : BitVec 32 := BitVec.ofNat 32 (i 0).val
  let v8 : Index := Scalar.indexCast arg0
  ![v8.toNat]
def k0_cond4 (v9 : BitVec 32) : BitVec 1 :=
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c1_i32_10 : BitVec 32 := 1#32
  let v29 : BitVec 1 := Scalar.cmpi .eq v28 c1_i32_10
  let v30 : BitVec 32 := Scalar.extui v29
  let c0_i32_11 : BitVec 32 := 0#32
  let v31 : BitVec 1 := Scalar.cmpi .ne v30 c0_i32_11
  v31

def k0_cond5 (v9 : BitVec 32) : BitVec 1 :=
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c2_i32 : BitVec 32 := 2#32
  let v32 : BitVec 1 := Scalar.cmpi .eq v28 c2_i32
  let v33 : BitVec 32 := Scalar.extui v32
  let c0_i32_12 : BitVec 32 := 0#32
  let v34 : BitVec 1 := Scalar.cmpi .ne v33 c0_i32_12
  v34

def cc0_transform_0 (k0_off1_inb : ∀ i : grid0.Coords, ∀ a, (k0_off1 i) a + S1.size a ≤ S179.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S179) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S179.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S179) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S179.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S179) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S179.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S179) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S179 : Shape := ⟨1, ![179]⟩
abbrev S91648x1024 : Shape := ⟨2, ![91648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S179x512x1024 : Shape := ⟨3, ![179, 512, 1024]⟩
abbrev S_ : Shape := ⟨0, ![]⟩
abbrev S179x1 : Shape := ⟨2, ![179, 1]⟩
abbrev S179x1024x2048 : Shape := ⟨3, ![179, 1024, 2048]⟩
abbrev S179x512x2048 : Shape := ⟨3, ![179, 512, 2048]⟩
abbrev S179x1x2048 : Shape := ⟨3, ![179, 1, 2048]⟩
abbrev S179x1024x1024 : Shape := ⟨3, ![179, 1024, 1024]⟩
abbrev S179x1x1024 : Shape := ⟨3, ![179, 1, 1024]⟩
abbrev S179x1x1 : Shape := ⟨3, ![179, 1, 1]⟩
abbrev S512 : Shape := ⟨1, ![512]⟩
abbrev S1x512x1 : Shape := ⟨3, ![1, 512, 1]⟩
abbrev S179x512x1 : Shape := ⟨3, ![179, 512, 1]⟩

abbrev nBuf : Space → Nat
  | .hbm => 105
  | .vmem => 0
  | .smem => 0
  | _ => 0

abbrev bufTy : (tb : Table) → Fin (tcTables nBuf tb) → BufTy
  | .hbm, ⟨0, _⟩ => ⟨S179, .i32⟩
  | .hbm, ⟨1, _⟩ => ⟨S179, .i32⟩
  | .hbm, ⟨2, _⟩ => ⟨S179, .i32⟩
  | .hbm, ⟨3, _⟩ => ⟨S179, .i32⟩
  | .hbm, ⟨4, _⟩ => ⟨S179, .i32⟩
  | .hbm, ⟨5, _⟩ => ⟨S91648x1024, .f32⟩
  | .hbm, ⟨6, _⟩ => ⟨S32x1024x2048, .f32⟩
  | .hbm, ⟨7, _⟩ => ⟨S32x1x2048, .f32⟩
  | .hbm, ⟨8, _⟩ => ⟨S32x1024x1024, .f32⟩
  | .hbm, ⟨9, _⟩ => ⟨S32x1x1024, .f32⟩
  | .hbm, ⟨10, _⟩ => ⟨S179x512x1024, .f32⟩
  | .hbm, ⟨11, _⟩ => ⟨S_, .i32⟩
  | .hbm, ⟨12, _⟩ => ⟨S179, .i32⟩
  | .hbm, ⟨13, _⟩ => ⟨S179, .i1⟩
  | .hbm, ⟨14, _⟩ => ⟨S_, .i32⟩
  | .hbm, ⟨15, _⟩ => ⟨S179, .i32⟩
  | .hbm, ⟨16, _⟩ => ⟨S179, .i32⟩
  | .hbm, ⟨17, _⟩ => ⟨S179, .i32⟩
  | .hbm, ⟨18, _⟩ => ⟨S179x1, .i32⟩
  | .hbm, ⟨19, _⟩ => ⟨S179x1024x2048, .f32⟩
  | .hbm, ⟨20, _⟩ => ⟨S179x512x2048, .f32⟩
  | .hbm, ⟨21, _⟩ => ⟨S_, .i32⟩
  | .hbm, ⟨22, _⟩ => ⟨S179, .i32⟩
  | .hbm, ⟨23, _⟩ => ⟨S179, .i1⟩
  | .hbm, ⟨24, _⟩ => ⟨S_, .i32⟩
  | .hbm, ⟨25, _⟩ => ⟨S179, .i32⟩
  | .hbm, ⟨26, _⟩ => ⟨S179, .i32⟩
  | .hbm, ⟨27, _⟩ => ⟨S179, .i32⟩
  | .hbm, ⟨28, _⟩ => ⟨S179x1, .i32⟩
  | .hbm, ⟨29, _⟩ => ⟨S179x1x2048, .f32⟩
  | .hbm, ⟨30, _⟩ => ⟨S179x512x2048, .f32⟩
  | .hbm, ⟨31, _⟩ => ⟨S179x512x2048, .f32⟩
  | .hbm, ⟨32, _⟩ => ⟨S179x512x1024, .f32⟩
  | .hbm, ⟨33, _⟩ => ⟨S_, .f32⟩
  | .hbm, ⟨34, _⟩ => ⟨S179x512x1024, .f32⟩
  | .hbm, ⟨35, _⟩ => ⟨S179x512x1024, .f32⟩
  | .hbm, ⟨36, _⟩ => ⟨S179x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S179x512x1024, .f32⟩
  | .hbm, ⟨41, _⟩ => ⟨S179x512x1024, .f32⟩
  | .hbm, ⟨42, _⟩ => ⟨S_, .f32⟩
  | .hbm, ⟨43, _⟩ => ⟨S179x512x1024, .f32⟩
  | .hbm, ⟨44, _⟩ => ⟨S179x512x1024, .f32⟩
  | .hbm, ⟨45, _⟩ => ⟨S_, .f32⟩
  | .hbm, ⟨46, _⟩ => ⟨S179x512x1024, .f32⟩
  | .hbm, ⟨47, _⟩ => ⟨S179x512x1024, .f32⟩
  | .hbm, ⟨48, _⟩ => ⟨S179x512x1024, .f32⟩
  | .hbm, ⟨49, _⟩ => ⟨S179x512x1024, .f32⟩
  | .hbm, ⟨50, _⟩ => ⟨S_, .f32⟩
  | .hbm, ⟨51, _⟩ => ⟨S179x512x1024, .f32⟩
  | .hbm, ⟨52, _⟩ => ⟨S179x512x1024, .f32⟩
  | .hbm, ⟨53, _⟩ => ⟨S_, .f32⟩
  | .hbm, ⟨54, _⟩ => ⟨S179x512x1024, .f32⟩
  | .hbm, ⟨55, _⟩ => ⟨S179x512x1024, .f32⟩
  | .hbm, ⟨56, _⟩ => ⟨S179x512x1024, .f32⟩
  | .hbm, ⟨57, _⟩ => ⟨S_, .f32⟩
  | .hbm, ⟨58, _⟩ => ⟨S179x512x1024, .f32⟩
  | .hbm, ⟨59, _⟩ => ⟨S179x512x1024, .f32⟩
  | .hbm, ⟨60, _⟩ => ⟨S179x512x1024, .f32⟩
  | .hbm, ⟨61, _⟩ => ⟨S_, .i32⟩
  | .hbm, ⟨62, _⟩ => ⟨S179, .i32⟩
  | .hbm, ⟨63, _⟩ => ⟨S179, .i1⟩
  | .hbm, ⟨64, _⟩ => ⟨S_, .i32⟩
  | .hbm, ⟨65, _⟩ => ⟨S179, .i32⟩
  | .hbm, ⟨66, _⟩ => ⟨S179, .i32⟩
  | .hbm, ⟨67, _⟩ => ⟨S179, .i32⟩
  | .hbm, ⟨68, _⟩ => ⟨S179x1, .i32⟩
  | .hbm, ⟨69, _⟩ => ⟨S179x1024x1024, .f32⟩
  | .hbm, ⟨70, _⟩ => ⟨S179x512x1024, .f32⟩
  | .hbm, ⟨71, _⟩ => ⟨S_, .i32⟩
  | .hbm, ⟨72, _⟩ => ⟨S179, .i32⟩
  | .hbm, ⟨73, _⟩ => ⟨S179, .i1⟩
  | .hbm, ⟨74, _⟩ => ⟨S_, .i32⟩
  | .hbm, ⟨75, _⟩ => ⟨S179, .i32⟩
  | .hbm, ⟨76, _⟩ => ⟨S179, .i32⟩
  | .hbm, ⟨77, _⟩ => ⟨S179, .i32⟩
  | .hbm, ⟨78, _⟩ => ⟨S179x1, .i32⟩
  | .hbm, ⟨79, _⟩ => ⟨S179x1x1024, .f32⟩
  | .hbm, ⟨80, _⟩ => ⟨S179x512x1024, .f32⟩
  | .hbm, ⟨81, _⟩ => ⟨S179x512x1024, .f32⟩
  | .hbm, ⟨82, _⟩ => ⟨S179x1x1, .i32⟩
  | .hbm, ⟨83, _⟩ => ⟨S512, .i32⟩
  | .hbm, ⟨84, _⟩ => ⟨S1x512x1, .i32⟩
  | .hbm, ⟨85, _⟩ => ⟨S_, .i32⟩
  | .hbm, ⟨86, _⟩ => ⟨S1x512x1, .i32⟩
  | .hbm, ⟨87, _⟩ => ⟨S1x512x1, .i1⟩
  | .hbm, ⟨88, _⟩ => ⟨S_, .i32⟩
  | .hbm, ⟨89, _⟩ => ⟨S179x1x1, .i32⟩
  | .hbm, ⟨90, _⟩ => ⟨S179x1x1, .i1⟩
  | .hbm, ⟨91, _⟩ => ⟨S179x512x1, .i1⟩
  | .hbm, ⟨92, _⟩ => ⟨S179x512x1, .i1⟩
  | .hbm, ⟨93, _⟩ => ⟨S179x512x1, .i1⟩
  | .hbm, ⟨94, _⟩ => ⟨S_, .f32⟩
  | .hbm, ⟨95, _⟩ => ⟨S_, .f32⟩
  | .hbm, ⟨96, _⟩ => ⟨S179x512x1024, .i1⟩
  | .hbm, ⟨97, _⟩ => ⟨S179x512x1024, .f32⟩
  | .hbm, ⟨98, _⟩ => ⟨S179x512x1024, .f32⟩
  | .hbm, ⟨99, _⟩ => ⟨S_, .i32⟩
  | .hbm, ⟨100, _⟩ => ⟨S179x1x1, .i32⟩
  | .hbm, ⟨101, _⟩ => ⟨S179x1x1, .i1⟩
  | .hbm, ⟨102, _⟩ => ⟨S179x512x1024, .i1⟩
  | .hbm, ⟨103, _⟩ => ⟨S179x512x1024, .f32⟩
  | .hbm, ⟨104, _⟩ => ⟨S91648x1024, .f32⟩
  | _, _ => ⟨S179, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_c_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v62 : Ref sig .tc := ⟨.hbm, 98, rfl⟩
abbrev main_c_16 : Ref sig .tc := ⟨.hbm, 99, rfl⟩
abbrev main_v63 : Ref sig .tc := ⟨.hbm, 100, rfl⟩
abbrev main_v64 : Ref sig .tc := ⟨.hbm, 101, rfl⟩
abbrev main_call2_v0 : Ref sig .tc := ⟨.hbm, 102, rfl⟩
abbrev main_v65 : Ref sig .tc := ⟨.hbm, 103, rfl⟩
abbrev main_v66 : Ref sig .tc := ⟨.hbm, 104, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x3080 : Shape := ⟨3, ![1, 1024, 3080]⟩
abbrev S1x4 : Shape := ⟨2, ![1, 4]⟩
abbrev S16384x1024 : Shape := ⟨2, ![16384, 1024]⟩
abbrev S1024x3080 : Shape := ⟨2, ![1024, 3080]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024 : Shape := ⟨1, ![1024]⟩
abbrev S4 : Shape := ⟨1, ![4]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x1536 : Shape := ⟨2, ![16384, 1536]⟩
abbrev S16384x512 : Shape := ⟨2, ![16384, 512]⟩
abbrev S16384x8 : Shape := ⟨2, ![16384, 8]⟩
abbrev S8x8x2048 : Shape := ⟨3, ![8, 8, 2048]⟩
abbrev S512x1024 : Shape := ⟨2, ![512, 1024]⟩
abbrev S512x1536 : Shape := ⟨2, ![512, 1536]⟩
abbrev S512x8 : Shape := ⟨2, ![512, 8]⟩
abbrev S1x8x512 : Shape := ⟨3, ![1, 8, 512]⟩
abbrev S512x128 : Shape := ⟨2, ![512, 128]⟩
abbrev S128x512 : Shape := ⟨2, ![128, 512]⟩
abbrev S8x512 : Shape := ⟨2, ![8, 512]⟩
abbrev S24x512 : Shape := ⟨2, ![24, 512]⟩
abbrev S120x512 : Shape := ⟨2, ![120, 512]⟩
abbrev S8x2048x1536 : Shape := ⟨3, ![8, 2048, 1536]⟩
abbrev S8x2048x512 : Shape := ⟨3, ![8, 2048, 512]⟩
abbrev S8x3x1536 : Shape := ⟨3, ![8, 3, 1536]⟩
abbrev S1x8x3x1536 : Shape := ⟨4, ![1, 8, 3, 1536]⟩
abbrev S8x30x512 : Shape := ⟨3, ![8, 30, 512]⟩
abbrev S1x8x30x512 : Shape := ⟨4, ![1, 8, 30, 512]⟩

abbrev nBuf : Space → Nat
  | .hbm => 95
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3080, .f32⟩
  | .hbm, ⟨3, _⟩ => ⟨S1x4, .f32⟩
  | .hbm, ⟨4, _⟩ => ⟨S1x4, .f32⟩
  | .hbm, ⟨5, _⟩ => ⟨S1x1024, .f32⟩
  | .hbm, ⟨6, _⟩ => ⟨S16384x1024, .f32⟩
  | .hbm, ⟨7, _⟩ => ⟨S1024x3080, .f32⟩
  | .hbm, ⟨8, _⟩ => ⟨S1024x1536, .f32⟩
  | .hbm, ⟨9, _⟩ => ⟨S1024x1536, .bf16⟩
  | .hbm, ⟨10, _⟩ => ⟨S1024x512, .f32⟩
  | .hbm, ⟨11, _⟩ => ⟨S1024x512, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S_, .i32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S4, .f32⟩
  | .hbm, ⟨29, _⟩ => ⟨S_, .i32⟩
  | .hbm, ⟨30, _⟩ => ⟨S_, .f32⟩
  | .hbm, ⟨31, _⟩ => ⟨S8, .f32⟩
  | .hbm, ⟨32, _⟩ => ⟨S8x1, .f32⟩
  | .hbm, ⟨33, _⟩ => ⟨S1024, .f32⟩
  | .hbm, ⟨34, _⟩ => ⟨S1x1024, .f32⟩
  | .hbm, ⟨35, _⟩ => ⟨S512, .i32⟩
  | .hbm, ⟨36, _⟩ => ⟨S512x1, .i32⟩
  | .hbm, ⟨37, _⟩ => ⟨S1x512, .i32⟩
  | .hbm, ⟨38, _⟩ => ⟨S512x512, .i32⟩
  | .hbm, ⟨39, _⟩ => ⟨S512x512, .i32⟩
  | .hbm, ⟨40, _⟩ => ⟨S512x512, .i1⟩
  | .hbm, ⟨41, _⟩ => ⟨S512x1, .i32⟩
  | .hbm, ⟨42, _⟩ => ⟨S_, .i32⟩
  | .hbm, ⟨43, _⟩ => ⟨S_, .i32⟩
  | .hbm, ⟨44, _⟩ => ⟨S512x1, .i32⟩
  | .hbm, ⟨45, _⟩ => ⟨S512x1, .i32⟩
  | .hbm, ⟨46, _⟩ => ⟨S512x1, .i32⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S512x1, .i32⟩
  | .hbm, ⟨51, _⟩ => ⟨S512x1, .i32⟩
  | .hbm, ⟨52, _⟩ => ⟨S_, .i32⟩
  | .hbm, ⟨53, _⟩ => ⟨S512x1, .i32⟩
  | .hbm, ⟨54, _⟩ => ⟨S512x1, .i1⟩
  | .hbm, ⟨55, _⟩ => ⟨S512x1, .i1⟩
  | .hbm, ⟨56, _⟩ => ⟨S_, .i32⟩
  | .hbm, ⟨57, _⟩ => ⟨S512x1, .i32⟩
  | .hbm, ⟨58, _⟩ => ⟨S512x1, .i32⟩
  | .hbm, ⟨59, _⟩ => ⟨S512x1, .i32⟩
  | .hbm, ⟨60, _⟩ => ⟨S1x512, .i32⟩
  | .hbm, ⟨61, _⟩ => ⟨S_, .i32⟩
  | .hbm, ⟨62, _⟩ => ⟨S_, .i32⟩
  | .hbm, ⟨63, _⟩ => ⟨S1x512, .i32⟩
  | .hbm, ⟨64, _⟩ => ⟨S1x512, .i32⟩
  | .hbm, ⟨65, _⟩ => ⟨S1x512, .i32⟩
  | .hbm, ⟨66, _⟩ => ⟨S_, .i32⟩
  | .hbm, ⟨67, _⟩ => ⟨S1x512, .i32⟩
  | .hbm, ⟨68, _⟩ => ⟨S1x512, .i1⟩
  | .hbm, ⟨69, _⟩ => ⟨S1x512, .i32⟩
  | .hbm, ⟨70, _⟩ => ⟨S1x512, .i32⟩
  | .hbm, ⟨71, _⟩ => ⟨S_, .i32⟩
  | .hbm, ⟨72, _⟩ => ⟨S1x512, .i32⟩
  | .hbm, ⟨73, _⟩ => ⟨S1x512, .i1⟩
  | .hbm, ⟨74, _⟩ => ⟨S1x512, .i1⟩
  | .hbm, ⟨75, _⟩ => ⟨S_, .i32⟩
  | .hbm, ⟨76, _⟩ => ⟨S1x512, .i32⟩
  | .hbm, ⟨77, _⟩ => ⟨S1x512, .i32⟩
  | .hbm, ⟨78, _⟩ => ⟨S1x512, .i32⟩
  | .hbm, ⟨79, _⟩ => ⟨S512x512, .i32⟩
  | .hbm, ⟨80, _⟩ => ⟨S512x512, .i32⟩
  | .hbm, ⟨81, _⟩ => ⟨S512x512, .i1⟩
  | .hbm, ⟨82, _⟩ => ⟨S512x512, .i1⟩
  | .hbm, ⟨83, _⟩ => ⟨S512x512, .bf16⟩
  | .hbm, ⟨84, _⟩ => ⟨S16384x1536, .f32⟩
  | .hbm, ⟨85, _⟩ => ⟨S16384x512, .f32⟩
  | .hbm, ⟨86, _⟩ => ⟨S16384x8, .f32⟩
  | .hbm, ⟨87, _⟩ => ⟨S8x8x2048, .f32⟩
  | .hbm, ⟨88, _⟩ => ⟨S16384x512, .f32⟩
  | .hbm, ⟨89, _⟩ => ⟨S8x2048x1536, .f32⟩
  | .hbm, ⟨90, _⟩ => ⟨S8x2048x512, .f32⟩
  | .hbm, ⟨91, _⟩ => ⟨S8x3x1536, .f32⟩
  | .hbm, ⟨92, _⟩ => ⟨S1x8x3x1536, .f32⟩
  | .hbm, ⟨93, _⟩ => ⟨S8x30x512, .f32⟩
  | .hbm, ⟨94, _⟩ => ⟨S1x8x30x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x128, .bf16⟩
  | .local _ .vmem, ⟨6, _⟩ => ⟨S1024x1024, .bf16⟩
  | .local _ .vmem, ⟨7, _⟩ => ⟨S1x1024, .f32⟩
  | .local _ .vmem, ⟨8, _⟩ => ⟨S8x1, .f32⟩
  | .local _ .vmem, ⟨9, _⟩ => ⟨S8x1, .f32⟩
  | .local _ .vmem, ⟨10, _⟩ => ⟨S512x512, .bf16⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x8, .f32⟩
  | .local _ .vmem, ⟨16, _⟩ => ⟨S512x8, .f32⟩
  | .local _ .vmem, ⟨17, _⟩ => ⟨S1x8x512, .f32⟩
  | .local _ .vmem, ⟨18, _⟩ => ⟨S1x8x512, .f32⟩
  | .local _ .vmem, ⟨19, _⟩ => ⟨S512x512, .f32⟩
  | .local _ .vmem, ⟨20, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_c : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_0 : Ref sig .tc := ⟨.hbm, 56, rfl⟩
abbrev main_call3_v12 : Ref sig .tc := ⟨.hbm, 57, rfl⟩
abbrev main_call3_v13 : Ref sig .tc := ⟨.hbm, 58, rfl⟩
abbrev main_v30 : Ref sig .tc := ⟨.hbm, 59, rfl⟩
abbrev main_v31 : Ref sig .tc := ⟨.hbm, 60, rfl⟩
abbrev main_c_3 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_c : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_0 : Ref sig .tc := ⟨.hbm, 75, rfl⟩
abbrev main_call4_v12 : Ref sig .tc := ⟨.hbm, 76, rfl⟩
abbrev main_call4_v13 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38_0 : Ref sig .tc := ⟨.hbm, 84, rfl⟩
abbrev main_v38_1 : Ref sig .tc := ⟨.hbm, 85, rfl⟩
abbrev main_v38_2 : Ref sig .tc := ⟨.hbm, 86, rfl⟩
abbrev main_v38_3 : Ref sig .tc := ⟨.hbm, 87, rfl⟩
abbrev main_v38_4 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x2048x1024 : Shape := ⟨3, ![8, 2048, 1024]⟩
abbrev S1x1024 : Shape := ⟨2, ![1, 1024]⟩
abbrev S1x1024x3080 : Shape := ⟨3, ![1, 1024, 3080]⟩
abbrev S1x4 : Shape := ⟨2, ![1, 4]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x3080 : Shape := ⟨2, ![1024, 3080]⟩
abbrev S8x2048x3080 : Shape := ⟨3, ![8, 2048, 3080]⟩
abbrev S8x2048x1536 : Shape := ⟨3, ![8, 2048, 1536]⟩
abbrev S8x2048x512 : Shape := ⟨3, ![8, 2048, 512]⟩
abbrev S8x3x1536 : Shape := ⟨3, ![8, 3, 1536]⟩
abbrev S8x2051x1536 : Shape := ⟨3, ![8, 2051, 1536]⟩
abbrev S8x30x512 : Shape := ⟨3, ![8, 30, 512]⟩
abbrev S8x2078x512 : Shape := ⟨3, ![8, 2078, 512]⟩
abbrev S16384x1536 : Shape := ⟨2, ![16384, 1536]⟩
abbrev S16384x512 : Shape := ⟨2, ![16384, 512]⟩
abbrev S1x8x3x1536 : Shape := ⟨4, ![1, 8, 3, 1536]⟩
abbrev S1x8x30x512 : Shape := ⟨4, ![1, 8, 30, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3080, .f32⟩
  | .hbm, ⟨3, _⟩ => ⟨S1x4, .f32⟩
  | .hbm, ⟨4, _⟩ => ⟨S1x4, .f32⟩
  | .hbm, ⟨5, _⟩ => ⟨S1x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x3080, .f32⟩
  | .hbm, ⟨24, _⟩ => ⟨S8x2048x3080, .f32⟩
  | .hbm, ⟨25, _⟩ => ⟨S8x2048x1536, .f32⟩
  | .hbm, ⟨26, _⟩ => ⟨S8x2048x512, .f32⟩
  | .hbm, ⟨27, _⟩ => ⟨S8x2048x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x3x1536, .f32⟩
  | .hbm, ⟨45, _⟩ => ⟨S8x2051x1536, .f32⟩
  | .hbm, ⟨46, _⟩ => ⟨S_, .f32⟩
  | .hbm, ⟨47, _⟩ => ⟨S8x30x512, .f32⟩
  | .hbm, ⟨48, _⟩ => ⟨S8x2078x512, .f32⟩
  | .hbm, ⟨49, _⟩ => ⟨S16384x1536, .f32⟩
  | .hbm, ⟨50, _⟩ => ⟨S16384x512, .f32⟩
  | .hbm, ⟨51, _⟩ => ⟨S16384x512, .f32⟩
  | .hbm, ⟨52, _⟩ => ⟨S8x3x1536, .f32⟩
  | .hbm, ⟨53, _⟩ => ⟨S1x8x3x1536, .f32⟩
  | .hbm, ⟨54, _⟩ => ⟨S8x30x512, .f32⟩
  | .hbm, ⟨55, _⟩ => ⟨S1x8x30x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel4.lean ====
abbrev S32x16x1024 : Shape := ⟨3, ![32, 16, 1024]⟩
abbrev S1x32x3x1536 : Shape := ⟨4, ![1, 32, 3, 1536]⟩
abbrev S1x32x30x512 : Shape := ⟨4, ![1, 32, 30, 512]⟩
abbrev S1x1024 : Shape := ⟨2, ![1, 1024]⟩
abbrev S1x1024x3080 : Shape := ⟨3, ![1, 1024, 3080]⟩
abbrev S1x4 : Shape := ⟨2, ![1, 4]⟩
abbrev S512x1024 : Shape := ⟨2, ![512, 1024]⟩
abbrev S1024x3080 : Shape := ⟨2, ![1024, 3080]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024 : Shape := ⟨1, ![1024]⟩
abbrev S4 : Shape := ⟨1, ![4]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S512x1536 : Shape := ⟨2, ![512, 1536]⟩
abbrev S512x8 : Shape := ⟨2, ![512, 8]⟩
abbrev S8x512 : Shape := ⟨2, ![8, 512]⟩
abbrev S512x128 : Shape := ⟨2, ![512, 128]⟩
abbrev S128x512 : Shape := ⟨2, ![128, 512]⟩
abbrev S24x512 : Shape := ⟨2, ![24, 512]⟩
abbrev S120x512 : Shape := ⟨2, ![120, 512]⟩
abbrev S32x16x1536 : Shape := ⟨3, ![32, 16, 1536]⟩
abbrev S32x16x512 : Shape := ⟨3, ![32, 16, 512]⟩
abbrev S32x30x512 : Shape := ⟨3, ![32, 30, 512]⟩
abbrev S32x46x512 : Shape := ⟨3, ![32, 46, 512]⟩
abbrev S32x3x1536 : Shape := ⟨3, ![32, 3, 1536]⟩

abbrev nBuf : Space → Nat
  | .hbm => 99
  | .vmem => 15
  | .smem => 0
  | _ => 0

abbrev bufTy : (tb : Table) → Fin (tcTables nBuf tb) → BufTy
  | .hbm, ⟨0, _⟩ => ⟨S32x16x1024, .f32⟩
  | .hbm, ⟨1, _⟩ => ⟨S1x32x3x1536, .f32⟩
  | .hbm, ⟨2, _⟩ => ⟨S1x32x30x512, .f32⟩
  | .hbm, ⟨3, _⟩ => ⟨S1x1024, .f32⟩
  | .hbm, ⟨4, _⟩ => ⟨S1x1024x3080, .f32⟩
  | .hbm, ⟨5, _⟩ => ⟨S1x4, .f32⟩
  | .hbm, ⟨6, _⟩ => ⟨S1x4, .f32⟩
  | .hbm, ⟨7, _⟩ => ⟨S1x1024, .f32⟩
  | .hbm, ⟨8, _⟩ => ⟨S512x1024, .f32⟩
  | .hbm, ⟨9, _⟩ => ⟨S1024x3080, .f32⟩
  | .hbm, ⟨10, _⟩ => ⟨S1024x1536, .f32⟩
  | .hbm, ⟨11, _⟩ => ⟨S1024x1536, .bf16⟩
  | .hbm, ⟨12, _⟩ => ⟨S1024x512, .f32⟩
  | .hbm, ⟨13, _⟩ => ⟨S1024x512, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .i32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S4, .f32⟩
  | .hbm, ⟨31, _⟩ => ⟨S_, .i32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S1024, .f32⟩
  | .hbm, ⟨36, _⟩ => ⟨S1x1024, .f32⟩
  | .hbm, ⟨37, _⟩ => ⟨S512, .i32⟩
  | .hbm, ⟨38, _⟩ => ⟨S512x1, .i32⟩
  | .hbm, ⟨39, _⟩ => ⟨S1x512, .i32⟩
  | .hbm, ⟨40, _⟩ => ⟨S512x512, .i32⟩
  | .hbm, ⟨41, _⟩ => ⟨S512x512, .i32⟩
  | .hbm, ⟨42, _⟩ => ⟨S512x512, .i1⟩
  | .hbm, ⟨43, _⟩ => ⟨S512x1, .i32⟩
  | .hbm, ⟨44, _⟩ => ⟨S_, .i32⟩
  | .hbm, ⟨45, _⟩ => ⟨S_, .i32⟩
  | .hbm, ⟨46, _⟩ => ⟨S512x1, .i32⟩
  | .hbm, ⟨47, _⟩ => ⟨S512x1, .i32⟩
  | .hbm, ⟨48, _⟩ => ⟨S512x1, .i32⟩
  | .hbm, ⟨49, _⟩ => ⟨S_, .i32⟩
  | .hbm, ⟨50, _⟩ => ⟨S512x1, .i32⟩
  | .hbm, ⟨51, _⟩ => ⟨S512x1, .i1⟩
  | .hbm, ⟨52, _⟩ => ⟨S512x1, .i32⟩
  | .hbm, ⟨53, _⟩ => ⟨S512x1, .i32⟩
  | .hbm, ⟨54, _⟩ => ⟨S_, .i32⟩
  | .hbm, ⟨55, _⟩ => ⟨S512x1, .i32⟩
  | .hbm, ⟨56, _⟩ => ⟨S512x1, .i1⟩
  | .hbm, ⟨57, _⟩ => ⟨S512x1, .i1⟩
  | .hbm, ⟨58, _⟩ => ⟨S_, .i32⟩
  | .hbm, ⟨59, _⟩ => ⟨S512x1, .i32⟩
  | .hbm, ⟨60, _⟩ => ⟨S512x1, .i32⟩
  | .hbm, ⟨61, _⟩ => ⟨S512x1, .i32⟩
  | .hbm, ⟨62, _⟩ => ⟨S1x512, .i32⟩
  | .hbm, ⟨63, _⟩ => ⟨S_, .i32⟩
  | .hbm, ⟨64, _⟩ => ⟨S_, .i32⟩
  | .hbm, ⟨65, _⟩ => ⟨S1x512, .i32⟩
  | .hbm, ⟨66, _⟩ => ⟨S1x512, .i32⟩
  | .hbm, ⟨67, _⟩ => ⟨S1x512, .i32⟩
  | .hbm, ⟨68, _⟩ => ⟨S_, .i32⟩
  | .hbm, ⟨69, _⟩ => ⟨S1x512, .i32⟩
  | .hbm, ⟨70, _⟩ => ⟨S1x512, .i1⟩
  | .hbm, ⟨71, _⟩ => ⟨S1x512, .i32⟩
  | .hbm, ⟨72, _⟩ => ⟨S1x512, .i32⟩
  | .hbm, ⟨73, _⟩ => ⟨S_, .i32⟩
  | .hbm, ⟨74, _⟩ => ⟨S1x512, .i32⟩
  | .hbm, ⟨75, _⟩ => ⟨S1x512, .i1⟩
  | .hbm, ⟨76, _⟩ => ⟨S1x512, .i1⟩
  | .hbm, ⟨77, _⟩ => ⟨S_, .i32⟩
  | .hbm, ⟨78, _⟩ => ⟨S1x512, .i32⟩
  | .hbm, ⟨79, _⟩ => ⟨S1x512, .i32⟩
  | .hbm, ⟨80, _⟩ => ⟨S1x512, .i32⟩
  | .hbm, ⟨81, _⟩ => ⟨S512x512, .i32⟩
  | .hbm, ⟨82, _⟩ => ⟨S512x512, .i32⟩
  | .hbm, ⟨83, _⟩ => ⟨S512x512, .i1⟩
  | .hbm, ⟨84, _⟩ => ⟨S512x512, .i1⟩
  | .hbm, ⟨85, _⟩ => ⟨S512x512, .bf16⟩
  | .hbm, ⟨86, _⟩ => ⟨S512x1536, .f32⟩
  | .hbm, ⟨87, _⟩ => ⟨S512x512, .f32⟩
  | .hbm, ⟨88, _⟩ => ⟨S512x8, .f32⟩
  | .hbm, ⟨89, _⟩ => ⟨S8x512, .f32⟩
  | .hbm, ⟨90, _⟩ => ⟨S512x512, .f32⟩
  | .hbm, ⟨91, _⟩ => ⟨S32x16x1536, .f32⟩
  | .hbm, ⟨92, _⟩ => ⟨S32x16x512, .f32⟩
  | .hbm, ⟨93, _⟩ => ⟨S32x30x512, .f32⟩
  | .hbm, ⟨94, _⟩ => ⟨S32x46x512, .f32⟩
  | .hbm, ⟨95, _⟩ => ⟨S32x30x512, .f32⟩
  | .hbm, ⟨96, _⟩ => ⟨S32x3x1536, .f32⟩
  | .hbm, ⟨97, _⟩ => ⟨S1x32x3x1536, .f32⟩
  | .hbm, ⟨98, _⟩ => ⟨S1x32x30x512, .f32⟩
  | .local _ .vmem, ⟨0, _⟩ => ⟨S512x1024, .f32⟩
  | .local _ .vmem, ⟨1, _⟩ => ⟨S1x1024, .f32⟩
  | .local _ .vmem, ⟨2, _⟩ => ⟨S1024x1536, .bf16⟩
  | .local _ .vmem, ⟨3, _⟩ => ⟨S1024x512, .bf16⟩
  | .local _ .vmem, ⟨4, _⟩ => ⟨S1024x128, .bf16⟩
  | .local _ .vmem, ⟨5, _⟩ => ⟨S1024x1024, .bf16⟩
  | .local _ .vmem, ⟨6, _⟩ => ⟨S1x1024, .f32⟩
  | .local _ .vmem, ⟨7, _⟩ => ⟨S8x1, .f32⟩
  | .local _ .vmem, ⟨8, _⟩ => ⟨S8x1, .f32⟩
  | .local _ .vmem, ⟨9, _⟩ => ⟨S512x512, .bf16⟩
  | .local _ .vmem, ⟨10, _⟩ => ⟨S512x1536, .f32⟩
  | .local _ .vmem, ⟨11, _⟩ => ⟨S512x512, .f32⟩
  | .local _ .vmem, ⟨12, _⟩ => ⟨S512x8, .f32⟩
  | .local _ .vmem, ⟨13, _⟩ => ⟨S8x512, .f32⟩
  | .local _ .vmem, ⟨14, _⟩ => ⟨S512x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_c : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_0 : Ref sig .tc := ⟨.hbm, 58, rfl⟩
abbrev main_call3_v12 : Ref sig .tc := ⟨.hbm, 59, rfl⟩
abbrev main_call3_v13 : Ref sig .tc := ⟨.hbm, 60, rfl⟩
abbrev main_v30 : Ref sig .tc := ⟨.hbm, 61, rfl⟩
abbrev main_v31 : Ref sig .tc := ⟨.hbm, 62, rfl⟩
abbrev main_c_3 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_c : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_0 : Ref sig .tc := ⟨.hbm, 77, rfl⟩
abbrev main_call4_v12 : Ref sig .tc := ⟨.hbm, 78, rfl⟩
abbrev main_call4_v13 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38_0 : Ref sig .tc := ⟨.hbm, 86, rfl⟩
abbrev main_v38_1 : Ref sig .tc := ⟨.hbm, 87, rfl⟩
abbrev main_v38_2 : Ref sig .tc := ⟨.hbm, 88, rfl⟩
abbrev main_v38_3 : Ref sig .tc := ⟨.hbm, 89, rfl⟩
abbrev main_v38_4 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference4Ideal.lean ====
abbrev S32x16x1024 : Shape := ⟨3, ![32, 16, 1024]⟩
abbrev S1x32x3x1536 : Shape := ⟨4, ![1, 32, 3, 1536]⟩
abbrev S1x32x30x512 : Shape := ⟨4, ![1, 32, 30, 512]⟩
abbrev S1x1024 : Shape := ⟨2, ![1, 1024]⟩
abbrev S1x1024x3080 : Shape := ⟨3, ![1, 1024, 3080]⟩
abbrev S1x4 : Shape := ⟨2, ![1, 4]⟩
abbrev S_ : Shape := ⟨0, ![]⟩
abbrev S32x16 : Shape := ⟨2, ![32, 16]⟩
abbrev S32x16x1 : Shape := ⟨3, ![32, 16, 1]⟩
abbrev S1024 : Shape := ⟨1, ![1024]⟩
abbrev S1x1x1024 : Shape := ⟨3, ![1, 1, 1024]⟩
abbrev S1024x3080 : Shape := ⟨2, ![1024, 3080]⟩
abbrev S32x16x3080 : Shape := ⟨3, ![32, 16, 3080]⟩
abbrev S32x16x1536 : Shape := ⟨3, ![32, 16, 1536]⟩
abbrev S32x16x512 : Shape := ⟨3, ![32, 16, 512]⟩
abbrev S32x3x1536 : Shape := ⟨3, ![32, 3, 1536]⟩
abbrev S32x19x1536 : Shape := ⟨3, ![32, 19, 1536]⟩
abbrev S32x30x512 : Shape := ⟨3, ![32, 30, 512]⟩
abbrev S32x46x512 : Shape := ⟨3, ![32, 46, 512]⟩
abbrev S512x1536 : Shape := ⟨2, ![512, 1536]⟩
abbrev S512x512 : Shape := ⟨2, ![512, 512]⟩

abbrev nBuf : Space → Nat
  | .hbm => 56
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1x32x3x1536, .f32⟩
  | .hbm, ⟨2, _⟩ => ⟨S1x32x30x512, .f32⟩
  | .hbm, ⟨3, _⟩ => ⟨S1x1024, .f32⟩
  | .hbm, ⟨4, _⟩ => ⟨S1x1024x3080, .f32⟩
  | .hbm, ⟨5, _⟩ => ⟨S1x4, .f32⟩
  | .hbm, ⟨6, _⟩ => ⟨S1x4, .f32⟩
  | .hbm, ⟨7, _⟩ => ⟨S1x1024, .f32⟩
  | .hbm, ⟨8, _⟩ => ⟨S32x16x1024, .f32⟩
  | .hbm, ⟨9, _⟩ => ⟨S_, .f32⟩
  | .hbm, ⟨10, _⟩ => ⟨S32x16, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S_, .f32⟩
  | .hbm, ⟨16, _⟩ => ⟨S32x16x1, .f32⟩
  | .hbm, ⟨17, _⟩ => ⟨S32x16x1, .f32⟩
  | .hbm, ⟨18, _⟩ => ⟨S32x16x1, .f32⟩
  | .hbm, ⟨19, _⟩ => ⟨S32x16x1024, .f32⟩
  | .hbm, ⟨20, _⟩ => ⟨S32x16x1024, .f32⟩
  | .hbm, ⟨21, _⟩ => ⟨S1024, .f32⟩
  | .hbm, ⟨22, _⟩ => ⟨S1x1x1024, .f32⟩
  | .hbm, ⟨23, _⟩ => ⟨S32x16x1024, .f32⟩
  | .hbm, ⟨24, _⟩ => ⟨S32x16x1024, .f32⟩
  | .hbm, ⟨25, _⟩ => ⟨S1024x3080, .f32⟩
  | .hbm, ⟨26, _⟩ => ⟨S32x16x3080, .f32⟩
  | .hbm, ⟨27, _⟩ => ⟨S32x16x1536, .f32⟩
  | .hbm, ⟨28, _⟩ => ⟨S32x16x512, .f32⟩
  | .hbm, ⟨29, _⟩ => ⟨S32x16x1024, .f32⟩
  | .hbm, ⟨30, _⟩ => ⟨S1024, .f32⟩
  | .hbm, ⟨31, _⟩ => ⟨S1x1x1024, .f32⟩
  | .hbm, ⟨32, _⟩ => ⟨S32x16x1024, .f32⟩
  | .hbm, ⟨33, _⟩ => ⟨S32x16x1024, .f32⟩
  | .hbm, ⟨34, _⟩ => ⟨S32x16x512, .f32⟩
  | .hbm, ⟨35, _⟩ => ⟨S32x16x512, .f32⟩
  | .hbm, ⟨36, _⟩ => ⟨S32x16x512, .f32⟩
  | .hbm, ⟨37, _⟩ => ⟨S32x16x512, .f32⟩
  | .hbm, ⟨38, _⟩ => ⟨S_, .f32⟩
  | .hbm, ⟨39, _⟩ => ⟨S32x16x512, .f32⟩
  | .hbm, ⟨40, _⟩ => ⟨S32x16x512, .f32⟩
  | .hbm, ⟨41, _⟩ => ⟨S_, .f32⟩
  | .hbm, ⟨42, _⟩ => ⟨S32x16x512, .f32⟩
  | .hbm, ⟨43, _⟩ => ⟨S32x16x512, .f32⟩
  | .hbm, ⟨44, _⟩ => ⟨S32x16x512, .f32⟩
  | .hbm, ⟨45, _⟩ => ⟨S32x3x1536, .f32⟩
  | .hbm, ⟨46, _⟩ => ⟨S32x19x1536, .f32⟩
  | .hbm, ⟨47, _⟩ => ⟨S32x30x512, .f32⟩
  | .hbm, ⟨48, _⟩ => ⟨S32x46x512, .f32⟩
  | .hbm, ⟨49, _⟩ => ⟨S512x1536, .f32⟩
  | .hbm, ⟨50, _⟩ => ⟨S512x512, .f32⟩
  | .hbm, ⟨51, _⟩ => ⟨S512x512, .f32⟩
  | .hbm, ⟨52, _⟩ => ⟨S32x3x1536, .f32⟩
  | .hbm, ⟨53, _⟩ => ⟨S1x32x3x1536, .f32⟩
  | .hbm, ⟨54, _⟩ => ⟨S32x30x512, .f32⟩
  | .hbm, ⟨55, _⟩ => ⟨S1x32x30x512, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel5.lean ====
abbrev S16384x512 : Shape := ⟨2, ![16384, 512]⟩
abbrev S8x2048x1024 : Shape := ⟨3, ![8, 2048, 1024]⟩
abbrev S512x512 : Shape := ⟨2, ![512, 512]⟩
abbrev S32x16x1024 : Shape := ⟨3, ![32, 16, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S512x1024 : Shape := ⟨2, ![512, 1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S16384x1024 : Shape := ⟨2, ![16384, 1024]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S16896x1024 : Shape := ⟨2, ![16896, 1024]⟩
abbrev S16x16896 : Shape := ⟨2, ![16, 16896]⟩
abbrev S33x32x128 : Shape := ⟨3, ![33, 32, 128]⟩
abbrev S16x512 : Shape := ⟨2, ![16, 512]⟩
abbrev S1x32x128 : Shape := ⟨3, ![1, 32, 128]⟩
abbrev S32x512 : Shape := ⟨2, ![32, 512]⟩
abbrev S4x512 : Shape := ⟨2, ![4, 512]⟩
abbrev S32x128 : Shape := ⟨2, ![32, 128]⟩

abbrev nBuf : Space → Nat
  | .hbm => 37
  | .vmem => 26
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S512x512, .bf16⟩
  | .hbm, ⟨4, _⟩ => ⟨S512x512, .bf16⟩
  | .hbm, ⟨5, _⟩ => ⟨S32x16x1024, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S1024x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S512x1024, .f32⟩
  | .hbm, ⟨15, _⟩ => ⟨S512x1024, .bf16⟩
  | .hbm, ⟨16, _⟩ => ⟨S1024x32, .f32⟩
  | .hbm, ⟨17, _⟩ => ⟨S32x1024, .f32⟩
  | .hbm, ⟨18, _⟩ => ⟨S32x1024, .bf16⟩
  | .hbm, ⟨19, _⟩ => ⟨S32, .f32⟩
  | .hbm, ⟨20, _⟩ => ⟨S32x1, .f32⟩
  | .hbm, ⟨21, _⟩ => ⟨S16384x1024, .f32⟩
  | .hbm, ⟨22, _⟩ => ⟨S512x1024, .f32⟩
  | .hbm, ⟨23, _⟩ => ⟨S1024, .f32⟩
  | .hbm, ⟨24, _⟩ => ⟨S1x1024, .f32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S16896x1024, .f32⟩
  | .hbm, ⟨34, _⟩ => ⟨S16896x1024, .bf16⟩
  | .hbm, ⟨35, _⟩ => ⟨S16x16896, .f32⟩
  | .hbm, ⟨36, _⟩ => ⟨S33x32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S32x1024, .bf16⟩
  | .local _ .vmem, ⟨16, _⟩ => ⟨S32x1, .f32⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S16x512, .f32⟩
  | .local _ .vmem, ⟨23, _⟩ => ⟨S16x512, .f32⟩
  | .local _ .vmem, ⟨24, _⟩ => ⟨S1x32x128, .f32⟩
  | .local _ .vmem, ⟨25, _⟩ => ⟨S1x32x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x512 : Shape := ⟨2, ![16384, 512]⟩
abbrev S8x2048x1024 : Shape := ⟨3, ![8, 2048, 1024]⟩
abbrev S512x512 : Shape := ⟨2, ![512, 512]⟩
abbrev S32x16x1024 : Shape := ⟨3, ![32, 16, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S512x1024 : Shape := ⟨2, ![512, 1024]⟩
abbrev S16896x1024 : Shape := ⟨2, ![16896, 1024]⟩
abbrev S_ : Shape := ⟨0, ![]⟩
abbrev S16896 : Shape := ⟨1, ![16896]⟩
abbrev S16896x1 : Shape := ⟨2, ![16896, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S512x512, .bf16⟩
  | .hbm, ⟨4, _⟩ => ⟨S512x512, .bf16⟩
  | .hbm, ⟨5, _⟩ => ⟨S32x16x1024, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S1024x1024, .f32⟩
  | .hbm, ⟨20, _⟩ => ⟨S512x1024, .f32⟩
  | .hbm, ⟨21, _⟩ => ⟨S512x1024, .f32⟩
  | .hbm, ⟨22, _⟩ => ⟨S16896x1024, .f32⟩
  | .hbm, ⟨23, _⟩ => ⟨S16896x1024, .f32⟩
  | .hbm, ⟨24, _⟩ => ⟨S_, .f32⟩
  | .hbm, ⟨25, _⟩ => ⟨S16896, .f32⟩
  | .hbm, ⟨26, _⟩ => ⟨S16896x1, .f32⟩
  | .hbm, ⟨27, _⟩ => ⟨S_, .f32⟩
  | .hbm, ⟨28, _⟩ => ⟨S16896x1, .f32⟩
  | .hbm, ⟨29, _⟩ => ⟨S16896x1, .f32⟩
  | .hbm, ⟨30, _⟩ => ⟨S_, .f32⟩
  | .hbm, ⟨31, _⟩ => ⟨S16896x1, .f32⟩
  | .hbm, ⟨32, _⟩ => ⟨S16896x1, .f32⟩
  | .hbm, ⟨33, _⟩ => ⟨S16896x1, .f32⟩
  | .hbm, ⟨34, _⟩ => ⟨S16896x1024, .f32⟩
  | .hbm, ⟨35, _⟩ => ⟨S16896x1024, .f32⟩
  | .hbm, ⟨36, _⟩ => ⟨S1024, .f32⟩
  | .hbm, ⟨37, _⟩ => ⟨S1x1024, .f32⟩
  | .hbm, ⟨38, _⟩ => ⟨S16896x1024, .f32⟩
  | .hbm, ⟨39, _⟩ => ⟨S16896x1024, .f32⟩
  | .hbm, ⟨40, _⟩ => ⟨S16896x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Unit.lean ====
/- One (stream, head) unit of the gated DeltaNet kernel, as a chain of short stages over the values the unit loads. Every
   store of the kernel's body is one of the two last stages, at its own stream and head. -/
module

public import proofs.«01_k».proof.Proof.Gen.KernelIdeal.Frame

@[expose] public section

set_option maxRecDepth 16384

noncomputable section

namespace Cert.KernelIdeal.Unit

open Idealize.ShloMosaic Idealize.SL.Sem Cert.KernelIdeal Cert.KernelIdeal.Gen

variable {F : FTy → Type} [FloatOps F]

/-- A weight row times sixteen rows. -/
def tap (w : Vec F S1x128 .f32) (x : Vec F S1x16x128 .f32) : FVec F S16x128 .f32 :=
  mulf (broadcastTo S16x128 (shapeCast S1x128 w shapeCasts_S1x128_S1x128) broadcasts_S1x128_S16x128)
    (shapeCast S16x128 x shapeCasts_S1x16x128_S16x128)

/-- The short convolution: the newest tap first, then the three older ones. -/
def convU (w3 w0 w1 w2 : Vec F S1x128 .f32) (x3 x0 x1 x2 : Vec F S1x16x128 .f32) : FVec F S16x128 .f32 :=
  addf (addf (addf (tap w3 x3) (tap w0 x0)) (tap w1 x1)) (tap w2 x2)

/-- x · sigmoid(x). -/
def siluU (x : FVec F S16x128 .f32) : FVec F S16x128 .f32 := mulf x (logistic x)

/-- The column of row sums of squares. -/
def sumSq (x : FVec F S16x128 .f32) : FVec F S16x1 .f32 :=
  shapeCast S16x1 (multiReduction .add [1] S16 (mulf x x) 0x00000000#32 reduces_S16x128_S16 (.inl rfl) rfl) shapeCasts_S16_S16x1

/-- The l2-normalised rows. -/
def l2U (x : FVec F S16x128 .f32) : FVec F S16x128 .f32 :=
  mulf x (broadcastTo S16x128 (rsqrt (addf (sumSq x) (broadcast S16x1 (Scalar.ofBits .f32 0x358637BD#32)))) broadcasts_S16x1_S16x128)

/-- The queries: normalised rows times 1/√128. -/
def qU (x : FVec F S16x128 .f32) : FVec F S16x128 .f32 :=
  mulf (l2U x) (broadcast S16x128 (Scalar.ofBits .f32 0x3DB504F3#32))

/-- The normalised keys, transposed. -/
def ktU (x : FVec F S16x128 .f32) : FVec F S128x16 .f32 := transpose S128x16 [1, 0] (l2U x) transposes_S16x128_p1_0_S128x16

def rowIx : IVec S16x16 32 := iota .tc S16x16 32 [0] iota_S16x16_d0_w32
def colIx : IVec S16x16 32 := iota .tc S16x16 32 [1] iota_S16x16_d1_w32

/-- The causal decay from the cumulative log decays as a column and as a row. -/
def decU (g : FVec F S16x1 .f32) (gr : FVec F S1x16 .f32) : FVec F S16x16 .f32 :=
  exp (select (cmpi .sge rowIx colIx)
    (subf (broadcastTo S16x16 g broadcasts_S16x1_S16x16) (broadcastTo S16x16 gr broadcasts_S1x16_S16x16))
    (broadcast S16x16 (Scalar.ofBits .f32 0xFF800000#32)))

/-- Rows scaled by a column. -/
def colMul (x : FVec F S16x128 .f32) (g : FVec F S16x1 .f32) : FVec F S16x128 .f32 :=
  mulf x (broadcastTo S16x128 g broadcasts_S16x1_S16x128)

/-- The scaled keys over the queries, against the keys: both Gram matrices in one product. -/
def bothU (kb q : FVec F S16x128 .f32) (kt : FVec F S128x16 .f32) : FVec F S32x16 .f32 :=
  matmul dot_S32x128_S128x16_S32x16_1_0_0_1_n_n none
    (truncf .bf16 (concatenate S32x128 0 [⟨S16x128, kb⟩, ⟨S16x128, q⟩] concatenates_S16x128_S16x128_S32x128_d0) bitsLt_bf16_f32)
    (truncf .bf16 kt bitsLt_bf16_f32) (constant S32x16 .f32 0x00000000#32)

/-- The strictly lower matrix of the triangular system. -/
def mU (both : FVec F S32x16 .f32) (dec : FVec F S16x16 .f32) : FVec F S16x16 .f32 :=
  mulf (extractStridedSlice S16x16 ![0, 0] both slices_S32x16_o0_0_S16x16)
    (select (cmpi .sgt rowIx colIx) dec (broadcast S16x16 (Scalar.ofBits .f32 0x00000000#32)))

/-- The decayed attention weights inside the chunk. -/
def qkU (both : FVec F S32x16 .f32) (dec : FVec F S16x16 .f32) : FVec F S16x16 .f32 :=
  mulf (extractStridedSlice S16x16 ![16, 0] both slices_S32x16_o16_0_S16x16) dec

/-- The system's right-hand sides: scaled values beside scaled, decayed keys. -/
def rhsU (vb kbg : FVec F S16x128 .f32) : FVec F S16x256 .f32 :=
  concatenate S16x256 1 [⟨S16x128, vb⟩, ⟨S16x128, kbg⟩] concatenates_S16x128_S16x128_S16x256_d1

/-- The transposed keys decayed to the end of the chunk. -/
def kdtU (kt : FVec F S128x16 .f32) (gr : FVec F S1x16 .f32) : FVec F S128x16 .f32 :=
  mulf kt (broadcastTo S128x16 (exp (subf (broadcastTo S1x16 (extractStridedSlice S1x1 ![0, 15] gr slices_S1x16_o0_15_S1x1)
    broadcasts_S1x1_S1x16) gr)) broadcasts_S1x16_S128x16)

/-- The whole chunk's decay. -/
def lastU (g : FVec F S16x1 .f32) : FVec F S1x1 .f32 := exp (extractStridedSlice S1x1 ![15, 0] g slices_S16x1_o15_0_S1x1)

/-! ### The inverse by squarings -/

def eyeU : FVec F S16x16 .f32 := sitofp .f32 (extui 32 (cmpi .eq rowIx colIx) natLt_1_32)

def negU (m : FVec F S16x16 .f32) : FVec F S16x16 .bf16 :=
  truncf .bf16 (subf (broadcast S16x16 (Scalar.ofBits .f32 0x00000000#32)) m) bitsLt_bf16_f32

def sqU (p : FVec F S16x16 .bf16) : FVec F S16x16 .bf16 :=
  truncf .bf16 (matmul dot_S16x16_S16x16_S16x16_1_0_0_1_n_n none p p (constant S16x16 .f32 0x00000000#32)) bitsLt_bf16_f32

/-- A power over the partial product, times the power. -/
def levelU (p : FVec F S16x16 .bf16) (a : FVec F S16x16 .f32) : FVec F S32x16 .f32 :=
  matmul dot_S32x16_S16x16_S32x16_1_0_0_1_n_n none
    (concatenate S32x16 0 [⟨S16x16, p⟩, ⟨S16x16, truncf .bf16 a bitsLt_bf16_f32⟩] concatenates_S16x16_S16x16_S32x16_d0) p
    (constant S32x16 .f32 0x00000000#32)

/-- The next power: the product's upper half. -/
def powU (p : FVec F S16x16 .bf16) (a : FVec F S16x16 .f32) : FVec F S16x16 .bf16 :=
  truncf .bf16 (extractStridedSlice S16x16 ![0, 0] (levelU p a) slices_S32x16_o0_0_S16x16) bitsLt_bf16_f32

/-- The next partial product: the product's lower half added. -/
def accU (p : FVec F S16x16 .bf16) (a : FVec F S16x16 .f32) : FVec F S16x16 .f32 :=
  addf a (extractStridedSlice S16x16 ![16, 0] (levelU p a) slices_S32x16_o16_0_S16x16)

def lastAccU (p : FVec F S16x16 .bf16) (a : FVec F S16x16 .f32) : FVec F S16x16 .f32 :=
  addf a (matmul dot_S16x16_S16x16_S16x16_1_0_0_1_n_n none (truncf .bf16 a bitsLt_bf16_f32) p (constant S16x16 .f32 0x00000000#32))

/-- The inverse of I + m as (I − m)(I + m²)(I + m⁴)(I + m⁸). -/
def invU (m : FVec F S16x16 .f32) : FVec F S16x16 .f32 :=
  lastAccU (powU (powU (sqU (negU m)) (subf eyeU m)) (accU (sqU (negU m)) (subf eyeU m)))
    (accU (powU (sqU (negU m)) (subf eyeU m)) (accU (sqU (negU m)) (subf eyeU m)))

/-- The system's solution. -/
def solU (t : FVec F S16x16 .f32) (rhs : FVec F S16x256 .f32) : FVec F S16x256 .f32 :=
  matmul dot_S16x16_S16x256_S16x256_1_0_0_1_n_n none (truncf .bf16 t bitsLt_bf16_f32) (truncf .bf16 rhs bitsLt_bf16_f32)
    (constant S16x256 .f32 0x00000000#32)

/-- The solution's key part over the decayed queries, against the carried state. -/
def wsU (sol : FVec F S16x256 .f32) (qg : FVec F S16x128 .f32) (s : FVec F S128x128 .f32) : FVec F S32x128 .f32 :=
  matmul dot_S32x128_S128x128_S32x128_1_0_0_1_n_n none
    (truncf .bf16 (concatenate S32x128 0 [⟨S16x128, extractStridedSlice S16x128 ![0, 128] sol slices_S16x256_o0_128_S16x128⟩,
      ⟨S16x128, qg⟩] concatenates_S16x128_S16x128_S32x128_d0) bitsLt_bf16_f32)
    (truncf .bf16 s bitsLt_bf16_f32) (constant S32x128 .f32 0x00000000#32)

/-- The values written. -/
def newU (sol : FVec F S16x256 .f32) (ws : FVec F S32x128 .f32) : FVec F S16x128 .f32 :=
  subf (extractStridedSlice S16x128 ![0, 0] sol slices_S16x256_o0_0_S16x128)
    (extractStridedSlice S16x128 ![0, 0] ws slices_S32x128_o0_0_S16x128)

/-- The attention weights over the decayed keys, against the values written. -/
def updU (qk : FVec F S16x16 .f32) (kdt : FVec F S128x16 .f32) (vn : FVec F S16x128 .f32) : FVec F S144x128 .f32 :=
  matmul dot_S144x16_S16x128_S144x128_1_0_0_1_n_n none
    (truncf .bf16 (concatenate S144x16 0 [⟨S16x16, qk⟩, ⟨S128x16, kdt⟩] concatenates_S16x16_S128x16_S144x16_d0) bitsLt_bf16_f32)
    (truncf .bf16 vn bitsLt_bf16_f32) (constant S144x128 .f32 0x00000000#32)

def oU (ws : FVec F S32x128 .f32) (upd : FVec F S144x128 .f32) : FVec F S16x128 .f32 :=
  addf (extractStridedSlice S16x128 ![16, 0] ws slices_S32x128_o16_0_S16x128)
    (extractStridedSlice S16x128 ![0, 0] upd slices_S144x128_o0_0_S16x128)

/-- The new state. -/
def stU (s : FVec F S128x128 .f32) (l : FVec F S1x1 .f32) (upd : FVec F S144x128 .f32) : FVec F S128x128 .f32 :=
  addf (mulf s (broadcastTo S128x128 l broadcasts_S1x1_S128x128))
    (extractStridedSlice S128x128 ![16, 0] upd slices_S144x128_o16_0_S128x128)

/-- The gated RMS norm of the output rows. -/
def gateU (o : FVec F S16x128 .f32) (won : Vec F S1x128 .f32) (z : Vec F S1x16x128 .f32) : FVec F S16x128 .f32 :=
  mulf (mulf (mulf o (broadcastTo S16x128 (rsqrt (addf (divf (sumSq o) (broadcast S16x1 (Scalar.ofBits .f32 0x43000000#32)))
      (broadcast S16x1 (Scalar.ofBits .f32 0x358637BD#32)))) broadcasts_S16x1_S16x128))
      (broadcastTo S16x128 (shapeCast S1x128 won shapeCasts_S1x128_S1x128) broadcasts_S1x128_S16x128))
    (siluU (shapeCast S16x128 z shapeCasts_S1x16x128_S16x128))

/-! ### The unit from the convolved rows -/

/-- The values the unit's last stages share. -/
def solOf (k v : FVec F S16x128 .f32) (q : FVec F S16x128 .f32) (be g : FVec F S16x1 .f32) (gr : FVec F S1x16 .f32) : FVec F S16x256 .f32 :=
  solU (invU (mU (bothU (colMul (l2U k) be) (qU q) (ktU k)) (decU g gr))) (rhsU (colMul v be) (colMul (colMul (l2U k) be) (exp g)))

def wsOf (q k v : FVec F S16x128 .f32) (be g : FVec F S16x1 .f32) (gr : FVec F S1x16 .f32) (s : FVec F S128x128 .f32) : FVec F S32x128 .f32 :=
  wsU (solOf k v q be g gr) (colMul (qU q) (exp g)) s

def updOf (q k v : FVec F S16x128 .f32) (be g : FVec F S16x1 .f32) (gr : FVec F S1x16 .f32) (s : FVec F S128x128 .f32) : FVec F S144x128 .f32 :=
  updU (qkU (bothU (colMul (l2U k) be) (qU q) (ktU k)) (decU g gr)) (kdtU (ktU k) gr)
    (newU (solOf k v q be g gr) (wsOf q k v be g gr s))

/-- The unit's output block. -/
def unitO (q k v : FVec F S16x128 .f32) (be g : FVec F S16x1 .f32) (gr : FVec F S1x16 .f32) (s : Vec F S1x1x128x128 .f32)
    (won : Vec F S1x128 .f32) (z : Vec F S1x16x128 .f32) : FVec F S1x16x128 .bf16 :=
  shapeCast S1x16x128 (truncf .bf16 (gateU (oU (wsOf q k v be g gr (shapeCast S128x128 s shapeCasts_S1x1x128x128_S128x128))
    (updOf q k v be g gr (shapeCast S128x128 s shapeCasts_S1x1x128x128_S128x128))) won z) bitsLt_bf16_f32) shapeCasts_S16x128_S1x16x128

/-- The unit's state block. -/
def unitS (q k v : FVec F S16x128 .f32) (be g : FVec F S16x1 .f32) (gr : FVec F S1x16 .f32) (s : Vec F S1x1x128x128 .f32) : FVec F S1x1x128x128 .f32 :=
  shapeCast S1x1x128x128 (stU (shapeCast S128x128 s shapeCasts_S1x1x128x128_S128x128) (lastU g)
    (updOf q k v be g gr (shapeCast S128x128 s shapeCasts_S1x1x128x128_S128x128))) shapeCasts_S128x128_S1x1x128x128

end Cert.KernelIdeal.Unit
-- ==== Proof.Pieces.lean ====
/- What the kernel's body stores, as a family over the eight streams and four heads of a block: the store for stream `b` and
   head `h` is the unit of Unit.lean at that stream's and head's own loads. -/
module

public import proofs.«01_k».proof.Proof.Unit

@[expose] public section

set_option maxRecDepth 16384

noncomputable section

namespace Cert.KernelIdeal.Unit

open Idealize.ShloMosaic Idealize.SL.Sem Cert.KernelIdeal Cert.KernelIdeal.Gen

variable {F : FTy → Type} [FloatOps F]

theorem inb2 {o0 o1 m0 m1 n0 n1 : Nat} (h0 : o0 + m0 ≤ n0) (h1 : o1 + m1 ≤ n1) :
    ∀ a, (![o0, o1] : Fin 2 → Nat) a + (⟨2, ![m0, m1]⟩ : Shape).size a ≤ (⟨2, ![n0, n1]⟩ : Shape).size a := by
  intro a; fin_cases a
  · exact h0
  · exact h1

theorem inb3 {o0 o1 o2 m0 m1 m2 n0 n1 n2 : Nat} (h0 : o0 + m0 ≤ n0) (h1 : o1 + m1 ≤ n1) (h2 : o2 + m2 ≤ n2) :
    ∀ a, (![o0, o1, o2] : Fin 3 → Nat) a + (⟨3, ![m0, m1, m2]⟩ : Shape).size a ≤ (⟨3, ![n0, n1, n2]⟩ : Shape).size a := by
  intro a; fin_cases a
  · exact h0
  · exact h1
  · exact h2

theorem inb4 {o0 o1 o2 o3 m0 m1 m2 m3 n0 n1 n2 n3 : Nat} (h0 : o0 + m0 ≤ n0) (h1 : o1 + m1 ≤ n1) (h2 : o2 + m2 ≤ n2) (h3 : o3 + m3 ≤ n3) :
    ∀ a, (![o0, o1, o2, o3] : Fin 4 → Nat) a + (⟨4, ![m0, m1, m2, m3]⟩ : Shape).size a ≤ (⟨4, ![n0, n1, n2, n3]⟩ : Shape).size a := by
  intro a; fin_cases a
  · exact h0
  · exact h1
  · exact h2
  · exact h3

section Loads

variable (c : Dev nD) (arg2 : Memref sig .tc .vmem S8x16x1536 .f32) (harg2 : arg2.IsWhole) (arg3 : Memref sig .tc .vmem S8x16x512 .f32) (harg3 : arg3.IsWhole) (arg4 : Memref sig .tc .vmem S8x16x8 .f32) (harg4 : arg4.IsWhole) (arg5 : Memref sig .tc .vmem S8x8x16 .f32) (harg5 : arg5.IsWhole) (arg6 : Memref sig .tc .vmem S8x3x1536 .f32) (harg6 : arg6.IsWhole) (arg7 : Memref sig .tc .vmem S8x4x128x128 .f32) (harg7 : arg7.IsWhole) (arg8 : Memref sig .tc .vmem S4x1536 .f32) (harg8 : arg8.IsWhole) (arg9 : Memref sig .tc .vmem S1x128 .f32) (harg9 : arg9.IsWhole) (arg11 : Memref sig .tc .vmem S8x4x128x128 .f32) (arg12 : Memref sig .tc .vmem S8x24x1536 .f32)
    (x0 : Vec F S8x16x1536 .f32) (x1 : Vec F S8x16x512 .f32) (x2 : Vec F S8x16x8 .f32) (x3 : Vec F S8x8x16 .f32) (x4 : Vec F S8x3x1536 .f32) (x5 : Vec F S8x4x128x128 .f32) (x6 : Vec F S4x1536 .f32) (x7 : Vec F S1x128 .f32)

/-- Sixteen rows of the history-and-rows scratch from row `r`, a head's columns. -/
def ldX (b r h : Nat) (hb : b < 8) (hr : r < 9) (hh : h < 12) : Vec F S1x16x128 .f32 :=
  arg12.view.readCov (kernelRun0_A.sl.HS0_2 c arg2 harg2 arg6 harg6 x0 x4)
    (Rect.unit (s := S8x24x1536) ![b, r, 128 * h] S1x16x128.size (inb3 (by omega) (by omega) (by omega))).toLoadRect

/-- A weight row, a head's columns. -/
def ldW (j h : Nat) (hj : j < 4) (hh : h < 12) : Vec F S1x128 .f32 :=
  View.readAt (Elt F) arg8.view (Rect.unit (s := S4x1536) ![j, 128 * h] S1x128.size (inb2 (by omega) (by omega))).toLoadRect (harg8.unread x6)

/-- The convolved rows of a stream, a head's columns, through silu. -/
def ldC (b h : Nat) (hb : b < 8) (hh : h < 12) : FVec F S16x128 .f32 :=
  siluU (convU (ldW arg8 harg8 x6 3 h (by omega) hh) (ldW arg8 harg8 x6 0 h (by omega) hh) (ldW arg8 harg8 x6 1 h (by omega) hh) (ldW arg8 harg8 x6 2 h (by omega) hh)
    (ldX c arg2 harg2 arg6 harg6 arg12 x0 x4 b 8 h hb (by omega) hh) (ldX c arg2 harg2 arg6 harg6 arg12 x0 x4 b 5 h hb (by omega) hh)
    (ldX c arg2 harg2 arg6 harg6 arg12 x0 x4 b 6 h hb (by omega) hh) (ldX c arg2 harg2 arg6 harg6 arg12 x0 x4 b 7 h hb (by omega) hh))

/-- A column of a stream's write strengths and log decays. -/
def ldB (b h : Nat) (hb : b < 8) (hh : h < 8) : FVec F S16x1 .f32 :=
  extractStridedSlice S16x1 ![0, h] (shapeCast S16x8 (View.readAt (Elt F) arg4.view (Rect.unit (s := S8x16x8) ![b, 0, 0] S1x16x8.size
    (inb3 (by omega) (by omega) (by omega))).toLoadRect (harg4.unread x2)) shapeCasts_S1x16x8_S16x8)
    ⟨rfl, by intro a; fin_cases a <;> simp [Shape.size] <;> omega⟩

/-- The same as a row, from the transposed array. -/
def ldBt (b h : Nat) (hb : b < 8) (hh : h < 8) : FVec F S1x16 .f32 :=
  extractStridedSlice S1x16 ![h, 0] (shapeCast S8x16 (View.readAt (Elt F) arg5.view (Rect.unit (s := S8x8x16) ![b, 0, 0] S1x8x16.size
    (inb3 (by omega) (by omega) (by omega))).toLoadRect (harg5.unread x3)) shapeCasts_S1x8x16_S8x16)
    ⟨rfl, by intro a; fin_cases a <;> simp [Shape.size] <;> omega⟩

/-- A carried state. -/
def ldS (b h : Nat) (hb : b < 8) (hh : h < 4) : Vec F S1x1x128x128 .f32 :=
  arg11.view.readCov (kernelRun0_A.sl.H9_1 c arg7 harg7 x5)
    (Rect.unit (s := S8x4x128x128) ![b, h, 0, 0] S1x1x128x128.size (inb4 (by omega) (by omega) (by omega) (by omega))).toLoadRect

/-- A stream's gate rows, a head's columns. -/
def ldZ (b h : Nat) (hb : b < 8) (hh : h < 4) : Vec F S1x16x128 .f32 :=
  View.readAt (Elt F) arg3.view (Rect.unit (s := S8x16x512) ![b, 0, 128 * h] S1x16x128.size (inb3 (by omega) (by omega) (by omega))).toLoadRect (harg3.unread x1)

/-- The norm's weights. -/
def ldN : Vec F S1x128 .f32 :=
  View.readAt (Elt F) arg9.view (Rect.unit ![0, 0] S1x128.size inb_S1x128_S1x128_0_0).toLoadRect (harg9.unread x7)

/-- The store of a stream's and head's output rows. -/
def pieceO (b h : Nat) (hb : b < 8) (hh : h < 4) : View.Piece (Elt F) S8x16x512 .bf16 :=
  ⟨Rect.unit (s := S8x16x512) ![b, 0, 128 * h] S1x16x128.size (inb3 (by omega) (by omega) (by omega)),
    unitO (ldC c arg2 harg2 arg6 harg6 arg8 harg8 arg12 x0 x4 x6 b h hb (by omega))
      (ldC c arg2 harg2 arg6 harg6 arg8 harg8 arg12 x0 x4 x6 b (4 + h) hb (by omega))
      (ldC c arg2 harg2 arg6 harg6 arg8 harg8 arg12 x0 x4 x6 b (8 + h) hb (by omega))
      (ldB arg4 harg4 x2 b h hb (by omega)) (ldB arg4 harg4 x2 b (4 + h) hb (by omega)) (ldBt arg5 harg5 x3 b (4 + h) hb (by omega))
      (ldS c arg7 harg7 arg11 x5 b h hb hh) (ldN arg9 harg9 x7) (ldZ arg3 harg3 x1 b h hb hh)⟩

/-- The store of a stream's and head's new state. -/
def pieceS (b h : Nat) (hb : b < 8) (hh : h < 4) : View.Piece (Elt F) S8x4x128x128 .f32 :=
  ⟨Rect.unit (s := S8x4x128x128) ![b, h, 0, 0] S1x1x128x128.size (inb4 (by omega) (by omega) (by omega) (by omega)),
    unitS (ldC c arg2 harg2 arg6 harg6 arg8 harg8 arg12 x0 x4 x6 b h hb (by omega))
      (ldC c arg2 harg2 arg6 harg6 arg8 harg8 arg12 x0 x4 x6 b (4 + h) hb (by omega))
      (ldC c arg2 harg2 arg6 harg6 arg8 harg8 arg12 x0 x4 x6 b (8 + h) hb (by omega))
      (ldB arg4 harg4 x2 b h hb (by omega)) (ldB arg4 harg4 x2 b (4 + h) hb (by omega)) (ldBt arg5 harg5 x3 b (4 + h) hb (by omega))
      (ldS c arg7 harg7 arg11 x5 b h hb hh)⟩

end Loads

section Stores

variable (c : Dev nD) (i : grid0.Coords) (arg2 : Memref sig .tc .vmem S8x16x1536 .f32) (harg2 : arg2.IsWhole) (arg3 : Memref sig .tc .vmem S8x16x512 .f32) (harg3 : arg3.IsWhole) (arg4 : Memref sig .tc .vmem S8x16x8 .f32) (harg4 : arg4.IsWhole) (arg5 : Memref sig .tc .vmem S8x8x16 .f32) (harg5 : arg5.IsWhole) (arg6 : Memref sig .tc .vmem S8x3x1536 .f32) (harg6 : arg6.IsWhole) (arg7 : Memref sig .tc .vmem S8x4x128x128 .f32) (harg7 : arg7.IsWhole) (arg8 : Memref sig .tc .vmem S4x1536 .f32) (harg8 : arg8.IsWhole) (arg9 : Memref sig .tc .vmem S1x128 .f32) (harg9 : arg9.IsWhole) (arg10 : Memref sig .tc .vmem S8x16x512 .bf16) (harg10 : arg10.IsWhole) (arg11 : Memref sig .tc .vmem S8x4x128x128 .f32) (harg11 : arg11.IsWhole) (arg12 : Memref sig .tc .vmem S8x24x1536 .f32) (harg12 : arg12.IsWhole) (hc0 : cond0_0 i)
    (x0 : Vec F S8x16x1536 .f32) (x1 : Vec F S8x16x512 .f32) (x2 : Vec F S8x16x8 .f32) (x3 : Vec F S8x8x16 .f32) (x4 : Vec F S8x3x1536 .f32) (x5 : Vec F S8x4x128x128 .f32) (x6 : Vec F S4x1536 .f32) (x7 : Vec F S1x128 .f32)

/-- The output window's stores, last first. -/
theorem storesO : (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 =
    List.ofFn fun k : Fin 32 => pieceO c arg2 harg2 arg3 harg3 arg4 harg4 arg5 harg5 arg6 harg6 arg7 harg7 arg8 harg8 arg9 harg9 arg11 arg12 x0 x1 x2 x3 x4 x5 x6 x7
      (7 - k / 4) (3 - k % 4) (by omega) (by omega) := by
  sl_kernel_rfl

/-- The state window's stores, last first, over the carried states. -/
theorem storesS : (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 =
    (List.ofFn fun k : Fin 32 => pieceS c arg2 harg2 arg4 harg4 arg5 harg5 arg6 harg6 arg7 harg7 arg8 harg8 arg11 arg12 x0 x2 x3 x4 x5 x6
      (7 - k / 4) (3 - k % 4) (by omega) (by omega)) ++ kernelRun0_A.sl.H9_1 c arg7 harg7 x5 := by
  sl_kernel_rfl

end Stores

end Cert.KernelIdeal.Unit
-- ==== Proof.Spec.lean ====
/- The gated DeltaNet of one (stream, head) on one chunk of sixteen rows, as mathematics on extended reals, with the two
   ways its unit lower triangular system is solved: forward substitution, and the product of squarings. -/
module

public import Idealize.ShloMosaic.Lib.Pipeline.ValueKit
public import Idealize.ShloMosaic.Lib.Pointwise

@[expose] public section

noncomputable section

namespace Gdn

open Idealize.ShloMosaic

abbrev Rows := Fin 16 → Fin 128 → EReal
abbrev Sq := Fin 16 → Fin 16 → EReal

/-- The two small constants and the mean's divisor. -/
def eps : EReal := Ideal.ofBits .f32 0x358637BD#32
def scale : EReal := Ideal.ofBits .f32 0x3DB504F3#32
def width : EReal := Ideal.ofBits .f32 0x43000000#32

def silu (x : EReal) : EReal := x * Ideal.logistic x

/-- The causal convolution of four taps at a column. -/
def conv (w x : Fin 4 → EReal) : EReal := ((x 0 * w 0 + x 1 * w 1) + x 2 * w 2) + x 3 * w 3

def ssq (x : Rows) (i : Fin 16) : EReal := ∑ d, x i d * x i d
def l2 (x : Rows) : Rows := fun i d => x i d * Ideal.rsqrt (ssq x i + eps)
def qn (x : Rows) : Rows := fun i d => l2 x i d * scale
def dec (g : Fin 16 → EReal) : Sq := fun i j => Ideal.exp (if j ≤ i then g i - g j else ⊥)

/-- The strictly lower matrix of the system. -/
def low (k : Rows) (be g : Fin 16 → EReal) : Sq := fun i j =>
  (∑ d, (l2 k i d * be i) * l2 k j d) * (if j < i then dec g i j else 0)

def att (q k : Rows) (g : Fin 16 → EReal) : Sq := fun i j => (∑ d, qn q i d * l2 k j d) * dec g i j

/-- The right-hand sides. -/
def rhs (k v : Rows) (be g : Fin 16 → EReal) : Fin 16 → Fin 256 → EReal := fun i c =>
  if h : (c : Nat) < 128 then v i ⟨c, h⟩ * be i else l2 k i ⟨c - 128, by omega⟩ * be i * Ideal.exp (g i)

/-! ### From the system's solution to the results -/

section Results
variable (sol : Fin 16 → Fin 256 → EReal) (q k : Rows) (g : Fin 16 → EReal) (s : Fin 128 → Fin 128 → EReal)

def vnew : Rows := fun i e => sol i ⟨e, by omega⟩ - ∑ d : Fin 128, sol i ⟨128 + d, by omega⟩ * s d e
def mix : Rows := fun i e =>
  (∑ d : Fin 128, qn q i d * Ideal.exp (g i) * s d e) + ∑ j, att q k g i j * vnew sol s j e
def state : Fin 128 → Fin 128 → EReal := fun d e =>
  s d e * Ideal.exp (g 15) + ∑ j, (l2 k j d * Ideal.exp (g 15 - g j)) * vnew sol s j e
def gated (o : Rows) (won : Fin 128 → EReal) (z : Rows) : Rows := fun i e =>
  (o i e * Ideal.rsqrt (Ideal.div (ssq o i) width + eps) * won e) * silu (z i e)

end Results

/-! ### The two solutions -/

/-- Row `n` of the forward substitution, from the rows before it. -/
def fstep (m : Sq) (r : Fin 16 → Fin 256 → EReal) (n : Nat) (x : Fin 16 → Fin 256 → EReal) : Fin 16 → Fin 256 → EReal :=
  fun i c => if (i : Nat) = n then r i c - ∑ j, m i j * x j c else x i c

def fsub (m : Sq) (r : Fin 16 → Fin 256 → EReal) : Nat → Fin 16 → Fin 256 → EReal
  | 0 => fun _ _ => 0
  | n + 1 => fstep m r n (fsub m r n)

def mul {n : Nat} (a : Sq) (b : Fin 16 → Fin n → EReal) : Fin 16 → Fin n → EReal := fun i j => ∑ x, a i x * b x j
def add (a b : Sq) : Sq := fun i j => a i j + b i j
def neg (m : Sq) : Sq := fun i j => 0 - m i j
def oneSub (m : Sq) : Sq := fun i j => (if i = j then 1 else 0) - m i j

/-- The powers m², m⁴, m⁸. -/
def pow2 (m : Sq) : Sq := mul (neg m) (neg m)
def pow4 (m : Sq) : Sq := mul (pow2 m) (pow2 m)
def pow8 (m : Sq) : Sq := mul (pow4 m) (pow4 m)
def acc1 (m : Sq) : Sq := add (oneSub m) (mul (oneSub m) (pow2 m))
def acc2 (m : Sq) : Sq := add (acc1 m) (mul (acc1 m) (pow4 m))
def inv (m : Sq) : Sq := add (acc2 m) (mul (acc2 m) (pow8 m))

/-! ### They agree on finite strictly lower matrices -/

/-- A real number among the extended reals. -/
def Real' (x : EReal) : Prop := ∃ r : ℝ, x = r

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Lift
variable (M : Matrix (Fin 16) (Fin 16) ℝ)

/-- A real matrix among the extended reals. -/
def up {n : Nat} (A : Matrix (Fin 16) (Fin n) ℝ) : Fin 16 → Fin n → EReal := fun i j => (A i j : EReal)

theorem mul_up {n : Nat} (A : Matrix (Fin 16) (Fin 16) ℝ) (B : Matrix (Fin 16) (Fin n) ℝ) : mul (up A) (up B) = up (A * B) := by
  funext i j
  show ∑ x, (A i x : EReal) * (B x j : EReal) = ((A * B) i j : EReal)
  rw [Matrix.mul_apply, coe_sum]
  exact Finset.sum_congr rfl fun x _ => (EReal.coe_mul _ _).symm

theorem add_up (A B : Matrix (Fin 16) (Fin 16) ℝ) : add (up A) (up B) = up (A + B) := by
  funext i j; exact (EReal.coe_add _ _).symm

theorem neg_up : neg (up M) = up (-M) := by
  funext i j
  show (0 : EReal) - (M i j : EReal) = ((-M) i j : EReal)
  rw [Matrix.neg_apply, EReal.coe_neg, zero_sub]

theorem oneSub_up : oneSub (up M) = up (1 - M) := by
  funext i j
  show (if i = j then (1 : EReal) else 0) - (M i j : EReal) = ((1 - M) i j : EReal)
  rw [Matrix.sub_apply, EReal.coe_sub, Matrix.one_apply]
  split <;> simp

theorem inv_up : inv (up M) = up ((1 - M) * (1 + M ^ 2) * (1 + M ^ 4) * (1 + M ^ 8)) := by
  have e2 : pow2 (up M) = up (M ^ 2) := by rw [pow2, neg_up, mul_up]; congr 1; rw [neg_mul_neg, pow_two]
  have e4 : pow4 (up M) = up (M ^ 4) := by rw [pow4, e2, mul_up, ← pow_add]
  have e8 : pow8 (up M) = up (M ^ 8) := by rw [pow8, e4, mul_up, ← pow_add]
  rw [inv, acc2, acc1, e2, e4, e8, oneSub_up]
  simp only [mul_up, add_up]
  congr 1
  simp only [mul_add, mul_one]

/-- A strictly lower matrix's powers move down one diagonal each time, so the sixteenth is zero. -/
theorem pow_low (h : ∀ i j : Fin 16, i ≤ j → M i j = 0) (n : Nat) : ∀ i j : Fin 16, (i : Nat) < j + n → (M ^ n) i j = 0 := by
  induction n with
  | zero =>
    intro i j hij
    rw [pow_zero, Matrix.one_apply, if_neg]
    rintro rfl; omega
  | succ n ih =>
    intro i j hij
    rw [pow_succ, Matrix.mul_apply]
    refine Finset.sum_eq_zero fun x _ => ?_
    by_cases hx : (i : Nat) < x + n
    · rw [ih i x hx, zero_mul]
    · rw [h x j (by rw [Fin.le_def]; omega), mul_zero]

theorem inv_mul (h : ∀ i j : Fin 16, i ≤ j → M i j = 0) :
    ((1 - M) * (1 + M ^ 2) * (1 + M ^ 4) * (1 + M ^ 8)) * (1 + M) = 1 := by
  have h16 : M ^ 16 = 0 := by
    ext i j
    exact pow_low M h 16 i j (by omega)
  have : ((1 - M) * (1 + M ^ 2) * (1 + M ^ 4) * (1 + M ^ 8)) * (1 + M) = 1 - M ^ 16 := by noncomm_ring
  rw [this, h16, sub_zero]

/-- Forward substitution on reals. -/
def rsub (R : Matrix (Fin 16) (Fin 256) ℝ) : Nat → Matrix (Fin 16) (Fin 256) ℝ
  | 0 => 0
  | n + 1 => fun i c => if (i : Nat) = n then R i c - ∑ j, M i j * rsub R n j c else rsub R n i c

theorem fsub_up (R : Matrix (Fin 16) (Fin 256) ℝ) (n : Nat) : fsub (up M) (up R) n = up (rsub M R n) := by
  induction n with
  | zero => funext i c; exact EReal.coe_zero.symm
  | succ n ih =>
    funext i c
    rw [fsub, ih]
    show (if (i : Nat) = n then (R i c : EReal) - ∑ j, (M i j : EReal) * (rsub M R n j c : EReal) else (rsub M R n i c : EReal))
      = ((if (i : Nat) = n then R i c - ∑ j, M i j * rsub M R n j c else rsub M R n i c : ℝ) : EReal)
    split
    · rw [EReal.coe_sub, coe_sum]
      simp only [EReal.coe_mul]
    · rfl

theorem rsub_spec (h : ∀ i j : Fin 16, i ≤ j → M i j = 0) (R : Matrix (Fin 16) (Fin 256) ℝ) (n : Nat) (i : Fin 16) (hi : (i : Nat) < n) (c : Fin 256) :
    rsub M R n i c = R i c - ∑ j, M i j * rsub M R n j c := by
  induction n with
  | zero => omega
  | succ n ih =>
    have same : ∀ i : Fin 16, (i : Nat) ≤ n → ∑ j, M i j * rsub M R (n + 1) j c = ∑ j, M i j * rsub M R n j c := by
      intro i hi
      refine Finset.sum_congr rfl fun j _ => ?_
      by_cases hj : i ≤ j
      · rw [h i j hj, zero_mul, zero_mul]
      · have : (j : Nat) ≠ n := by rw [Fin.le_def] at hj; omega
        congr 1
        exact if_neg this
    rw [same i (by omega)]
    by_cases e : (i : Nat) = n
    · exact if_pos e
    · have : rsub M R (n + 1) i c = rsub M R n i c := if_neg e
      rw [this]
      exact ih (by omega)

theorem inv_mul_rhs (h : ∀ i j : Fin 16, i ≤ j → M i j = 0) (R : Matrix (Fin 16) (Fin 256) ℝ) :
    ((1 - M) * (1 + M ^ 2) * (1 + M ^ 4) * (1 + M ^ 8)) * R = rsub M R 16 := by
  have e : (1 + M) * rsub M R 16 = R := by
    ext i c
    rw [Matrix.add_mul, Matrix.one_mul, Matrix.add_apply, Matrix.mul_apply]
    rw [rsub_spec M h R 16 i i.isLt c]
    ring
  have a := inv_mul M h
  generalize (1 - M) * (1 + M ^ 2) * (1 + M ^ 4) * (1 + M ^ 8) = T at a ⊢
  rw [← e, ← Matrix.mul_assoc, a, Matrix.one_mul, e]

end Lift

/-- The product of squarings and the forward substitution solve the same system, where everything is finite. -/
theorem mul_inv_eq_fsub (m : Sq) (r : Fin 16 → Fin 256 → EReal) (hm : ∀ i j, Real' (m i j)) (hr : ∀ i c, Real' (r i c))
    (h : ∀ i j : Fin 16, i ≤ j → m i j = 0) : mul (inv m) r = fsub m r 16 := by
  obtain ⟨M, hM⟩ : ∃ M : Matrix (Fin 16) (Fin 16) ℝ, ∀ i j, m i j = (M i j : EReal) := by
    choose M hM using hm; exact ⟨Matrix.of M, hM⟩
  obtain ⟨R, hR⟩ : ∃ R : Matrix (Fin 16) (Fin 256) ℝ, ∀ i j, r i j = (R i j : EReal) := by
    choose R hR using hr; exact ⟨Matrix.of R, hR⟩
  have em : m = up M := by funext i j; exact hM i j
  have er : r = up R := by funext i j; exact hR i j
  have hM0 : ∀ i j : Fin 16, i ≤ j → M i j = 0 := by
    intro i j hij
    have := (hM i j).symm.trans (h i j hij)
    exact_mod_cast this
  rw [em, er, inv_up, mul_up, fsub_up]
  congr 1
  exact inv_mul_rhs M hM0 R

/-! ### Finite inputs give finite matrices -/

theorem Real'.add {x y : EReal} (hx : Real' x) (hy : Real' y) : Real' (x + y) := by
  obtain ⟨a, rfl⟩ := hx; obtain ⟨b, rfl⟩ := hy; exact ⟨a + b, (EReal.coe_add _ _).symm⟩

theorem Real'.sub {x y : EReal} (hx : Real' x) (hy : Real' y) : Real' (x - y) := by
  obtain ⟨a, rfl⟩ := hx; obtain ⟨b, rfl⟩ := hy; exact ⟨a - b, (EReal.coe_sub _ _).symm⟩

theorem Real'.mul {x y : EReal} (hx : Real' x) (hy : Real' y) : Real' (x * y) := by
  obtain ⟨a, rfl⟩ := hx; obtain ⟨b, rfl⟩ := hy; exact ⟨a * b, (EReal.coe_mul _ _).symm⟩

theorem Real'.zero : Real' 0 := ⟨0, EReal.coe_zero.symm⟩

theorem Real'.sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

theorem Real'.exp {x : EReal} (h : Real' x ∨ x = ⊥) : Real' (Ideal.exp x) := by
  rcases h with ⟨a, rfl⟩ | rfl
  · exact ⟨Real.exp a, rfl⟩
  · exact ⟨0, EReal.coe_zero.symm⟩

theorem Real'.silu {x : EReal} (h : Real' x) : Real' (silu x) := by
  obtain ⟨a, rfl⟩ := h
  exact Real'.mul ⟨a, rfl⟩ ⟨_, Ideal.logistic_coe a⟩

theorem eps_pos : ∃ e : ℝ, 0 < e ∧ eps = e := by
  refine ⟨_, ?_, show Ideal.ieee 8 23 0x358637BD#32 = _ from by simp [Ideal.ieee]; rfl⟩
  norm_num

theorem ssq_real (x : Rows) (h : ∀ i d, Real' (x i d)) (i : Fin 16) : ∃ a : ℝ, 0 ≤ a ∧ ssq x i = a := by
  choose f hf using h
  refine ⟨∑ d, f i d * f i d, Finset.sum_nonneg fun d _ => mul_self_nonneg _, ?_⟩
  rw [coe_sum]
  exact Finset.sum_congr rfl fun d _ => by rw [hf i d, EReal.coe_mul]

theorem l2_real (x : Rows) (h : ∀ i d, Real' (x i d)) (i : Fin 16) (d : Fin 128) : Real' (l2 x i d) := by
  obtain ⟨a, ha, ea⟩ := ssq_real x h i
  obtain ⟨e, he, ee⟩ := eps_pos
  refine (h i d).mul ⟨(Real.sqrt (a + e))⁻¹, ?_⟩
  rw [ea, ee, ← EReal.coe_add, Ideal.rsqrt_coe, if_neg (by linarith), if_neg (by linarith)]

theorem low_real (k : Rows) (be g : Fin 16 → EReal) (hk : ∀ i d, Real' (k i d)) (hb : ∀ i, Real' (be i)) (hg : ∀ i, Real' (g i))
    (i j : Fin 16) : Real' (low k be g i j) := by
  refine (Real'.sum _ fun d => ((l2_real k hk i d).mul (hb i)).mul (l2_real k hk j d)).mul ?_
  split
  · refine Real'.exp ?_
    split
    · exact .inl ((hg i).sub (hg j))
    · exact .inr rfl
  · exact Real'.zero

theorem low_zero (k : Rows) (be g : Fin 16 → EReal) (i j : Fin 16) (h : i ≤ j) : low k be g i j = 0 := by
  rw [low, if_neg (not_lt.mpr h), mul_zero]

theorem rhs_real (k v : Rows) (be g : Fin 16 → EReal) (hk : ∀ i d, Real' (k i d)) (hv : ∀ i d, Real' (v i d)) (hb : ∀ i, Real' (be i))
    (hg : ∀ i, Real' (g i)) (i : Fin 16) (c : Fin 256) : Real' (rhs k v be g i c) := by
  rw [rhs]
  split
  · exact (hv _ _).mul (hb i)
  · exact ((l2_real k hk _ _).mul (hb i)).mul (Real'.exp (.inl (hg i)))

/-- Where the convolved rows, the write strengths and the log decays are finite, the kernel's solution is the reference's. -/
theorem sol_eq (k v : Rows) (be g : Fin 16 → EReal) (hk : ∀ i d, Real' (k i d)) (hv : ∀ i d, Real' (v i d)) (hb : ∀ i, Real' (be i))
    (hg : ∀ i, Real' (g i)) : mul (inv (low k be g)) (rhs k v be g) = fsub (low k be g) (rhs k v be g) 16 :=
  mul_inv_eq_fsub _ _ (low_real k be g hk hb hg) (rhs_real k v be g hk hv hb hg) (low_zero k be g)

end Gdn
-- ==== Proof.UnitValue.lean ====
/- The unit's stages at an entry, over the extended reals: each is the mathematics of Spec.lean at the rows its arguments
   hold. -/
module

public import proofs.«01_k».proof.Proof.Unit
public import proofs.«01_k».proof.Proof.Spec

@[expose] public section

set_option maxRecDepth 16384

noncomputable section

namespace Cert.KernelIdeal.Unit

open Idealize.ShloMosaic Idealize.SL.Sem Cert.KernelIdeal Cert.KernelIdeal.Gen

/-- A matrix's rows. -/
def at2 {a b : Nat} {φ : FTy} (x : FVec Ideal ⟨2, ![a, b]⟩ φ) : Fin a → Fin b → EReal := fun i j => x (ix2 i j)
/-- A column's entries. -/
def at1 (x : FVec Ideal S16x1 .f32) : Fin 16 → EReal := fun i => x (ix2 i 0)

theorem cmp_ge (i j : Fin 16) : IntOp.cmpi .sge (BitVec.ofNat 32 i) (BitVec.ofNat 32 j) = if j ≤ i then 1#1 else 0#1 := by
  revert i j; decide +kernel
theorem cmp_gt (i j : Fin 16) : IntOp.cmpi .sgt (BitVec.ofNat 32 i) (BitVec.ofNat 32 j) = if j < i then 1#1 else 0#1 := by
  revert i j; decide +kernel
theorem cmp_eq (i j : Fin 16) : IntOp.cmpi .eq (BitVec.ofNat 32 i) (BitVec.ofNat 32 j) = if i = j then 1#1 else 0#1 := by
  revert i j; decide +kernel

theorem sel_ite {α : Type} (p : Prop) [Decidable p] (a b : α) : Scalar.select (if p then 1#1 else 0#1) a b = if p then a else b := by
  split <;> rfl

theorem neg_inf : Ideal.ofBits .f32 0xFF800000#32 = ⊥ := by simp [Ideal.ofBits, Ideal.ieee]

theorem siluU_at (x : FVec Ideal S16x128 .f32) (i : Fin 16) (d : Fin 128) : siluU x (ix2 i d) = Gdn.silu (x (ix2 i d)) := by
  pointwise [siluU]; rfl

theorem convU_at (w3 w0 w1 w2 : Vec Ideal S1x128 .f32) (x3 x0 x1 x2 : Vec Ideal S1x16x128 .f32) (i : Fin 16) (d : Fin 128) :
    convU w3 w0 w1 w2 x3 x0 x1 x2 (ix2 i d)
      = Gdn.conv ![w0 (ix2 0 d), w1 (ix2 0 d), w2 (ix2 0 d), w3 (ix2 0 d)] ![x0 (ix3 0 i d), x1 (ix3 0 i d), x2 (ix3 0 i d), x3 (ix3 0 i d)] := by
  pointwise [convU, tap]
  show _ = ((x0 (ix3 0 i d) * w0 (ix2 0 d) + x1 (ix3 0 i d) * w1 (ix2 0 d)) + x2 (ix3 0 i d) * w2 (ix2 0 d)) + x3 (ix3 0 i d) * w3 (ix2 0 d)
  ac_rfl

theorem sumSq_at (x : FVec Ideal S16x128 .f32) (i : Fin 16) : sumSq x (ix2 i 0) = Gdn.ssq (at2 x) i := by
  pointwise [sumSq]; rfl

theorem l2U_at (x : FVec Ideal S16x128 .f32) (i : Fin 16) (d : Fin 128) : l2U x (ix2 i d) = Gdn.l2 (at2 x) i d := by
  pointwise [l2U]; rw [sumSq_at]; rfl

theorem qU_at (x : FVec Ideal S16x128 .f32) (i : Fin 16) (d : Fin 128) : qU x (ix2 i d) = Gdn.qn (at2 x) i d := by
  pointwise [qU]; rw [l2U_at]; rfl

theorem ktU_at (x : FVec Ideal S16x128 .f32) (i : Fin 16) (d : Fin 128) : ktU x (ix2 d i) = Gdn.l2 (at2 x) i d := by
  pointwise [ktU]; rw [l2U_at]

theorem decU_at (g : FVec Ideal S16x1 .f32) (gr : FVec Ideal S1x16 .f32) (hg : ∀ j, gr (ix2 0 j) = g (ix2 j 0)) (i j : Fin 16) :
    decU g gr (ix2 i j) = Gdn.dec (at1 g) i j := by
  pointwise [decU, rowIx, colIx]
  rw [cmp_ge, sel_ite, neg_inf, hg]; rfl

theorem colMul_at (x : FVec Ideal S16x128 .f32) (g : FVec Ideal S16x1 .f32) (i : Fin 16) (d : Fin 128) :
    colMul x g (ix2 i d) = x (ix2 i d) * g (ix2 i 0) := by
  pointwise [colMul]

theorem exp_at (g : FVec Ideal S16x1 .f32) (i : Fin 16) : (exp g : FVec Ideal S16x1 .f32) (ix2 i 0) = Ideal.exp (at1 g i) := rfl

theorem mU_at (kb q : FVec Ideal S16x128 .f32) (kt : FVec Ideal S128x16 .f32) (dec : FVec Ideal S16x16 .f32) (i j : Fin 16) :
    mU (bothU kb q kt) dec (ix2 i j) = (∑ d, kb (ix2 i d) * kt (ix2 d j)) * (if j < i then dec (ix2 i j) else 0) := by
  pointwise [mU, bothU, rowIx, colIx]
  rw [cmp_gt, sel_ite]
  split
  · congr 1
  · rw [mul_zero]

theorem qkU_at (kb q : FVec Ideal S16x128 .f32) (kt : FVec Ideal S128x16 .f32) (dec : FVec Ideal S16x16 .f32) (i j : Fin 16) :
    qkU (bothU kb q kt) dec (ix2 i j) = (∑ d, q (ix2 i d) * kt (ix2 d j)) * dec (ix2 i j) := by
  pointwise [qkU, bothU]

theorem rhsU_at (a b : FVec Ideal S16x128 .f32) (i : Fin 16) (c : Fin 256) :
    rhsU a b (ix2 i c) = if h : (c : Nat) < 128 then a (ix2 i ⟨c, h⟩) else b (ix2 i ⟨c - 128, by omega⟩) := by
  pointwise [rhsU]

theorem kdtU_at (kt : FVec Ideal S128x16 .f32) (gr : FVec Ideal S1x16 .f32) (d : Fin 128) (j : Fin 16) :
    kdtU kt gr (ix2 d j) = kt (ix2 d j) * Ideal.exp (gr (ix2 0 15) - gr (ix2 0 j)) := by
  pointwise [kdtU]

theorem lastU_at (g : FVec Ideal S16x1 .f32) : lastU g (ix2 0 0) = Ideal.exp (at1 g 15) := by
  pointwise [lastU]; rfl

/-! ### The inverse -/

theorem eyeU_at (i j : Fin 16) : (eyeU : FVec Ideal S16x16 .f32) (ix2 i j) = if i = j then 1 else 0 := by
  pointwise [eyeU, rowIx, colIx]
  rw [cmp_eq]
  split
  · show (((BitVec.setWidth 32 1#1).toInt : ℝ) : EReal) = 1
    norm_num
  · show (((BitVec.setWidth 32 0#1).toInt : ℝ) : EReal) = 0
    norm_num

theorem negU_eq (m : FVec Ideal S16x16 .f32) : at2 (negU m) = Gdn.neg (at2 m) := by
  funext i j
  show negU m (ix2 i j) = 0 - m (ix2 i j)
  pointwise [negU]

theorem oneSub_eq (m : FVec Ideal S16x16 .f32) : at2 (subf eyeU m) = Gdn.oneSub (at2 m) := by
  funext i j
  show (eyeU : FVec Ideal S16x16 .f32) (ix2 i j) - m (ix2 i j) = _
  rw [eyeU_at]; rfl

theorem sqU_eq (p : FVec Ideal S16x16 .bf16) : at2 (sqU p) = Gdn.mul (at2 p) (at2 p) := by
  funext i j
  show sqU p (ix2 i j) = ∑ x, p (ix2 i x) * p (ix2 x j)
  pointwise [sqU]

theorem powU_eq (p : FVec Ideal S16x16 .bf16) (a : FVec Ideal S16x16 .f32) : at2 (powU p a) = Gdn.mul (at2 p) (at2 p) := by
  funext i j
  show powU p a (ix2 i j) = ∑ x, p (ix2 i x) * p (ix2 x j)
  pointwise [powU, levelU]

theorem accU_eq (p : FVec Ideal S16x16 .bf16) (a : FVec Ideal S16x16 .f32) : at2 (accU p a) = Gdn.add (at2 a) (Gdn.mul (at2 a) (at2 p)) := by
  funext i j
  show accU p a (ix2 i j) = a (ix2 i j) + ∑ x, a (ix2 i x) * p (ix2 x j)
  pointwise [accU, levelU]

theorem lastAccU_eq (p : FVec Ideal S16x16 .bf16) (a : FVec Ideal S16x16 .f32) : at2 (lastAccU p a) = Gdn.add (at2 a) (Gdn.mul (at2 a) (at2 p)) := by
  funext i j
  show lastAccU p a (ix2 i j) = a (ix2 i j) + ∑ x, a (ix2 i x) * p (ix2 x j)
  pointwise [lastAccU]

theorem invU_eq (m : FVec Ideal S16x16 .f32) : at2 (invU m) = Gdn.inv (at2 m) := by
  simp only [invU, lastAccU_eq, powU_eq, accU_eq, sqU_eq, negU_eq, oneSub_eq]
  rfl

theorem solU_eq (t : FVec Ideal S16x16 .f32) (r : FVec Ideal S16x256 .f32) : at2 (solU t r) = Gdn.mul (at2 t) (at2 r) := by
  funext i j
  show solU t r (ix2 i j) = ∑ x, t (ix2 i x) * r (ix2 x j)
  pointwise [solU]

/-! ### The unit -/

section
variable (q k v : FVec Ideal S16x128 .f32) (be g : FVec Ideal S16x1 .f32) (gr : FVec Ideal S1x16 .f32) (hg : ∀ j, gr (ix2 0 j) = g (ix2 j 0))
include hg

theorem low_eq : at2 (mU (bothU (colMul (l2U k) be) (qU q) (ktU k)) (decU g gr)) = Gdn.low (at2 k) (at1 be) (at1 g) := by
  funext i j
  refine (mU_at _ _ _ _ i j).trans ?_
  simp only [colMul_at, l2U_at, ktU_at, decU_at g gr hg]
  rfl

theorem att_eq : at2 (qkU (bothU (colMul (l2U k) be) (qU q) (ktU k)) (decU g gr)) = Gdn.att (at2 q) (at2 k) (at1 g) := by
  funext i j
  refine (qkU_at _ _ _ _ i j).trans ?_
  simp only [qU_at, ktU_at, decU_at g gr hg]
  rfl

omit hg in
theorem rhs_eq : at2 (rhsU (colMul v be) (colMul (colMul (l2U k) be) (exp g))) = Gdn.rhs (at2 k) (at2 v) (at1 be) (at1 g) := by
  funext i c
  refine (rhsU_at _ _ i c).trans ?_
  simp only [colMul_at, l2U_at, exp_at]
  rfl

theorem solOf_eq : at2 (solOf k v q be g gr)
    = Gdn.mul (Gdn.inv (Gdn.low (at2 k) (at1 be) (at1 g))) (Gdn.rhs (at2 k) (at2 v) (at1 be) (at1 g)) := by
  rw [solOf, solU_eq, invU_eq, low_eq q k be g gr hg, rhs_eq]

omit hg in
theorem newU_at (sol : FVec Ideal S16x256 .f32) (qg : FVec Ideal S16x128 .f32) (s : FVec Ideal S128x128 .f32) (i : Fin 16) (e : Fin 128) :
    newU sol (wsU sol qg s) (ix2 i e) = Gdn.vnew (at2 sol) (at2 s) i e := by
  pointwise [newU, wsU]
  show _ = sol (ix2 i ⟨e, _⟩) - ∑ d : Fin 128, sol (ix2 i ⟨128 + d, _⟩) * s (ix2 d e)
  congr 1

omit hg in
theorem oU_at (sol : FVec Ideal S16x256 .f32) (qg : FVec Ideal S16x128 .f32) (s : FVec Ideal S128x128 .f32) (qk : FVec Ideal S16x16 .f32)
    (kdt : FVec Ideal S128x16 .f32) (vn : FVec Ideal S16x128 .f32) (i : Fin 16) (e : Fin 128) :
    oU (wsU sol qg s) (updU qk kdt vn) (ix2 i e) = (∑ d, qg (ix2 i d) * s (ix2 d e)) + ∑ j, qk (ix2 i j) * vn (ix2 j e) := by
  pointwise [oU, wsU, updU]

omit hg in
theorem stU_at (s : FVec Ideal S128x128 .f32) (l : FVec Ideal S1x1 .f32) (qk : FVec Ideal S16x16 .f32)
    (kdt : FVec Ideal S128x16 .f32) (vn : FVec Ideal S16x128 .f32) (d e : Fin 128) :
    stU s l (updU qk kdt vn) (ix2 d e) = s (ix2 d e) * l (ix2 0 0) + ∑ j, kdt (ix2 d j) * vn (ix2 j e) := by
  pointwise [stU, updU]

omit hg in
theorem gateU_at (o : FVec Ideal S16x128 .f32) (won : Vec Ideal S1x128 .f32) (z : Vec Ideal S1x16x128 .f32) (i : Fin 16) (e : Fin 128) :
    gateU o won z (ix2 i e) = Gdn.gated (at2 o) (fun e => won (ix2 0 e)) (fun i e => z (ix3 0 i e)) i e := by
  pointwise [gateU, siluU]
  rw [sumSq_at]; rfl

variable (s : Vec Ideal S1x1x128x128 .f32)

omit hg in
theorem cast_s (d e : Fin 128) : (shapeCast S128x128 s shapeCasts_S1x1x128x128_S128x128 : FVec Ideal S128x128 .f32) (ix2 d e) = s (ix4 0 0 d e) := by
  pointwise

/-- The unit's output block at a row and a column. -/
theorem unitO_at (won : Vec Ideal S1x128 .f32) (z : Vec Ideal S1x16x128 .f32) (i : Fin 16) (e : Fin 128) :
    unitO q k v be g gr s won z (ix3 0 i e) = Gdn.gated
      (Gdn.mix (Gdn.mul (Gdn.inv (Gdn.low (at2 k) (at1 be) (at1 g))) (Gdn.rhs (at2 k) (at2 v) (at1 be) (at1 g)))
        (at2 q) (at2 k) (at1 g) (fun d e => s (ix4 0 0 d e))) (fun e => won (ix2 0 e)) (fun i e => z (ix3 0 i e)) i e := by
  have h0 : unitO q k v be g gr s won z (ix3 0 i e) = gateU (oU (wsOf q k v be g gr (shapeCast S128x128 s shapeCasts_S1x1x128x128_S128x128))
    (updOf q k v be g gr (shapeCast S128x128 s shapeCasts_S1x1x128x128_S128x128))) won z (ix2 i e) := by pointwise [unitO]
  rw [h0, gateU_at]
  congr 1
  funext i e
  refine (oU_at _ _ _ _ _ _ i e).trans ?_
  have hs : at2 (shapeCast S128x128 s shapeCasts_S1x1x128x128_S128x128 : FVec Ideal S128x128 .f32) = fun d e => s (ix4 0 0 d e) := by
    funext d e; exact cast_s s d e
  have hn : ∀ j, newU (solOf k v q be g gr) (wsOf q k v be g gr (shapeCast S128x128 s shapeCasts_S1x1x128x128_S128x128)) (ix2 j e)
      = Gdn.vnew (Gdn.mul (Gdn.inv (Gdn.low (at2 k) (at1 be) (at1 g))) (Gdn.rhs (at2 k) (at2 v) (at1 be) (at1 g))) (fun d e => s (ix4 0 0 d e)) j e := by
    intro j
    rw [wsOf, newU_at, solOf_eq q k v be g gr hg, hs]
  have ha : ∀ j, qkU (bothU (colMul (l2U k) be) (qU q) (ktU k)) (decU g gr) (ix2 i j) = Gdn.att (at2 q) (at2 k) (at1 g) i j :=
    fun j => congrFun (congrFun (att_eq q k be g gr hg) i) j
  simp only [hn, ha, cast_s, colMul_at, qU_at, exp_at]
  rfl

/-- The unit's state block at a key and a value column. -/
theorem unitS_at (d e : Fin 128) :
    unitS q k v be g gr s (ix4 0 0 d e) =
      Gdn.state (Gdn.mul (Gdn.inv (Gdn.low (at2 k) (at1 be) (at1 g))) (Gdn.rhs (at2 k) (at2 v) (at1 be) (at1 g)))
        (at2 k) (at1 g) (fun d e => s (ix4 0 0 d e)) d e := by
  have h0 : unitS q k v be g gr s (ix4 0 0 d e) = stU (shapeCast S128x128 s shapeCasts_S1x1x128x128_S128x128) (lastU g)
    (updOf q k v be g gr (shapeCast S128x128 s shapeCasts_S1x1x128x128_S128x128)) (ix2 d e) := by pointwise [unitS]
  rw [h0]
  refine (stU_at _ _ _ _ _ d e).trans ?_
  have hs : at2 (shapeCast S128x128 s shapeCasts_S1x1x128x128_S128x128 : FVec Ideal S128x128 .f32) = fun d e => s (ix4 0 0 d e) := by
    funext d e; exact cast_s s d e
  have hn : ∀ j, newU (solOf k v q be g gr) (wsOf q k v be g gr (shapeCast S128x128 s shapeCasts_S1x1x128x128_S128x128)) (ix2 j e)
      = Gdn.vnew (Gdn.mul (Gdn.inv (Gdn.low (at2 k) (at1 be) (at1 g))) (Gdn.rhs (at2 k) (at2 v) (at1 be) (at1 g))) (fun d e => s (ix4 0 0 d e)) j e := by
    intro j
    rw [wsOf, newU_at, solOf_eq q k v be g gr hg, hs]
  simp only [hn, cast_s, kdtU_at, ktU_at, lastU_at, hg]
  rfl

end

end Cert.KernelIdeal.Unit
-- ==== Proof.Stream.lean ====
/- One stream's chunk: the mathematics of Spec.lean at the arrays the call is given. -/
module

public import proofs.«01_k».proof.Proof.Spec

@[expose] public section

noncomputable section

namespace Gdn

/-- What one stream's chunk is computed from: its new rows and history rows of q|k|v, the convolution's weights, its write
    strengths | log decays, its gate rows, its carried states and the norm's weights. -/
structure Chunk where
  x : Fin 16 → Fin 1536 → EReal
  past : Fin 3 → Fin 1536 → EReal
  w : Fin 4 → Fin 1536 → EReal
  bd : Fin 16 → Fin 8 → EReal
  z : Fin 16 → Fin 512 → EReal
  s : Fin 4 → Fin 128 → Fin 128 → EReal
  won : Fin 128 → EReal

/-- The head of an output column, and the column inside the head. -/
def hd (n : Fin 512) : Fin 4 := ⟨n / 128, by omega⟩
def lane (n : Fin 512) : Fin 128 := ⟨n % 128, by omega⟩

namespace Chunk
variable (a : Chunk)

/-- The history rows followed by the new rows. -/
def ext (r : Fin 19) (c : Fin 1536) : EReal := if h : (r : Nat) < 3 then a.past ⟨r, h⟩ c else a.x ⟨r - 3, by omega⟩ c

/-- The convolved rows through silu. -/
def cv (i : Fin 16) (c : Fin 1536) : EReal :=
  silu (conv (fun j => a.w j c) (fun j => a.ext ⟨i + j, by omega⟩ c))

/-- One of the twelve column groups of 128. -/
def grp (h : Fin 12) : Rows := fun i d => a.cv i ⟨128 * h + d, by omega⟩

/-- Head `h`'s queries, keys, values, write strengths and cumulative log decays. -/
def q (h : Fin 4) : Rows := a.grp ⟨h, by omega⟩
def k (h : Fin 4) : Rows := a.grp ⟨4 + h, by omega⟩
def v (h : Fin 4) : Rows := a.grp ⟨8 + h, by omega⟩
def be (h : Fin 4) : Fin 16 → EReal := fun i => a.bd i ⟨h, by omega⟩
def g (h : Fin 4) : Fin 16 → EReal := fun i => a.bd i ⟨4 + h, by omega⟩

/-- The triangular system solved by the inverse's product form, and by forward substitution. -/
def solInv (h : Fin 4) : Fin 16 → Fin 256 → EReal := mul (inv (low (a.k h) (a.be h) (a.g h))) (rhs (a.k h) (a.v h) (a.be h) (a.g h))
def solSub (h : Fin 4) : Fin 16 → Fin 256 → EReal := fsub (low (a.k h) (a.be h) (a.g h)) (rhs (a.k h) (a.v h) (a.be h) (a.g h)) 16

/-- The output row and the new state, from the system's solution. -/
def out (sol : Fin 16 → Fin 256 → EReal) (h : Fin 4) (i : Fin 16) (e : Fin 128) : EReal :=
  gated (mix sol (a.q h) (a.k h) (a.g h) (a.s h)) a.won (fun i e => a.z i ⟨128 * h + e, by omega⟩) i e
def new (sol : Fin 16 → Fin 256 → EReal) (h : Fin 4) (d e : Fin 128) : EReal := state sol (a.k h) (a.g h) (a.s h) d e

/-- The output rows and the new states by either solution. -/
def outInv (i : Fin 16) (n : Fin 512) : EReal := a.out (a.solInv (hd n)) (hd n) i (lane n)
def outSub (i : Fin 16) (n : Fin 512) : EReal := a.out (a.solSub (hd n)) (hd n) i (lane n)
def newInv (h : Fin 4) (d e : Fin 128) : EReal := a.new (a.solInv h) h d e
def newSub (h : Fin 4) (d e : Fin 128) : EReal := a.new (a.solSub h) h d e

/-- The entries the triangular system is made of are finite. -/
structure Fin' : Prop where
  x : ∀ i c, Real' (a.x i c)
  past : ∀ i c, Real' (a.past i c)
  w : ∀ i c, Real' (a.w i c)
  bd : ∀ i c, Real' (a.bd i c)

variable {a}

theorem cv_real (f : a.Fin') (i : Fin 16) (c : Fin 1536) : Real' (a.cv i c) := by
  have hx : ∀ r, Real' (a.ext r c) := by
    intro r
    unfold ext
    split
    · exact f.past _ _
    · exact f.x _ _
  unfold cv conv
  exact (((((hx _).mul (f.w _ _)).add ((hx _).mul (f.w _ _))).add ((hx _).mul (f.w _ _))).add ((hx _).mul (f.w _ _))).silu

/-- Both solutions are one. -/
theorem sol (f : a.Fin') (h : Fin 4) : a.solInv h = a.solSub h :=
  sol_eq _ _ _ _ (fun i d => cv_real f i _) (fun i d => cv_real f i _) (fun i => f.bd _ _) (fun i => f.bd _ _)

theorem out_eq (f : a.Fin') (i : Fin 16) (n : Fin 512) : a.outInv i n = a.outSub i n := by rw [outInv, outSub, sol f]
theorem new_eq (f : a.Fin') (h : Fin 4) (d e : Fin 128) : a.newInv h d e = a.newSub h d e := by rw [newInv, newSub, sol f]

end Chunk

open Idealize.ShloMosaic in
/-- Stream `b` of the call's seven arguments. -/
def stream (X : FVec Ideal ⟨3, ![32, 16, 1536]⟩ .f32) (Z : FVec Ideal ⟨3, ![32, 16, 512]⟩ .f32) (BD : FVec Ideal ⟨3, ![32, 16, 8]⟩ .f32)
    (P : FVec Ideal ⟨4, ![1, 32, 3, 1536]⟩ .f32) (S : FVec Ideal ⟨5, ![1, 32, 4, 128, 128]⟩ .f32) (W : FVec Ideal ⟨3, ![1, 4, 1536]⟩ .f32)
    (N : FVec Ideal ⟨2, ![1, 128]⟩ .f32) (b : Fin 32) : Chunk where
  x i c := X (ix3 b i c)
  past i c := P (ix4 0 b i c)
  w j c := W (ix3 0 j c)
  bd i h := BD (ix3 b i h)
  z i c := Z (ix3 b i c)
  s h d e := S (ix5 0 b h d e)
  won e := N (ix2 0 e)

end Gdn
-- ==== Proof.Block.lean ====
/- What the body leaves in its two output blocks, entry by entry, from its eight input blocks. -/
module

public import proofs.«01_k».proof.Proof.Pieces
public import proofs.«01_k».proof.Proof.UnitValue
public import proofs.«01_k».proof.Proof.Stream
public import Idealize.ShloMosaic.Lib.Pipeline.ValueKit
public import Idealize.ShloMosaic.Lib.Pipeline.CanonAppend

@[expose] public section

set_option maxRecDepth 16384

noncomputable section

namespace Cert.KernelIdeal.Unit

open Idealize.ShloMosaic Idealize.SL.Sem Cert.KernelIdeal Cert.KernelIdeal.Gen

section
variable (c : Dev nD) (i : grid0.Coords) (arg2 : Memref sig .tc .vmem S8x16x1536 .f32) (harg2 : arg2.IsWhole) (arg3 : Memref sig .tc .vmem S8x16x512 .f32) (harg3 : arg3.IsWhole) (arg4 : Memref sig .tc .vmem S8x16x8 .f32) (harg4 : arg4.IsWhole) (arg5 : Memref sig .tc .vmem S8x8x16 .f32) (harg5 : arg5.IsWhole) (arg6 : Memref sig .tc .vmem S8x3x1536 .f32) (harg6 : arg6.IsWhole) (arg7 : Memref sig .tc .vmem S8x4x128x128 .f32) (harg7 : arg7.IsWhole) (arg8 : Memref sig .tc .vmem S4x1536 .f32) (harg8 : arg8.IsWhole) (arg9 : Memref sig .tc .vmem S1x128 .f32) (harg9 : arg9.IsWhole) (arg10 : Memref sig .tc .vmem S8x16x512 .bf16) (harg10 : arg10.IsWhole) (arg11 : Memref sig .tc .vmem S8x4x128x128 .f32) (harg11 : arg11.IsWhole) (arg12 : Memref sig .tc .vmem S8x24x1536 .f32) (harg12 : arg12.IsWhole) (hc0 : cond0_0 i)
    (x0 : Vec Ideal S8x16x1536 .f32) (x1 : Vec Ideal S8x16x512 .f32) (x2 : Vec Ideal S8x16x8 .f32) (x3 : Vec Ideal S8x8x16 .f32) (x4 : Vec Ideal S8x3x1536 .f32) (x5 : Vec Ideal S8x4x128x128 .f32) (x6 : Vec Ideal S4x1536 .f32) (x7 : Vec Ideal S1x128 .f32)

/-- Stream `b` of the blocks. -/
def chunk (b : Fin 8) : Gdn.Chunk where
  x i c := x0 (ix3 b i c)
  past i c := x4 (ix3 b i c)
  w j c := x6 (ix2 j c)
  bd i h := x2 (ix3 b i h)
  z i c := x1 (ix3 b i c)
  s h d e := x5 (ix4 b h d e)
  won e := x7 (ix2 0 e)

theorem ldW_at (j h : Nat) (hj : j < 4) (hh : h < 12) (d : Fin 128) :
    ldW arg8 harg8 x6 j h hj hh (ix2 0 d) = x6 (ix2 ⟨j, hj⟩ ⟨128 * h + d, by omega⟩) := by
  rw [ldW, View.readAt_eq_ld, Memref.IsWhole.read_unread]
  refine View.ld_unit_apply_of _ _ _ _ _ _ fun a => ?_
  fin_cases a <;> simp [ix2]

theorem ldZ_at (b h : Nat) (hb : b < 8) (hh : h < 4) (i : Fin 16) (d : Fin 128) :
    ldZ arg3 harg3 x1 b h hb hh (ix3 0 i d) = x1 (ix3 ⟨b, hb⟩ i ⟨128 * h + d, by omega⟩) := by
  rw [ldZ, View.readAt_eq_ld, Memref.IsWhole.read_unread]
  refine View.ld_unit_apply_of _ _ _ _ _ _ fun a => ?_
  fin_cases a <;> simp [ix3]

theorem ldN_at (d : Fin 128) : ldN arg9 harg9 x7 (ix2 0 d) = x7 (ix2 0 d) := by
  rw [ldN, View.readAt_eq_ld, Memref.IsWhole.read_unread]
  refine View.ld_unit_apply_of _ _ _ _ _ _ fun a => ?_
  fin_cases a <;> simp [ix2]

theorem col_at (X : Vec Ideal S1x16x8 .f32) (h : Nat) (hh : h < 8) (pr) (i : Fin 16) :
    (extractStridedSlice S16x1 ![0, h] (shapeCast S16x8 X shapeCasts_S1x16x8_S16x8) pr : FVec Ideal S16x1 .f32) (ix2 i 0) = X (ix3 0 i ⟨h, hh⟩) := by
  pointwise

theorem row_at (X : Vec Ideal S1x8x16 .f32) (h : Nat) (hh : h < 8) (pr) (i : Fin 16) :
    (extractStridedSlice S1x16 ![h, 0] (shapeCast S8x16 X shapeCasts_S1x8x16_S8x16) pr : FVec Ideal S1x16 .f32) (ix2 0 i) = X (ix3 0 ⟨h, hh⟩ i) := by
  pointwise

theorem ldB_at (b h : Nat) (hb : b < 8) (hh : h < 8) (i : Fin 16) :
    ldB arg4 harg4 x2 b h hb hh (ix2 i 0) = x2 (ix3 ⟨b, hb⟩ i ⟨h, hh⟩) := by
  refine (col_at _ h hh _ i).trans ?_
  rw [View.readAt_eq_ld, Memref.IsWhole.read_unread]
  refine View.ld_unit_apply_of _ _ _ _ _ _ fun a => ?_
  fin_cases a <;> simp [ix3]

theorem ldBt_at (b h : Nat) (hb : b < 8) (hh : h < 8) (i : Fin 16) :
    ldBt arg5 harg5 x3 b h hb hh (ix2 0 i) = x3 (ix3 ⟨b, hb⟩ ⟨h, hh⟩ i) := by
  refine (row_at _ h hh _ i).trans ?_
  rw [View.readAt_eq_ld, Memref.IsWhole.read_unread]
  refine View.ld_unit_apply_of _ _ _ _ _ _ fun a => ?_
  fin_cases a <;> simp [ix3]

theorem ldS_at (b h : Nat) (hb : b < 8) (hh : h < 4) (d e : Fin 128) :
    ldS c arg7 harg7 arg11 x5 b h hb hh (ix4 0 0 d e) = x5 (ix4 ⟨b, hb⟩ ⟨h, hh⟩ d e) := by
  rw [ldS, View.readCov_eq_canon', kernelRun0_A.sl.H9_1]
  have hi : (Rect.unit (s := S8x4x128x128) ![b, h, 0, 0] S1x1x128x128.size (inb4 (by omega) (by omega) (by omega) (by omega))).toLoadRect.idx (ix4 0 0 d e)
      = (ix4 ⟨b, hb⟩ ⟨h, hh⟩ d e : S8x4x128x128.Idx) := by
    funext a; fin_cases a <;> apply Fin.ext <;> simp [ix4, LoadRect.idx, Rect.toLoadRect]
  show View.canon _ _ = _
  rw [hi]
  canon_tiles x ha
  rw [k0_pay6, shapeCast_self, View.readAt_eq_ld, Memref.IsWhole.read_unread]
  refine View.ld_unit_apply_of _ _ _ _ _ _ fun a => ?_
  fin_cases a
  · exact ha0.trans (Nat.zero_add _).symm
  · exact ha1.trans (Nat.zero_add _).symm
  · exact ha2.trans (Nat.zero_add _).symm
  · exact ha3.trans (Nat.zero_add _).symm

theorem ldX_at (b r h : Nat) (hb : b < 8) (hr : r < 9) (hr5 : 5 ≤ r) (hh : h < 12) (i : Fin 16) (d : Fin 128) :
    ldX c arg2 harg2 arg6 harg6 arg12 x0 x4 b r h hb hr hh (ix3 0 i d)
      = (chunk x0 x1 x2 x4 x5 x6 x7 ⟨b, hb⟩).ext ⟨i + (r - 5), by omega⟩ ⟨128 * h + d, by omega⟩ := by
  rw [ldX, View.readCov_eq_canon', kernelRun0_A.sl.HS0_2]
  have hi : (Rect.unit (s := S8x24x1536) ![b, r, 128 * h] S1x16x128.size (inb3 (by omega) (by omega) (by omega))).toLoadRect.idx (ix3 0 i d)
      = (ix3 ⟨b, hb⟩ ⟨r + i, by omega⟩ ⟨128 * h + d, by omega⟩ : S8x24x1536.Idx) := by
    funext a; fin_cases a <;> apply Fin.ext <;> simp [ix3, LoadRect.idx, Rect.toLoadRect]
  show View.canon _ _ = _
  rw [hi]
  unfold Gdn.Chunk.ext
  by_cases hi3 : (i : Nat) + (r - 5) < 3
  · rw [dif_pos hi3, View.canon_cons_of_not_mem]
    · have hy : (ix3 ⟨b, hb⟩ ⟨r + i, by omega⟩ ⟨128 * h + d, by omega⟩ : S8x24x1536.Idx)
          = (Rect.unit (s := S8x24x1536) ![0, 5, 0] S8x3x1536.size (inb3 (by omega) (by omega) (by omega))).emb (ix3 ⟨b, hb⟩ ⟨i + (r - 5), hi3⟩ ⟨128 * h + d, by omega⟩) := by
        funext a; fin_cases a <;> apply Fin.ext <;> simp [ix3] <;> omega
      rw [hy]
      refine (View.canon_cons_emb _ _ _ _).trans ?_
      rw [k0_pay5, shapeCast_self, View.readAt_eq_ld, Memref.IsWhole.read_unread]
      refine View.ld_unit_apply_of _ _ _ _ _ _ fun a => ?_
      fin_cases a <;> simp [ix3]
    · intro hm
      have := ((Rect.mem_set_unit (inb := inb_S8x24x1536_S8x16x1536_0_8_0)).mp hm) 1
      simp [ix3] at this
      omega
  · rw [dif_neg hi3]
    have hy : (ix3 ⟨b, hb⟩ ⟨r + i, by omega⟩ ⟨128 * h + d, by omega⟩ : S8x24x1536.Idx)
        = (Rect.unit (s := S8x24x1536) ![0, 8, 0] S8x16x1536.size (inb3 (by omega) (by omega) (by omega))).emb (ix3 ⟨b, hb⟩ ⟨i + (r - 5) - 3, by omega⟩ ⟨128 * h + d, by omega⟩) := by
      funext a; fin_cases a <;> apply Fin.ext <;> simp [ix3] <;> omega
    rw [hy]
    refine (View.canon_cons_emb _ _ _ _).trans ?_
    rw [k0_pay7, shapeCast_self, View.readAt_eq_ld, Memref.IsWhole.read_unread]
    refine View.ld_unit_apply_of _ _ _ _ _ _ fun a => ?_
    fin_cases a <;> simp [ix3]

theorem ldC_at (b h : Nat) (hb : b < 8) (hh : h < 12) (i : Fin 16) (d : Fin 128) :
    ldC c arg2 harg2 arg6 harg6 arg8 harg8 arg12 x0 x4 x6 b h hb hh (ix2 i d) = (chunk x0 x1 x2 x4 x5 x6 x7 ⟨b, hb⟩).grp ⟨h, hh⟩ i d := by
  rw [ldC, siluU_at, convU_at]
  simp only [ldW_at]
  rw [ldX_at c arg2 harg2 arg6 harg6 arg12 x0 x1 x2 x4 x5 x6 x7 b 8 h hb (by omega) (by omega) hh,
    ldX_at c arg2 harg2 arg6 harg6 arg12 x0 x1 x2 x4 x5 x6 x7 b 5 h hb (by omega) (by omega) hh,
    ldX_at c arg2 harg2 arg6 harg6 arg12 x0 x1 x2 x4 x5 x6 x7 b 6 h hb (by omega) (by omega) hh,
    ldX_at c arg2 harg2 arg6 harg6 arg12 x0 x1 x2 x4 x5 x6 x7 b 7 h hb (by omega) (by omega) hh]
  rfl

variable (hbt : ∀ b h j, x3 (ix3 b h j) = x2 (ix3 b j h))
include hbt

theorem unit_args (b : Nat) (hb : b < 8) (h : Nat) (hh : h < 4) :
    at2 (ldC c arg2 harg2 arg6 harg6 arg8 harg8 arg12 x0 x4 x6 b h hb (by omega)) = (chunk x0 x1 x2 x4 x5 x6 x7 ⟨b, hb⟩).q ⟨h, hh⟩
    ∧ at2 (ldC c arg2 harg2 arg6 harg6 arg8 harg8 arg12 x0 x4 x6 b (4 + h) hb (by omega)) = (chunk x0 x1 x2 x4 x5 x6 x7 ⟨b, hb⟩).k ⟨h, hh⟩
    ∧ at2 (ldC c arg2 harg2 arg6 harg6 arg8 harg8 arg12 x0 x4 x6 b (8 + h) hb (by omega)) = (chunk x0 x1 x2 x4 x5 x6 x7 ⟨b, hb⟩).v ⟨h, hh⟩
    ∧ at1 (ldB arg4 harg4 x2 b h hb (by omega)) = (chunk x0 x1 x2 x4 x5 x6 x7 ⟨b, hb⟩).be ⟨h, hh⟩
    ∧ at1 (ldB arg4 harg4 x2 b (4 + h) hb (by omega)) = (chunk x0 x1 x2 x4 x5 x6 x7 ⟨b, hb⟩).g ⟨h, hh⟩
    ∧ ∀ j, ldBt arg5 harg5 x3 b (4 + h) hb (by omega) (ix2 0 j) = ldB arg4 harg4 x2 b (4 + h) hb (by omega) (ix2 j 0) := by
  refine ⟨?_, ?_, ?_, ?_, ?_, ?_⟩
  · funext i d; exact ldC_at c arg2 harg2 arg6 harg6 arg8 harg8 arg12 x0 x1 x2 x4 x5 x6 x7 b h hb _ i d
  · funext i d; exact ldC_at c arg2 harg2 arg6 harg6 arg8 harg8 arg12 x0 x1 x2 x4 x5 x6 x7 b (4 + h) hb _ i d
  · funext i d; exact ldC_at c arg2 harg2 arg6 harg6 arg8 harg8 arg12 x0 x1 x2 x4 x5 x6 x7 b (8 + h) hb _ i d
  · funext i; exact ldB_at arg4 harg4 x2 b h hb _ i
  · funext i; exact ldB_at arg4 harg4 x2 b (4 + h) hb _ i
  · intro j; rw [ldBt_at, ldB_at, hbt]

theorem pieceO_at (b h : Nat) (hb : b < 8) (hh : h < 4) (r : Fin 16) (e : Fin 128) :
    (pieceO c arg2 harg2 arg3 harg3 arg4 harg4 arg5 harg5 arg6 harg6 arg7 harg7 arg8 harg8 arg9 harg9 arg11 arg12 x0 x1 x2 x3 x4 x5 x6 x7 b h hb hh).2 (ix3 0 r e)
      = (chunk x0 x1 x2 x4 x5 x6 x7 ⟨b, hb⟩).outInv r ⟨128 * h + e, by omega⟩ := by
  obtain ⟨eq, ek, ev, ebe, eg, egr⟩ := unit_args c arg2 harg2 arg4 harg4 arg5 harg5 arg6 harg6 arg8 harg8 arg12 x0 x1 x2 x3 x4 x5 x6 x7 hbt b hb h hh
  refine (unitO_at _ _ _ _ _ _ egr _ _ _ r e).trans ?_
  rw [eq, ek, ev, ebe, eg]
  simp only [ldS_at, ldN_at, ldZ_at]
  have hn : Gdn.hd (⟨128 * h + e, by omega⟩ : Fin 512) = ⟨h, hh⟩ := Fin.ext (by show (128 * h + e) / 128 = h; omega)
  have ho : Gdn.lane (⟨128 * h + e, by omega⟩ : Fin 512) = e := Fin.ext (by show (128 * h + e) % 128 = e; omega)
  rw [Gdn.Chunk.outInv, hn, ho]
  rfl

theorem pieceS_at (b h : Nat) (hb : b < 8) (hh : h < 4) (d e : Fin 128) :
    (pieceS c arg2 harg2 arg4 harg4 arg5 harg5 arg6 harg6 arg7 harg7 arg8 harg8 arg11 arg12 x0 x2 x3 x4 x5 x6 b h hb hh).2 (ix4 0 0 d e)
      = (chunk x0 x1 x2 x4 x5 x6 x7 ⟨b, hb⟩).newInv ⟨h, hh⟩ d e := by
  obtain ⟨eq, ek, ev, ebe, eg, egr⟩ := unit_args c arg2 harg2 arg4 harg4 arg5 harg5 arg6 harg6 arg8 harg8 arg12 x0 x1 x2 x3 x4 x5 x6 x7 hbt b hb h hh
  refine (unitS_at _ _ _ _ _ _ egr _ d e).trans ?_
  rw [ek, ev, ebe, eg]
  simp only [ldS_at]
  rfl

omit hbt in
theorem embO (b h : Nat) (hb : b < 8) (hh : h < 4) (r : Fin 16) (e : Fin 128) :
    (pieceO c arg2 harg2 arg3 harg3 arg4 harg4 arg5 harg5 arg6 harg6 arg7 harg7 arg8 harg8 arg9 harg9 arg11 arg12 x0 x1 x2 x3 x4 x5 x6 x7 b h hb hh).1.emb (ix3 0 r e)
      = (ix3 ⟨b, hb⟩ r ⟨128 * h + e, by omega⟩ : S8x16x512.Idx) := by
  funext a
  refine Fin.ext ((Rect.idx_unit_val (s := S8x16x512) ![b, 0, 128 * h] S1x16x128.size (inb3 (by omega) (by omega) (by omega)) (ix3 0 r e) a).trans ?_)
  fin_cases a <;> simp [ix3]

omit hbt in
theorem embS (b h : Nat) (hb : b < 8) (hh : h < 4) (d e : Fin 128) :
    (pieceS c arg2 harg2 arg4 harg4 arg5 harg5 arg6 harg6 arg7 harg7 arg8 harg8 arg11 arg12 x0 x2 x3 x4 x5 x6 b h hb hh).1.emb (ix4 0 0 d e)
      = (ix4 ⟨b, hb⟩ ⟨h, hh⟩ d e : S8x4x128x128.Idx) := by
  funext a
  refine Fin.ext ((Rect.idx_unit_val (s := S8x4x128x128) ![b, h, 0, 0] S1x1x128x128.size (inb4 (by omega) (by omega) (by omega) (by omega)) (ix4 0 0 d e) a).trans ?_)
  fin_cases a <;> simp [ix4]

omit hbt in
theorem coverS (y : S8x4x128x128.Idx) (b : Fin 8) (h : Fin 4) (d e : Fin 128) (hy : y = ix4 b h d e) : ∃ p ∈ (List.ofFn fun k : Fin 32 => pieceS c arg2 harg2 arg4 harg4 arg5 harg5 arg6 harg6 arg7 harg7 arg8 harg8 arg11 arg12 x0 x2 x3 x4 x5 x6
      (7 - k / 4) (3 - k % 4) (by omega) (by omega)), y ∈ p.1.set := by
  subst hy
  refine ⟨_, (List.mem_ofFn' _ _).mpr ⟨(⟨31 - (4 * b + h), by omega⟩ : Fin 32), rfl⟩, ?_⟩
  rw [show (ix4 b h d e : S8x4x128x128.Idx) = ix4 ⟨7 - (31 - (4 * b + h)) / 4, by omega⟩ ⟨3 - (31 - (4 * b + h)) % 4, by omega⟩ d e from by
    congr 1 <;> apply Fin.ext <;> simp <;> omega]
  rw [← embS c arg2 harg2 arg4 harg4 arg5 harg5 arg6 harg6 arg7 harg7 arg8 harg8 arg11 arg12 x0 x2 x3 x4 x5 x6]
  exact (by rw [← Rect.map_emb_univ]; exact Finset.mem_map_of_mem _ (Finset.mem_univ _))

theorem agreeO (b h : Nat) (hb : b < 8) (hh : h < 4) (x : S1x16x128.Idx) :
    (pieceO c arg2 harg2 arg3 harg3 arg4 harg4 arg5 harg5 arg6 harg6 arg7 harg7 arg8 harg8 arg9 harg9 arg11 arg12 x0 x1 x2 x3 x4 x5 x6 x7 b h hb hh).2 x = (fun y : S8x16x512.Idx => (chunk x0 x1 x2 x4 x5 x6 x7 (y 0)).outInv (y 1) (y 2))
      ((pieceO c arg2 harg2 arg3 harg3 arg4 harg4 arg5 harg5 arg6 harg6 arg7 harg7 arg8 harg8 arg9 harg9 arg11 arg12 x0 x1 x2 x3 x4 x5 x6 x7 b h hb hh).1.emb x) := by
  obtain ⟨r, e, rfl⟩ : ∃ (r : Fin 16) (e : Fin 128), x = ix3 0 r e :=
    ⟨x 1, x 2, by funext a; fin_cases a <;> first | rfl | exact Subsingleton.elim (α := Fin 1) _ _⟩
  rw [embO]
  exact pieceO_at c arg2 harg2 arg3 harg3 arg4 harg4 arg5 harg5 arg6 harg6 arg7 harg7 arg8 harg8 arg9 harg9 arg11 arg12 x0 x1 x2 x3 x4 x5 x6 x7 hbt b h hb hh r e

theorem agreeS (b h : Nat) (hb : b < 8) (hh : h < 4) (x : S1x1x128x128.Idx) :
    (pieceS c arg2 harg2 arg4 harg4 arg5 harg5 arg6 harg6 arg7 harg7 arg8 harg8 arg11 arg12 x0 x2 x3 x4 x5 x6 b h hb hh).2 x = (fun y : S8x4x128x128.Idx => (chunk x0 x1 x2 x4 x5 x6 x7 (y 0)).newInv (y 1) (y 2) (y 3))
      ((pieceS c arg2 harg2 arg4 harg4 arg5 harg5 arg6 harg6 arg7 harg7 arg8 harg8 arg11 arg12 x0 x2 x3 x4 x5 x6 b h hb hh).1.emb x) := by
  obtain ⟨d, e, rfl⟩ : ∃ (d e : Fin 128), x = ix4 0 0 d e :=
    ⟨x 2, x 3, by funext a; fin_cases a <;> first | rfl | exact Subsingleton.elim (α := Fin 1) _ _⟩
  rw [embS]
  exact pieceS_at c arg2 harg2 arg4 harg4 arg5 harg5 arg6 harg6 arg7 harg7 arg8 harg8 arg11 arg12 x0 x1 x2 x3 x4 x5 x6 x7 hbt b h hb hh d e

theorem forallO : ∀ p ∈ (List.ofFn fun k : Fin 32 => pieceO c arg2 harg2 arg3 harg3 arg4 harg4 arg5 harg5 arg6 harg6 arg7 harg7 arg8 harg8 arg9 harg9 arg11 arg12 x0 x1 x2 x3 x4 x5 x6 x7 (7 - k / 4) (3 - k % 4) (by omega) (by omega)),
    ∀ x : p.1.shape.Idx, p.2 x = (fun y : S8x16x512.Idx => (chunk x0 x1 x2 x4 x5 x6 x7 (y 0)).outInv (y 1) (y 2)) (p.1.emb x) := by
  refine (List.forall_mem_ofFn_iff (P := fun p : View.Piece (Elt Ideal) S8x16x512 .bf16 => ∀ x : p.1.shape.Idx, p.2 x = (fun y : S8x16x512.Idx => (chunk x0 x1 x2 x4 x5 x6 x7 (y 0)).outInv (y 1) (y 2)) (p.1.emb x))).mpr fun k => ?_
  exact agreeO c arg2 harg2 arg3 harg3 arg4 harg4 arg5 harg5 arg6 harg6 arg7 harg7 arg8 harg8 arg9 harg9 arg11 arg12 x0 x1 x2 x3 x4 x5 x6 x7 hbt _ _ _ _

theorem forallS : ∀ p ∈ (List.ofFn fun k : Fin 32 => pieceS c arg2 harg2 arg4 harg4 arg5 harg5 arg6 harg6 arg7 harg7 arg8 harg8 arg11 arg12 x0 x2 x3 x4 x5 x6 (7 - k / 4) (3 - k % 4) (by omega) (by omega)),
    ∀ x : p.1.shape.Idx, p.2 x = (fun y : S8x4x128x128.Idx => (chunk x0 x1 x2 x4 x5 x6 x7 (y 0)).newInv (y 1) (y 2) (y 3)) (p.1.emb x) := by
  refine (List.forall_mem_ofFn_iff (P := fun p : View.Piece (Elt Ideal) S8x4x128x128 .f32 => ∀ x : p.1.shape.Idx, p.2 x = (fun y : S8x4x128x128.Idx => (chunk x0 x1 x2 x4 x5 x6 x7 (y 0)).newInv (y 1) (y 2) (y 3)) (p.1.emb x))).mpr fun k => ?_
  exact agreeS c arg2 harg2 arg4 harg4 arg5 harg5 arg6 harg6 arg7 harg7 arg8 harg8 arg11 arg12 x0 x1 x2 x3 x4 x5 x6 x7 hbt _ _ _ _

/-- The output block: stream `y 0`, row `y 1`, head and column from `y 2`. -/
theorem out8_at (y : S8x16x512.Idx) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y = (chunk x0 x1 x2 x4 x5 x6 x7 (y 0)).outInv (y 1) (y 2) := by
  have hc := cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y
  rw [out0_A_8, View.read_writes_junk_eq_canon]
  rw [storesO] at hc ⊢
  rw [← List.append_nil (List.ofFn _)]
  exact View.canon_append_of_pieces (fun y : S8x16x512.Idx => (chunk x0 x1 x2 x4 x5 x6 x7 (y 0)).outInv (y 1) (y 2)) [] _
    (forallO c arg2 harg2 arg3 harg3 arg4 harg4 arg5 harg5 arg6 harg6 arg7 harg7 arg8 harg8 arg9 harg9 arg11 arg12 x0 x1 x2 x3 x4 x5 x6 x7 hbt) y hc

/-- The state block: stream `y 0`, head `y 1`, key column `y 2`, value column `y 3`. -/
theorem out9_at (y : S8x4x128x128.Idx) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 y = (chunk x0 x1 x2 x4 x5 x6 x7 (y 0)).newInv (y 1) (y 2) (y 3) := by
  rw [out0_A_9, View.read_writes_junk_eq_canon, storesS]
  have hy : y = ix4 (y 0) (y 1) (y 2) (y 3) := by funext a; fin_cases a <;> rfl
  have hc := coverS c arg2 harg2 arg4 harg4 arg5 harg5 arg6 harg6 arg7 harg7 arg8 harg8 arg11 arg12 x0 x2 x3 x4 x5 x6 y (y 0) (y 1) (y 2) (y 3) hy
  exact View.canon_append_of_pieces (fun y : S8x4x128x128.Idx => (chunk x0 x1 x2 x4 x5 x6 x7 (y 0)).newInv (y 1) (y 2) (y 3)) _ _
    (forallS c arg2 harg2 arg4 harg4 arg5 harg5 arg6 harg6 arg7 harg7 arg8 harg8 arg11 arg12 x0 x1 x2 x3 x4 x5 x6 x7 hbt) y hc

end

end Cert.KernelIdeal.Unit
-- ==== Proof.Arrays.lean ====
/- The two arrays the kernel leaves, entry by entry, from its seven arguments. -/
module

public import proofs.«01_k».proof.Proof.Block
public import proofs.«01_k».proof.Proof.Gen.KernelIdeal.Value
public import Idealize.ShloMosaic.Lib.Claim

@[expose] public section

set_option maxRecDepth 16384

noncomputable section

namespace Cert.KernelIdeal.Unit

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0] ∧ win0_6.index t = ![0, 0]
    ∧ win0_7.index t = ![0, 0] ∧ win0_8.index t = ![t.val, 0, 0] ∧ win0_9.index t = ![t.val, 0, 0, 0] ∧ t.val < 4 :=
  (by decide +kernel : ∀ t : Fin grid0.N, _)

theorem lt32 (t : Fin cfg0.N) (b : Fin 8) : 8 * t.val + (b : Nat) < 32 := by
  have := (idx t).2.2.2.2.2.2.2.2.2.2
  omega

/-- Stream `b` of the arguments on core `c`. -/
def str (c : Dev nD) (b : Fin 32) : Gdn.Chunk :=
  Gdn.stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) b

section
variable (c : Dev nD) (t : Fin cfg0.N)

theorem x_at (b : Fin 8) (i : Fin 16) (n : Fin 1536) : (iblk m c 0 t : FVec Ideal S8x16x1536 .f32) (ix3 b i n)
    = (m ((c : Thread nD τ).loc main_arg0) : FVec Ideal S32x16x1536 .f32) (ix3 ⟨8 * t.val + b, lt32 t b⟩ i n) := by
  have := (idx t).2.2.2.2.2.2.2.2.2.2
  blk_ext [iblk, V, idx t]

theorem z_at (b : Fin 8) (i : Fin 16) (n : Fin 512) : (iblk m c 1 t : FVec Ideal S8x16x512 .f32) (ix3 b i n)
    = (m ((c : Thread nD τ).loc main_arg1) : FVec Ideal S32x16x512 .f32) (ix3 ⟨8 * t.val + b, lt32 t b⟩ i n) := by
  have := (idx t).2.2.2.2.2.2.2.2.2.2
  blk_ext [iblk, V, idx t]

theorem bd_at (b : Fin 8) (i : Fin 16) (n : Fin 8) : (iblk m c 2 t : FVec Ideal S8x16x8 .f32) (ix3 b i n)
    = (m ((c : Thread nD τ).loc main_arg2) : FVec Ideal S32x16x8 .f32) (ix3 ⟨8 * t.val + b, lt32 t b⟩ i n) := by
  have := (idx t).2.2.2.2.2.2.2.2.2.2
  blk_ext [iblk, V, idx t]

theorem bdt_at (b : Fin 8) (i : Fin 16) (n : Fin 8) : (iblk m c 3 t : FVec Ideal S8x8x16 .f32) (ix3 b n i)
    = (m ((c : Thread nD τ).loc main_arg2) : FVec Ideal S32x16x8 .f32) (ix3 ⟨8 * t.val + b, lt32 t b⟩ i n) := by
  have := (idx t).2.2.2.2.2.2.2.2.2.2
  blk_point [iblk, idx t]

theorem p_at (b : Fin 8) (i : Fin 3) (n : Fin 1536) : (iblk m c 4 t : FVec Ideal S8x3x1536 .f32) (ix3 b i n)
    = (m ((c : Thread nD τ).loc main_arg3) : FVec Ideal S1x32x3x1536 .f32) (ix4 0 ⟨8 * t.val + b, lt32 t b⟩ i n) := by
  have := (idx t).2.2.2.2.2.2.2.2.2.2
  blk_point [iblk, idx t]

theorem s_at (b : Fin 8) (h : Fin 4) (d e : Fin 128) : (iblk m c 5 t : FVec Ideal S8x4x128x128 .f32) (ix4 b h d e)
    = (m ((c : Thread nD τ).loc main_arg4) : FVec Ideal S1x32x4x128x128 .f32) (ix5 0 ⟨8 * t.val + b, lt32 t b⟩ h d e) := by
  have := (idx t).2.2.2.2.2.2.2.2.2.2
  blk_point [iblk, idx t]

theorem w_at (j : Fin 4) (n : Fin 1536) : (iblk m c 6 t : FVec Ideal S4x1536 .f32) (ix2 j n)
    = (m ((c : Thread nD τ).loc main_arg5) : FVec Ideal S1x4x1536 .f32) (ix3 0 j n) := by
  blk_point [iblk, idx t]

theorem n_at (e : Fin 128) : (iblk m c 7 t : FVec Ideal S1x128 .f32) (ix2 0 e)
    = (m ((c : Thread nD τ).loc main_arg6) : FVec Ideal S1x128 .f32) (ix2 0 e) := by
  blk_point [iblk, idx t]

/-- The blocks' streams are the arguments'. -/
theorem chunk_eq (b : Fin 8) : chunk (iblk m c 0 t) (iblk m c 1 t) (iblk m c 2 t) (iblk m c 4 t) (iblk m c 5 t) (iblk m c 6 t) (iblk m c 7 t) b
    = str m c ⟨8 * t.val + b, lt32 t b⟩ := by
  unfold chunk str Gdn.stream
  congr 1
  · funext i n; exact x_at m c t b i n
  · funext i n; exact p_at m c t b i n
  · funext i n; exact w_at m c t i n
  · funext i n; exact bd_at m c t b i n
  · funext i n; exact z_at m c t b i n
  · funext h d e; exact s_at m c t b h d e
  · funext e; exact n_at m c t e

end

/-- The output array after the run. -/
def outs (c : Dev nD) : FVec Ideal S32x16x512 .bf16 := fun y => (str m c (y 0)).outInv (y 1) (y 2)
/-- The state array after the run. -/
def news (c : Dev nD) : FVec Ideal S32x4x128x128 .f32 := fun y => (str m c (y 0)).newInv (y 1) (y 2) (y 3)

theorem point8 (c : Dev nD) (t : Fin cfg0.N) (y : S8x16x512.Idx) :
    (outsAt0 m c t).1 y = (str m c ⟨8 * t.val + (y 0 : Fin 8), lt32 t (y 0)⟩).outInv (y 1) (y 2) := by
  unfold outsAt0
  dsimp only
  rw [out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (iblk m c 0 t) (iblk m c 1 t) (iblk m c 2 t) (iblk m c 3 t) (iblk m c 4 t) (iblk m c 5 t) (iblk m c 6 t) (iblk m c 7 t) (fun b h j => (bdt_at m c t b j h).trans (bd_at m c t b j h).symm) y]
  exact congrArg (fun a : Gdn.Chunk => a.outInv (y 1) (y 2)) (chunk_eq m c t (y 0))

theorem final8 (c : Dev nD) : (dats m 0 c).arrAt 8 cfg0.N = outs m c := by
  refine (dats m 0 c).arrAt_eq_of_covers 8 _ (by decide +kernel) fun t _ y => ?_
  blk_simp
  rw [after0_8]
  refine (point8 m c t y).trans ?_
  unfold outs
  have e : ((win0_8.blk t).view.emb y : S32x16x512.Idx) = ix3 ⟨8 * t.val + (y 0 : Fin 8), lt32 t (y 0)⟩ (y 1) (y 2) := by
    have := (idx t).2.2.2.2.2.2.2.2.2.2
    blk_ext [idx t]
  rw [e]
  rfl

theorem point9 (c : Dev nD) (t : Fin cfg0.N) (y : S8x4x128x128.Idx) :
    (outsAt0 m c t).2 y = (str m c ⟨8 * t.val + (y 0 : Fin 8), lt32 t (y 0)⟩).newInv (y 1) (y 2) (y 3) := by
  unfold outsAt0
  dsimp only
  rw [out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (iblk m c 0 t) (iblk m c 1 t) (iblk m c 2 t) (iblk m c 3 t) (iblk m c 4 t) (iblk m c 5 t) (iblk m c 6 t) (iblk m c 7 t) (fun b h j => (bdt_at m c t b j h).trans (bd_at m c t b j h).symm) y]
  exact congrArg (fun a : Gdn.Chunk => a.newInv (y 1) (y 2) (y 3)) (chunk_eq m c t (y 0))

theorem final9 (c : Dev nD) : (dats m 0 c).arrAt 9 cfg0.N = news m c := by
  refine (dats m 0 c).arrAt_eq_of_covers 9 _ (by decide +kernel) fun t _ y => ?_
  blk_simp
  rw [after0_9]
  refine (point9 m c t y).trans ?_
  unfold news
  have e : ((win0_9.blk t).view.emb y : S32x4x128x128.Idx) = ix4 ⟨8 * t.val + (y 0 : Fin 8), lt32 t (y 0)⟩ (y 1) (y 2) (y 3) := by
    have := (idx t).2.2.2.2.2.2.2.2.2.2
    blk_ext [idx t]
  rw [e]
  rfl

end Cert.KernelIdeal.Unit
-- ==== Proof.RefStage.lean ====
/- The reference's operations, in named stages, and each stage's value at an entry. -/
module

public import proofs.«01_k».proof.Proof.UnitValue
public import proofs.«01_k».proof.Proof.Stream
public import proofs.«01_k».proof.Proof.Gen.ReferenceIdeal.Run
public import Idealize.ShloMosaic.Lib.Pointwise

@[expose] public section

set_option maxRecDepth 16384

noncomputable section

namespace Cert.ReferenceIdeal.Stage
open Idealize.ShloMosaic Idealize.SL.Sem Cert.ReferenceIdeal Cert.ReferenceIdeal.Gen

/-- The history rows followed by the new rows. -/
def rows (P : FVec Ideal S1x32x3x1536 .f32) (X : FVec Ideal S32x16x1536 .f32) : FVec Ideal S32x19x1536 .f32 :=
  concatenate S32x19x1536 1 [⟨S32x3x1536, shapeCast S32x3x1536 P shapeCasts_S1x32x3x1536_S32x3x1536⟩, ⟨S32x16x1536, X⟩]
    concatenates_S32x3x1536_S32x16x1536_S32x19x1536_d1

/-- The convolution's weights, one row spread over every stream and row. -/
def row0 (W : FVec Ideal S1x4x1536 .f32) : FVec Ideal S32x16x1536 .f32 :=
  broadcastInDim S32x16x1536 ![0, 1, 2] bcast_S1x1x1536_S32x16x1536_0_1_2 (broadcastInDim S1x1x1536 ![2] bcast_S1536_S1x1x1536_2
    (shapeCast S1536 (extractStridedSlice S1x1536 ![0, 0] (shapeCast S4x1536 W shapeCasts_S1x4x1536_S4x1536) slices_S4x1536_S1x1536_0_0) shapeCasts_S1x1536_S1536))
def row1 (W : FVec Ideal S1x4x1536 .f32) : FVec Ideal S32x16x1536 .f32 :=
  broadcastInDim S32x16x1536 ![0, 1, 2] bcast_S1x1x1536_S32x16x1536_0_1_2 (broadcastInDim S1x1x1536 ![2] bcast_S1536_S1x1x1536_2
    (shapeCast S1536 (extractStridedSlice S1x1536 ![1, 0] (shapeCast S4x1536 W shapeCasts_S1x4x1536_S4x1536) slices_S4x1536_S1x1536_1_0) shapeCasts_S1x1536_S1536))
def row2 (W : FVec Ideal S1x4x1536 .f32) : FVec Ideal S32x16x1536 .f32 :=
  broadcastInDim S32x16x1536 ![0, 1, 2] bcast_S1x1x1536_S32x16x1536_0_1_2 (broadcastInDim S1x1x1536 ![2] bcast_S1536_S1x1x1536_2
    (shapeCast S1536 (extractStridedSlice S1x1536 ![2, 0] (shapeCast S4x1536 W shapeCasts_S1x4x1536_S4x1536) slices_S4x1536_S1x1536_2_0) shapeCasts_S1x1536_S1536))
def row3 (W : FVec Ideal S1x4x1536 .f32) : FVec Ideal S32x16x1536 .f32 :=
  broadcastInDim S32x16x1536 ![0, 1, 2] bcast_S1x1x1536_S32x16x1536_0_1_2 (broadcastInDim S1x1x1536 ![2] bcast_S1536_S1x1x1536_2
    (shapeCast S1536 (extractStridedSlice S1x1536 ![3, 0] (shapeCast S4x1536 W shapeCasts_S1x4x1536_S4x1536) slices_S4x1536_S1x1536_3_0) shapeCasts_S1x1536_S1536))

/-- The four taps' sum. -/
def taps (P : FVec Ideal S1x32x3x1536 .f32) (X : FVec Ideal S32x16x1536 .f32) (W : FVec Ideal S1x4x1536 .f32) : FVec Ideal S32x16x1536 .f32 :=
  addf (addf (addf
    (mulf (extractStridedSlice S32x16x1536 ![0, 0, 0] (rows P X) slices_S32x19x1536_S32x16x1536_0_0_0) (row0 W))
    (mulf (extractStridedSlice S32x16x1536 ![0, 1, 0] (rows P X) slices_S32x19x1536_S32x16x1536_0_1_0) (row1 W)))
    (mulf (extractStridedSlice S32x16x1536 ![0, 2, 0] (rows P X) slices_S32x19x1536_S32x16x1536_0_2_0) (row2 W)))
    (mulf (extractStridedSlice S32x16x1536 ![0, 3, 0] (rows P X) slices_S32x19x1536_S32x16x1536_0_3_0) (row3 W))

/-- The convolved rows through silu. -/
def act (x : FVec Ideal S32x16x1536 .f32) : FVec Ideal S32x16x1536 .f32 :=
  mulf x (Host.divf (broadcastInDim S32x16x1536 ![] bcast_S_S32x16x1536 (constant S_ .f32 0x3F800000#32))
    (addf (broadcastInDim S32x16x1536 ![] bcast_S_S32x16x1536 (constant S_ .f32 0x3F800000#32)) (Host.exp (Host.negf x))))

/-- A third of the columns, by heads. -/
def third0 (x : FVec Ideal S32x16x1536 .f32) : FVec Ideal S32x16x4x128 .f32 :=
  shapeCast S32x16x4x128 (extractStridedSlice S32x16x512 ![0, 0, 0] x slices_S32x16x1536_S32x16x512_0_0_0) shapeCasts_S32x16x512_S32x16x4x128
def third1 (x : FVec Ideal S32x16x1536 .f32) : FVec Ideal S32x16x4x128 .f32 :=
  shapeCast S32x16x4x128 (extractStridedSlice S32x16x512 ![0, 0, 512] x slices_S32x16x1536_S32x16x512_0_0_512) shapeCasts_S32x16x512_S32x16x4x128
def third2 (x : FVec Ideal S32x16x1536 .f32) : FVec Ideal S32x16x4x128 .f32 :=
  shapeCast S32x16x4x128 (extractStridedSlice S32x16x512 ![0, 0, 1024] x slices_S32x16x1536_S32x16x512_0_0_1024) shapeCasts_S32x16x512_S32x16x4x128

/-- A head's rows over their Euclidean norms. -/
def unitRows (x : FVec Ideal S32x16x4x128 .f32) : FVec Ideal S32x16x4x128 .f32 :=
  mulf x (broadcastInDim S32x16x4x128 ![0, 1, 2, 3] bcast_S32x16x4x1_S32x16x4x128_0_1_2_3 (Host.rsqrt (addf
    (broadcastInDim S32x16x4x1 ![0, 1, 2] bcast_S32x16x4_S32x16x4x1_0_1_2
      (Host.reduceAdd (mulf x x) (constant S_ .f32 0x00000000#32) reducesTo_S32x16x4x128_S32x16x4_d3 h_S_))
    (broadcastInDim S32x16x4x1 ![] bcast_S_S32x16x4x1 (constant S_ .f32 0x358637BD#32)))))

def byHead (x : FVec Ideal S32x16x4x128 .f32) : FVec Ideal S32x4x16x128 .f32 :=
  transpose S32x4x16x128 [0, 2, 1, 3] x transposes_S32x16x4x128_S32x4x16x128_0_2_1_3

/-- Queries, keys and values by head. -/
def qry (x : FVec Ideal S32x16x1536 .f32) : FVec Ideal S32x4x16x128 .f32 :=
  byHead (mulf (unitRows (third0 x)) (broadcastInDim S32x16x4x128 ![] bcast_S_S32x16x4x128 (constant S_ .f32 0x3DB504F3#32)))
def key (x : FVec Ideal S32x16x1536 .f32) : FVec Ideal S32x4x16x128 .f32 := byHead (unitRows (third1 x))
def valu (x : FVec Ideal S32x16x1536 .f32) : FVec Ideal S32x4x16x128 .f32 := byHead (third2 x)

/-- Write strengths and cumulative log decays by head. -/
def beta (B : FVec Ideal S32x16x8 .f32) : FVec Ideal S32x4x16 .f32 :=
  transpose S32x4x16 [0, 2, 1] (extractStridedSlice S32x16x4 ![0, 0, 0] B slices_S32x16x8_S32x16x4_0_0_0) transposes_S32x16x4_S32x4x16_0_2_1
def logs (B : FVec Ideal S32x16x8 .f32) : FVec Ideal S32x4x16 .f32 :=
  transpose S32x4x16 [0, 2, 1] (extractStridedSlice S32x16x4 ![0, 0, 4] B slices_S32x16x8_S32x16x4_0_0_4) transposes_S32x16x4_S32x4x16_0_2_1

/-- Row numbers and column numbers of a chunk's square. -/
def num : IVec S16 32 := iotaInDim S16 32 0
def rowNo : IVec S16x16 32 := broadcastInDim S16x16 ![0, 1] bcast_S16x1_S16x16_0_1 (broadcastInDim S16x1 ![0] bcast_S16_S16x1_0 num)
def colNo : IVec S16x16 32 := broadcastInDim S16x16 ![0, 1] bcast_S1x16_S16x16_0_1 (broadcastInDim S1x16 ![1] bcast_S16_S1x16_1 num)

/-- The decay between two rows. -/
def decay (g : FVec Ideal S32x4x16 .f32) : FVec Ideal S32x4x16x16 .f32 :=
  Host.exp (select (broadcastInDim S32x4x16x16 ![2, 3] bcast_S16x16_S32x4x16x16_2_3 (cmpi .sge rowNo colNo))
    (subf (broadcastInDim S32x4x16x16 ![0, 1, 2, 3] bcast_S32x4x16x1_S32x4x16x16_0_1_2_3 (broadcastInDim S32x4x16x1 ![0, 1, 2] bcast_S32x4x16_S32x4x16x1_0_1_2 g))
      (broadcastInDim S32x4x16x16 ![0, 1, 2, 3] bcast_S32x4x1x16_S32x4x16x16_0_1_2_3 (broadcastInDim S32x4x1x16 ![0, 1, 3] bcast_S32x4x16_S32x4x1x16_0_1_3 g)))
    (broadcastInDim S32x4x16x16 ![] bcast_S_S32x4x16x16 (constant S_ .f32 0xFF800000#32)))

/-- A number per row spread over the row's columns. -/
def wide (b : FVec Ideal S32x4x16 .f32) : FVec Ideal S32x4x16x128 .f32 :=
  broadcastInDim S32x4x16x128 ![0, 1, 2, 3] bcast_S32x4x16x1_S32x4x16x128_0_1_2_3 (broadcastInDim S32x4x16x1 ![0, 1, 2] bcast_S32x4x16_S32x4x16x1_0_1_2 b)

/-- The triangular system's strictly lower part. -/
def lower (k : FVec Ideal S32x4x16x128 .f32) (b : FVec Ideal S32x4x16 .f32) (d : FVec Ideal S32x4x16x16 .f32) : FVec Ideal S32x4x16x16 .f32 :=
  mulf (Host.dotGeneral dot_S32x4x16x128_S32x4x16x128_S32x4x16x16_3_3_2_2_01_01 none (mulf k (wide b)) k)
    (select (broadcastInDim S32x4x16x16 ![2, 3] bcast_S16x16_S32x4x16x16_2_3 (cmpi .sgt rowNo colNo)) d
      (broadcastInDim S32x4x16x16 ![] bcast_S_S32x4x16x16 (constant S_ .f32 0x00000000#32)))

/-- The triangular system's right-hand side. -/
def right (k v : FVec Ideal S32x4x16x128 .f32) (b g : FVec Ideal S32x4x16 .f32) : FVec Ideal S32x4x16x256 .f32 :=
  concatenate S32x4x16x256 3 [⟨S32x4x16x128, mulf v (wide b)⟩, ⟨S32x4x16x128, mulf (mulf k (wide b)) (wide (Host.exp g))⟩]
    concatenates_S32x4x16x128_S32x4x16x128_S32x4x16x256_d3

/-- One row solved: row `n` of the right-hand side less the solved rows' share. -/
def solveRow (m : FVec Ideal S32x4x16x16 .f32) (r : FVec Ideal S32x4x16x256 .f32) (a : IVec S16 32) (n : IVec S_ 32) (x : FVec Ideal S32x4x16x256 .f32) : FVec Ideal S32x4x16x256 .f32 :=
  select (broadcastInDim S32x4x16x256 ![2, 3] bcast_S16x1_S32x4x16x256_2_3 (broadcastInDim S16x1 ![0] bcast_S16_S16x1_0
      (cmpi .eq a (broadcastInDim S16 ![] bcast_S_S16 n))))
    (subf r (Host.dotGeneral dot_S32x4x16x16_S32x4x16x256_S32x4x16x256_3_2_2_3_01_01 none m x)) x

/-- The carried states. -/
def carried (S : FVec Ideal S1x32x4x128x128 .f32) : FVec Ideal S32x4x128x128 .f32 := shapeCast S32x4x128x128 S shapeCasts_S1x32x4x128x128_S32x4x128x128

/-- The values written into the state. -/
def written (t : FVec Ideal S32x4x16x256 .f32) (s : FVec Ideal S32x4x128x128 .f32) : FVec Ideal S32x4x16x128 .f32 :=
  subf (extractStridedSlice S32x4x16x128 ![0, 0, 0, 0] t slices_S32x4x16x256_S32x4x16x128_0_0_0_0)
    (Host.dotGeneral dot_S32x4x16x128_S32x4x128x128_S32x4x16x128_3_2_2_3_01_01 none
      (extractStridedSlice S32x4x16x128 ![0, 0, 0, 128] t slices_S32x4x16x256_S32x4x16x128_0_0_0_128) s)

/-- What each row reads. -/
def reads (w q k : FVec Ideal S32x4x16x128 .f32) (g : FVec Ideal S32x4x16 .f32) (d : FVec Ideal S32x4x16x16 .f32) (s : FVec Ideal S32x4x128x128 .f32) :
    FVec Ideal S32x4x16x128 .f32 :=
  addf (Host.dotGeneral dot_S32x4x16x128_S32x4x128x128_S32x4x16x128_3_2_2_3_01_01 none (mulf q (wide (Host.exp g))) s)
    (Host.dotGeneral dot_S32x4x16x16_S32x4x16x128_S32x4x16x128_3_2_2_3_01_01 none
      (mulf (Host.dotGeneral dot_S32x4x16x128_S32x4x16x128_S32x4x16x16_3_3_2_2_01_01 none q k) d) w)

/-- The last row's log decay. -/
def last (g : FVec Ideal S32x4x16 .f32) : FVec Ideal S32x4x1 .f32 := extractStridedSlice S32x4x1 ![0, 0, 15] g slices_S32x4x16_S32x4x1_0_0_15

/-- The new states. -/
def states (w k : FVec Ideal S32x4x16x128 .f32) (g : FVec Ideal S32x4x16 .f32) (s : FVec Ideal S32x4x128x128 .f32) : FVec Ideal S32x4x128x128 .f32 :=
  addf (mulf s (broadcastInDim S32x4x128x128 ![0, 1, 2, 3] bcast_S32x4x1x1_S32x4x128x128_0_1_2_3
      (broadcastInDim S32x4x1x1 ![0, 1, 2] bcast_S32x4x1_S32x4x1x1_0_1_2 (Host.exp (last g)))))
    (Host.dotGeneral dot_S32x4x16x128_S32x4x16x128_S32x4x128x128_2_2_3_3_01_01 none
      (mulf k (wide (Host.exp (subf (broadcastInDim S32x4x16 ![0, 1, 2] bcast_S32x4x1_S32x4x16_0_1_2 (last g)) g)))) w)

/-- The rows over their root mean squares, by the norm's weights. -/
def normed (o : FVec Ideal S32x16x4x128 .f32) (N : FVec Ideal S1x128 .f32) : FVec Ideal S32x16x4x128 .f32 :=
  mulf (mulf o (broadcastInDim S32x16x4x128 ![0, 1, 2, 3] bcast_S32x16x4x1_S32x16x4x128_0_1_2_3 (Host.rsqrt (addf
      (Host.divf (broadcastInDim S32x16x4x1 ![0, 1, 2] bcast_S32x16x4_S32x16x4x1_0_1_2
          (Host.reduceAdd (mulf o o) (constant S_ .f32 0x00000000#32) reducesTo_S32x16x4x128_S32x16x4_d3 h_S_))
        (broadcastInDim S32x16x4x1 ![] bcast_S_S32x16x4x1 (constant S_ .f32 0x43000000#32)))
      (broadcastInDim S32x16x4x1 ![] bcast_S_S32x16x4x1 (constant S_ .f32 0x358637BD#32))))))
    (broadcastInDim S32x16x4x128 ![0, 1, 2, 3] bcast_S1x1x1x128_S32x16x4x128_0_1_2_3 (broadcastInDim S1x1x1x128 ![3] bcast_S128_S1x1x1x128_3
      (shapeCast S128 N shapeCasts_S1x128_S128)))

/-- The gate rows by heads, through silu. -/
def gate (z : FVec Ideal S32x16x4x128 .f32) : FVec Ideal S32x16x4x128 .f32 :=
  mulf z (Host.divf (broadcastInDim S32x16x4x128 ![] bcast_S_S32x16x4x128 (constant S_ .f32 0x3F800000#32))
    (addf (broadcastInDim S32x16x4x128 ![] bcast_S_S32x16x4x128 (constant S_ .f32 0x3F800000#32)) (Host.exp (Host.negf z))))
def byGate (Z : FVec Ideal S32x16x512 .f32) : FVec Ideal S32x16x4x128 .f32 := shapeCast S32x16x4x128 Z shapeCasts_S32x16x512_S32x16x4x128

/-- The output rows. -/
def output (o : FVec Ideal S32x4x16x128 .f32) (N : FVec Ideal S1x128 .f32) (Z : FVec Ideal S32x16x512 .f32) : FVec Ideal S32x16x512 .bf16 :=
  truncf .bf16 (shapeCast S32x16x512
    (mulf (normed (transpose S32x16x4x128 [0, 2, 1, 3] o transposes_S32x4x16x128_S32x16x4x128_0_2_1_3) N) (gate (byGate Z)))
    shapeCasts_S32x16x4x128_S32x16x512) bitsLt_bf16_f32

end Cert.ReferenceIdeal.Stage
-- ==== Proof.RefRead.lean ====
/- What the reference's buffers hold before its loop, after one trip of it and at its end, by stages. -/
module

public import proofs.«01_k».proof.Proof.RefStage

@[expose] public section

set_option maxRecDepth 16384

noncomputable section

namespace Cert.ReferenceIdeal.Stage
open Idealize.ShloMosaic Idealize.ShloMosaic.StableHlo Idealize.SL.Sem Cert.ReferenceIdeal Cert.ReferenceIdeal.Gen Cert.ReferenceIdeal.Value

abbrev Va := Valuation τ sig (Elt Ideal)

/-- The convolved rows of contents `V`. -/
def cvd (V : Va) : FVec Ideal S32x16x1536 .f32 :=
  act (taps (V (Proc.devRef .tc main_arg3)) (V (Proc.devRef .tc main_arg0)) (V (Proc.devRef .tc main_arg5)))

/-- The contents when the loop is reached. -/
def pre (V : Va) : Va := afterL preI V

theorem pre36 (V : Va) : pre V (Proc.devRef .tc main_v36) = cvd V := by sl_kernel_rfl
theorem pre61 (V : Va) : pre V (Proc.devRef .tc main_v61) = qry (cvd V) := by sl_kernel_rfl
theorem pre62 (V : Va) : pre V (Proc.devRef .tc main_v62) = key (cvd V) := by sl_kernel_rfl
theorem pre67 (V : Va) : pre V (Proc.devRef .tc main_v67) = logs (V (Proc.devRef .tc main_arg2)) := by sl_kernel_rfl
theorem pre80 (V : Va) : pre V (Proc.devRef .tc main_v80) = decay (logs (V (Proc.devRef .tc main_arg2))) := by sl_kernel_rfl
theorem pre101_0 (V : Va) : pre V (Proc.devRef .tc main_v101_0)
    = lower (key (cvd V)) (beta (V (Proc.devRef .tc main_arg2))) (decay (logs (V (Proc.devRef .tc main_arg2)))) := by sl_kernel_rfl
theorem pre101_1 (V : Va) : pre V (Proc.devRef .tc main_v101_1)
    = right (key (cvd V)) (valu (cvd V)) (beta (V (Proc.devRef .tc main_arg2))) (logs (V (Proc.devRef .tc main_arg2))) := by sl_kernel_rfl
theorem pre101_2 (V : Va) : pre V (Proc.devRef .tc main_v101_2) = num := by sl_kernel_rfl
theorem pre101_4 (V : Va) : pre V (Proc.devRef .tc main_v101_4) = constantI S_ 32 0#32 := by sl_kernel_rfl
theorem pre101_5 (V : Va) : pre V (Proc.devRef .tc main_v101_5)
    = (broadcastInDim S32x4x16x256 ![] bcast_S_S32x4x16x256 (constant S_ .f32 0x00000000#32) : FVec Ideal S32x4x16x256 .f32) := by sl_kernel_rfl

/-- The contents after the last stretch. -/
theorem post154 (V : Va) : afterL postI V (Proc.devRef .tc main_v154)
    = output (reads (written (V (Proc.devRef .tc main_v101_5)) (carried (V (Proc.devRef .tc main_arg4)))) (V (Proc.devRef .tc main_v61))
        (V (Proc.devRef .tc main_v62)) (V (Proc.devRef .tc main_v67)) (V (Proc.devRef .tc main_v80)) (carried (V (Proc.devRef .tc main_arg4))))
        (V (Proc.devRef .tc main_arg6)) (V (Proc.devRef .tc main_arg1)) := by sl_kernel_rfl
theorem post128 (V : Va) : afterL postI V (Proc.devRef .tc main_v128)
    = states (written (V (Proc.devRef .tc main_v101_5)) (carried (V (Proc.devRef .tc main_arg4))))
        (V (Proc.devRef .tc main_v62)) (V (Proc.devRef .tc main_v67)) (carried (V (Proc.devRef .tc main_arg4))) := by sl_kernel_rfl

/-- One trip of the loop. -/
theorem body5 (V : Va) : afterL bodyI V (Proc.devRef .tc main_v101_5)
    = solveRow (V (Proc.devRef .tc main_v101_0)) (V (Proc.devRef .tc main_v101_1)) (V (Proc.devRef .tc main_v101_2)) (V (Proc.devRef .tc main_v101_4)) (V (Proc.devRef .tc main_v101_5)) := by sl_kernel_rfl

end Cert.ReferenceIdeal.Stage
-- ==== Proof.RefValue.lean ====
/- Each stage of the reference at an entry: stream `b`'s mathematics. -/
module

public import proofs.«01_k».proof.Proof.RefStage
public import Idealize.ShloMosaic.Lib.Pointwise

@[expose] public section

set_option maxRecDepth 16384

noncomputable section

namespace Cert.ReferenceIdeal.Stage
open Idealize.ShloMosaic Idealize.SL.Sem Cert.ReferenceIdeal Cert.ReferenceIdeal.Gen Cert.KernelIdeal.Unit

section Parts
variable (X : FVec Ideal S32x16x1536 .f32) (Z : FVec Ideal S32x16x512 .f32) (B : FVec Ideal S32x16x8 .f32)
  (P : FVec Ideal S1x32x3x1536 .f32) (S : FVec Ideal S1x32x4x128x128 .f32) (W : FVec Ideal S1x4x1536 .f32) (N : FVec Ideal S1x128 .f32)
  (b : Fin 32) (i j : Fin 16) (h : Fin 4) (d e : Fin 128) (c : Fin 1536)

theorem rows_at (r : Fin 19) : rows P X (ix3 b r c) = (Gdn.stream X Z B P S W N b).ext r c := by
  pointwise [rows]; rfl
theorem row0_at : row0 W (ix3 b i c) = W (ix3 0 0 c) := by pointwise [row0]
theorem row1_at : row1 W (ix3 b i c) = W (ix3 0 1 c) := by pointwise [row1]
theorem row2_at : row2 W (ix3 b i c) = W (ix3 0 2 c) := by pointwise [row2]
theorem row3_at : row3 W (ix3 b i c) = W (ix3 0 3 c) := by pointwise [row3]

theorem act_at (x : FVec Ideal S32x16x1536 .f32) : act x (ix3 b i c) = Gdn.silu (x (ix3 b i c)) := by
  pointwise [act]; rfl

theorem taps_at : taps P X W (ix3 b i c)
    = Gdn.conv (fun j => W (ix3 0 j c)) (fun j => (Gdn.stream X Z B P S W N b).ext ⟨i + j, by omega⟩ c) := by
  have hr := rows_at X Z B P S W N b c
  pointwise [taps]
  rw [row0_at, row1_at, row2_at, row3_at, hr, hr, hr, hr]
  unfold Gdn.conv
  refine congrArg₂ (· + ·) (congrArg₂ (· + ·) (congrArg₂ (· + ·) ?_ ?_) ?_) ?_ <;>
    refine congrArg (· * _) (congrArg (fun r => (Gdn.stream X Z B P S W N b).ext r c) (Fin.ext ?_))
  · simp
  · exact Nat.add_comm 1 i
  · exact Nat.add_comm 2 i
  · exact Nat.add_comm 3 i

theorem cvd_at : act (taps P X W) (ix3 b i c) = (Gdn.stream X Z B P S W N b).cv i c := by
  rw [act_at, taps_at X Z B P S W N]; rfl

theorem third0_at : third0 (act (taps P X W)) (ix4 b i h d) = (Gdn.stream X Z B P S W N b).q h i d := by
  pointwise [third0]
  rw [cvd_at X Z B P S W N]
  exact congrArg ((Gdn.stream X Z B P S W N b).cv i) (Fin.ext (by simp; omega))
theorem third1_at : third1 (act (taps P X W)) (ix4 b i h d) = (Gdn.stream X Z B P S W N b).k h i d := by
  pointwise [third1]
  rw [cvd_at X Z B P S W N]
  exact congrArg ((Gdn.stream X Z B P S W N b).cv i) (Fin.ext (by simp; omega))
theorem third2_at : third2 (act (taps P X W)) (ix4 b i h d) = (Gdn.stream X Z B P S W N b).v h i d := by
  pointwise [third2]
  rw [cvd_at X Z B P S W N]
  exact congrArg ((Gdn.stream X Z B P S W N b).cv i) (Fin.ext (by simp; omega))

theorem unitRows_at (x : FVec Ideal S32x16x4x128 .f32) : unitRows x (ix4 b i h d) = Gdn.l2 (fun i d => x (ix4 b i h d)) i d := by
  pointwise [unitRows]; rfl

theorem qry_at : qry (act (taps P X W)) (ix4 b h i d) = Gdn.qn ((Gdn.stream X Z B P S W N b).q h) i d := by
  have e : (fun i d => third0 (act (taps P X W)) (ix4 b i h d)) = (Gdn.stream X Z B P S W N b).q h := by
    funext i d; exact third0_at X Z B P S W N b i h d
  pointwise [qry, byHead]
  rw [unitRows_at, e]; rfl
theorem key_at : key (act (taps P X W)) (ix4 b h i d) = Gdn.l2 ((Gdn.stream X Z B P S W N b).k h) i d := by
  have e : (fun i d => third1 (act (taps P X W)) (ix4 b i h d)) = (Gdn.stream X Z B P S W N b).k h := by
    funext i d; exact third1_at X Z B P S W N b i h d
  pointwise [key, byHead]
  rw [unitRows_at, e]
theorem valu_at : valu (act (taps P X W)) (ix4 b h i d) = (Gdn.stream X Z B P S W N b).v h i d := by
  pointwise [valu, byHead]
  exact third2_at X Z B P S W N b i h d

theorem beta_at : beta B (ix3 b h i) = (Gdn.stream X Z B P S W N b).be h i := by
  pointwise [beta]; rfl
theorem logs_at : logs B (ix3 b h i) = (Gdn.stream X Z B P S W N b).g h i := by
  pointwise [logs]; rfl

theorem decay_at (g : FVec Ideal S32x4x16 .f32) : decay g (ix4 b h i j) = Gdn.dec (fun i => g (ix3 b h i)) i j := by
  pointwise [decay, rowNo, colNo, num]
  rw [cmp_ge, sel_ite, neg_inf]; rfl

end Parts

section Solve
variable (b : Fin 32) (i j : Fin 16) (h : Fin 4) (d e : Fin 128)

theorem lower_at (K : Gdn.Rows) (be g : Fin 16 → EReal) (k : FVec Ideal S32x4x16x128 .f32) (t l : FVec Ideal S32x4x16 .f32)
    (hk : ∀ i d, k (ix4 b h i d) = Gdn.l2 K i d) (ht : ∀ i, t (ix3 b h i) = be i) (hl : ∀ i, l (ix3 b h i) = g i) :
    lower k t (decay l) (ix4 b h i j) = Gdn.low K be g i j := by
  have e : (fun i => l (ix3 b h i)) = g := funext hl
  pointwise [lower, rowNo, colNo, num, wide]
  rw [cmp_gt, sel_ite, decay_at, e, ht]
  unfold Gdn.low
  simp only [hk]
  split <;> simp

theorem right_at (K V : Gdn.Rows) (be g : Fin 16 → EReal) (k v : FVec Ideal S32x4x16x128 .f32) (t l : FVec Ideal S32x4x16 .f32)
    (hk : ∀ i d, k (ix4 b h i d) = Gdn.l2 K i d) (hv : ∀ i d, v (ix4 b h i d) = V i d)
    (ht : ∀ i, t (ix3 b h i) = be i) (hl : ∀ i, l (ix3 b h i) = g i) (c : Fin 256) :
    right k v t l (ix4 b h i c) = Gdn.rhs K V be g i c := by
  pointwise [right, wide]
  simp only [hk, hv, ht, hl]; rfl

theorem solveRow_at (m : Gdn.Sq) (r x : Fin 16 → Fin 256 → EReal) (n : Nat) (hn : n < 16)
    (M : FVec Ideal S32x4x16x16 .f32) (R Y : FVec Ideal S32x4x16x256 .f32) (t : IVec S_ 32) (ht : t = constantI S_ 32 (BitVec.ofNat 32 n))
    (hM : ∀ i j, M (ix4 b h i j) = m i j) (hR : ∀ i c, R (ix4 b h i c) = r i c) (hY : ∀ i c, Y (ix4 b h i c) = x i c) (c : Fin 256) :
    solveRow M R num t Y (ix4 b h i c) = Gdn.fstep m r n x i c := by
  subst ht
  pointwise [solveRow, num]
  rw [cmp_eq i ⟨n, hn⟩, sel_ite]
  simp only [hM, hR, hY]
  unfold Gdn.fstep
  simp [Fin.ext_iff]

end Solve

section Results
variable (b : Fin 32) (i : Fin 16) (h : Fin 4) (d e : Fin 128)
variable (sol : Fin 16 → Fin 256 → EReal) (Q K : Gdn.Rows) (g : Fin 16 → EReal) (st : Fin 128 → Fin 128 → EReal)
variable (t : FVec Ideal S32x4x16x256 .f32) (q k : FVec Ideal S32x4x16x128 .f32) (l : FVec Ideal S32x4x16 .f32) (s : FVec Ideal S32x4x128x128 .f32)

theorem written_at (ht : ∀ i c, t (ix4 b h i c) = sol i c) (hs : ∀ d e, s (ix4 b h d e) = st d e) :
    written t s (ix4 b h i e) = Gdn.vnew sol st i e := by
  pointwise [written]
  simp only [ht, hs]; rfl

theorem reads_at (ht : ∀ i c, t (ix4 b h i c) = sol i c) (hq : ∀ i d, q (ix4 b h i d) = Gdn.qn Q i d) (hk : ∀ i d, k (ix4 b h i d) = Gdn.l2 K i d)
    (hl : ∀ i, l (ix3 b h i) = g i) (hs : ∀ d e, s (ix4 b h d e) = st d e) :
    reads (written t s) q k l (decay l) s (ix4 b h i e) = Gdn.mix sol Q K g st i e := by
  have e' : (fun i => l (ix3 b h i)) = g := funext hl
  have hw := fun i e => written_at b i h e sol st t s ht hs
  pointwise [reads, wide]
  simp only [decay_at, hw, hq, hk, hl, hs]; rfl

theorem states_at (ht : ∀ i c, t (ix4 b h i c) = sol i c) (hk : ∀ i d, k (ix4 b h i d) = Gdn.l2 K i d)
    (hl : ∀ i, l (ix3 b h i) = g i) (hs : ∀ d e, s (ix4 b h d e) = st d e) :
    states (written t s) k l s (ix4 b h d e) = Gdn.state sol K g st d e := by
  have hw := fun i e => written_at b i h e sol st t s ht hs
  pointwise [states, wide, last]
  simp only [hw, hk, hl, hs]; rfl

theorem output_at (o : FVec Ideal S32x4x16x128 .f32) (N : FVec Ideal S1x128 .f32) (Z : FVec Ideal S32x16x512 .f32) (n : Fin 512) :
    output o N Z (ix3 b i n) = Gdn.gated (fun i e => o (ix4 b (Gdn.hd n) i e)) (fun e => N (ix2 0 e))
      (fun i e => Z (ix3 b i ⟨128 * Gdn.hd n + e, by omega⟩)) i (Gdn.lane n) := by
  have e : (⟨128 * (Gdn.hd n : Nat) + (Gdn.lane n : Nat), by omega⟩ : Fin 512) = n := Fin.ext (by simp only [Gdn.hd, Gdn.lane]; omega)
  pointwise [output, normed, gate, byGate]
  unfold Gdn.gated Gdn.silu
  simp only [e]; rfl

theorem carried_at (S : FVec Ideal S1x32x4x128x128 .f32) : carried S (ix4 b h d e) = S (ix5 0 b h d e) := by pointwise [carried]

end Results
end Cert.ReferenceIdeal.Stage
-- ==== Proof.RefRun.lean ====
/- The reference's results as stream mathematics: the loop's sixteen trips, then the last stretch. -/
module

public import proofs.«01_k».proof.Proof.RefRead
public import proofs.«01_k».proof.Proof.RefValue
public import Idealize.ShloMosaic.Lib.Quiescent

@[expose] public section

set_option maxRecDepth 16384

noncomputable section

namespace Cert.ReferenceIdeal.Stage
open Idealize.ShloMosaic Idealize.ShloMosaic.TcCoe Idealize.ShloMosaic.StableHlo Idealize.SL.Sem Cert.ReferenceIdeal Cert.ReferenceIdeal.Gen Cert.ReferenceIdeal.Value

/-- Buffers the loop leaves alone. -/
theorem trip_keep (V : Va) :
    afterL bodyI (after condOps V) (Proc.devRef .tc main_v101_0) = V (Proc.devRef .tc main_v101_0)
    ∧ afterL bodyI (after condOps V) (Proc.devRef .tc main_v101_1) = V (Proc.devRef .tc main_v101_1)
    ∧ afterL bodyI (after condOps V) (Proc.devRef .tc main_v101_2) = V (Proc.devRef .tc main_v101_2)
    ∧ afterL bodyI (after condOps V) (Proc.devRef .tc main_v61) = V (Proc.devRef .tc main_v61)
    ∧ afterL bodyI (after condOps V) (Proc.devRef .tc main_v62) = V (Proc.devRef .tc main_v62)
    ∧ afterL bodyI (after condOps V) (Proc.devRef .tc main_v67) = V (Proc.devRef .tc main_v67)
    ∧ afterL bodyI (after condOps V) (Proc.devRef .tc main_v80) = V (Proc.devRef .tc main_v80)
    ∧ afterL bodyI (after condOps V) (Proc.devRef .tc main_arg1) = V (Proc.devRef .tc main_arg1)
    ∧ afterL bodyI (after condOps V) (Proc.devRef .tc main_arg4) = V (Proc.devRef .tc main_arg4)
    ∧ afterL bodyI (after condOps V) (Proc.devRef .tc main_arg6) = V (Proc.devRef .tc main_arg6) := by
  refine ⟨?_, ?_, ?_, ?_, ?_, ?_, ?_, ?_, ?_, ?_⟩ <;> sl_kernel_rfl

theorem trip_count (V : Va) : afterL bodyI (after condOps V) (Proc.devRef .tc main_v101_4)
    = (addi (V (Proc.devRef .tc main_v101_4)) (constantI S_ 32 1#32) : IVec S_ 32) := by sl_kernel_rfl

theorem trip_solve (V : Va) : afterL bodyI (after condOps V) (Proc.devRef .tc main_v101_5)
    = solveRow (V (Proc.devRef .tc main_v101_0)) (V (Proc.devRef .tc main_v101_1)) (V (Proc.devRef .tc main_v101_2))
        (V (Proc.devRef .tc main_v101_4)) (V (Proc.devRef .tc main_v101_5)) := by sl_kernel_rfl

theorem pre_keep (V : Va) :
    pre V (Proc.devRef .tc main_arg1) = V (Proc.devRef .tc main_arg1)
    ∧ pre V (Proc.devRef .tc main_arg4) = V (Proc.devRef .tc main_arg4)
    ∧ pre V (Proc.devRef .tc main_arg6) = V (Proc.devRef .tc main_arg6) := by
  refine ⟨?_, ?_, ?_⟩ <;> sl_kernel_rfl

variable (m : (ℓ : Loc nD τ sig) → Buf (Elt Ideal) ℓ) (c : Dev nD)

/-- Stream `b` of the launch's arguments. -/
def str (b : Fin 32) : Gdn.Chunk :=
  Gdn.stream (m (c.tc.loc main_arg0)) (m (c.tc.loc main_arg1)) (m (c.tc.loc main_arg2)) (m (c.tc.loc main_arg3)) (m (c.tc.loc main_arg4))
    (m (c.tc.loc main_arg5)) (m (c.tc.loc main_arg6)) b

abbrev matM : FVec Ideal S32x4x16x16 .f32 :=
  lower (key (cvd (launchContents m c))) (beta (m (c.tc.loc main_arg2))) (decay (logs (m (c.tc.loc main_arg2))))
abbrev matR : FVec Ideal S32x4x16x256 .f32 :=
  right (key (cvd (launchContents m c))) (valu (cvd (launchContents m c))) (beta (m (c.tc.loc main_arg2))) (logs (m (c.tc.loc main_arg2)))

/-- The loop's contents after `n` trips. -/
structure Loop (n : Nat) (V : Va) : Prop where
  mat : V (Proc.devRef .tc main_v101_0) = matM m c
  rhs : V (Proc.devRef .tc main_v101_1) = matR m c
  num : V (Proc.devRef .tc main_v101_2) = num
  ctr : V (Proc.devRef .tc main_v101_4) = constantI S_ 32 (BitVec.ofNat 32 n)
  sol : ∀ b h i k, (V (Proc.devRef .tc main_v101_5) : FVec Ideal S32x4x16x256 .f32) (ix4 b h i k)
    = Gdn.fsub (Gdn.low ((str m c b).k h) ((str m c b).be h) ((str m c b).g h))
        (Gdn.rhs ((str m c b).k h) ((str m c b).v h) ((str m c b).be h) ((str m c b).g h)) n i k
  q : V (Proc.devRef .tc main_v61) = qry (cvd (launchContents m c))
  k : V (Proc.devRef .tc main_v62) = key (cvd (launchContents m c))
  g : V (Proc.devRef .tc main_v67) = logs (m (c.tc.loc main_arg2))
  d : V (Proc.devRef .tc main_v80) = decay (logs (m (c.tc.loc main_arg2)))
  z : V (Proc.devRef .tc main_arg1) = m (c.tc.loc main_arg1)
  s : V (Proc.devRef .tc main_arg4) = m (c.tc.loc main_arg4)
  w : V (Proc.devRef .tc main_arg6) = m (c.tc.loc main_arg6)

theorem loop_zero : Loop m c 0 (atK m 0 c) where
  mat := pre101_0 _
  rhs := pre101_1 _
  num := pre101_2 _
  ctr := pre101_4 _
  sol b h i k := by
    refine (congrFun (pre101_5 (launchContents m c)) (ix4 b h i k)).trans ?_
    pointwise
    rfl
  q := pre61 _
  k := pre62 _
  g := pre67 _
  d := pre80 _
  z := (pre_keep _).1
  s := (pre_keep _).2.1
  w := (pre_keep _).2.2

theorem low_at (b h i j) : matM m c (ix4 b h i j) = Gdn.low ((str m c b).k h) ((str m c b).be h) ((str m c b).g h) i j :=
  lower_at b i j h _ _ _ _ _ _ (fun i d => key_at _ (m (c.tc.loc main_arg1)) (m (c.tc.loc main_arg2)) _ (m (c.tc.loc main_arg4)) _ (m (c.tc.loc main_arg6)) b i h d)
    (fun i => beta_at (m (c.tc.loc main_arg0)) (m (c.tc.loc main_arg1)) _ (m (c.tc.loc main_arg3)) (m (c.tc.loc main_arg4)) (m (c.tc.loc main_arg5)) (m (c.tc.loc main_arg6)) b i h)
    (fun i => logs_at (m (c.tc.loc main_arg0)) (m (c.tc.loc main_arg1)) _ (m (c.tc.loc main_arg3)) (m (c.tc.loc main_arg4)) (m (c.tc.loc main_arg5)) (m (c.tc.loc main_arg6)) b i h)

theorem rhs_at (b h i k) : matR m c (ix4 b h i k)
    = Gdn.rhs ((str m c b).k h) ((str m c b).v h) ((str m c b).be h) ((str m c b).g h) i k :=
  right_at b i h _ _ _ _ _ _ _ _ (fun i d => key_at _ (m (c.tc.loc main_arg1)) (m (c.tc.loc main_arg2)) _ (m (c.tc.loc main_arg4)) _ (m (c.tc.loc main_arg6)) b i h d)
    (fun i d => valu_at _ (m (c.tc.loc main_arg1)) (m (c.tc.loc main_arg2)) _ (m (c.tc.loc main_arg4)) _ (m (c.tc.loc main_arg6)) b i h d)
    (fun i => beta_at (m (c.tc.loc main_arg0)) (m (c.tc.loc main_arg1)) _ (m (c.tc.loc main_arg3)) (m (c.tc.loc main_arg4)) (m (c.tc.loc main_arg5)) (m (c.tc.loc main_arg6)) b i h)
    (fun i => logs_at (m (c.tc.loc main_arg0)) (m (c.tc.loc main_arg1)) _ (m (c.tc.loc main_arg3)) (m (c.tc.loc main_arg4)) (m (c.tc.loc main_arg5)) (m (c.tc.loc main_arg6)) b i h) k

theorem loop_succ {n : Nat} (hn : n < 16) {V : Va} (H : Loop m c n V) : Loop m c (n + 1) (afterL bodyI (after condOps V)) := by
  obtain ⟨k0, k1, k2, k3, k4, k5, k6, k7, k8, k9⟩ := trip_keep V
  refine ⟨k0.trans H.mat, k1.trans H.rhs, k2.trans H.num, ?_, ?_, k3.trans H.q, k4.trans H.k, k5.trans H.g, k6.trans H.d,
    k7.trans H.z, k8.trans H.s, k9.trans H.w⟩
  · rw [trip_count, H.ctr]
    funext x
    show BitVec.ofNat 32 n + 1#32 = BitVec.ofNat 32 (n + 1)
    simp [BitVec.ofNat_add]
  · intro b h i k
    rw [trip_solve, H.mat, H.rhs, H.num]
    exact solveRow_at b i h _ _ _ n hn _ _ _ _ H.ctr (low_at m c b h) (rhs_at m c b h) (H.sol b h) k

theorem loop_at : ∀ n ≤ 16, Loop m c n (atK m n c)
  | 0, _ => loop_zero m c
  | n + 1, hn => loop_succ m c (by omega) (loop_at n (by omega))

theorem cond_keep (V : Va) (b : Ref sig .tc) (h : b ∉ condOps_W) : after condOps V (Proc.devRef .tc b) = V (Proc.devRef .tc b) :=
  after_of_writes_sub condOps V condOps_writes h

/-- What the loop hands on. -/
theorem loop_end : Loop m c 16 (after condOps (atK m 16 c)) := by
  have H := loop_at m c 16 le_rfl
  exact ⟨(cond_keep _ _ (by decide)).trans H.mat, (cond_keep _ _ (by decide)).trans H.rhs, (cond_keep _ _ (by decide)).trans H.num,
    (cond_keep _ _ (by decide)).trans H.ctr,
    fun b h i k => (congrFun (cond_keep (atK m 16 c) main_v101_5 (by decide)) (ix4 b h i k)).trans (H.sol b h i k),
    (cond_keep _ _ (by decide)).trans H.q, (cond_keep _ _ (by decide)).trans H.k, (cond_keep _ _ (by decide)).trans H.g,
    (cond_keep _ _ (by decide)).trans H.d, (cond_keep _ _ (by decide)).trans H.z, (cond_keep _ _ (by decide)).trans H.s,
    (cond_keep _ _ (by decide)).trans H.w⟩

/-- The reference's output rows. -/
def outs : FVec Ideal S32x16x512 .bf16 := fun y => (str m c (y 0)).outSub (y 1) (y 2)
/-- The reference's new states. -/
def news : FVec Ideal S32x4x128x128 .f32 := fun y => (str m c (y 0)).newSub (y 1) (y 2) (y 3)

theorem final_outs : finalContents condOps preI bodyI postI 16 m c (Proc.devRef .tc main_v154) = outs m c := by
  have H := loop_end m c
  refine (post154 _).trans ?_
  rw [H.q, H.k, H.g, H.d, H.z, H.s, H.w]
  funext y
  obtain ⟨b, i, n, rfl⟩ : ∃ b i n, y = ix3 b i n := ⟨y 0, y 1, y 2, by funext a; fin_cases a <;> rfl⟩
  refine (output_at b i _ _ _ n).trans ?_
  have e : (fun (i : Fin 16) (e : Fin 128) => reads (written (after condOps (atK m 16 c) (Proc.devRef .tc main_v101_5)) (carried (m (c.tc.loc main_arg4))))
      (qry (cvd (launchContents m c))) (key (cvd (launchContents m c))) (logs (m (c.tc.loc main_arg2))) (decay (logs (m (c.tc.loc main_arg2))))
      (carried (m (c.tc.loc main_arg4))) (ix4 b (Gdn.hd n) i e))
      = Gdn.mix ((str m c b).solSub (Gdn.hd n)) ((str m c b).q (Gdn.hd n)) ((str m c b).k (Gdn.hd n)) ((str m c b).g (Gdn.hd n)) ((str m c b).s (Gdn.hd n)) := by
    funext i e
    exact reads_at b i (Gdn.hd n) e _ _ _ _ _ _ _ _ _ _ (H.sol b (Gdn.hd n))
      (fun i d => qry_at _ (m (c.tc.loc main_arg1)) (m (c.tc.loc main_arg2)) _ (m (c.tc.loc main_arg4)) _ (m (c.tc.loc main_arg6)) b i (Gdn.hd n) d)
      (fun i d => key_at _ (m (c.tc.loc main_arg1)) (m (c.tc.loc main_arg2)) _ (m (c.tc.loc main_arg4)) _ (m (c.tc.loc main_arg6)) b i (Gdn.hd n) d)
      (fun i => logs_at (m (c.tc.loc main_arg0)) (m (c.tc.loc main_arg1)) _ (m (c.tc.loc main_arg3)) (m (c.tc.loc main_arg4)) (m (c.tc.loc main_arg5)) (m (c.tc.loc main_arg6)) b i (Gdn.hd n))
      (fun d e => carried_at b (Gdn.hd n) d e _)
  rw [e]
  rfl

theorem final_news : finalContents condOps preI bodyI postI 16 m c (Proc.devRef .tc main_v128) = news m c := by
  have H := loop_end m c
  refine (post128 _).trans ?_
  rw [H.k, H.g, H.s]
  funext y
  obtain ⟨b, h, d, e, rfl⟩ : ∃ b h d e, y = ix4 b h d e := ⟨y 0, y 1, y 2, y 3, by funext a; fin_cases a <;> rfl⟩
  exact states_at b h d e _ _ _ _ _ _ _ _ (H.sol b h)
      (fun i d => key_at _ (m (c.tc.loc main_arg1)) (m (c.tc.loc main_arg2)) _ (m (c.tc.loc main_arg4)) _ (m (c.tc.loc main_arg6)) b i h d)
      (fun i => logs_at (m (c.tc.loc main_arg0)) (m (c.tc.loc main_arg1)) _ (m (c.tc.loc main_arg3)) (m (c.tc.loc main_arg4)) (m (c.tc.loc main_arg5)) (m (c.tc.loc main_arg6)) b i h)
      (fun d e => carried_at b h d e _)

/-- The arguments the run leaves alone. -/
theorem arg_keep (b : Ref sig .tc) (hb : b ∈ [main_arg0, main_arg1, main_arg2, main_arg3, main_arg4, main_arg5, main_arg6]) :
    finalContents condOps preI bodyI postI 16 m c (Proc.devRef .tc b) = m (c.tc.loc b) := by
  have hp : ∀ V : Va, afterL preI V (Proc.devRef .tc b) = V (Proc.devRef .tc b) := by
    intro V; fin_cases hb <;> sl_kernel_rfl
  have hq : ∀ V : Va, afterL postI V (Proc.devRef .tc b) = V (Proc.devRef .tc b) := by
    intro V; fin_cases hb <;> sl_kernel_rfl
  have ht : ∀ V : Va, afterL bodyI (after condOps V) (Proc.devRef .tc b) = V (Proc.devRef .tc b) := by
    intro V; fin_cases hb <;> sl_kernel_rfl
  have hc : ∀ V : Va, after condOps V (Proc.devRef .tc b) = V (Proc.devRef .tc b) := by
    intro V; fin_cases hb <;> sl_kernel_rfl
  have ha : ∀ n, atK m n c (Proc.devRef .tc b) = m (c.tc.loc b) := by
    intro n
    induction n with
    | zero => exact (hp _).trans rfl
    | succ n ih => exact (ht _).trans ih
  exact ((hq _).trans (hc _)).trans (ha 16)

/-- The reference's run. -/
theorem run (ρ : Dev nD → PrngReg) : θ_run (defs (F := Ideal)) (onTc (τ := τ) (main (F := Ideal))) ⟨m, fun _ => 0, ρ⟩
    (fun r => (∀ c : Dev nD, r.2.mem (c.tc.loc main_v154) = outs m c ∧ r.2.mem (c.tc.loc main_v128) = news m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0) :=
  (θ_run (defs (F := Ideal)) _ _).mono (fun r h => ⟨fun c => ⟨(h c main_v154 rfl).trans (final_outs m c), (h c main_v128 rfl).trans (final_news m c),
    (h c main_arg0 rfl).trans (arg_keep m c _ (by simp)), (h c main_arg1 rfl).trans (arg_keep m c _ (by simp)),
    (h c main_arg2 rfl).trans (arg_keep m c _ (by simp)), (h c main_arg3 rfl).trans (arg_keep m c _ (by simp)),
    (h c main_arg4 rfl).trans (arg_keep m c _ (by simp)), (h c main_arg5 rfl).trans (arg_keep m c _ (by simp)),
    (h c main_arg6 rfl).trans (arg_keep m c _ (by simp))⟩, sem_eq_zero_of_no_sems rfl _⟩) (run_fold m ρ)

end Cert.ReferenceIdeal.Stage
-- ==== Proof.PreFinite.lean ====
/- What the precondition says: the entries the triangular system is made of are finite. -/
module

public import proofs.«01_k».proof.Proof.Stream
public import proofs.«01_k».proof.Proof.Gen.Pre_finite
public import Idealize.ShloMosaic.Lib.ReduceAll
public import Idealize.ShloMosaic.Lib.Pointwise

@[expose] public section

noncomputable section

namespace Cert.Pre_finite
open Idealize.ShloMosaic Idealize.SL.Sem

theorem real_of_lt {x : EReal} (h : Ideal.cmp .olt (max x (-x)) (Ideal.ofBits .f32 0x7F800000#32) = 1#1) : Gdn.Real' x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

instance : Subsingleton S_.Idx := ⟨fun a b => by funext x; exact x.elim0⟩

theorem and_one {x y : IVec S_ 1} {j : S_.Idx} (h : andi x y j = 1#1) : x j = 1#1 ∧ y j = 1#1 := by
  have : ∀ a b : BitVec 1, a &&& b = 1#1 → a = 1#1 ∧ b = 1#1 := by decide
  exact this _ _ h

theorem finite (X : FVec Ideal S32x16x1536 .f32) (Z : FVec Ideal S32x16x512 .f32) (B : FVec Ideal S32x16x8 .f32)
    (P : FVec Ideal S1x32x3x1536 .f32) (S : FVec Ideal S1x32x4x128x128 .f32) (W : FVec Ideal S1x4x1536 .f32) (N : FVec Ideal S1x128 .f32)
    (H : fn (F := Ideal) X Z B P S W N = fun _ => 1#1) (b : Fin 32) : (Gdn.stream X Z B P S W N b).Fin' := by
  have h := congrFun H (fun x => x.elim0)
  obtain ⟨h, hW⟩ := and_one h
  obtain ⟨h, hP⟩ := and_one h
  obtain ⟨hX, hB⟩ := and_one h
  exact ⟨fun i c => real_of_lt (Host.reduce_andi_all _ _ _ _ _ hX (ix3 b i c)), fun i c => real_of_lt (Host.reduce_andi_all _ _ _ _ _ hP (ix4 0 b i c)),
    fun j c => real_of_lt (Host.reduce_andi_all _ _ _ _ _ hW (ix3 0 j c)), fun i c => real_of_lt (Host.reduce_andi_all _ _ _ _ _ hB (ix3 b i c))⟩

end Cert.Pre_finite
-- ==== Proof.Tables.lean ====
/- What the precondition on the five tables of the expert call says of their words. -/
module

public import proofs.«01_k».proof.Proof.Gen.Pre_tables
public import Idealize.ShloMosaic.Lib.Pointwise
public import Idealize.ShloMosaic.Lib.StableHlo.Predicate

@[expose] public section

set_option maxRecDepth 16384

noncomputable section

namespace Cert.Experts
open Idealize.ShloMosaic

/-- The tables of the 179 row blocks: `be` a block's expert, `rb` the row block a step works on, `used` the rows in
    use, `first` whether the block is its expert's first, `nxt` the expert after it (negative: none). -/
structure Sched (be rb used first nxt : Fin 179 → BitVec 32) : Prop where
  be_lt : ∀ i, (be i).toNat < 32
  nxt_lt : ∀ i, (nxt i).toInt < 32
  used_le : ∀ i, (used i).toNat ≤ 512
  row_used : ∀ (t : ℕ) (h : t + 1 < 179), 0 < (used ⟨t + 1, h⟩).toNat → (rb ⟨t + 1, h⟩).toNat = t + 1
  row_idle : ∀ (t : ℕ) (h : t + 1 < 179), (used ⟨t + 1, h⟩).toNat = 0 → rb ⟨t + 1, h⟩ = rb ⟨t, by omega⟩
  run_first : ∀ (t : ℕ) (h : t + 1 < 179), first ⟨t + 1, h⟩ = 1#32 → nxt ⟨t, by omega⟩ = be ⟨t + 1, h⟩
  run_rest : ∀ (t : ℕ) (h : t + 1 < 179), first ⟨t + 1, h⟩ ≠ 1#32 →
    nxt ⟨t, by omega⟩ = nxt ⟨t + 1, h⟩ ∧ be ⟨t + 1, h⟩ = be ⟨t, by omega⟩
  used_zero : 0 < (used 0).toNat
  rb_zero : rb 0 = 0#32
  first_zero : first 0 = 1#32
  nxt_last : (nxt 178).toInt < 0

theorem and_one {s : Shape} {x y : IVec s 1} {j : s.Idx} (h : andi x y j = 1#1) : x j = 1#1 ∧ y j = 1#1 := by
  have : ∀ a b : BitVec 1, a &&& b = 1#1 → a = 1#1 ∧ b = 1#1 := by decide
  exact this _ _ h

theorem ofBool_one {b : Bool} (h : BitVec.ofBool b = 1#1) : b = true := by cases b <;> simp_all

theorem toInt_eq (a : BitVec 32) : a.toInt = if 2 * a.toNat < 2 ^ 32 then (a.toNat : ℤ) else (a.toNat : ℤ) - 2 ^ 32 :=
  BitVec.toInt_eq_toNat_cond a

theorem sge0 {a : BitVec 32} (h : IntOp.cmpi .sge a 0#32 = 1#1) : 0 ≤ a.toInt := by
  have := ofBool_one h
  simpa [BitVec.sle] using this
theorem sgt0 {a : BitVec 32} : IntOp.cmpi .sgt a 0#32 = 1#1 ↔ 0 < a.toInt := by
  unfold IntOp.cmpi
  rw [StableHlo.Predicate.ofBool_eq_one_iff]
  simp [BitVec.slt]
theorem slt0 {a : BitVec 32} (h : IntOp.cmpi .slt a 0#32 = 1#1) : a.toInt < 0 := by
  have := ofBool_one h
  simpa [BitVec.slt] using this
theorem slt32 {a : BitVec 32} (h : IntOp.cmpi .slt a 32#32 = 1#1) : a.toInt < 32 := by
  have := ofBool_one h
  simpa [BitVec.slt] using this
theorem sle512 {a : BitVec 32} (h : IntOp.cmpi .sle a 512#32 = 1#1) : a.toInt ≤ 512 := by
  have := ofBool_one h
  simpa [BitVec.sle] using this

theorem select_one {a b c : BitVec 1} (h : (if a = 1#1 then b else c) = 1#1) : (a = 1#1 → b = 1#1) ∧ (a ≠ 1#1 → c = 1#1) := by
  split at h <;> simp_all

variable {F : FTy → Type} [FloatOps F]

theorem sched (T0 T1 T2 T3 T4 : IVec Pre_tables.S179 32) (X : FVec F Pre_tables.S91648x1024 .f32) (A : FVec F Pre_tables.S32x1024x2048 .f32)
    (B : FVec F Pre_tables.S32x1x2048 .f32) (C : FVec F Pre_tables.S32x1024x1024 .f32) (D : FVec F Pre_tables.S32x1x1024 .f32)
    (h1 : (Pre_tables.fn (F := F) T0 T1 T2 T3 T4 X A B C D).1 = fun _ => 1#1)
    (h2 : (Pre_tables.fn (F := F) T0 T1 T2 T3 T4 X A B C D).2.1 = fun _ => 1#1)
    (h3 : (Pre_tables.fn (F := F) T0 T1 T2 T3 T4 X A B C D).2.2 = fun _ => 1#1) :
    Sched (fun i => T0 (ix1 i)) (fun i => T1 (ix1 i)) (fun i => T2 (ix1 i)) (fun i => T3 (ix1 i)) (fun i => T4 (ix1 i)) := by
  have H1 : ∀ i : Fin 179, (0 ≤ (T0 (ix1 i)).toInt ∧ (T0 (ix1 i)).toInt < 32) ∧ (T4 (ix1 i)).toInt < 32
      ∧ 0 ≤ (T2 (ix1 i)).toInt ∧ (T2 (ix1 i)).toInt ≤ 512 := by
    intro i
    have h := congrFun h1 (ix1 i)
    obtain ⟨h, q5⟩ := and_one h
    obtain ⟨h, q4⟩ := and_one h
    obtain ⟨h, q3⟩ := and_one h
    obtain ⟨q1, q2⟩ := and_one h
    exact ⟨⟨sge0 q1, slt32 q2⟩, slt32 q3, sge0 q4, sle512 q5⟩
  have e1 : ∀ (t : ℕ) (h : t < 178) (T : IVec Pre_tables.S179 32), extractStridedSlice Pre_tables.S178 ![1] T Pre_tables.Facts.slices_S179_S178_1 (ix1 ⟨t, h⟩) = T (ix1 ⟨t + 1, by omega⟩) := by
    intro t h T
    show T _ = T _
    congr 1; funext a; apply Fin.ext; fin_cases a
    show 1 + t = t + 1
    omega
  have e0 : ∀ (t : ℕ) (h : t < 178) (T : IVec Pre_tables.S179 32), extractStridedSlice Pre_tables.S178 ![0] T Pre_tables.Facts.slices_S179_S178_0 (ix1 ⟨t, h⟩) = T (ix1 ⟨t, by omega⟩) := by
    intro t h T
    show T _ = T _
    congr 1; funext a; apply Fin.ext; fin_cases a
    show 0 + t = t
    omega
  have H2 : ∀ (t : ℕ) (h : t + 1 < 179),
      ((0 < (T2 (ix1 ⟨t + 1, h⟩)).toInt → (T1 (ix1 ⟨t + 1, h⟩)) = BitVec.ofNat 32 (t + 1)) ∧
       (¬0 < (T2 (ix1 ⟨t + 1, h⟩)).toInt → (T1 (ix1 ⟨t + 1, h⟩)) = T1 (ix1 ⟨t, by omega⟩))) ∧
      ((T3 (ix1 ⟨t + 1, h⟩) = 1#32 → T4 (ix1 ⟨t, by omega⟩) = T0 (ix1 ⟨t + 1, h⟩)) ∧
       (T3 (ix1 ⟨t + 1, h⟩) ≠ 1#32 → T4 (ix1 ⟨t, by omega⟩) = T4 (ix1 ⟨t + 1, h⟩) ∧ T0 (ix1 ⟨t + 1, h⟩) = T0 (ix1 ⟨t, by omega⟩))) := by
    intro t h
    have h := congrFun h2 (ix1 ⟨t, by omega⟩)
    obtain ⟨ha, hb⟩ := and_one h
    have ha := select_one ha
    have hb := select_one hb
    simp only [cmpi, andi, addi] at ha hb
    erw [e1, e1, e0] at ha
    erw [e1, e0, e1, e1, e0] at hb
    have ha1 := ha.1; have ha2 := ha.2; have hb1 := hb.1; have hb2 := hb.2
    refine ⟨⟨fun q => ?_, fun q => ?_⟩, fun q => ?_, fun q => ?_⟩
    · refine (StableHlo.Predicate.cmpi_eq_iff.mp (ha1 (sgt0.mpr q))).trans ?_
      show 1#32 + BitVec.ofNat 32 t = BitVec.ofNat 32 (t + 1)
      rw [Nat.add_comm t 1, BitVec.ofNat_add]
    · exact StableHlo.Predicate.cmpi_eq_iff.mp (ha2 fun e => q (sgt0.mp e))
    · exact StableHlo.Predicate.cmpi_eq_iff.mp (hb1 (StableHlo.Predicate.cmpi_eq_iff.mpr q))
    · have := hb2 fun e => q (StableHlo.Predicate.cmpi_eq_iff.mp e)
      have key : ∀ a b : BitVec 1, IntOp.andi a b = 1#1 → a = 1#1 ∧ b = 1#1 := by decide
      exact ⟨StableHlo.Predicate.cmpi_eq_iff.mp (key _ _ this).1, StableHlo.Predicate.cmpi_eq_iff.mp (key _ _ this).2⟩
  have H3 : 0 < (T2 (ix1 0)).toInt ∧ T1 (ix1 0) = 0#32 ∧ T3 (ix1 0) = 1#32 ∧ (T4 (ix1 178)).toInt < 0 := by
    have h := congrFun h3 (ix1 0)
    obtain ⟨h, q4⟩ := and_one h
    obtain ⟨h, q3⟩ := and_one h
    obtain ⟨q1, q2⟩ := and_one h
    have f0 : ∀ T : IVec Pre_tables.S179 32, extractStridedSlice Pre_tables.S1 ![0] T Pre_tables.Facts.slices_S179_S1_0 (ix1 0) = T (ix1 0) := by
      intro T
      show T _ = T _
      congr 1; funext a; apply Fin.ext; fin_cases a; rfl
    have f1 : ∀ T : IVec Pre_tables.S179 32, extractStridedSlice Pre_tables.S1 ![178] T Pre_tables.Facts.slices_S179_S1_178 (ix1 0) = T (ix1 178) := by
      intro T
      show T _ = T _
      congr 1; funext a; apply Fin.ext; fin_cases a; rfl
    simp only [cmpi] at q1 q2 q3 q4
    erw [f0] at q1; erw [f0] at q2; erw [f0] at q3; erw [f1] at q4
    exact ⟨sgt0.mp q1, StableHlo.Predicate.cmpi_eq_iff.mp q2, StableHlo.Predicate.cmpi_eq_iff.mp q3, slt0 q4⟩
  constructor
  · intro i
    have := (H1 i).1
    rw [toInt_eq] at this
    have := (T0 (ix1 i)).isLt
    split at * <;> omega
  · exact fun i => (H1 i).2.1
  · intro i
    have := (H1 i).2.2
    rw [toInt_eq] at this
    have := (T2 (ix1 i)).isLt
    split at * <;> omega
  · intro t h q
    have hu := (H1 ⟨t + 1, h⟩).2.2
    have e : T1 (ix1 ⟨t + 1, h⟩) = BitVec.ofNat 32 (t + 1) := (H2 t h).1.1 (by
      rw [toInt_eq] at hu ⊢
      have := (T2 (ix1 ⟨t + 1, h⟩)).isLt
      split at * <;> omega)
    show (T1 (ix1 ⟨t + 1, h⟩)).toNat = t + 1
    rw [e, BitVec.toNat_ofNat]
    omega
  · intro t h q
    refine (H2 t h).1.2 ?_
    replace q : (T2 (ix1 ⟨t + 1, h⟩)).toNat = 0 := q
    rw [toInt_eq, q]
    decide
  · exact fun t h q => (H2 t h).2.1 q
  · exact fun t h q => (H2 t h).2.2 q
  · have hu := H3.1
    show 0 < (T2 (ix1 0)).toNat
    rw [toInt_eq] at hu
    have := (T2 (ix1 0)).isLt
    split at hu <;> omega
  · exact H3.2.1
  · exact H3.2.2.1
  · exact H3.2.2.2

section
variable {be rb used first nxt : Fin 179 → BitVec 32} (S : Sched be rb used first nxt)
include S

/-- A step works on a block no later than itself, -/
theorem Sched.rb_le : ∀ (t : ℕ) (h : t < 179), (rb ⟨t, h⟩).toNat ≤ t := by
  intro t
  induction t with
  | zero => intro h; rw [show (⟨0, h⟩ : Fin 179) = 0 from rfl, S.rb_zero]; simp
  | succ t ih =>
    intro h
    by_cases q : 0 < (used ⟨t + 1, h⟩).toNat
    · exact (S.row_used t h q).le
    · rw [S.row_idle t h (by omega)]; exact (ih (by omega)).trans (by omega)

/-- on itself where rows of it are in use, -/
theorem Sched.rb_used (t : ℕ) (h : t < 179) (q : 0 < (used ⟨t, h⟩).toNat) : (rb ⟨t, h⟩).toNat = t := by
  cases t with
  | zero => rw [show (⟨0, h⟩ : Fin 179) = 0 from rfl, S.rb_zero]; rfl
  | succ t => exact S.row_used t h q

/-- and always on one of which rows are in use. -/
theorem Sched.used_rb : ∀ (t : ℕ) (h : t < 179), 0 < (used ⟨(rb ⟨t, h⟩).toNat, lt_of_le_of_lt (S.rb_le t h) h⟩).toNat := by
  intro t
  induction t with
  | zero =>
    intro h
    have e : (⟨(rb ⟨0, h⟩).toNat, lt_of_le_of_lt (S.rb_le 0 h) h⟩ : Fin 179) = 0 := by
      apply Fin.ext
      show (rb 0).toNat = 0
      rw [S.rb_zero]; rfl
    rw [e]; exact S.used_zero
  | succ t ih =>
    intro h
    by_cases q : 0 < (used ⟨t + 1, h⟩).toNat
    · have e : (⟨(rb ⟨t + 1, h⟩).toNat, lt_of_le_of_lt (S.rb_le _ h) h⟩ : Fin 179) = ⟨t + 1, h⟩ := Fin.ext (S.row_used t h q)
      rw [e]; exact q
    · have e : (⟨(rb ⟨t + 1, h⟩).toNat, lt_of_le_of_lt (S.rb_le _ h) h⟩ : Fin 179)
          = ⟨(rb ⟨t, by omega⟩).toNat, lt_of_le_of_lt (S.rb_le t (by omega)) (by omega)⟩ := Fin.ext (congrArg BitVec.toNat (S.row_idle t h (by omega)))
      rw [e]; exact ih (by omega)

end

end Cert.Experts
-- ==== Proof.ExI.Segs.lean ====
/- The expert call's body at one grid point, cut into the three stretches the proof runs one at a time: start the
   first copies (only at the first point); wait for the copies, narrow the weights and start the next copies (only
   where an expert's blocks begin); compute the block's rows. The first two are given what follows them. Each is the printed text of the body, with the tables,
   the weights left in HBM and the scratch buffers named. `body_eq` is that the body is the three in a row. -/
module

public import proofs.«01_k».proof.Proof.Gen.Kernel2Ideal.Skeleton
public import proofs.«01_k».proof.Proof.Gen.Kernel2Ideal.Launch

@[expose] public section

set_option synthInstance.maxSize 4096

noncomputable section

namespace Cert.Kernel2Ideal.Experts

open Cert.Kernel2Ideal Cert.Kernel2Ideal.Gen
open Idealize.ShloMosaic Idealize.SL.Sem
open Idealize.ShloMosaic.TcCoe

variable {F : FTy → Type} [FloatOps F]

/-- The five tables, in order: each block's expert, the block written, its rows in use, whether it is its expert's
    first, the next expert. -/
abbrev tb0 : Memref sig .tc .smem S179 .i32 := Memref.whole main_arg0
abbrev tb1 : Memref sig .tc .smem S179 .i32 := Memref.whole main_arg1
abbrev tb2 : Memref sig .tc .smem S179 .i32 := Memref.whole main_arg2
abbrev tb3 : Memref sig .tc .smem S179 .i32 := Memref.whole main_arg3
abbrev tb4 : Memref sig .tc .smem S179 .i32 := Memref.whole main_arg4
/-- The experts' weights, left in HBM: the gate and up projections, the down projection. -/
abbrev hb0 : Memref sig .tc .hbm S32x1024x2048 .f32 := Memref.whole main_arg6
abbrev hb1 : Memref sig .tc .hbm S32x1024x1024 .f32 := Memref.whole main_arg8
/-- The scratch buffers: one expert's weights as copied, and as narrowed to bf16. -/
abbrev sc0 : Memref sig .tc .vmem S1024x2048 .f32 := Memref.whole cc0_scratch0
abbrev sc1 : Memref sig .tc .vmem S1024x1024 .f32 := Memref.whole cc0_scratch1
abbrev sc2 : Memref sig .tc .vmem S1024x2048 .bf16 := Memref.whole cc0_scratch2
abbrev sc3 : Memref sig .tc .vmem S1024x1024 .bf16 := Memref.whole cc0_scratch3

/-- Start the copies of the first block's expert, at the first point. -/
def seg1 (i : grid0.Coords) (k : Prog (TpuEff nD τ sig (Elt F) Λ₀ .tc) PUnit) :
    Prog (TpuEff nD τ sig (Elt F) Λ₀ .tc) PUnit := do
  if k0_h1 : k0_cond1 i = 1#1 then do
    let v35 : Elt F .i32 ← smemLoad tb0 (Rect.unit (s := S179) ![0] S1.size inb_S179_S1_0) numel1_S1 rfl
    have k0_hw1 : k0_chk1 i v35 := (← Prog.lift (TpuEff.assume (k0_chk1 i v35) (k0_chk1.dec i v35))).down
    let v36 : DmaSems sig S1 := cc0_scratch4.slice (Rect.unit (s := S2) ![0] S1.size inb_S2_S1_0)
    let v37 : DmaSems sig S_ := v36.squeeze S_ squeezes_S1_S_
    let v38 : Memref sig .tc .hbm S1x1024x2048 .f32 := hb0.slice (Rect.unit (s := S32x1024x2048) (k0_off2 v35) S1x1024x2048.size (k0_off2_inb i v35 k0_hw1 k0_h1)) (fun _ => rfl)
    let v39 : Memref sig .tc .hbm S1024x2048 .f32 := v38.squeeze S1024x2048 squeezes_S1x1024x2048_S1024x2048
    Prog.lift (.enqueueDma v39 (.here sc0) (.dma v37.sem) ((View.wordExact_bits rfl).reshape _ _) (Memref.isWhole_whole _ : (sc0).IsWhole).wordExact ⟨Or.inl rfl, trivial⟩)
    let v40 : DmaSems sig S1 := cc0_scratch4.slice (Rect.unit (s := S2) ![1] S1.size inb_S2_S1_1)
    let v41 : DmaSems sig S_ := v40.squeeze S_ squeezes_S1_S_
    let v42 : Memref sig .tc .hbm S1x1024x1024 .f32 := hb1.slice (Rect.unit (s := S32x1024x1024) (k0_off3 v35) S1x1024x1024.size (k0_off3_inb i v35 k0_hw1 k0_h1)) (fun _ => rfl)
    let v43 : Memref sig .tc .hbm S1024x1024 .f32 := v42.squeeze S1024x1024 squeezes_S1x1024x1024_S1024x1024
    Prog.lift (.enqueueDma v43 (.here sc1) (.dma v41.sem) ((View.wordExact_bits rfl).reshape _ _) (Memref.isWhole_whole _ : (sc1).IsWhole).wordExact ⟨Or.inl rfl, trivial⟩)
    pure ⟨⟩
  else do
    pure ⟨⟩
  k

/-- Where an expert's blocks begin: wait for its weights, narrow them, start the next expert's copies. -/
def seg2 (i : grid0.Coords) (v4 : Elt F .i32) (k : Prog (TpuEff nD τ sig (Elt F) Λ₀ .tc) PUnit) :
    Prog (TpuEff nD τ sig (Elt F) Λ₀ .tc) PUnit := do
  if k0_h2 : k0_cond2 v4 = 1#1 then do
    let v36 : Elt F .i32 ← smemLoad tb0 (Rect.unit (s := S179) (k0_off4 i) S1.size (k0_off4_inb i)) numel1_S1 rfl
    have k0_hw2 : k0_chk2 v4 v36 := (← Prog.lift (TpuEff.assume (k0_chk2 v4 v36) (k0_chk2.dec v4 v36))).down
    let v37 : DmaSems sig S1 := cc0_scratch4.slice (Rect.unit (s := S2) ![0] S1.size inb_S2_S1_0)
    let v38 : DmaSems sig S_ := v37.squeeze S_ squeezes_S1_S_
    let v39 : Memref sig .tc .hbm S1x1024x2048 .f32 := hb0.slice (Rect.unit (s := S32x1024x2048) (k0_off5 v36) S1x1024x2048.size (k0_off5_inb v4 v36 k0_hw2 k0_h2)) (fun _ => rfl)
    let v40 : Memref sig .tc .hbm S1024x2048 .f32 := v39.squeeze S1024x2048 squeezes_S1x1024x2048_S1024x2048
    Prog.lift (.waitDma2 v38.sem v40 sc0 ((View.wordExact_bits rfl).reshape _ _) (Memref.isWhole_whole _ : (sc0).IsWhole).wordExact)
    let v41 : DmaSems sig S1 := cc0_scratch4.slice (Rect.unit (s := S2) ![1] S1.size inb_S2_S1_1)
    let v42 : DmaSems sig S_ := v41.squeeze S_ squeezes_S1_S_
    let v43 : Memref sig .tc .hbm S1x1024x1024 .f32 := hb1.slice (Rect.unit (s := S32x1024x1024) (k0_off6 v36) S1x1024x1024.size (k0_off6_inb v4 v36 k0_hw2 k0_h2)) (fun _ => rfl)
    let v44 : Memref sig .tc .hbm S1024x1024 .f32 := v43.squeeze S1024x1024 squeezes_S1x1024x1024_S1024x1024
    Prog.lift (.waitDma2 v42.sem v44 sc1 ((View.wordExact_bits rfl).reshape _ _) (Memref.isWhole_whole _ : (sc1).IsWhole).wordExact)
    let v45 : Vec F S1024x2048 .f32 ← Prog.lift (.load sc0 (Rect.unit (s := S1024x2048) ![0, 0] S1024x2048.size inb_S1024x2048_S1024x2048_0_0).toLoadRect (View.loadsAt_vmem h_S1024x2048))
    let v47 : Vec F S1024x2048 .bf16 ← Prog.lift (.load sc2 (Rect.unit (s := S1024x2048) ![0, 0] S1024x2048.size inb_S1024x2048_S1024x2048_0_0).toLoadRect (View.loadsAt_vmem h_S1024x2048))
    Prog.lift (.store sc2 (Rect.unit (s := S1024x2048) ![0, 0] S1024x2048.size inb_S1024x2048_S1024x2048_0_0) (k0_pay1 v45) Finset.univ (View.stores_vmem h_S1024x2048 ((Memref.isWhole_whole _ : (sc2).IsWhole).storeExact_slice rfl _ packedbf16_S1024x2048_S1024x2048_0_0) (fun _ => rfl)) (.inl rfl))
    let v50 : Vec F S1024x1024 .f32 ← Prog.lift (.load sc1 (Rect.unit (s := S1024x1024) ![0, 0] S1024x1024.size inb_S1024x1024_S1024x1024_0_0).toLoadRect (View.loadsAt_vmem h_S1024x1024))
    let v52 : Vec F S1024x1024 .bf16 ← Prog.lift (.load sc3 (Rect.unit (s := S1024x1024) ![0, 0] S1024x1024.size inb_S1024x1024_S1024x1024_0_0).toLoadRect (View.loadsAt_vmem h_S1024x1024))
    Prog.lift (.store sc3 (Rect.unit (s := S1024x1024) ![0, 0] S1024x1024.size inb_S1024x1024_S1024x1024_0_0) (k0_pay2 v50) Finset.univ (View.stores_vmem h_S1024x1024 ((Memref.isWhole_whole _ : (sc3).IsWhole).storeExact_slice rfl _ packedbf16_S1024x1024_S1024x1024_0_0) (fun _ => rfl)) (.inl rfl))
    let v56 : Elt F .i32 ← smemLoad tb4 (Rect.unit (s := S179) (k0_off7 i) S1.size (k0_off7_inb i)) numel1_S1 rfl
    if k0_h3 : k0_cond3 v56 = 1#1 then do
      let v61 : Elt F .i32 ← smemLoad tb4 (Rect.unit (s := S179) (k0_off8 i) S1.size (k0_off8_inb i)) numel1_S1 rfl
      have k0_hw3 : k0_chk3 v4 v56 v61 := (← Prog.lift (TpuEff.assume (k0_chk3 v4 v56 v61) (k0_chk3.dec v4 v56 v61))).down
      let v62 : DmaSems sig S1 := cc0_scratch4.slice (Rect.unit (s := S2) ![0] S1.size inb_S2_S1_0)
      let v63 : DmaSems sig S_ := v62.squeeze S_ squeezes_S1_S_
      let v64 : Memref sig .tc .hbm S1x1024x2048 .f32 := hb0.slice (Rect.unit (s := S32x1024x2048) (k0_off9 v61) S1x1024x2048.size (k0_off9_inb v4 v56 v61 k0_hw3 k0_h2 k0_h3)) (fun _ => rfl)
      let v65 : Memref sig .tc .hbm S1024x2048 .f32 := v64.squeeze S1024x2048 squeezes_S1x1024x2048_S1024x2048
      Prog.lift (.enqueueDma v65 (.here sc0) (.dma v63.sem) ((View.wordExact_bits rfl).reshape _ _) (Memref.isWhole_whole _ : (sc0).IsWhole).wordExact ⟨Or.inl rfl, trivial⟩)
      let v66 : DmaSems sig S1 := cc0_scratch4.slice (Rect.unit (s := S2) ![1] S1.size inb_S2_S1_1)
      let v67 : DmaSems sig S_ := v66.squeeze S_ squeezes_S1_S_
      let v68 : Memref sig .tc .hbm S1x1024x1024 .f32 := hb1.slice (Rect.unit (s := S32x1024x1024) (k0_off10 v61) S1x1024x1024.size (k0_off10_inb v4 v56 v61 k0_hw3 k0_h2 k0_h3)) (fun _ => rfl)
      let v69 : Memref sig .tc .hbm S1024x1024 .f32 := v68.squeeze S1024x1024 squeezes_S1x1024x1024_S1024x1024
      Prog.lift (.enqueueDma v69 (.here sc1) (.dma v67.sem) ((View.wordExact_bits rfl).reshape _ _) (Memref.isWhole_whole _ : (sc1).IsWhole).wordExact ⟨Or.inl rfl, trivial⟩)
      pure ⟨⟩
    else do
      pure ⟨⟩
    pure ⟨⟩
  else do
    pure ⟨⟩
  k

/-- The block's rows: the first 256, or all 512, or none. -/
def seg3 (i : grid0.Coords) (arg6 : Memref sig .tc .vmem S512x1024 .f32) (arg8 : Memref sig .tc .vmem S1x1x2048 .f32) (arg10 : Memref sig .tc .vmem S1x1x1024 .f32) (arg11 : Memref sig .tc .vmem S512x1024 .f32) (v9 : Elt F .i32) :
    Prog (TpuEff nD τ sig (Elt F) Λ₀ .tc) PUnit := do
  if k0_h4 : k0_cond4 v9 = 1#1 then do
    let v35 : Vec F S256x1024 .f32 ← Prog.lift (.load arg6 (Rect.unit (s := S512x1024) ![0, 0] S256x1024.size inb_S512x1024_S256x1024_0_0).toLoadRect (View.loadsAt_vmem h_S256x1024))
    let v36 : Vec F S1024x2048 .bf16 ← Prog.lift (.load sc2 (Rect.unit (s := S1024x2048) ![0, 0] S1024x2048.size inb_S1024x2048_S1024x2048_0_0).toLoadRect (View.loadsAt_vmem h_S1024x2048))
    let v39 : Vec F S1x1x2048 .f32 ← Prog.lift (.load arg8 (Rect.unit (s := S1x1x2048) ![0, 0, 0] S1x1x2048.size inb_S1x1x2048_S1x1x2048_0_0_0).toLoadRect (View.loadsAt_vmem h_S1x1x2048))
    let v58 : Vec F S1024x1024 .bf16 ← Prog.lift (.load sc3 (Rect.unit (s := S1024x1024) ![0, 0] S1024x1024.size inb_S1024x1024_S1024x1024_0_0).toLoadRect (View.loadsAt_vmem h_S1024x1024))
    let v61 : Vec F S1x1x1024 .f32 ← Prog.lift (.load arg10 (Rect.unit (s := S1x1x1024) ![0, 0, 0] S1x1x1024.size inb_S1x1x1024_S1x1x1024_0_0_0).toLoadRect (View.loadsAt_vmem h_S1x1x1024))
    let v65 : Vec F S256x1024 .f32 ← Prog.lift (.load arg11 (Rect.unit (s := S512x1024) ![0, 0] S256x1024.size inb_S512x1024_S256x1024_0_0).toLoadRect (View.loadsAt_vmem h_S256x1024))
    Prog.lift (.store arg11 (Rect.unit (s := S512x1024) ![0, 0] S256x1024.size inb_S512x1024_S256x1024_0_0) (k0_pay3 v35 v36 v39 v58 v61) Finset.univ (View.stores_vmem_bits_univ h_S256x1024 rfl) (.inl rfl))
    let v67 : Vec F S256x1024 .f32 ← Prog.lift (.load arg11 (Rect.unit (s := S512x1024) ![256, 0] S256x1024.size inb_S512x1024_S256x1024_256_0).toLoadRect (View.loadsAt_vmem h_S256x1024))
    Prog.lift (.store arg11 (Rect.unit (s := S512x1024) ![256, 0] S256x1024.size inb_S512x1024_S256x1024_256_0) (k0_pay4 (F := F)) Finset.univ (View.stores_vmem_bits_univ h_S256x1024 rfl) (.inl rfl))
    pure ⟨⟩
  else do
    pure ⟨⟩
  if k0_h5 : k0_cond5 v9 = 1#1 then do
    let v35 : Vec F S512x1024 .f32 ← Prog.lift (.load arg6 (Rect.unit (s := S512x1024) ![0, 0] S512x1024.size inb_S512x1024_S512x1024_0_0).toLoadRect (View.loadsAt_vmem h_S512x1024))
    let v36 : Vec F S1024x2048 .bf16 ← Prog.lift (.load sc2 (Rect.unit (s := S1024x2048) ![0, 0] S1024x2048.size inb_S1024x2048_S1024x2048_0_0).toLoadRect (View.loadsAt_vmem h_S1024x2048))
    let v39 : Vec F S1x1x2048 .f32 ← Prog.lift (.load arg8 (Rect.unit (s := S1x1x2048) ![0, 0, 0] S1x1x2048.size inb_S1x1x2048_S1x1x2048_0_0_0).toLoadRect (View.loadsAt_vmem h_S1x1x2048))
    let v58 : Vec F S1024x1024 .bf16 ← Prog.lift (.load sc3 (Rect.unit (s := S1024x1024) ![0, 0] S1024x1024.size inb_S1024x1024_S1024x1024_0_0).toLoadRect (View.loadsAt_vmem h_S1024x1024))
    let v61 : Vec F S1x1x1024 .f32 ← Prog.lift (.load arg10 (Rect.unit (s := S1x1x1024) ![0, 0, 0] S1x1x1024.size inb_S1x1x1024_S1x1x1024_0_0_0).toLoadRect (View.loadsAt_vmem h_S1x1x1024))
    let v65 : Vec F S512x1024 .f32 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay5 v35 v36 v39 v58 v61) Finset.univ (View.stores_vmem_bits_univ h_S512x1024 rfl) (.inl rfl))
    pure ⟨⟩
  else do
    pure ⟨⟩
  pure ⟨⟩

/-- The word of the fourth table (is the block its expert's first?), and of the third (the rows in use). -/
def load3 (i : grid0.Coords) : Prog (TpuEff nD τ sig (Elt F) Λ₀ .tc) (Elt F .i32) :=
  smemLoad tb3 (Rect.unit (s := S179) (k0_off1 i) S1.size (k0_off1_inb i)) numel1_S1 rfl
def load2 (i : grid0.Coords) : Prog (TpuEff nD τ sig (Elt F) Λ₀ .tc) (Elt F .i32) :=
  smemLoad tb2 (Rect.unit (s := S179) (k0_off11 i) S1.size (k0_off11_inb i)) numel1_S1 rfl

set_option maxRecDepth 65536 in
/-- The body is the three stretches in a row. -/
theorem body_eq (i : grid0.Coords) (arg6 : Memref sig .tc .vmem S512x1024 .f32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole) :
    cc0_experts (F := F) i tb0 (Memref.isWhole_whole _) tb1 (Memref.isWhole_whole _) tb2 (Memref.isWhole_whole _) tb3 (Memref.isWhole_whole _) tb4 (Memref.isWhole_whole _)
        arg6 harg6 hb0 (Memref.isWhole_whole _) arg8 harg8 hb1 (Memref.isWhole_whole _) arg10 harg10 arg11 harg11
        sc0 (Memref.isWhole_whole _) sc1 (Memref.isWhole_whole _) sc2 (Memref.isWhole_whole _) sc3 (Memref.isWhole_whole _) cc0_scratch4
      = seg1 (F := F) i (load3 (F := F) i >>= fun v4 => seg2 (F := F) i v4 (load2 (F := F) i >>= fun v9 => seg3 (F := F) i arg6 arg8 arg10 arg11 v9)) := by
  rw [cc0_experts_eq_skeleton]
  rfl

end Cert.Kernel2Ideal.Experts
-- ==== Proof.ExI.Runs.lean ====
/- Each stretch of the expert call's body, run once for each way it can go. -/
module

public import proofs.«01_k».proof.Proof.ExI.Segs
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The word a table holds where the body reads it. -/
abbrev rd (M : Memref sig .tc .smem S179 .i32) (off : Fin 1 → ℕ) (inb : ∀ a, off a + S1.size a ≤ S179.size a) (T : M.view.ty.Contents (Elt F)) : Elt F .i32 :=
  View.readAt (Elt F) M.view (Rect.unit (s := S179) off S1.size inb).toLoadRect T (Shape.Idx.first (numel1_S1.symm ▸ Nat.one_pos))

/-- Expert `v`'s weights in HBM. -/
abbrev we0 (v : BitVec 32) (h : ∀ a, k0_off2 v a + S1x1024x2048.size a ≤ S32x1024x2048.size a) : Memref sig .tc .hbm S1024x2048 .f32 :=
  (hb0.slice (Rect.unit (s := S32x1024x2048) (k0_off2 v) S1x1024x2048.size h) (fun _ => rfl)).squeeze S1024x2048 squeezes_S1x1024x2048_S1024x2048
abbrev we1 (v : BitVec 32) (h : ∀ a, k0_off3 v a + S1x1024x1024.size a ≤ S32x1024x1024.size a) : Memref sig .tc .hbm S1024x1024 .f32 :=
  (hb1.slice (Rect.unit (s := S32x1024x1024) (k0_off3 v) S1x1024x1024.size h) (fun _ => rfl)).squeeze S1024x1024 squeezes_S1x1024x1024_S1024x1024

/-- The copies of expert `v`'s weights on their way into the first two scratch buffers: each cell's transfer, and the
    rest of the array it reads. -/
def Fly (c : Dev nD) (W6 : S32x1024x2048.Idx → Elt F .f32) (W8 : S32x1024x1024.Idx → Elt F .f32) (v : BitVec 32) : sProp 𝕄 :=
  iprop(∃ (h0 : ∀ a, k0_off2 v a + S1x1024x2048.size a ≤ S32x1024x2048.size a) (h1 : ∀ a, k0_off3 v a + S1x1024x1024.size a ≤ S32x1024x1024.size a)
      (f0 : S1024x2048.Idx → Elt F .f32) (f1 : S1024x1024.Idx → Elt F .f32),
    Transfers.Flight (countersEmb (U := Pipeline.UD sig nD τ)) (c : Thread nD τ) (SemLoc.dma 8) () 262144
        iprop((sc0.view.loc (c : Thread nD τ) ↦{fullShare} View.write (Elt F) sc0.view f0 (ReadAs.same.apply ((we0 v h0).view.read (Elt F) W6)) Finset.univ)
          ∗ (hb0.view.loc (c : Thread nD τ) ↦[(we0 v h0).view.set]{fullShare} W6))
      ∗ (hb0.view.loc (c : Thread nD τ) ↦[Finset.univ \ (we0 v h0).view.set]{fullShare} W6)
      ∗ Transfers.Flight (countersEmb (U := Pipeline.UD sig nD τ)) (c : Thread nD τ) (SemLoc.dma 9) () 131072
        iprop((sc1.view.loc (c : Thread nD τ) ↦{fullShare} View.write (Elt F) sc1.view f1 (ReadAs.same.apply ((we1 v h1).view.read (Elt F) W8)) Finset.univ)
          ∗ (hb1.view.loc (c : Thread nD τ) ↦[(we1 v h1).view.set]{fullShare} W8))
      ∗ (hb1.view.loc (c : Thread nD τ) ↦[Finset.univ \ (we1 v h1).view.set]{fullShare} W8))

/-- No copy on its way: the arrays whole, the scratch buffers at anything, the cells at zero. -/
def Still (c : Dev nD) (W6 : S32x1024x2048.Idx → Elt F .f32) (W8 : S32x1024x1024.Idx → Elt F .f32) : sProp 𝕄 :=
  iprop((hb0.view.loc (c : Thread nD τ) ↦{fullShare} W6) ∗ (hb1.view.loc (c : Thread nD τ) ↦{fullShare} W8)
      ∗ (∃ f0 : S1024x2048.Idx → Elt F .f32, sc0.view.loc (c : Thread nD τ) ↦{fullShare} f0)
      ∗ (∃ f1 : S1024x1024.Idx → Elt F .f32, sc1.view.loc (c : Thread nD τ) ↦{fullShare} f1)
      ∗ semVal ((c : Thread nD τ), SemLoc.dma 8) 0 ∗ semVal ((c : Thread nD τ), SemLoc.dma 9) 0)

/-- What the narrowing store leaves of the weights that arrived. -/
theorem narrow0 (f0 X : S1024x2048.Idx → Elt F .f32) (inb inb' : ∀ a, (![0, 0] : Fin 2 → ℕ) a + S1024x2048.size a ≤ S1024x2048.size a) :
    sc2.view.writes (Elt F) sc2.view.junk [⟨Rect.unit (s := S1024x2048) ![0, 0] S1024x2048.size inb,
        k0_pay1 (View.readAt (Elt F) sc0.view (Rect.unit (s := S1024x2048) ![0, 0] S1024x2048.size inb').toLoadRect
          (View.write (Elt F) sc0.view f0 (ReadAs.same.apply X) Finset.univ))⟩] = k0_pay1 X := by
  refine ((View.read_whole (Val := Elt F) _ _).symm.trans (View.read_writes_eq_canon sc2.view _ _ fun y => ?_)).trans ?_
  · exact View.cover_of_tiledL _ S1024x2048.size (by sl_kernel_rfl) y
  · refine (View.canon_unit_zero (by decide) inb _).trans (congrArg k0_pay1 ?_)
    refine (View.readAt_eq_ld _ _ _).trans ((View.ld_unit_zero (by decide) inb' _).trans ?_)
    exact View.read_write_univ _ _
theorem narrow1 (f1 X : S1024x1024.Idx → Elt F .f32) (inb inb' : ∀ a, (![0, 0] : Fin 2 → ℕ) a + S1024x1024.size a ≤ S1024x1024.size a) :
    sc3.view.writes (Elt F) sc3.view.junk [⟨Rect.unit (s := S1024x1024) ![0, 0] S1024x1024.size inb,
        k0_pay2 (View.readAt (Elt F) sc1.view (Rect.unit (s := S1024x1024) ![0, 0] S1024x1024.size inb').toLoadRect
          (View.write (Elt F) sc1.view f1 (ReadAs.same.apply X) Finset.univ))⟩] = k0_pay2 X := by
  refine ((View.read_whole (Val := Elt F) _ _).symm.trans (View.read_writes_eq_canon sc3.view _ _ fun y => ?_)).trans ?_
  · exact View.cover_of_tiledL _ S1024x1024.size (by sl_kernel_rfl) y
  · refine (View.canon_unit_zero (by decide) inb _).trans (congrArg k0_pay2 ?_)
    refine (View.readAt_eq_ld _ _ _).trans ((View.ld_unit_zero (by decide) inb' _).trans ?_)
    exact View.read_write_univ _ _

/-- A block of which the first half is in use: its rows through the expert, zeros below. -/
def outHalf (x : S512x1024.Idx → Elt F .f32) (w : S1024x2048.Idx → Elt F .bf16) (b : S1x1x2048.Idx → Elt F .f32) (w' : S1024x1024.Idx → Elt F .bf16)
    (b' : S1x1x1024.Idx → Elt F .f32) : S512x1024.Idx → Elt F .f32 :=
  View.canon [(⟨Rect.unit (s := S512x1024) ![256, 0] S256x1024.size inb_S512x1024_S256x1024_256_0, k0_pay4 (F := F)⟩ : View.Piece (Elt F) S512x1024 .f32),
    ⟨Rect.unit (s := S512x1024) ![0, 0] S256x1024.size inb_S512x1024_S256x1024_0_0,
      k0_pay3 (View.ld x (Rect.unit (s := S512x1024) ![0, 0] S256x1024.size inb_S512x1024_S256x1024_0_0)) w b w' b'⟩]

section
variable (arg6 : Memref sig .tc .vmem S512x1024 .f32) (arg8 : Memref sig .tc .vmem S1x1x2048 .f32) (arg10 : Memref sig .tc .vmem S1x1x1024 .f32) (arg11 : Memref sig .tc .vmem S512x1024 .f32)
    (x d : S512x1024.Idx → Elt F .f32) (w : S1024x2048.Idx → Elt F .bf16) (b : S1x1x2048.Idx → Elt F .f32) (w' : S1024x1024.Idx → Elt F .bf16) (b' : S1x1x1024.Idx → Elt F .f32)

theorem rd8 : View.readAt (Elt F) arg8.view (Rect.unit (s := S1x1x2048) ![0, 0, 0] S1x1x2048.size inb_S1x1x2048_S1x1x2048_0_0_0).toLoadRect (arg8.view.rep b) = b :=
  (View.readAt_eq_ld _ _ _).trans ((View.ld_unit_zero (by decide) _ _).trans (View.read_rep _ _))
theorem rd10 : View.readAt (Elt F) arg10.view (Rect.unit (s := S1x1x1024) ![0, 0, 0] S1x1x1024.size inb_S1x1x1024_S1x1x1024_0_0_0).toLoadRect (arg10.view.rep b') = b' :=
  (View.readAt_eq_ld _ _ _).trans ((View.ld_unit_zero (by decide) _ _).trans (View.read_rep _ _))
theorem rd6 (r : Rect S512x1024) : View.readAt (Elt F) arg6.view r.toLoadRect (arg6.view.rep x) = View.ld x r :=
  (View.readAt_eq_ld _ _ _).trans (congrArg (fun X => View.ld X r) (View.read_rep _ _))
theorem rdw : View.readAt (Elt F) sc2.view (Rect.unit (s := S1024x2048) ![0, 0] S1024x2048.size inb_S1024x2048_S1024x2048_0_0).toLoadRect w = w :=
  (View.readAt_eq_ld _ _ _).trans (View.ld_unit_zero (by decide) _ _)
theorem rdw' : View.readAt (Elt F) sc3.view (Rect.unit (s := S1024x1024) ![0, 0] S1024x1024.size inb_S1024x1024_S1024x1024_0_0).toLoadRect w' = w' :=
  (View.readAt_eq_ld _ _ _).trans (View.ld_unit_zero (by decide) _ _)

theorem half_eq : arg11.view.read (Elt F) (arg11.view.writes (Elt F) (arg11.view.rep d)
      [⟨Rect.unit (s := S512x1024) ![256, 0] S256x1024.size inb_S512x1024_S256x1024_256_0, k0_pay4⟩,
        ⟨Rect.unit (s := S512x1024) ![0, 0] S256x1024.size inb_S512x1024_S256x1024_0_0,
          k0_pay3
            (View.readAt (Elt F) arg6.view (Rect.unit (s := S512x1024) ![0, 0] S256x1024.size inb_S512x1024_S256x1024_0_0).toLoadRect (arg6.view.rep x))
            (View.readAt (Elt F) sc2.view (Rect.unit (s := S1024x2048) ![0, 0] S1024x2048.size inb_S1024x2048_S1024x2048_0_0).toLoadRect w)
            (View.readAt (Elt F) arg8.view (Rect.unit (s := S1x1x2048) ![0, 0, 0] S1x1x2048.size inb_S1x1x2048_S1x1x2048_0_0_0).toLoadRect (arg8.view.rep b))
            (View.readAt (Elt F) sc3.view (Rect.unit (s := S1024x1024) ![0, 0] S1024x1024.size inb_S1024x1024_S1024x1024_0_0).toLoadRect w')
            (View.readAt (Elt F) arg10.view (Rect.unit (s := S1x1x1024) ![0, 0, 0] S1x1x1024.size inb_S1x1x1024_S1x1x1024_0_0_0).toLoadRect (arg10.view.rep b'))⟩])
    = outHalf x w b w' b' := by
  rw [rd6, rdw, rdw', rd8, rd10]
  exact View.read_writes_eq_canon arg11.view _ _ (View.cover_of_tiledL _ S256x1024.size (by sl_kernel_rfl))

theorem full_eq : arg11.view.read (Elt F) (arg11.view.writes (Elt F) (arg11.view.rep d)
      [⟨Rect.unit (s := S512x1024) ![0, 0] S512x1024.size inb_S512x1024_S512x1024_0_0,
          k0_pay5
            (View.readAt (Elt F) arg6.view (Rect.unit (s := S512x1024) ![0, 0] S512x1024.size inb_S512x1024_S512x1024_0_0).toLoadRect (arg6.view.rep x))
            (View.readAt (Elt F) sc2.view (Rect.unit (s := S1024x2048) ![0, 0] S1024x2048.size inb_S1024x2048_S1024x2048_0_0).toLoadRect w)
            (View.readAt (Elt F) arg8.view (Rect.unit (s := S1x1x2048) ![0, 0, 0] S1x1x2048.size inb_S1x1x2048_S1x1x2048_0_0_0).toLoadRect (arg8.view.rep b))
            (View.readAt (Elt F) sc3.view (Rect.unit (s := S1024x1024) ![0, 0] S1024x1024.size inb_S1024x1024_S1024x1024_0_0).toLoadRect w')
            (View.readAt (Elt F) arg10.view (Rect.unit (s := S1x1x1024) ![0, 0, 0] S1x1x1024.size inb_S1x1x1024_S1x1x1024_0_0_0).toLoadRect (arg10.view.rep b'))⟩])
    = k0_pay5 x w b w' b' := by
  rw [rd6, rdw, rdw', rd8, rd10]
  refine (View.read_writes_eq_canon arg11.view _ _ (View.cover_of_tiledL _ S512x1024.size (by sl_kernel_rfl))).trans ?_
  refine (View.canon_unit_zero (by decide) _ _).trans ?_
  rw [View.ld_unit_zero (by decide)]

end

section
variable (c : Dev nD) (i : grid0.Coords) (k : Prog (TpuEff nD τ sig (Elt F) Λ₀ .tc) PUnit)
    (T : S179.Idx → Elt F .i32) (T' : S179.Idx → Elt F .i32) (W6 : S32x1024x2048.Idx → Elt F .f32) (W8 : S32x1024x1024.Idx → Elt F .f32)

set_option maxHeartbeats 4000000 in
/-- At the first point: the first block's expert's weights start on their way. -/
theorem seg1_first (K : PUnit.{1} → sProp 𝕄) (hi : k0_cond1 i = 1#1) (hchk : k0_chk1 i (rd tb0 ![0] inb_S179_S1_0 T)) :
    iprop((tb0.view.loc (c : Thread nD τ) ↦{fullShare.right} T) ∗ Still c W6 W8
      ∗ (((tb0.view.loc (c : Thread nD τ) ↦{fullShare.right} T) ∗ Fly c W6 W8 (rd tb0 ![0] inb_S179_S1_0 T))
          -∗ wp frame (wpE (defs₀ (F := F)) Variants.none c none) Set.univ k K))
    ⊢ wp frame (wpE (defs₀ (F := F)) Variants.none c none) Set.univ (seg1 i k) K := by
  unfold seg1 Still Fly
  iintro ⟨HT, ⟨Hh0, Hh1, ⟨%f0, HS0⟩, ⟨%f1, HS1⟩, Hq0, Hq1⟩, Hk⟩
  sl_exec! (disch := first | (guard_target = k0_cond1 _ = _; exact hi) | exact hchk)
  iapply Hk
  isplitl [HT]; · iexact HT
  iexists k0_off2_inb i _ hchk hi, k0_off3_inb i _ hchk hi, f0, f1
  isplitl [Hq0]; · iexact Hq0
  isplitl [Hh0]; · iexact Hh0
  isplitl [Hq1]; · iexact Hq1
  iexact Hh1

/-- At any other point nothing is started here. -/
theorem seg1_rest (K : PUnit.{1} → sProp 𝕄) (hi : ¬k0_cond1 i = 1#1) :
    wp frame (wpE (defs₀ (F := F)) Variants.none c none) Set.univ k K
    ⊢ wp frame (wpE (defs₀ (F := F)) Variants.none c none) Set.univ (seg1 i k) K := by
  unfold seg1
  rw [dif_neg hi]

/-- Where the block is not its expert's first nothing is awaited. -/
theorem seg2_rest (K : PUnit.{1} → sProp 𝕄) (v4 : Elt F .i32) (hv : ¬k0_cond2 v4 = 1#1) :
    wp frame (wpE (defs₀ (F := F)) Variants.none c none) Set.univ k K
    ⊢ wp frame (wpE (defs₀ (F := F)) Variants.none c none) Set.univ (seg2 i v4 k) K := by
  unfold seg2
  rw [dif_neg hv]

set_option maxHeartbeats 8000000 in
/-- Where the block is its expert's first, another expert to follow: the weights arrive and are narrowed, the next
    expert's start on their way. -/
theorem seg2_next (K : PUnit.{1} → sProp 𝕄) (v4 : Elt F .i32) (hv : k0_cond2 v4 = 1#1) (v : BitVec 32)
    (hchk : k0_chk2 v4 (rd tb0 (k0_off4 i) (k0_off4_inb i) T)) (h3 : k0_cond3 (rd tb4 (k0_off7 i) (k0_off7_inb i) T') = 1#1)
    (hchk' : k0_chk3 v4 (rd tb4 (k0_off7 i) (k0_off7_inb i) T') (rd tb4 (k0_off8 i) (k0_off8_inb i) T')) (W : Waits sig Unit) :
    iprop((tb0.view.loc (c : Thread nD τ) ↦{fullShare.right} T) ∗ (tb4.view.loc (c : Thread nD τ) ↦{fullShare.right} T') ∗ Fly c W6 W8 v
      ∗ (∃ f2 : S1024x2048.Idx → Elt F .bf16, sc2.view.loc (c : Thread nD τ) ↦{fullShare} f2)
      ∗ (∃ f3 : S1024x1024.Idx → Elt F .bf16, sc3.view.loc (c : Thread nD τ) ↦{fullShare} f3)
      ∗ owes (c : Thread nD τ) 0 W
      ∗ (((tb0.view.loc (c : Thread nD τ) ↦{fullShare.right} T) ∗ (tb4.view.loc (c : Thread nD τ) ↦{fullShare.right} T')
            ∗ Fly c W6 W8 (rd tb4 (k0_off8 i) (k0_off8_inb i) T')
            ∗ (∃ h0, ∃ g, ⌜g = k0_pay1 ((we0 v h0).view.read (Elt F) W6)⌝ ∗ (sc2.view.loc (c : Thread nD τ) ↦{fullShare} g))
            ∗ (∃ h1, ∃ g, ⌜g = k0_pay2 ((we1 v h1).view.read (Elt F) W8)⌝ ∗ (sc3.view.loc (c : Thread nD τ) ↦{fullShare} g))
            ∗ (∃ W', owes (c : Thread nD τ) 0 W'))
          -∗ wp frame (wpE (defs₀ (F := F)) Variants.none c none) Set.univ k K))
    ⊢ wp frame (wpE (defs₀ (F := F)) Variants.none c none) Set.univ (seg2 i v4 k) K := by
  unfold seg2 Fly
  iintro ⟨HT, HT', ⟨%h0, %h1, %f0, %f1, Hq0, Hh0, Hq1, Hh1⟩, ⟨%f2, HS2⟩, ⟨%f3, HS3⟩, HW, Hk⟩
  sl_exec! (disch := first | (guard_target = k0_cond2 _ = _; exact hv) | (guard_target = k0_cond3 _ = _; exact h3) | exact hchk | exact hchk')
  iapply Hk
  isplitl [HT]; · iexact HT
  isplitl [HT']; · iexact HT'
  isplitl [Hq0 Hh0 Hq1 Hh1]
  · iexists k0_off9_inb v4 _ _ hchk' hv h3, k0_off10_inb v4 _ _ hchk' hv h3, _, _
    isplitl [Hq0]; · iexact Hq0
    isplitl [Hh0]; · iexact Hh0
    isplitl [Hq1]; · iexact Hq1
    iexact Hh1
  isplitl [HS2]
  · iexists h0
    iexists _
    isplitr; swap; · iexact HS2
    ipureintro
    exact narrow0 f0 _ _ _
  isplitl [HS3]
  · iexists h1
    iexists _
    isplitr; swap; · iexact HS3
    ipureintro
    exact narrow1 f1 _ _ _
  iexists _
  iexact HW

set_option maxHeartbeats 8000000 in
/-- Where the block is its expert's first, the last one: the weights arrive and are narrowed, nothing
    starts. -/
theorem seg2_last (K : PUnit.{1} → sProp 𝕄) (v4 : Elt F .i32) (hv : k0_cond2 v4 = 1#1) (v : BitVec 32)
    (hchk : k0_chk2 v4 (rd tb0 (k0_off4 i) (k0_off4_inb i) T)) (h3 : ¬k0_cond3 (rd tb4 (k0_off7 i) (k0_off7_inb i) T') = 1#1) (hchk' : ∀ w, k0_chk3 v4 (rd tb4 (k0_off7 i) (k0_off7_inb i) T') w) (W : Waits sig Unit) :
    iprop((tb0.view.loc (c : Thread nD τ) ↦{fullShare.right} T) ∗ (tb4.view.loc (c : Thread nD τ) ↦{fullShare.right} T') ∗ Fly c W6 W8 v
      ∗ (∃ f2 : S1024x2048.Idx → Elt F .bf16, sc2.view.loc (c : Thread nD τ) ↦{fullShare} f2)
      ∗ (∃ f3 : S1024x1024.Idx → Elt F .bf16, sc3.view.loc (c : Thread nD τ) ↦{fullShare} f3)
      ∗ owes (c : Thread nD τ) 0 W
      ∗ (((tb0.view.loc (c : Thread nD τ) ↦{fullShare.right} T) ∗ (tb4.view.loc (c : Thread nD τ) ↦{fullShare.right} T')
            ∗ Still c W6 W8
            ∗ (∃ h0, ∃ g, ⌜g = k0_pay1 ((we0 v h0).view.read (Elt F) W6)⌝ ∗ (sc2.view.loc (c : Thread nD τ) ↦{fullShare} g))
            ∗ (∃ h1, ∃ g, ⌜g = k0_pay2 ((we1 v h1).view.read (Elt F) W8)⌝ ∗ (sc3.view.loc (c : Thread nD τ) ↦{fullShare} g))
            ∗ (∃ W', owes (c : Thread nD τ) 0 W'))
          -∗ wp frame (wpE (defs₀ (F := F)) Variants.none c none) Set.univ k K))
    ⊢ wp frame (wpE (defs₀ (F := F)) Variants.none c none) Set.univ (seg2 i v4 k) K := by
  unfold seg2 Fly Still
  iintro ⟨HT, HT', ⟨%h0, %h1, %f0, %f1, Hq0, Hh0, Hq1, Hh1⟩, ⟨%f2, HS2⟩, ⟨%f3, HS3⟩, HW, Hk⟩
  sl_exec! (disch := first | (guard_target = k0_cond2 _ = _; exact hv) | (guard_target = k0_cond3 _ = _; exact h3) | exact hchk | exact hchk' _)
  iapply Hk
  isplitl [HT]; · iexact HT
  isplitl [HT']; · iexact HT'
  isplitl [Hh0 Hh1 Hq0_dst Hq1_dst Hq0 Hq1]
  · isplitl [Hh0]; · iexact Hh0
    isplitl [Hh1]; · iexact Hh1
    isplitl [Hq0_dst]; · iexists _; iexact Hq0_dst
    isplitl [Hq1_dst]; · iexists _; iexact Hq1_dst
    isplitl [Hq0]; · iexact Hq0
    iexact Hq1
  isplitl [HS2]
  · iexists h0
    iexists _
    isplitr; swap; · iexact HS2
    ipureintro
    exact narrow0 f0 _ _ _
  isplitl [HS3]
  · iexists h1
    iexists _
    isplitr; swap; · iexact HS3
    ipureintro
    exact narrow1 f1 _ _ _
  iexists _
  iexact HW

set_option maxHeartbeats 4000000 in
/-- A block of which the first half is in use. -/
theorem seg3_half (K : PUnit.{1} → sProp 𝕄) (arg6 : Memref sig .tc .vmem S512x1024 .f32) (arg8 : Memref sig .tc .vmem S1x1x2048 .f32) (arg10 : Memref sig .tc .vmem S1x1x1024 .f32) (arg11 : Memref sig .tc .vmem S512x1024 .f32) (v9 : Elt F .i32)
    (h4 : k0_cond4 v9 = 1#1) (h5 : ¬k0_cond5 v9 = 1#1)
    (x d : S512x1024.Idx → Elt F .f32) (w : S1024x2048.Idx → Elt F .bf16) (b : S1x1x2048.Idx → Elt F .f32) (w' : S1024x1024.Idx → Elt F .bf16) (b' : S1x1x1024.Idx → Elt F .f32) :
    iprop(owns (c : Thread nD τ) arg6 fullShare x ∗ owns (c : Thread nD τ) arg8 fullShare b ∗ owns (c : Thread nD τ) arg10 fullShare b'
      ∗ owns (c : Thread nD τ) arg11 fullShare d
      ∗ (sc2.view.loc (c : Thread nD τ) ↦{fullShare} w) ∗ (sc3.view.loc (c : Thread nD τ) ↦{fullShare} w')
      ∗ ((owns (c : Thread nD τ) arg6 fullShare x ∗ owns (c : Thread nD τ) arg8 fullShare b ∗ owns (c : Thread nD τ) arg10 fullShare b'
            ∗ owns (c : Thread nD τ) arg11 fullShare (outHalf x w b w' b')
            ∗ (sc2.view.loc (c : Thread nD τ) ↦{fullShare} w) ∗ (sc3.view.loc (c : Thread nD τ) ↦{fullShare} w'))
          -∗ K ⟨⟩))
    ⊢ wp frame (wpE (defs₀ (F := F)) Variants.none c none) Set.univ (seg3 i arg6 arg8 arg10 arg11 v9) K := by
  unfold seg3
  iintro ⟨H6, H8, H10, H11, HS2, HS3, Hk⟩
  ihave H6 := (rep_of_owns c arg6 _ _) $$ H6
  ihave H8 := (rep_of_owns c arg8 _ _) $$ H8
  ihave H10 := (rep_of_owns c arg10 _ _) $$ H10
  ihave H11 := (rep_of_owns c arg11 _ _) $$ H11
  sl_exec! (disch := first | (guard_target = k0_cond4 _ = _; exact h4) | exact h5)
  rw [wp_ret]
  imodintro
  iapply Hk
  isplitl [H6]; · iapply owns_of_rep; iexact H6
  isplitl [H8]; · iapply owns_of_rep; iexact H8
  isplitl [H10]; · iapply owns_of_rep; iexact H10
  isplitl [H11]
  · unfold owns
    iexists _
    isplitr; swap; · iexact H11
    ipureintro
    exact half_eq _ _ _ _ _ _ _ _ _ _
  isplitl [HS2]; · iexact HS2
  iexact HS3

set_option maxHeartbeats 4000000 in
/-- A block of which all is in use. -/
theorem seg3_full (K : PUnit.{1} → sProp 𝕄) (arg6 : Memref sig .tc .vmem S512x1024 .f32) (arg8 : Memref sig .tc .vmem S1x1x2048 .f32) (arg10 : Memref sig .tc .vmem S1x1x1024 .f32) (arg11 : Memref sig .tc .vmem S512x1024 .f32) (v9 : Elt F .i32)
    (h4 : ¬k0_cond4 v9 = 1#1) (h5 : k0_cond5 v9 = 1#1)
    (x d : S512x1024.Idx → Elt F .f32) (w : S1024x2048.Idx → Elt F .bf16) (b : S1x1x2048.Idx → Elt F .f32) (w' : S1024x1024.Idx → Elt F .bf16) (b' : S1x1x1024.Idx → Elt F .f32) :
    iprop(owns (c : Thread nD τ) arg6 fullShare x ∗ owns (c : Thread nD τ) arg8 fullShare b ∗ owns (c : Thread nD τ) arg10 fullShare b'
      ∗ owns (c : Thread nD τ) arg11 fullShare d
      ∗ (sc2.view.loc (c : Thread nD τ) ↦{fullShare} w) ∗ (sc3.view.loc (c : Thread nD τ) ↦{fullShare} w')
      ∗ ((owns (c : Thread nD τ) arg6 fullShare x ∗ owns (c : Thread nD τ) arg8 fullShare b ∗ owns (c : Thread nD τ) arg10 fullShare b'
            ∗ owns (c : Thread nD τ) arg11 fullShare (k0_pay5 x w b w' b')
            ∗ (sc2.view.loc (c : Thread nD τ) ↦{fullShare} w) ∗ (sc3.view.loc (c : Thread nD τ) ↦{fullShare} w'))
          -∗ K ⟨⟩))
    ⊢ wp frame (wpE (defs₀ (F := F)) Variants.none c none) Set.univ (seg3 i arg6 arg8 arg10 arg11 v9) K := by
  unfold seg3
  iintro ⟨H6, H8, H10, H11, HS2, HS3, Hk⟩
  ihave H6 := (rep_of_owns c arg6 _ _) $$ H6
  ihave H8 := (rep_of_owns c arg8 _ _) $$ H8
  ihave H10 := (rep_of_owns c arg10 _ _) $$ H10
  ihave H11 := (rep_of_owns c arg11 _ _) $$ H11
  sl_exec! (disch := first | (guard_target = k0_cond5 _ = _; exact h5) | exact h4)
  rw [wp_ret]
  imodintro
  iapply Hk
  isplitl [H6]; · iapply owns_of_rep; iexact H6
  isplitl [H8]; · iapply owns_of_rep; iexact H8
  isplitl [H10]; · iapply owns_of_rep; iexact H10
  isplitl [H11]
  · unfold owns
    iexists _
    isplitr; swap; · iexact H11
    ipureintro
    exact full_eq _ _ _ _ _ _ _ _ _ _
  isplitl [HS2]; · iexact HS2
  iexact HS3

/-- A block of which nothing is in use. -/
theorem seg3_idle (K : PUnit.{1} → sProp 𝕄) (arg6 : Memref sig .tc .vmem S512x1024 .f32) (arg8 : Memref sig .tc .vmem S1x1x2048 .f32) (arg10 : Memref sig .tc .vmem S1x1x1024 .f32) (arg11 : Memref sig .tc .vmem S512x1024 .f32) (v9 : Elt F .i32)
    (h4 : ¬k0_cond4 v9 = 1#1) (h5 : ¬k0_cond5 v9 = 1#1) :
    K ⟨⟩ ⊢ wp frame (wpE (defs₀ (F := F)) Variants.none c none) Set.univ (seg3 i arg6 arg8 arg10 arg11 v9) K := by
  unfold seg3
  iintro Hk
  sl_exec! (disch := first | exact h4 | exact h5)
  rw [wp_ret]
  imodintro
  iexact Hk

end

end Cert.Kernel2Ideal.Experts
-- ==== Proof.ExI.Words.lean ====
/- The words the expert call's index maps and body read of its tables, and the side condition on the tables. -/
module

public import proofs.«01_k».proof.Proof.ExI.Runs
public import proofs.«01_k».proof.Proof.Tables

@[expose] public section

set_option maxRecDepth 16384
set_option Elab.async false

noncomputable section

namespace Cert.Kernel2Ideal.Experts

open Cert.Kernel2Ideal Cert.Kernel2Ideal.Gen Cert.Experts
open Idealize.ShloMosaic
open Idealize.ShloMosaic.TcCoe

variable {F : FTy → Type} [FloatOps F]

theorem idxCast (i : Fin 179) : (Scalar.indexCast (BitVec.ofNat 32 i.val)).toNat = i.val := by
  revert i; decide +kernel

theorem off1_val (i : grid0.Coords) : k0_off1 i 0 = (i 0).val := idxCast (i 0)
theorem off4_val (i : grid0.Coords) : k0_off4 i 0 = (i 0).val := idxCast (i 0)
theorem off7_val (i : grid0.Coords) : k0_off7 i 0 = (i 0).val := idxCast (i 0)
theorem off8_val (i : grid0.Coords) : k0_off8 i 0 = (i 0).val := idxCast (i 0)
theorem off11_val (i : grid0.Coords) : k0_off11 i 0 = (i 0).val := idxCast (i 0)

theorem idx1 {off : Fin 1 → ℕ} (inb : ∀ a, off a + S1.size a ≤ S179.size a) (n : Fin 179) (h : off 0 = n.val) (y : S1.Idx) :
    ((Rect.unit (s := S179) off S1.size inb).emb y : S179.Idx) = ix1 n := by
  funext a
  fin_cases a
  apply Fin.ext
  have hy : (y 0).val = 0 := by have := (y 0).isLt; simpa using this
  show off 0 + 1 * (y 0).val = n.val
  omega

theorem rd0 {off : Fin 1 → ℕ} (inb : ∀ a, off a + S1.size a ≤ S179.size a) (n : Fin 179) (h : off 0 = n.val) (T : S179.Idx → Elt F .i32) : rd (F := F) tb0 off inb T = T (ix1 n) :=
  congrArg T (idx1 inb n h _)
theorem rd2 {off : Fin 1 → ℕ} (inb : ∀ a, off a + S1.size a ≤ S179.size a) (n : Fin 179) (h : off 0 = n.val) (T : S179.Idx → Elt F .i32) : rd (F := F) tb2 off inb T = T (ix1 n) :=
  congrArg T (idx1 inb n h _)
theorem rd3 {off : Fin 1 → ℕ} (inb : ∀ a, off a + S1.size a ≤ S179.size a) (n : Fin 179) (h : off 0 = n.val) (T : S179.Idx → Elt F .i32) : rd (F := F) tb3 off inb T = T (ix1 n) :=
  congrArg T (idx1 inb n h _)
theorem rd4 {off : Fin 1 → ℕ} (inb : ∀ a, off a + S1.size a ≤ S179.size a) (n : Fin 179) (h : off 0 = n.val) (T : S179.Idx → Elt F .i32) : rd (F := F) tb4 off inb T = T (ix1 n) :=
  congrArg T (idx1 inb n h _)

variable (pf : pre0.Contents (Elt F))

/-- Table `j`, place by place. -/
abbrev w0 : Fin 179 → BitVec 32 := fun i => pf 0 (ix1 i : S179.Idx)
abbrev w1 : Fin 179 → BitVec 32 := fun i => pf 1 (ix1 i : S179.Idx)
abbrev w2 : Fin 179 → BitVec 32 := fun i => pf 2 (ix1 i : S179.Idx)
abbrev w3 : Fin 179 → BitVec 32 := fun i => pf 3 (ix1 i : S179.Idx)
abbrev w4 : Fin 179 → BitVec 32 := fun i => pf 4 (ix1 i : S179.Idx)

theorem at1 (i : grid0.Coords) {off : Fin 1 → ℕ} (inb : ∀ a, off a + S1.size a ≤ S179.size a) (h : off 0 = (i 0).val) :
    pf.at 1 (Rect.unit (s := S179) off S1.size inb) numel1_S1 = w1 pf (i 0) := congrArg (pf 1) (idx1 inb (i 0) h _)
theorem at0 (i : grid0.Coords) {off : Fin 1 → ℕ} (inb : ∀ a, off a + S1.size a ≤ S179.size a) (h : off 0 = (i 0).val) :
    pf.at 0 (Rect.unit (s := S179) off S1.size inb) numel1_S1 = w0 pf (i 0) := congrArg (pf 0) (idx1 inb (i 0) h _)

theorem tr0 (i : grid0.Coords) : cc0_transform_0 k0_off1_inb numel1_S1 pf i = ![(w1 pf (i 0)).toNat, 0] := by
  have h := at1 pf i (k0_off1_inb i) (off1_val i)
  show ![(pf.at 1 (Rect.unit (s := S179) (k0_off1 i) S1.size (k0_off1_inb i)) numel1_S1).toNat, 0] = _
  rw [h]
theorem tr5 (i : grid0.Coords) : cc0_transform_5 k0_off1_inb numel1_S1 pf i = ![(w1 pf (i 0)).toNat, 0] := by
  have h := at1 pf i (k0_off1_inb i) (off1_val i)
  show ![(pf.at 1 (Rect.unit (s := S179) (k0_off1 i) S1.size (k0_off1_inb i)) numel1_S1).toNat, 0] = _
  rw [h]
theorem tr2 (i : grid0.Coords) : cc0_transform_2 k0_off1_inb numel1_S1 pf i = ![(w0 pf (i 0)).toNat, 0, 0] := by
  have h := at0 pf i (k0_off1_inb i) (off1_val i)
  show ![(pf.at 0 (Rect.unit (s := S179) (k0_off1 i) S1.size (k0_off1_inb i)) numel1_S1).toNat, 0, 0] = _
  rw [h]
theorem tr4 (i : grid0.Coords) : cc0_transform_4 k0_off1_inb numel1_S1 pf i = ![(w0 pf (i 0)).toNat, 0, 0] := by
  have h := at0 pf i (k0_off1_inb i) (off1_val i)
  show ![(pf.at 0 (Rect.unit (s := S179) (k0_off1 i) S1.size (k0_off1_inb i)) numel1_S1).toNat, 0, 0] = _
  rw [h]

theorem atD2 (i : grid0.Coords) : pf.atD 2 (k0_off11 i) = w2 pf (i 0) := by
  have h : ∀ a, k0_off11 i a + 1 ≤ S179.size a := fun a => by
    fin_cases a
    show k0_off11 i 0 + 1 ≤ 179
    rw [off11_val]
    exact (i 0).isLt
  refine (dif_pos h).trans (congrArg (pf 2) ?_)
  funext a
  fin_cases a
  exact Fin.ext (off11_val i)

/-! ## The conditions of the body, word by word -/

theorem cond1_iff (i : grid0.Coords) : k0_cond1 i = 1#1 ↔ (i 0).val = 0 := by
  have : ∀ n : Fin 179, (let arg0 : BitVec 32 := BitVec.ofNat 32 n.val
      let v0 : BitVec 1 := Scalar.cmpi .eq arg0 0#32
      let v1 : BitVec 32 := Scalar.extui v0
      Scalar.cmpi .ne v1 0#32) = 1#1 ↔ n.val = 0 := by decide +kernel
  exact this (i 0)
theorem ofB (b : Bool) : Scalar.cmpi .ne (Scalar.extui (BitVec.ofBool b) : BitVec 32) 0#32 = 1#1 ↔ b = true := by cases b <;> decide
theorem cond2_iff (v : BitVec 32) : k0_cond2 v = 1#1 ↔ v = 1#32 := by
  refine (ofB (v == 1#32)).trans ?_
  simp
theorem cond3_iff (v : BitVec 32) : k0_cond3 v = 1#1 ↔ 0 ≤ v.toInt := by
  refine (ofB ((0#32).sle v)).trans ?_
  simp [BitVec.sle]
theorem cond4_iff (v : BitVec 32) (h : v.toNat ≤ 512) : k0_cond4 v = 1#1 ↔ 0 < v.toNat ∧ v.toNat ≤ 256 := by
  have : ∀ n : Fin 513, k0_cond4 (BitVec.ofNat 32 n.val) = 1#1 ↔ 0 < n.val ∧ n.val ≤ 256 := by decide +kernel
  have e := this ⟨v.toNat, by omega⟩
  simpa using e
theorem cond5_iff (v : BitVec 32) (h : v.toNat ≤ 512) : k0_cond5 v = 1#1 ↔ 256 < v.toNat := by
  have : ∀ n : Fin 513, k0_cond5 (BitVec.ofNat 32 n.val) = 1#1 ↔ 256 < n.val := by decide +kernel
  have e := this ⟨v.toNat, by omega⟩
  simpa using e

/-! ## The side condition -/

/-- The coordinate of a step. -/
theorem crd0 (t : Fin grid0.N) : (grid0.coords t 0).val = t.val := by
  have h := Pipeline.Grid.coords_val t (0 : Fin 1) (S := 1) (B := 179) (by decide) (by decide)
  have ht : t.val < 179 := t.isLt.trans_eq N_0
  rw [h, Nat.div_one, Nat.mod_eq_of_lt ht]

section
variable {pf} (S : Sched (w0 pf) (w1 pf) (w2 pf) (w3 pf) (w4 pf))
include S

theorem off2_ok (v : BitVec 32) (h : v.toNat < 32) : ∀ a, k0_off2 v a + S1x1024x2048.size a ≤ S32x1024x2048.size a := by
  intro a
  fin_cases a
  · show v.toNat + 1 ≤ 32; omega
  · exact Nat.le_refl _
  · exact Nat.le_refl _
theorem off3_ok (v : BitVec 32) (h : v.toNat < 32) : ∀ a, k0_off3 v a + S1x1024x1024.size a ≤ S32x1024x1024.size a := by
  intro a
  fin_cases a
  · show v.toNat + 1 ≤ 32; omega
  · exact Nat.le_refl _
  · exact Nat.le_refl _

theorem ok : ok0 (F := F) pf := by
  have hr : ∀ i : Fin 179, (w1 pf i).toNat < 179 := fun i => lt_of_le_of_lt (S.rb_le i.val i.isLt) i.isLt
  refine ⟨fun i => ⟨?_, .inl rfl⟩, fun i => ⟨?_, .inl rfl⟩, fun i => ⟨?_, .inl rfl⟩, fun i => ⟨?_, .inl rfl⟩, ?_⟩
  · rw [tr0]; intro a; have := hr (i 0); fin_cases a
    · show ((w1 pf (i 0)).toNat + 1) * 512 ≤ 91648; omega
    · show (0 + 1) * 1024 ≤ 1024; omega
  · rw [tr2]; intro a; have := S.be_lt (i 0); fin_cases a
    · show ((w0 pf (i 0)).toNat + 1) * 1 ≤ 32; omega
    · show (0 + 1) * 1 ≤ 1; omega
    · show (0 + 1) * 2048 ≤ 2048; omega
  · rw [tr4]; intro a; have := S.be_lt (i 0); fin_cases a
    · show ((w0 pf (i 0)).toNat + 1) * 1 ≤ 32; omega
    · show (0 + 1) * 1 ≤ 1; omega
    · show (0 + 1) * 1024 ≤ 1024; omega
  · rw [tr5]; intro a; have := hr (i 0); fin_cases a
    · show ((w1 pf (i 0)).toNat + 1) * 512 ≤ 91648; omega
    · show (0 + 1) * 1024 ≤ 1024; omega
  · refine ⟨by decide, by decide, by decide, by decide, ?_, ?_⟩
    · intro x a a' h; cases (Fin.ext h : a = a'); rfl
    · intro u u' hlt hfe hfl heq
      have ht : u.val < 179 := u.isLt.trans_eq N_0
      have ht' : u'.val < 179 := u'.isLt.trans_eq N_0
      have e : ∀ (t : Fin grid0.N) (h : t.val < 179), grid0.coords t 0 = (⟨t.val, h⟩ : Fin 179) := fun t h => Fin.ext (crd0 t)
      have hlt' : u'.val < u.val := hlt
      have hne : w1 pf ⟨u.val, ht⟩ ≠ w1 pf ⟨u.val - 1, by omega⟩ := by
        simp only [Pipeline.WinSpec.fetchAt, Bool.and_eq_true, Bool.or_eq_true, decide_eq_true_eq] at hfe
        rcases hfe.2 with h | ⟨h, hne⟩
        · omega
        · intro he
          apply hne
          refine (tr0 pf _).trans (Eq.trans ?_ (tr0 pf _).symm)
          rw [e u ht, e ⟨u.val - 1, _⟩ (by show u.val - 1 < 179; omega), he]
      have hu : (w1 pf ⟨u.val, ht⟩).toNat = u.val := by
        obtain ⟨n, hn⟩ : ∃ n, u.val = n + 1 := ⟨u.val - 1, by omega⟩
        have e1 : (⟨u.val, ht⟩ : Fin 179) = ⟨n + 1, by omega⟩ := Fin.ext hn
        have e2 : (⟨u.val - 1, by omega⟩ : Fin 179) = ⟨n, by omega⟩ := Fin.ext (by show u.val - 1 = n; omega)
        rw [e1, e2] at hne
        rw [e1, hn]
        by_cases h0 : (w2 pf ⟨n + 1, by omega⟩).toNat = 0
        · exact absurd (S.row_idle n (by omega) h0) hne
        · exact S.row_used n (by omega) (Nat.pos_of_ne_zero h0)
      have hle := S.rb_le u'.val ht'
      have h5 := (tr5 pf (grid0.coords u)).symm.trans (heq.symm.trans (tr5 pf (grid0.coords u')))
      have h6 : (w1 pf (grid0.coords u 0)).toNat = (w1 pf (grid0.coords u' 0)).toNat := congrFun h5 0
      rw [e u ht, e u' ht', hu] at h6
      omega

end

end Cert.Kernel2Ideal.Experts
-- ==== Proof.ExI.Points.lean ====
/- The expert call's body at a grid point as far as the weights go: what is on its way and what is held before a point,
   as the tables say, and that the point's first two stretches take the one to the other. -/
module

public import proofs.«01_k».proof.Proof.ExI.Words
public import Idealize.ShloMosaic.Lib.ValueLayout

@[expose] public section

set_option maxRecDepth 16384
set_option Elab.async false

noncomputable section

namespace Cert.Kernel2Ideal.Experts

open Cert.Kernel2Ideal Cert.Kernel2Ideal.Gen Cert.Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The expert a word names. -/
def expt (v : BitVec 32) : Fin 32 := ⟨v.toNat % 32, Nat.mod_lt _ (by decide)⟩

/-- An expert's weights, narrowed. -/
def wn0 (W6 : S32x1024x2048.Idx → Elt F .f32) (v : BitVec 32) : S1024x2048.Idx → Elt F .bf16 :=
  k0_pay1 (fun i : S1024x2048.Idx => W6 (ix3 (expt v) (i 0) (i 1)))
def wn1 (W8 : S32x1024x1024.Idx → Elt F .f32) (v : BitVec 32) : S1024x1024.Idx → Elt F .bf16 :=
  k0_pay2 (fun i : S1024x1024.Idx => W8 (ix3 (expt v) (i 0) (i 1)))

theorem we0_read (W6 : S32x1024x2048.Idx → Elt F .f32) (v : BitVec 32) (hv : v.toNat < 32) (h) :
    k0_pay1 ((we0 v h).view.read (Elt F) W6) = wn0 W6 v := by
  unfold wn0
  congr 1
  funext i
  obtain ⟨a, b, rfl⟩ : ∃ (a : Fin 1024) (b : Fin 2048), i = ix2 a b := ⟨i 0, i 1, by funext d; fin_cases d <;> rfl⟩
  refine (ValueIdx.shapeCast_1ab_ab_apply (a := 1024) (b := 2048) (hb0.view.readAt (Elt F) (Rect.unit (s := S32x1024x2048) (k0_off2 v) S1x1024x2048.size h).toLoadRect W6) _ a b).trans ?_
  show W6 _ = W6 _
  congr 1
  funext d
  apply Fin.ext
  fin_cases d
  · show v.toNat + 1 * 0 = v.toNat % 32
    omega
  · show 0 + 1 * a.val = a.val
    omega
  · show 0 + 1 * b.val = b.val
    omega
theorem we1_read (W8 : S32x1024x1024.Idx → Elt F .f32) (v : BitVec 32) (hv : v.toNat < 32) (h) :
    k0_pay2 ((we1 v h).view.read (Elt F) W8) = wn1 W8 v := by
  unfold wn1
  congr 1
  funext i
  obtain ⟨a, b, rfl⟩ : ∃ (a : Fin 1024) (b : Fin 1024), i = ix2 a b := ⟨i 0, i 1, by funext d; fin_cases d <;> rfl⟩
  refine (ValueIdx.shapeCast_1ab_ab_apply (a := 1024) (b := 1024) (hb1.view.readAt (Elt F) (Rect.unit (s := S32x1024x1024) (k0_off3 v) S1x1024x1024.size h).toLoadRect W8) _ a b).trans ?_
  show W8 _ = W8 _
  congr 1
  funext d
  apply Fin.ext
  fin_cases d
  · show v.toNat + 1 * 0 = v.toNat % 32
    omega
  · show 0 + 1 * a.val = a.val
    omega
  · show 0 + 1 * b.val = b.val
    omega

variable (c : Dev nD) (W6 : S32x1024x2048.Idx → Elt F .f32) (W8 : S32x1024x1024.Idx → Elt F .f32)

/-- What is on its way before a point: nothing before the first, then the next expert of the point before, if there is one. -/
def Pend (nxt : Fin 179 → BitVec 32) : ℕ → sProp 𝕄
  | 0 => Still c W6 W8
  | n + 1 => if h : n < 179 then (if 0 ≤ (nxt ⟨n, h⟩).toInt then Fly c W6 W8 (nxt ⟨n, h⟩) else Still c W6 W8) else Still c W6 W8

/-- What the narrow scratch buffers hold before a point: the weights of the expert of the point before. -/
def Held (be : Fin 179 → BitVec 32) : ℕ → sProp 𝕄
  | 0 => iprop((∃ f2 : S1024x2048.Idx → Elt F .bf16, sc2.view.loc (c : Thread nD τ) ↦{fullShare} f2)
      ∗ (∃ f3 : S1024x1024.Idx → Elt F .bf16, sc3.view.loc (c : Thread nD τ) ↦{fullShare} f3))
  | n + 1 => if h : n < 179 then iprop((sc2.view.loc (c : Thread nD τ) ↦{fullShare} wn0 W6 (be ⟨n, h⟩)) ∗ (sc3.view.loc (c : Thread nD τ) ↦{fullShare} wn1 W8 (be ⟨n, h⟩)))
      else iprop((∃ f2 : S1024x2048.Idx → Elt F .bf16, sc2.view.loc (c : Thread nD τ) ↦{fullShare} f2)
      ∗ (∃ f3 : S1024x1024.Idx → Elt F .bf16, sc3.view.loc (c : Thread nD τ) ↦{fullShare} f3))

variable (nxt be : Fin 179 → BitVec 32)

theorem Pend_fly (n : ℕ) (h : n < 179) (h0 : 0 ≤ (nxt ⟨n, h⟩).toInt) : Pend c W6 W8 nxt (n + 1) = Fly c W6 W8 (nxt ⟨n, h⟩) := by
  show (if h : n < 179 then _ else _) = _
  rw [dif_pos h, if_pos h0]
theorem Pend_still (n : ℕ) (h : n < 179) (h0 : ¬0 ≤ (nxt ⟨n, h⟩).toInt) : Pend c W6 W8 nxt (n + 1) = Still c W6 W8 := by
  show (if h : n < 179 then _ else _) = _
  rw [dif_pos h, if_neg h0]
theorem Held_succ (n : ℕ) (h : n < 179) : Held c W6 W8 be (n + 1)
    = iprop((sc2.view.loc (c : Thread nD τ) ↦{fullShare} wn0 W6 (be ⟨n, h⟩)) ∗ (sc3.view.loc (c : Thread nD τ) ↦{fullShare} wn1 W8 (be ⟨n, h⟩))) := by
  show (if h : n < 179 then _ else _) = _
  rw [dif_pos h]
/-- Whatever they hold. -/
theorem Held_any (n : ℕ) : Held c W6 W8 be n ⊢ iprop((∃ f2 : S1024x2048.Idx → Elt F .bf16, sc2.view.loc (c : Thread nD τ) ↦{fullShare} f2)
      ∗ (∃ f3 : S1024x1024.Idx → Elt F .bf16, sc3.view.loc (c : Thread nD τ) ↦{fullShare} f3)) := by
  cases n with
  | zero => exact .rfl
  | succ n =>
    by_cases h : n < 179
    · rw [Held_succ c W6 W8 be n h]
      iintro ⟨H2, H3⟩
      isplitl [H2]
      · iexists _; iexact H2
      · iexists _; iexact H3
    · show (if h : n < 179 then _ else _) ⊢ _
      rw [dif_neg h]

/-- The word of the fourth table. -/
theorem load3_run (i : grid0.Coords) (T : S179.Idx → Elt F .i32) (w : Elt F .i32) (e : rd (F := F) tb3 (k0_off1 i) (k0_off1_inb i) T = w)
    {k : Elt F .i32 → Prog (TpuEff nD τ sig (Elt F) Λ₀ .tc) PUnit} (K : PUnit.{1} → sProp 𝕄) :
    iprop((tb3.view.loc (c : Thread nD τ) ↦{fullShare.right} T)
      ∗ ((tb3.view.loc (c : Thread nD τ) ↦{fullShare.right} T) -∗ wp frame (wpE (defs₀ (F := F)) Variants.none c none) Set.univ (k w) K))
    ⊢ wp frame (wpE (defs₀ (F := F)) Variants.none c none) Set.univ (load3 (F := F) i >>= k) K := by
  subst e
  iintro ⟨HT, HK⟩
  unfold load3
  sl_exec!
  iapply HK
  iexact HT

/-- The word of the third table. -/
theorem load2_run (i : grid0.Coords) (T : S179.Idx → Elt F .i32) (w : Elt F .i32) (e : rd (F := F) tb2 (k0_off11 i) (k0_off11_inb i) T = w)
    {k : Elt F .i32 → Prog (TpuEff nD τ sig (Elt F) Λ₀ .tc) PUnit} (K : PUnit.{1} → sProp 𝕄) :
    iprop((tb2.view.loc (c : Thread nD τ) ↦{fullShare.right} T)
      ∗ ((tb2.view.loc (c : Thread nD τ) ↦{fullShare.right} T) -∗ wp frame (wpE (defs₀ (F := F)) Variants.none c none) Set.univ (k w) K))
    ⊢ wp frame (wpE (defs₀ (F := F)) Variants.none c none) Set.univ (load2 (F := F) i >>= k) K := by
  subst e
  iintro ⟨HT, HK⟩
  unfold load2
  sl_exec!
  iapply HK
  iexact HT

/-- The first two stretches of a point: from what is on its way and held before it to what is after it. -/
theorem stretch (T : pre0.Contents (Elt F)) (S : Sched (w0 T) (w1 T) (w2 T) (w3 T) (w4 T)) (n : ℕ) (hn : n < 179) (i : grid0.Coords) (hi : (i 0).val = n)
    (k : Prog (TpuEff nD τ sig (Elt F) Λ₀ .tc) PUnit) (K : PUnit.{1} → sProp 𝕄) (W : Waits sig Unit) :
    iprop((tb0.view.loc (c : Thread nD τ) ↦{fullShare.right} T 0) ∗ (tb3.view.loc (c : Thread nD τ) ↦{fullShare.right} T 3)
      ∗ (tb4.view.loc (c : Thread nD τ) ↦{fullShare.right} T 4)
      ∗ Pend c W6 W8 (w4 T) n ∗ Held c W6 W8 (w0 T) n ∗ owes (c : Thread nD τ) 0 W
      ∗ (((tb0.view.loc (c : Thread nD τ) ↦{fullShare.right} T 0) ∗ (tb3.view.loc (c : Thread nD τ) ↦{fullShare.right} T 3)
          ∗ (tb4.view.loc (c : Thread nD τ) ↦{fullShare.right} T 4)
          ∗ Pend c W6 W8 (w4 T) (n + 1) ∗ Held c W6 W8 (w0 T) (n + 1) ∗ (∃ W', owes (c : Thread nD τ) 0 W'))
          -∗ wp frame (wpE (defs₀ (F := F)) Variants.none c none) Set.univ k K))
    ⊢ wp frame (wpE (defs₀ (F := F)) Variants.none c none) Set.univ (seg1 (F := F) i (load3 (F := F) i >>= fun v4 => seg2 (F := F) i v4 k)) K := by
  have hi0 : (i 0 : Fin 179) = ⟨n, hn⟩ := Fin.ext hi
  have e3 : rd (F := F) tb3 (k0_off1 i) (k0_off1_inb i) (T 3) = w3 T ⟨n, hn⟩ := rd3 (F := F) (k0_off1_inb i) ⟨n, hn⟩ ((off1_val i).trans hi) (T 3)
  have e0 : rd (F := F) tb0 (k0_off4 i) (k0_off4_inb i) (T 0) = w0 T ⟨n, hn⟩ := rd0 (F := F) (k0_off4_inb i) ⟨n, hn⟩ ((off4_val i).trans hi) (T 0)
  have e7 : rd (F := F) tb4 (k0_off7 i) (k0_off7_inb i) (T 4) = w4 T ⟨n, hn⟩ := rd4 (F := F) (k0_off7_inb i) ⟨n, hn⟩ ((off7_val i).trans hi) (T 4)
  have e8 : rd (F := F) tb4 (k0_off8 i) (k0_off8_inb i) (T 4) = w4 T ⟨n, hn⟩ := rd4 (F := F) (k0_off8_inb i) ⟨n, hn⟩ ((off8_val i).trans hi) (T 4)
  have e00 : rd (F := F) tb0 ![0] inb_S179_S1_0 (T 0) = w0 T ⟨0, by decide⟩ := rd0 (F := F) inb_S179_S1_0 ⟨0, by decide⟩ rfl (T 0)
  have hbe := S.be_lt ⟨n, hn⟩
  have o2 : ∀ v : BitVec 32, v.toNat < 32 → ∀ a, k0_off2 v a + S1x1024x2048.size a ≤ S32x1024x2048.size a := off2_ok S
  have o3 : ∀ v : BitVec 32, v.toNat < 32 → ∀ a, k0_off3 v a + S1x1024x1024.size a ≤ S32x1024x1024.size a := off3_ok S
  -- the second stretch, where an expert's blocks begin
  have hfirst : ∀ v4 : Elt F .i32, k0_cond2 v4 = 1#1 →
      iprop((tb0.view.loc (c : Thread nD τ) ↦{fullShare.right} T 0) ∗ (tb4.view.loc (c : Thread nD τ) ↦{fullShare.right} T 4)
        ∗ Fly c W6 W8 (w0 T ⟨n, hn⟩) ∗ Held c W6 W8 (w0 T) n ∗ owes (c : Thread nD τ) 0 W
        ∗ (((tb0.view.loc (c : Thread nD τ) ↦{fullShare.right} T 0) ∗ (tb4.view.loc (c : Thread nD τ) ↦{fullShare.right} T 4)
          ∗ Pend c W6 W8 (w4 T) (n + 1) ∗ Held c W6 W8 (w0 T) (n + 1) ∗ (∃ W', owes (c : Thread nD τ) 0 W'))
          -∗ wp frame (wpE (defs₀ (F := F)) Variants.none c none) Set.univ k K))
      ⊢ wp frame (wpE (defs₀ (F := F)) Variants.none c none) Set.univ (seg2 (F := F) i v4 k) K := by
    intro v4 hv
    have c2 : k0_chk2 v4 (rd (F := F) tb0 (k0_off4 i) (k0_off4_inb i) (T 0)) := by rw [e0]; exact ⟨fun _ => o2 _ hbe, fun _ => o3 _ hbe⟩
    iintro ⟨H0, H4, HF, HH, HO, HK⟩
    ihave HH' := (Held_any c W6 W8 (w0 T) n) $$ HH
    icases HH' with ⟨H2, H3⟩
    by_cases h0 : 0 ≤ (w4 T ⟨n, hn⟩).toInt
    · have hl : (w4 T ⟨n, hn⟩).toNat < 32 := by
        have := S.nxt_lt ⟨n, hn⟩
        rw [BitVec.toInt_eq_toNat_cond] at h0 this
        split at h0 <;> omega
      have h3 : k0_cond3 (rd (F := F) tb4 (k0_off7 i) (k0_off7_inb i) (T 4)) = 1#1 := by rw [e7]; exact (cond3_iff _).2 h0
      have c3 : k0_chk3 v4 (rd (F := F) tb4 (k0_off7 i) (k0_off7_inb i) (T 4)) (rd (F := F) tb4 (k0_off8 i) (k0_off8_inb i) (T 4)) := by
        rw [e8]; exact ⟨fun _ _ => o2 _ hl, fun _ _ => o3 _ hl⟩
      iapply (seg2_next c i k (T 0) (T 4) W6 W8 K v4 hv (w0 T ⟨n, hn⟩) c2 h3 c3 W)
      isplitl [H0]; · iexact H0
      isplitl [H4]; · iexact H4
      isplitl [HF]; · iexact HF
      isplitl [H2]; · iexact H2
      isplitl [H3]; · iexact H3
      isplitl [HO]; · iexact HO
      iintro ⟨H0, H4, HF, ⟨%h20, %g2, %hg2, H2⟩, ⟨%h30, %g3, %hg3, H3⟩, HO⟩
      rw [we0_read W6 _ hbe] at hg2
      rw [we1_read W8 _ hbe] at hg3
      subst hg2 hg3
      rw [e8]
      iapply HK
      isplitl [H0]; · iexact H0
      isplitl [H4]; · iexact H4
      rw [Pend_fly c W6 W8 (w4 T) n hn h0, Held_succ c W6 W8 (w0 T) n hn]
      isplitl [HF]; · iexact HF
      isplitl [H2 H3]
      · isplitl [H2]
        · iexact H2
        · iexact H3
      iexact HO
    · have h3 : ¬k0_cond3 (rd (F := F) tb4 (k0_off7 i) (k0_off7_inb i) (T 4)) = 1#1 := by rw [e7]; exact fun h => h0 ((cond3_iff _).1 h)
      have c3 : ∀ w, k0_chk3 v4 (rd (F := F) tb4 (k0_off7 i) (k0_off7_inb i) (T 4)) w := fun w => ⟨fun _ h => absurd h h3, fun _ h => absurd h h3⟩
      iapply (seg2_last c i k (T 0) (T 4) W6 W8 K v4 hv (w0 T ⟨n, hn⟩) c2 h3 c3 W)
      isplitl [H0]; · iexact H0
      isplitl [H4]; · iexact H4
      isplitl [HF]; · iexact HF
      isplitl [H2]; · iexact H2
      isplitl [H3]; · iexact H3
      isplitl [HO]; · iexact HO
      iintro ⟨H0, H4, HF, ⟨%h20, %g2, %hg2, H2⟩, ⟨%h30, %g3, %hg3, H3⟩, HO⟩
      rw [we0_read W6 _ hbe] at hg2
      rw [we1_read W8 _ hbe] at hg3
      subst hg2 hg3
      iapply HK
      isplitl [H0]; · iexact H0
      isplitl [H4]; · iexact H4
      rw [Pend_still c W6 W8 (w4 T) n hn h0, Held_succ c W6 W8 (w0 T) n hn]
      isplitl [HF]; · iexact HF
      isplitl [H2 H3]
      · isplitl [H2]
        · iexact H2
        · iexact H3
      iexact HO
  rcases Nat.eq_zero_or_pos n with h0 | hpos
  · -- the first point
    subst h0
    have c1 : k0_cond1 i = 1#1 := (cond1_iff i).2 hi
    have k1 : k0_chk1 i (rd (F := F) tb0 ![0] inb_S179_S1_0 (T 0)) := by rw [e00]; exact ⟨fun _ => o2 _ hbe, fun _ => o3 _ hbe⟩
    rw [show Pend c W6 W8 (w4 T) 0 = Still c W6 W8 from rfl]
    iintro ⟨H0, H3, H4, HP, HH, HO, HK⟩
    iapply (seg1_first c i _ (T 0) W6 W8 K c1 k1)
    isplitl [H0]; · iexact H0
    isplitl [HP]; · iexact HP
    iintro ⟨H0, HF⟩
    rw [e00]
    iapply (load3_run c i (T 3) _ e3 K)
    isplitl [H3]; · iexact H3
    iintro H3
    iapply (hfirst _ ((cond2_iff _).2 S.first_zero))
    isplitl [H0]; · iexact H0
    isplitl [H4]; · iexact H4
    isplitl [HF]; · iexact HF
    isplitl [HH]; · iexact HH
    isplitl [HO]; · iexact HO
    iintro ⟨H0, H4, HP, HH, HO⟩
    iapply HK
    isplitl [H0]; · iexact H0
    isplitl [H3]; · iexact H3
    isplitl [H4]; · iexact H4
    isplitl [HP]; · iexact HP
    isplitl [HH]; · iexact HH
    iexact HO
  · obtain ⟨p, rfl⟩ : ∃ p, n = p + 1 := ⟨n - 1, by omega⟩
    have c1 : ¬k0_cond1 i = 1#1 := fun h => by have := (cond1_iff i).1 h; omega
    by_cases hf : w3 T ⟨p + 1, hn⟩ = 1#32
    · have hx : w4 T ⟨p, by omega⟩ = w0 T ⟨p + 1, hn⟩ := S.run_first p (by omega) hf
      have h0 : 0 ≤ (w4 T ⟨p, by omega⟩).toInt := by
        rw [hx, BitVec.toInt_eq_toNat_cond]
        split <;> omega
      rw [Pend_fly c W6 W8 (w4 T) p (by omega) h0, hx]
      iintro ⟨H0, H3, H4, HP, HH, HO, HK⟩
      iapply (seg1_rest c i _ K c1)
      iapply (load3_run c i (T 3) _ e3 K)
      isplitl [H3]; · iexact H3
      iintro H3
      iapply (hfirst _ ((cond2_iff _).2 hf))
      isplitl [H0]; · iexact H0
      isplitl [H4]; · iexact H4
      isplitl [HP]; · iexact HP
      isplitl [HH]; · iexact HH
      isplitl [HO]; · iexact HO
      iintro ⟨H0, H4, HP, HH, HO⟩
      iapply HK
      isplitl [H0]; · iexact H0
      isplitl [H3]; · iexact H3
      isplitl [H4]; · iexact H4
      isplitl [HP]; · iexact HP
      isplitl [HH]; · iexact HH
      iexact HO
    · obtain ⟨hx, hb⟩ := S.run_rest p (by omega) hf
      have hP : Pend c W6 W8 (w4 T) (p + 1) = Pend c W6 W8 (w4 T) (p + 1 + 1) := by
        by_cases h0 : 0 ≤ (w4 T ⟨p, by omega⟩).toInt
        · rw [Pend_fly c W6 W8 (w4 T) p (by omega) h0, Pend_fly c W6 W8 (w4 T) (p + 1) hn (hx ▸ h0), hx]
        · rw [Pend_still c W6 W8 (w4 T) p (by omega) h0, Pend_still c W6 W8 (w4 T) (p + 1) hn (hx ▸ h0)]
      have hH : Held c W6 W8 (w0 T) (p + 1) = Held c W6 W8 (w0 T) (p + 1 + 1) := by
        rw [Held_succ c W6 W8 (w0 T) p (by omega), Held_succ c W6 W8 (w0 T) (p + 1) hn, hb]
      rw [hP, hH]
      iintro ⟨H0, H3, H4, HP, HH, HO, HK⟩
      iapply (seg1_rest c i _ K c1)
      iapply (load3_run c i (T 3) _ e3 K)
      isplitl [H3]; · iexact H3
      iintro H3
      iapply (seg2_rest c i k K _ (fun h => hf ((cond2_iff _).1 h)))
      iapply HK
      isplitl [H0]; · iexact H0
      isplitl [H3]; · iexact H3
      isplitl [H4]; · iexact H4
      isplitl [HP]; · iexact HP
      isplitl [HH]; · iexact HH
      iexists W
      iexact HO

end Cert.Kernel2Ideal.Experts
-- ==== Proof.ExI.Frame.lean ====
/- The expert call's run: at tables in order, every weakly fair execution ends with the arguments as they were, every
   semaphore at zero, and each array as the pipeline's data says. -/
module

public import proofs.«01_k».proof.Proof.ExI.Points

@[expose] public section

set_option maxRecDepth 16384
set_option Elab.async false

noncomputable section

namespace Cert.Kernel2Ideal.Experts

open Cert.Kernel2Ideal Cert.Kernel2Ideal.Gen Cert.Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables as launched. -/
def tabs : pre0.Contents (Elt F) := fun k => m (((0 : Dev nD) : Thread nD τ).loc (pre0.ref k))

/-- The tables are in order. -/
abbrev Ordered : Prop := Sched (w0 (tabs m)) (w1 (tabs m)) (w2 (tabs m)) (w3 (tabs m)) (w4 (tabs m))

variable (S : Ordered m)

/-- The pipeline at these tables. -/
def adm : (pcfg0 (F := F)).Adm := ⟨tabs m, ok S⟩
abbrev cfgA : Pipeline.Cfg sig Λ₀ := cfg0 (F := F) (adm m S)
abbrev pcs : Fin 1 → Pipeline.Cfg sig Λ₀ := Pipeline.pin (pcfgs (F := F)) fun _ => adm m S

/-! ## Up to the region -/

/-- The buffers when the region is entered. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor
abbrev hostOps0_W : List (Ref sig .tc) := [main_v0]
theorem hostOps0_writes : ((hostOps0 (F := F)) : List (HloOp τ sig (Elt F))).Forall fun op => op.writes ⊆ (hostOps0_W.map (Proc.devRef (τ := τ) .tc)).toFinset :=
  StableHlo.forall_writes_sub_of_map rfl

set_option maxHeartbeats 800000 in
theorem hmain : Pipeline.HMainP (Ix := Unit) (Name := ℕ) (U := Pipeline.UD sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_arg (c : Dev nD) (b : Ref sig .tc) (h : b ∉ hostOps0_W) : V m c b = m ((c : Thread nD τ).loc b) :=
  StableHlo.after_of_writes_sub (hostOps0 (F := F)) _ hostOps0_writes h

/-! ## A point -/

abbrev crd (t : Fin (cfgA m S).N) : (cfgA m S).grid.Coords := (cfgA m S).grid.coords t
abbrev ms0 (t : Fin (cfgA m S).N) : Memref sig .tc .vmem S512x1024 .f32 := spec0_0.stage ((cfgA m S).slots t (0 : Fin 4))
abbrev hs0 (t : Fin (cfgA m S).N) : (ms0 m S t).IsWhole := hstage0_0 (((cfgA m S).slots t (0 : Fin 4)).cast nbuf0_0)
abbrev ms1 (t : Fin (cfgA m S).N) : Memref sig .tc .vmem S1x1x2048 .f32 := spec0_1.stage ((cfgA m S).slots t (1 : Fin 4))
abbrev hs1 (t : Fin (cfgA m S).N) : (ms1 m S t).IsWhole := hstage0_1 (((cfgA m S).slots t (1 : Fin 4)).cast nbuf0_1)
abbrev ms2 (t : Fin (cfgA m S).N) : Memref sig .tc .vmem S1x1x1024 .f32 := spec0_2.stage ((cfgA m S).slots t (2 : Fin 4))
abbrev hs2 (t : Fin (cfgA m S).N) : (ms2 m S t).IsWhole := hstage0_2 (((cfgA m S).slots t (2 : Fin 4)).cast nbuf0_2)
abbrev ms3 (t : Fin (cfgA m S).N) : Memref sig .tc .vmem S512x1024 .f32 := spec0_3.stage ((cfgA m S).slots t (3 : Fin 4))
abbrev hs3 (t : Fin (cfgA m S).N) : (ms3 m S t).IsWhole := hstage0_3 (((cfgA m S).slots t (3 : Fin 4)).cast nbuf0_3)

theorem ltN (t : Fin (cfgA m S).N) : t.val < 179 := t.isLt.trans_eq N_0
/-- A point's place in the tables. -/
abbrev pl (t : Fin (cfgA m S).N) : Fin 179 := ⟨t.val, ltN m S t⟩
theorem crd_pl (t : Fin (cfgA m S).N) : (crd m S t 0 : Fin 179) = pl m S t := Fin.ext (crd0 t)

/-- Window `w`'s block at point `t`, read off its array as the region finds it. -/
def iblk (c : Dev nD) (w : Fin (cfgA m S).W) (t : Fin (cfgA m S).N) : (((cfgA m S).win w).xblock (crd m S t)).Idx → Elt F ((cfgA m S).win w).elt :=
  (((cfgA m S).win w).blk t).view.read (Elt F) (V m c (Pipeline.arrRef spec0 w))

/-- The experts' weights. -/
abbrev W6 (c : Dev nD) : S32x1024x2048.Idx → Elt F .f32 := V m c main_arg6
abbrev W8 (c : Dev nD) : S32x1024x1024.Idx → Elt F .f32 := V m c main_arg8

/-- The block a point writes: the rows its inputs give, the first 256 of them or all. -/
def resAt (c : Dev nD) (t : Fin (cfgA m S).N) : S512x1024.Idx → Elt F .f32 :=
  if (w2 (tabs m) (pl m S t)).toNat ≤ 256 then
    outHalf (iblk m S c (0 : Fin 4) t) (wn0 (W6 m c) (w0 (tabs m) (pl m S t))) (iblk m S c (1 : Fin 4) t) (wn1 (W8 m c) (w0 (tabs m) (pl m S t))) (iblk m S c (2 : Fin 4) t)
  else
    k0_pay5 (iblk m S c (0 : Fin 4) t) (wn0 (W6 m c) (w0 (tabs m) (pl m S t))) (iblk m S c (1 : Fin 4) t) (wn1 (W8 m c) (w0 (tabs m) (pl m S t))) (iblk m S c (2 : Fin 4) t)

/-- The last point up to `t` that writes. -/
def act (t : Fin (cfgA m S).N) : Fin (cfgA m S).N :=
  ⟨(w1 (tabs m) (pl m S t)).toNat, lt_of_le_of_lt (S.rb_le t.val (ltN m S t)) t.isLt⟩

theorem act_used (t : Fin (cfgA m S).N) (h : 0 < (w2 (tabs m) (pl m S t)).toNat) : act m S t = t :=
  Fin.ext (S.rb_used t.val (ltN m S t) h)
theorem act_idle (t : Fin (cfgA m S).N) (ht : t.val ≠ 0) (h : (w2 (tabs m) (pl m S t)).toNat = 0) : act m S t = act m S ⟨t.val - 1, by omega⟩ := by
  have hN := ltN m S t
  obtain ⟨n, hn⟩ : ∃ n, t.val = n + 1 := ⟨t.val - 1, by omega⟩
  have e1 : pl m S t = ⟨n + 1, by omega⟩ := Fin.ext hn
  have e2 : pl m S ⟨t.val - 1, by omega⟩ = ⟨n, by omega⟩ := Fin.ext (by show t.val - 1 = n; omega)
  apply Fin.ext
  show (w1 (tabs m) (pl m S t)).toNat = (w1 (tabs m) (pl m S ⟨t.val - 1, _⟩)).toNat
  rw [e1] at h
  rw [e1, e2, S.row_idle n (by omega) h]

/-- The invariant before a point. -/
def Phi (c : Dev nD) (n : ℕ) : sProp 𝕄 :=
  iprop(Pend c (W6 m c) (W8 m c) (w4 (tabs m)) n ∗ Held c (W6 m c) (W8 m c) (w0 (tabs m)) n
    ∗ (tb0.view.loc (c : Thread nD τ) ↦{fullShare.right} tabs m 0) ∗ (tb1.view.loc (c : Thread nD τ) ↦{fullShare.right} tabs m 1)
    ∗ (tb2.view.loc (c : Thread nD τ) ↦{fullShare.right} tabs m 2) ∗ (tb3.view.loc (c : Thread nD τ) ↦{fullShare.right} tabs m 3)
    ∗ (tb4.view.loc (c : Thread nD τ) ↦{fullShare.right} tabs m 4) ∗ (∃ r, prngReg c r))

/-- The pipeline's data. -/
def dats (_ : Fin 1) (c : Dev nD) : Dat τ (Elt F) Unit ℕ (Pipeline.UD sig nD τ) ℕ (cfgA m S) c where
  A w := V m c (Pipeline.arrRef spec0 w)
  after w t := match w with
    | ⟨0, _⟩ => iblk m S c (0 : Fin 4) t
    | ⟨1, _⟩ => iblk m S c (1 : Fin 4) t
    | ⟨2, _⟩ => iblk m S c (2 : Fin 4) t
    | ⟨3, _⟩ => resAt m S c (act m S t)
  Φ t := Phi m c t.val
  q _ := fullShare
  owed _ := 0

theorem after0 (c : Dev nD) (t : Fin (cfgA m S).N) : (dats m S 0 c).after (0 : Fin 4) t = iblk m S c (0 : Fin 4) t := rfl
theorem after1 (c : Dev nD) (t : Fin (cfgA m S).N) : (dats m S 0 c).after (1 : Fin 4) t = iblk m S c (1 : Fin 4) t := rfl
theorem after2 (c : Dev nD) (t : Fin (cfgA m S).N) : (dats m S 0 c).after (2 : Fin 4) t = iblk m S c (2 : Fin 4) t := rfl
theorem after3 (c : Dev nD) (t : Fin (cfgA m S).N) : (dats m S 0 c).after (3 : Fin 4) t = resAt m S c (act m S t) := rfl

theorem before0 (c : Dev nD) (t : Fin (cfgA m S).N) (d) : (dats m S 0 c).before (0 : Fin 4) t d = iblk m S c (0 : Fin 4) t :=
  ((dats m S 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA m S).N) (d) : (dats m S 0 c).before (1 : Fin 4) t d = iblk m S c (1 : Fin 4) t :=
  ((dats m S 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA m S).N) (d) : (dats m S 0 c).before (2 : Fin 4) t d = iblk m S c (2 : Fin 4) t :=
  ((dats m S 0 c).before_in_eq_fetched (2 : Fin 4) rfl (fun _ => rfl) (fun _ _ _ => rfl) (fun t => by rw [after2]; unfold Dat.blockOf iblk; rfl) t d).trans
    (by unfold Dat.fetched Dat.blockOf iblk; rfl)

/-- A point stores nothing exactly where no row is in use. -/
theorem idle_eq (t : Fin (cfgA m S).N) : (cfgA m S).idle (3 : Fin 4) ((cfgA m S).grid.coords t) = decide ((w2 (tabs m) (pl m S t)).toNat = 0) := by
  have hu := S.used_le (pl m S t)
  have e : (tabs m).atD 2 (k0_off11 (crd m S t)) = w2 (tabs m) (pl m S t) := (atD2 (tabs m) (crd m S t)).trans (congrArg (w2 (tabs m)) (crd_pl m S t))
  show (!(k0_cond4 ((tabs m).atD 2 (k0_off11 (crd m S t))) == 1#1) && !(k0_cond5 ((tabs m).atD 2 (k0_off11 (crd m S t))) == 1#1)) = _
  rw [e]
  have h4 := cond4_iff _ hu
  have h5 := cond5_iff _ hu
  by_cases h : (w2 (tabs m) (pl m S t)).toNat = 0
  · have n4 : ¬k0_cond4 (w2 (tabs m) (pl m S t)) = 1#1 := fun hh => by have := h4.1 hh; omega
    have n5 : ¬k0_cond5 (w2 (tabs m) (pl m S t)) = 1#1 := fun hh => by have := h5.1 hh; omega
    rw [decide_eq_true h, beq_eq_false_iff_ne.2 n4, beq_eq_false_iff_ne.2 n5]; rfl
  · rw [decide_eq_false h]
    by_cases hh : (w2 (tabs m) (pl m S t)).toNat ≤ 256
    · rw [beq_iff_eq.2 (h4.2 ⟨by omega, hh⟩)]; rfl
    · rw [beq_iff_eq.2 (h5.2 (by omega))]
      cases (!(k0_cond4 (w2 (tabs m) (pl m S t)) == 1#1)) <;> rfl

/-- Where the next point stores nothing, the block is not written back yet. -/
theorem flush_of_idle (n : ℕ) (h : n + 1 < (cfgA m S).N) (hu : (w2 (tabs m) ⟨n + 1, h.trans_eq N_0⟩).toNat = 0) :
    ((cfgA m S).win (3 : Fin 4)).flush ⟨n, Nat.lt_of_succ_lt h⟩ = false := by
  have hn : n + 1 < 179 := h.trans_eq N_0
  have hr := S.row_idle n hn hu
  unfold Window.flush
  have hix : ((cfgA m S).win (3 : Fin 4)).index ⟨n + 1, h⟩ = ((cfgA m S).win (3 : Fin 4)).index ⟨n, Nat.lt_of_succ_lt h⟩ := by
    refine (tr5 (tabs m) (crd m S ⟨n + 1, h⟩)).trans (Eq.trans ?_ (tr5 (tabs m) (crd m S ⟨n, Nat.lt_of_succ_lt h⟩)).symm)
    rw [crd_pl, crd_pl]
    show ![(w1 (tabs m) ⟨n + 1, hn⟩).toNat, 0] = ![(w1 (tabs m) ⟨n, _⟩).toNat, 0]
    rw [hr]
  have h1 : ¬(n + 1 = (cfgA m S).grid.N) := fun e => absurd h (by rw [show (cfgA m S).N = n + 1 from e.symm]; exact lt_irrefl _)
  simp only [Bool.and_eq_false_iff, Bool.or_eq_false_iff, decide_eq_false_iff_not]
  refine .inr ⟨h1, fun ⟨_, hne⟩ => hne hix⟩

/-- At a point that stores nothing the buffer holds what the point before left. -/
theorem fresh_idle (n : ℕ) (h : n < (cfgA m S).N) (hu : (w2 (tabs m) ⟨n, h.trans_eq N_0⟩).toNat = 0) : (cfgA m S).fresh (3 : Fin 4) n = false := by
  induction n with
  | zero => exact absurd hu (Nat.pos_iff_ne_zero.1 S.used_zero)
  | succ n ih =>
    have hn : n < (cfgA m S).N := Nat.lt_of_succ_lt h
    rw [Pipeline.Cfg.fresh_succ _ _ n hn, flush_of_idle m S n h hu, idle_eq, Bool.false_or]
    by_cases hu' : (w2 (tabs m) (pl m S ⟨n, hn⟩)).toNat = 0
    · rw [ih hn hu', Bool.and_false]
    · rw [decide_eq_false hu', Bool.false_and]

theorem hcarry (c : Dev nD) : ∀ (t : Fin (cfgA m S).N) (ht : t.val ≠ 0), (cfgA m S).idle (3 : Fin 4) ((cfgA m S).grid.coords t) = true → (cfgA m S).fresh (3 : Fin 4) t.val = false →
    (dats m S 0 c).after (3 : Fin 4) t = (dats m S 0 c).after (3 : Fin 4) ⟨t.val - 1, by omega⟩ := by
  intro t ht hi _
  rw [idle_eq, decide_eq_true_eq] at hi
  rw [after3, after3, act_idle m S t ht hi]

theorem before3_idle (c : Dev nD) (t : Fin (cfgA m S).N) (d) (hu : (w2 (tabs m) (pl m S t)).toNat = 0) :
    (dats m S 0 c).before (3 : Fin 4) t d = resAt m S c (act m S t) := by
  have ht : t.val ≠ 0 := fun h => by
    have : pl m S t = 0 := Fin.ext h
    rw [this] at hu
    exact absurd hu (Nat.pos_iff_ne_zero.1 S.used_zero)
  rw [(dats m S 0 c).before_out_traj (3 : Fin 4) rfl (fun _ _ => rfl) (hcarry m S c) t.val t rfl d, fresh_idle m S t.val t.isLt hu, after3, act_idle m S t ht hu]
  rfl

/-! ## The body at a point -/

abbrev bodyAt (t : Fin (cfgA m S).N) : Prog (TpuEff nD τ sig (Elt F) Λ₀ .tc) PUnit :=
  cc0_experts (F := F) (crd m S t) tb0 (Memref.isWhole_whole _) tb1 (Memref.isWhole_whole _) tb2 (Memref.isWhole_whole _) tb3 (Memref.isWhole_whole _) tb4 (Memref.isWhole_whole _)
    (ms0 m S t) (hs0 m S t) hb0 (Memref.isWhole_whole _) (ms1 m S t) (hs1 m S t) hb1 (Memref.isWhole_whole _) (ms2 m S t) (hs2 m S t) (ms3 m S t) (hs3 m S t)
    sc0 (Memref.isWhole_whole _) sc1 (Memref.isWhole_whole _) sc2 (Memref.isWhole_whole _) sc3 (Memref.isWhole_whole _) cc0_scratch4

set_option maxHeartbeats 4000000 in
/-- The body up to its rows: what is left to show is the third stretch, from what the point holds then. -/
theorem upto (c : Dev nD) (t : Fin (cfgA m S).N) (W : Waits sig Unit) (K : PUnit.{1} → sProp 𝕄) :
    iprop(Phi m c t.val ∗ owes (c : Thread nD τ) 0 W
      ∗ (((sc2.view.loc (c : Thread nD τ) ↦{fullShare} wn0 (W6 m c) (w0 (tabs m) (pl m S t))) ∗ (sc3.view.loc (c : Thread nD τ) ↦{fullShare} wn1 (W8 m c) (w0 (tabs m) (pl m S t)))
          ∗ (((sc2.view.loc (c : Thread nD τ) ↦{fullShare} wn0 (W6 m c) (w0 (tabs m) (pl m S t))) ∗ (sc3.view.loc (c : Thread nD τ) ↦{fullShare} wn1 (W8 m c) (w0 (tabs m) (pl m S t)))) -∗ Phi m c (t.val + 1))
          ∗ (∃ W', owes (c : Thread nD τ) 0 W'))
        -∗ wp frame (wpE (defs₀ (F := F)) Variants.none c none) Set.univ (seg3 (F := F) (crd m S t) (ms0 m S t) (ms1 m S t) (ms2 m S t) (ms3 m S t) (w2 (tabs m) (pl m S t))) K))
    ⊢ wp frame (wpE (defs₀ (F := F)) Variants.none c none) Set.univ (bodyAt m S t) K := by
  have e2 : rd (F := F) tb2 (k0_off11 (crd m S t)) (k0_off11_inb (crd m S t)) (tabs m 2) = w2 (tabs m) (pl m S t) :=
    rd2 (F := F) (k0_off11_inb (crd m S t)) (pl m S t) ((off11_val (crd m S t)).trans (crd0 t)) (tabs m 2)
  rw [show bodyAt m S t = _ from body_eq (F := F) (crd m S t) (ms0 m S t) (hs0 m S t) (ms1 m S t) (hs1 m S t) (ms2 m S t) (hs2 m S t) (ms3 m S t) (hs3 m S t)]
  unfold Phi
  iintro ⟨⟨HP, HH, H0, H1, H2, H3, H4, HR⟩, HO, HK⟩
  iapply (stretch c (W6 m c) (W8 m c) (tabs m) S t.val (ltN m S t) (crd m S t) (crd0 t) _ K W)
  isplitl [H0]; · iexact H0
  isplitl [H3]; · iexact H3
  isplitl [H4]; · iexact H4
  isplitl [HP]; · iexact HP
  isplitl [HH]; · iexact HH
  isplitl [HO]; · iexact HO
  rw [Held_succ c (W6 m c) (W8 m c) (w0 (tabs m)) t.val (ltN m S t)]
  iintro ⟨H0, H3, H4, HP, ⟨HS2, HS3⟩, HO⟩
  iapply (load2_run c (crd m S t) (tabs m 2) _ e2 K)
  isplitl [H2]; · iexact H2
  iintro H2
  iapply HK
  isplitl [HS2]; · iexact HS2
  isplitl [HS3]; · iexact HS3
  isplitl [HP H0 H1 H2 H3 H4 HR]
  · iintro ⟨HS2, HS3⟩
    isplitl [HP]; · iexact HP
    isplitl [HS2 HS3]
    · isplitl [HS2]
      · iexact HS2
      · iexact HS3
    isplitl [H0]; · iexact H0
    isplitl [H1]; · iexact H1
    isplitl [H2]; · iexact H2
    isplitl [H3]; · iexact H3
    isplitl [H4]; · iexact H4
    iexact HR
  iexact HO

theorem owesAt_elim (c : Dev nD) (t) : (dats m S 0 c).owesAt () t ⊢ iprop(∃ W, owes (c : Thread nD τ) 0 W : sProp 𝕄) := by
  unfold Dat.owesAt Pipeline.owesWithin
  rw [show (dats m S 0 c).owed t = 0 from rfl]
  iintro ⟨%W, -, HW⟩
  iexists W
  iexact HW
theorem owesAt_intro (c : Dev nD) (t) : iprop(∃ W, owes (c : Thread nD τ) 0 W : sProp 𝕄) ⊢ (dats m S 0 c).owesAt () t := by
  unfold Dat.owesAt Pipeline.owesWithin
  rw [show (dats m S 0 c).owed t = 0 from rfl]
  iintro ⟨%W, HW⟩
  iexists W
  isplitr
  · ipureintro; exact fun _ _ => Or.inl trivial
  iexact HW

set_option maxHeartbeats 4000000 in
theorem sound_body (c : Dev nD) (t : Fin (cfgA m S).N) :
    iprop((dats m S 0 c).Φ t.castSucc ∗ (dats m S 0 c).owesAt () t.castSucc
        ∗ (∃ d, owns (c : Thread nD τ) (ms0 m S t) fullShare ((dats m S 0 c).before (0 : Fin 4) t d))
        ∗ (∃ d, owns (c : Thread nD τ) (ms1 m S t) fullShare ((dats m S 0 c).before (1 : Fin 4) t d))
        ∗ (∃ d, owns (c : Thread nD τ) (ms2 m S t) fullShare ((dats m S 0 c).before (2 : Fin 4) t d))
        ∗ (∃ d, owns (c : Thread nD τ) (ms3 m S t) fullShare ((dats m S 0 c).before (3 : Fin 4) t d)))
      ⊢ wp frame (wpE (defs₀ (F := F)) Variants.none c none) Set.univ (bodyAt m S t) fun _ =>
          iprop((dats m S 0 c).Φ t.succ ∗ (dats m S 0 c).owesAt () t.succ
            ∗ bigSep Finset.univ fun w : Fin (cfgA m S).W =>
                match (cfgA m S).idle w ((cfgA m S).grid.coords t) with
                | true =>
                  match ((cfgA m S).win w).flush t with
                  | false => iprop(∃ d, owns (c : Thread nD τ) (((cfgA m S).win w).stage ((cfgA m S).slots t w)) fullShare ((dats m S 0 c).before w t d))
                  | true => owns (c : Thread nD τ) (((cfgA m S).win w).stage ((cfgA m S).slots t w)) fullShare ((dats m S 0 c).after w t)
                | false => owns (c : Thread nD τ) (((cfgA m S).win w).stage ((cfgA m S).slots t w)) fullShare ((dats m S 0 c).after w t)) := by
  rw [bigSep_W0]
  have hu := S.used_le (pl m S t)
  by_cases h0 : (w2 (tabs m) (pl m S t)).toNat = 0
  · -- no row in use
    have n4 : ¬k0_cond4 (w2 (tabs m) (pl m S t)) = 1#1 := fun hh => by have := (cond4_iff _ hu).1 hh; omega
    have n5 : ¬k0_cond5 (w2 (tabs m) (pl m S t)) = 1#1 := fun hh => by have := (cond5_iff _ hu).1 hh; omega
    have i3 : (cfgA m S).idle (3 : Fin 4) ((cfgA m S).grid.coords t) = true := by rw [idle_eq, decide_eq_true h0]
    rewrite [i3]
    cases hfl : ((cfgA m S).win (3 : Fin 4)).flush t <;>
    · simp only [before0, before1, before2, after0, after1, after2, after3, before3_idle m S c t _ h0]
      rewrite [show (dats m S 0 c).Φ t.succ = Phi m c (t.val + 1) from rfl, show (dats m S 0 c).Φ t.castSucc = Phi m c t.val from rfl]
      iintro ⟨HΦ, HO, ⟨%d0, H0⟩, ⟨%d1, H1⟩, ⟨%d2, H2⟩, ⟨%d3, H3⟩⟩
      ihave HO' := (owesAt_elim m S c t.castSucc) $$ HO
      icases HO' with ⟨%W, HO⟩
      iapply (upto m S c t W _)
      isplitl [HΦ]; · iexact HΦ
      isplitl [HO]; · iexact HO
      iintro ⟨HS2, HS3, HΦ, HO⟩
      iapply (seg3_idle c (crd m S t) _ (ms0 m S t) (ms1 m S t) (ms2 m S t) (ms3 m S t) _ n4 n5)
      isplitl [HΦ HS2 HS3]
      · iapply HΦ
        isplitl [HS2]
        · iexact HS2
        · iexact HS3
      isplitl [HO]
      · iapply (owesAt_intro m S c t.succ)
        iexact HO
      isplitl [H0]; · iexact H0
      isplitl [H1]; · iexact H1
      isplitl [H2]; · iexact H2
      first | iexact H3 | (iexists d3; iexact H3)
  · have i3 : (cfgA m S).idle (3 : Fin 4) ((cfgA m S).grid.coords t) = false := by rw [idle_eq, decide_eq_false h0]
    rewrite [i3]
    by_cases hh : (w2 (tabs m) (pl m S t)).toNat ≤ 256
    · have y4 : k0_cond4 (w2 (tabs m) (pl m S t)) = 1#1 := (cond4_iff _ hu).2 ⟨by omega, hh⟩
      have n5 : ¬k0_cond5 (w2 (tabs m) (pl m S t)) = 1#1 := fun hx => by have := (cond5_iff _ hu).1 hx; omega
      have hr : resAt m S c t = outHalf (iblk m S c (0 : Fin 4) t) (wn0 (W6 m c) (w0 (tabs m) (pl m S t))) (iblk m S c (1 : Fin 4) t) (wn1 (W8 m c) (w0 (tabs m) (pl m S t))) (iblk m S c (2 : Fin 4) t) := if_pos hh
      simp only [before0, before1, before2, after0, after1, after2, after3, act_used m S t (Nat.pos_of_ne_zero h0), hr]
      rewrite [show (dats m S 0 c).Φ t.succ = Phi m c (t.val + 1) from rfl, show (dats m S 0 c).Φ t.castSucc = Phi m c t.val from rfl]
      iintro ⟨HΦ, HO, ⟨%d0, H0⟩, ⟨%d1, H1⟩, ⟨%d2, H2⟩, ⟨%d3, H3⟩⟩
      ihave HO' := (owesAt_elim m S c t.castSucc) $$ HO
      icases HO' with ⟨%W, HO⟩
      iapply (upto m S c t W _)
      isplitl [HΦ]; · iexact HΦ
      isplitl [HO]; · iexact HO
      iintro ⟨HS2, HS3, HΦ, HO⟩
      iapply (seg3_half c (crd m S t) _ (ms0 m S t) (ms1 m S t) (ms2 m S t) (ms3 m S t) _ y4 n5)
      isplitl [H0]; · iexact H0
      isplitl [H1]; · iexact H1
      isplitl [H2]; · iexact H2
      isplitl [H3]; · iexact H3
      isplitl [HS2]; · iexact HS2
      isplitl [HS3]; · iexact HS3
      iintro ⟨H0, H1, H2, H3, HS2, HS3⟩
      isplitl [HΦ HS2 HS3]
      · iapply HΦ
        isplitl [HS2]
        · iexact HS2
        · iexact HS3
      isplitl [HO]
      · iapply (owesAt_intro m S c t.succ)
        iexact HO
      isplitl [H0]; · iexact H0
      isplitl [H1]; · iexact H1
      isplitl [H2]; · iexact H2
      iexact H3
    · have n4 : ¬k0_cond4 (w2 (tabs m) (pl m S t)) = 1#1 := fun hx => by have := (cond4_iff _ hu).1 hx; omega
      have y5 : k0_cond5 (w2 (tabs m) (pl m S t)) = 1#1 := (cond5_iff _ hu).2 (by omega)
      have hr : resAt m S c t = k0_pay5 (iblk m S c (0 : Fin 4) t) (wn0 (W6 m c) (w0 (tabs m) (pl m S t))) (iblk m S c (1 : Fin 4) t) (wn1 (W8 m c) (w0 (tabs m) (pl m S t))) (iblk m S c (2 : Fin 4) t) := if_neg hh
      simp only [before0, before1, before2, after0, after1, after2, after3, act_used m S t (Nat.pos_of_ne_zero h0), hr]
      rewrite [show (dats m S 0 c).Φ t.succ = Phi m c (t.val + 1) from rfl, show (dats m S 0 c).Φ t.castSucc = Phi m c t.val from rfl]
      iintro ⟨HΦ, HO, ⟨%d0, H0⟩, ⟨%d1, H1⟩, ⟨%d2, H2⟩, ⟨%d3, H3⟩⟩
      ihave HO' := (owesAt_elim m S c t.castSucc) $$ HO
      icases HO' with ⟨%W, HO⟩
      iapply (upto m S c t W _)
      isplitl [HΦ]; · iexact HΦ
      isplitl [HO]; · iexact HO
      iintro ⟨HS2, HS3, HΦ, HO⟩
      iapply (seg3_full c (crd m S t) _ (ms0 m S t) (ms1 m S t) (ms2 m S t) (ms3 m S t) _ n4 y5)
      isplitl [H0]; · iexact H0
      isplitl [H1]; · iexact H1
      isplitl [H2]; · iexact H2
      isplitl [H3]; · iexact H3
      isplitl [HS2]; · iexact HS2
      isplitl [HS3]; · iexact HS3
      iintro ⟨H0, H1, H2, H3, HS2, HS3⟩
      isplitl [HΦ HS2 HS3]
      · iapply HΦ
        isplitl [HS2]
        · iexact HS2
        · iexact HS3
      isplitl [HO]
      · iapply (owesAt_intro m S c t.succ)
        iexact HO
      isplitl [H0]; · iexact H0
      isplitl [H1]; · iexact H1
      isplitl [H2]; · iexact H2
      iexact H3

theorem body_obligation (c : Dev nD) : BodyObligation (dats m S 0 c) (defs₀ (F := F)) Variants.none () Set.univ := fun t => by
  rw [bigSep_W0]
  exact sound_body m S c t

/-! ## The launch -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The weights the body copies from. -/
def H0 : Finset (Ref sig .tc) := {main_arg6, main_arg8}
theorem H0_sub : H0 ⊆ Pipeline.restRefsP sig pre0 spec0 := by decide
theorem hbmPts_eq (c : Dev nD) :
    (bigSep H0 (fun b => ((c : Thread nD τ).loc b) ↦{fullShare} V m c b) : sProp 𝕄)
      = iprop((hb0.view.loc (c : Thread nD τ) ↦{fullShare} W6 m c) ∗ (hb1.view.loc (c : Thread nD τ) ↦{fullShare} W8 m c)) := by
  rw [BI.bigSep_eq_bigSepL_of_eq [main_arg6, main_arg8] (by decide) (by decide)]; rfl
theorem prefHeld_eq (c : Dev nD) (q : Fin 5 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem phi_first (c : Dev nD) : iprop(Pipeline.ΦD osem0 spec0 H0 (V m) c ∗ Pipeline.ΦT (U := Pipeline.UD sig nD τ) pre0 (tabs m) c) ⊢ (Phi m c 0 : sProp 𝕄) := by
  unfold Pipeline.ΦT
  rw [Pipeline.ΦD_eq, scopedRest0_eq, ownSems00_eq, hbmPts_eq, prefHeld_eq]
  unfold Phi Pend Held Still
  iintro ⟨⟨⟨HS0, HS1, HS2, HS3⟩, HR, ⟨HA, HB⟩, HW6, HW8⟩, HT0, HT1, HT2, HT3, HT4⟩
  isplitl [HS0 HS1 HA HB HW6 HW8]
  · isplitl [HW6]; · iexact HW6
    isplitl [HW8]; · iexact HW8
    isplitl [HS0]; · iexact HS0
    isplitl [HS1]; · iexact HS1
    isplitl [HA]; · iexact HA
    iexact HB
  isplitl [HS2 HS3]
  · isplitl [HS2]
    · iexact HS2
    · iexact HS3
  isplitl [HT0]; · iexact HT0
  isplitl [HT1]; · iexact HT1
  isplitl [HT2]; · iexact HT2
  isplitl [HT3]; · iexact HT3
  isplitl [HT4]; · iexact HT4
  iexact HR

include S in
theorem phi_last (c : Dev nD) : (Phi m c 179 : sProp 𝕄) ⊢ Pipeline.ΦD osem0 spec0 H0 (V m) c := by
  rw [Pipeline.ΦD_eq, scopedRest0_eq, ownSems00_eq, hbmPts_eq]
  unfold Phi
  rw [Pend_still c (W6 m c) (W8 m c) (w4 (tabs m)) 178 (by decide) (not_le.2 S.nxt_last)]
  unfold Still
  iintro ⟨⟨HW6, HW8, HS0, HS1, HA, HB⟩, HH, -, -, -, -, -, HR⟩
  ihave HH' := (Held_any c (W6 m c) (W8 m c) (w0 (tabs m)) 179) $$ HH
  icases HH' with ⟨HS2, HS3⟩
  isplitl [HS0 HS1 HS2 HS3]
  · isplitl [HS0]; · iexact HS0
    isplitl [HS1]; · iexact HS1
    isplitl [HS2]; · iexact HS2
    iexact HS3
  isplitl [HR]; · iexact HR
  isplitl [HA HB]
  · isplitl [HA]
    · iexact HA
    · iexact HB
  isplitl [HW6]; · iexact HW6
  iexact HW8

theorem V_pre (c : Dev nD) (j : Fin 5) : V m c (pre0.ref j) = tabs m j := by
  have hc : c = 0 := Subsingleton.elim _ _
  subst hc
  fin_cases j
  · exact V_arg m 0 main_arg0 (by decide)
  · exact V_arg m 0 main_arg1 (by decide)
  · exact V_arg m 0 main_arg2 (by decide)
  · exact V_arg m 0 main_arg3 (by decide)
  · exact V_arg m 0 main_arg4 (by decide)

set_option backward.isDefEq.respectTransparency.types false in
set_option maxHeartbeats 4000000 in
theorem run_main : θ_run (defs (F := F)) (onTc (τ := τ) (main (F := F))) (s₀ m ρ)
    (fun r => Pipeline.FramePost (pcs m S) (dats m S) 0 (V m) r ∧ r.2.sem = fun _ => 0) :=
  Pipeline.θ_run_frameP_dma (Q' := _) (pcfgs (F := F)) (fun _ => adm m S) (dats m S) (0 : Fin 1) launch0 osem0 defs₀ Variants.none ownSemFacts0 H0 H0_sub m ρ main
    (hbody := fun c => (body_obligation m S c).loose) (hshare := fun c => (dats m S 0 c).share_full fun _ => rfl)
    (howed := fun _ _ => rfl) (V := V m) (hmain := hmain m) (hA := fun _ _ => rfl) (hpf := V_pre m)
    (hin := phi_first m) (hout := fun c => phi_last m S c)

include S in
/-- The frame: the arguments as they were, every semaphore at zero. -/
theorem frame_main : θ_run (defs (F := F)) (onTc (τ := τ) (main (F := F))) (s₀ m ρ)
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨((h.1 c).2 main_arg0 (show main_arg0 ∈ Pipeline.restRefs sig spec0 by decide)).trans (V_arg m c main_arg0 (by decide)),
     ((h.1 c).2 main_arg1 (show main_arg1 ∈ Pipeline.restRefs sig spec0 by decide)).trans (V_arg m c main_arg1 (by decide)),
     ((h.1 c).2 main_arg2 (show main_arg2 ∈ Pipeline.restRefs sig spec0 by decide)).trans (V_arg m c main_arg2 (by decide)),
     ((h.1 c).2 main_arg3 (show main_arg3 ∈ Pipeline.restRefs sig spec0 by decide)).trans (V_arg m c main_arg3 (by decide)),
     ((h.1 c).2 main_arg4 (show main_arg4 ∈ Pipeline.restRefs sig spec0 by decide)).trans (V_arg m c main_arg4 (by decide)),
     ((h.1 c).1 (0 : Fin 4)).trans (((dats m S 0 c).arrAt_in (0 : Fin 4) rfl _).trans (V_arg m c main_arg5 (by decide))),
     ((h.1 c).2 main_arg6 (show main_arg6 ∈ Pipeline.restRefs sig spec0 by decide)).trans (V_arg m c main_arg6 (by decide)),
     ((h.1 c).1 (1 : Fin 4)).trans (((dats m S 0 c).arrAt_in (1 : Fin 4) rfl _).trans (V_arg m c main_arg7 (by decide))),
     ((h.1 c).2 main_arg8 (show main_arg8 ∈ Pipeline.restRefs sig spec0 by decide)).trans (V_arg m c main_arg8 (by decide)),
     ((h.1 c).1 (2 : Fin 4)).trans (((dats m S 0 c).arrAt_in (2 : Fin 4) rfl _).trans (V_arg m c main_arg9 (by decide)))⟩, h.2⟩) (run_main m ρ S)

/-- The array the call writes, at the end. -/
theorem value_main : θ_run (defs (F := F)) (onTc (τ := τ) (main (F := F))) (s₀ m ρ)
    (fun r => ∀ c : Dev nD, r.2.mem ((c.tc : Thread nD τ).loc main_v0) = (dats m S 0 c).arrAt (3 : Fin 4) (cfgA m S).N) :=
  (θ_run defs _ _).mono (fun r h c => (h.1 c).1 (3 : Fin 4)) (run_main m ρ S)

end Cert.Kernel2Ideal.Experts
-- ==== Proof.Swiglu.lean ====
/- The experts' mathematics: a clamped SwiGLU of two products, and the array of all rows. -/
module

public import Idealize.ShloMosaic.Lib.Pipeline.ValueKit

@[expose] public section

noncomputable section

namespace Cert.Experts
open Idealize.ShloMosaic

/-- The clamp's bound, its negative, and the sigmoid's slope. -/
def bound : EReal := Ideal.ofBits .f32 0x40E00000#32
def negBound : EReal := Ideal.ofBits .f32 0xC0E00000#32
def slope : EReal := Ideal.ofBits .f32 0x3FD9DB23#32

/-- One row through the first product and its bias. -/
def up (x : Fin 1024 → EReal) (w : Fin 1024 → Fin 2048 → EReal) (b : Fin 2048 → EReal) (f : Fin 2048) : EReal :=
  (∑ k, x k * w k f) + b f

/-- The clamped SwiGLU of a gate and a linear part. -/
def gate (g l : EReal) : EReal :=
  min g bound * Ideal.logistic (slope * min g bound) * (min bound (max negBound l) + 1)

/-- The gate is the first half of the columns, the linear part the second. -/
def act (u : Fin 2048 → EReal) (f : Fin 1024) : EReal := gate (u ⟨f, by omega⟩) (u ⟨1024 + f, by omega⟩)

/-- One row through one expert. -/
def ffn (x : Fin 1024 → EReal) (w : Fin 1024 → Fin 2048 → EReal) (b : Fin 2048 → EReal) (w' : Fin 1024 → Fin 1024 → EReal)
    (b' : Fin 1024 → EReal) (j : Fin 1024) : EReal :=
  (∑ f, act (up x w b) f * w' f j) + b' j

/-- A row of a block of 512. -/
def rowOf (t : Fin 179) (i : Fin 512) : Fin 91648 := ⟨t * 512 + i, by omega⟩
/-- A row's block, and its place in the block. -/
def blkOf (r : Fin 91648) : Fin 179 := ⟨r / 512, by omega⟩
def posOf (r : Fin 91648) : Fin 512 := ⟨r % 512, by omega⟩

theorem rowOf_blkOf (r : Fin 91648) : rowOf (blkOf r) (posOf r) = r := Fin.ext (by show (r : Nat) / 512 * 512 + r % 512 = r; omega)

/-- An expert number out of a word. -/
def exptOf (v : BitVec 32) : Fin 32 := ⟨v.toNat % 32, Nat.mod_lt _ (by decide)⟩

/-- Row `i` of block `t`: the block's expert of it, zero in the second half where at most 256 rows are in use, the row itself
    where none is. -/
def block (be used : Fin 179 → BitVec 32) (X : Fin 91648 → Fin 1024 → EReal) (W : Fin 32 → Fin 1024 → Fin 2048 → EReal)
    (B : Fin 32 → Fin 2048 → EReal) (W' : Fin 32 → Fin 1024 → Fin 1024 → EReal) (B' : Fin 32 → Fin 1024 → EReal)
    (t : Fin 179) (i : Fin 512) (j : Fin 1024) : EReal :=
  if (used t).toNat = 0 then X (rowOf t i) j
  else if 256 ≤ (i : Nat) ∧ (used t).toNat ≤ 256 then 0
  else ffn (X (rowOf t i)) (W (exptOf (be t))) (B (exptOf (be t))) (W' (exptOf (be t))) (B' (exptOf (be t))) j

end Cert.Experts

end
-- ==== Proof.ExI.Value.lean ====
/- What an active grid point of the expert call stores, entry by entry. -/
module

public import proofs.«01_k».proof.Proof.ExI.Frame
public import proofs.«01_k».proof.Proof.Swiglu
public import Idealize.ShloMosaic.Lib.Pointwise
public import Idealize.ShloMosaic.Lib.Pipeline.ValueKit

@[expose] public section

set_option maxRecDepth 16384

noncomputable section

namespace Cert.Kernel2Ideal.Experts

open Idealize.ShloMosaic Idealize.ShloMosaic.TcCoe Idealize.SL.Sem Cert.Kernel2Ideal Cert.Kernel2Ideal.Gen Cert.Experts
open Idealize.ShloMosaic.Pipeline (Dat)

section
variable (w : FVec Ideal S1024x2048 .bf16) (b : FVec Ideal S1x1x2048 .f32) (w' : FVec Ideal S1024x1024 .bf16) (b' : FVec Ideal S1x1x1024 .f32)

theorem pay5_at (x : FVec Ideal S512x1024 .f32) (i : Fin 512) (j : Fin 1024) : k0_pay5 (F := Ideal) x w b w' b' (ix2 i j)
    = ffn (fun k => x (ix2 i k)) (fun k f => w (ix2 k f)) (fun f => b (ix3 0 0 f)) (fun k f => w' (ix2 k f)) (fun f => b' (ix3 0 0 f)) j := by
  pointwise [k0_pay5]
  rfl

theorem pay3_at (x : FVec Ideal S256x1024 .f32) (i : Fin 256) (j : Fin 1024) : k0_pay3 (F := Ideal) x w b w' b' (ix2 i j)
    = ffn (fun k => x (ix2 i k)) (fun k f => w (ix2 k f)) (fun f => b (ix3 0 0 f)) (fun k f => w' (ix2 k f)) (fun f => b' (ix3 0 0 f)) j := by
  pointwise [k0_pay3]
  rfl

theorem pay4_at (i : Fin 256) (j : Fin 1024) : k0_pay4 (F := Ideal) (ix2 i j) = (0 : EReal) := by
  pointwise [k0_pay4]

theorem half_at (x : FVec Ideal S512x1024 .f32) (i : Fin 512) (j : Fin 1024) : outHalf (F := Ideal) x w b w' b' (ix2 i j)
    = if 256 ≤ (i : Nat) then 0 else
      ffn (fun k => x (ix2 i k)) (fun k f => w (ix2 k f)) (fun f => b (ix3 0 0 f)) (fun k f => w' (ix2 k f)) (fun f => b' (ix3 0 0 f)) j := by
  unfold outHalf
  by_cases hi : 256 ≤ (i : Nat)
  · rw [if_pos hi]
    have hy : (ix2 i j : S512x1024.Idx) = (Rect.unit (s := S512x1024) ![256, 0] S256x1024.size inb_S512x1024_S256x1024_256_0).emb
        (ix2 (⟨i - 256, by omega⟩ : Fin 256) j : S256x1024.Idx) := by
      funext a; fin_cases a <;> apply Fin.ext <;> simp [ix2] <;> omega
    rw [hy]
    exact (View.canon_cons_emb _ _ _ _).trans (pay4_at _ _)
  · rw [if_neg hi, View.canon_cons_of_not_mem]
    · have hy : (ix2 i j : S512x1024.Idx) = (Rect.unit (s := S512x1024) ![0, 0] S256x1024.size inb_S512x1024_S256x1024_0_0).emb
          (ix2 (⟨i, by omega⟩ : Fin 256) j : S256x1024.Idx) := by
        funext a; fin_cases a <;> apply Fin.ext <;> simp [ix2]
      rw [hy]
      refine (View.canon_cons_emb _ _ _ _).trans ?_
      refine (pay3_at w b w' b' _ (⟨i, by omega⟩ : Fin 256) j).trans ?_
      congr 1
      funext k
      refine View.ld_unit_apply_of _ _ _ _ _ _ fun a => ?_
      fin_cases a <;> simp [ix2]
    · intro hm
      have := ((Rect.mem_set_unit (inb := inb_S512x1024_S256x1024_256_0)).mp hm) 0
      simp [ix2] at this
      omega

end

/-! ## The blocks a point reads -/

section
variable (m : (ℓ : Loc nD τ sig) → Buf (Elt Ideal) ℓ) (S : Ordered m) (c : Dev nD) (t : Fin (cfgA m S).N)

theorem x_at (h : 0 < (w2 (tabs m) (pl m S t)).toNat) (i : Fin 512) (k : Fin 1024) : (iblk m S c (0 : Fin 4) t : FVec Ideal S512x1024 .f32) (ix2 i k)
    = (m (c.tc.loc main_arg5) : FVec Ideal S91648x1024 .f32) (ix2 (rowOf (pl m S t) i) k) := by
  have hr := S.rb_used t.val (ltN m S t) h
  have hx : (((cfgA m S).win (0 : Fin 4)).index t : Fin 2 → ℕ) = ![t.val, 0] := by
    refine (tr0 (tabs m) (crd m S t)).trans ?_
    rw [crd_pl]
    exact congrArg (fun n : ℕ => (![n, 0] : Fin 2 → ℕ)) hr
  unfold iblk
  show V m c main_arg5 ((((cfgA m S).win (0 : Fin 4)).rect t).emb (ix2 i k : S512x1024.Idx)) = _
  rw [V_arg m c main_arg5 (by decide)]
  congr 1
  funext a
  apply Fin.ext
  refine (((cfgA m S).win (0 : Fin 4)).rect_emb_val t _ a rfl).trans ?_
  rw [hx]
  fin_cases a
  · rfl
  · exact (congrArg (· + k.val) (Nat.zero_mul 1024)).trans (Nat.zero_add _)

theorem b_at (n : Fin 2048) : (iblk m S c (1 : Fin 4) t : FVec Ideal S1x1x2048 .f32) (ix3 0 0 n)
    = (m (c.tc.loc main_arg7) : FVec Ideal S32x1x2048 .f32) (ix3 (exptOf (w0 (tabs m) (pl m S t))) 0 n) := by
  have hl := S.be_lt (pl m S t)
  have hx : (((cfgA m S).win (1 : Fin 4)).index t : Fin 3 → ℕ) = ![(w0 (tabs m) (pl m S t)).toNat, 0, 0] := by
    refine (tr2 (tabs m) (crd m S t)).trans ?_
    rw [crd_pl]
  unfold iblk
  show V m c main_arg7 ((((cfgA m S).win (1 : Fin 4)).rect t).emb (ix3 0 0 n : S1x1x2048.Idx)) = _
  rw [V_arg m c main_arg7 (by decide)]
  congr 1
  funext a
  apply Fin.ext
  refine (((cfgA m S).win (1 : Fin 4)).rect_emb_val t _ a rfl).trans ?_
  rw [hx]
  fin_cases a
  · show (w0 (tabs m) (pl m S t)).toNat * 1 + 0 = (w0 (tabs m) (pl m S t)).toNat % 32
    omega
  · rfl
  · exact (congrArg (· + n.val) (Nat.zero_mul 2048)).trans (Nat.zero_add _)

theorem b'_at (n : Fin 1024) : (iblk m S c (2 : Fin 4) t : FVec Ideal S1x1x1024 .f32) (ix3 0 0 n)
    = (m (c.tc.loc main_arg9) : FVec Ideal S32x1x1024 .f32) (ix3 (exptOf (w0 (tabs m) (pl m S t))) 0 n) := by
  have hl := S.be_lt (pl m S t)
  have hx : (((cfgA m S).win (2 : Fin 4)).index t : Fin 3 → ℕ) = ![(w0 (tabs m) (pl m S t)).toNat, 0, 0] := by
    refine (tr4 (tabs m) (crd m S t)).trans ?_
    rw [crd_pl]
  unfold iblk
  show V m c main_arg9 ((((cfgA m S).win (2 : Fin 4)).rect t).emb (ix3 0 0 n : S1x1x1024.Idx)) = _
  rw [V_arg m c main_arg9 (by decide)]
  congr 1
  funext a
  apply Fin.ext
  refine (((cfgA m S).win (2 : Fin 4)).rect_emb_val t _ a rfl).trans ?_
  rw [hx]
  fin_cases a
  · show (w0 (tabs m) (pl m S t)).toNat * 1 + 0 = (w0 (tabs m) (pl m S t)).toNat % 32
    omega
  · rfl
  · exact (congrArg (· + n.val) (Nat.zero_mul 1024)).trans (Nat.zero_add _)

theorem w_at (v : BitVec 32) (k : Fin 1024) (f : Fin 2048) : (wn0 (W6 m c) v : FVec Ideal S1024x2048 .bf16) (ix2 k f)
    = (m (c.tc.loc main_arg6) : FVec Ideal S32x1024x2048 .f32) (ix3 (exptOf v) k f) := by
  unfold W6
  rw [V_arg m c main_arg6 (by decide)]
  pointwise [wn0, k0_pay1]
  rfl

theorem w'_at (v : BitVec 32) (k : Fin 1024) (f : Fin 1024) : (wn1 (W8 m c) v : FVec Ideal S1024x1024 .bf16) (ix2 k f)
    = (m (c.tc.loc main_arg8) : FVec Ideal S32x1024x1024 .f32) (ix3 (exptOf v) k f) := by
  unfold W8
  rw [V_arg m c main_arg8 (by decide)]
  pointwise [wn1, k0_pay2]
  rfl

/-- The rows of block `s` from the ten arguments. -/
abbrev want (s : Fin 179) (i : Fin 512) (j : Fin 1024) : EReal :=
  block (w0 (tabs m)) (w2 (tabs m)) (fun r k => (m (c.tc.loc main_arg5) : FVec Ideal S91648x1024 .f32) (ix2 r k))
    (fun e k f => (m (c.tc.loc main_arg6) : FVec Ideal S32x1024x2048 .f32) (ix3 e k f))
    (fun e f => (m (c.tc.loc main_arg7) : FVec Ideal S32x1x2048 .f32) (ix3 e 0 f))
    (fun e k f => (m (c.tc.loc main_arg8) : FVec Ideal S32x1024x1024 .f32) (ix3 e k f))
    (fun e f => (m (c.tc.loc main_arg9) : FVec Ideal S32x1x1024 .f32) (ix3 e 0 f)) s i j

theorem res_at (h : 0 < (w2 (tabs m) (pl m S t)).toNat) (i : Fin 512) (j : Fin 1024) :
    (resAt m S c t : FVec Ideal S512x1024 .f32) (ix2 i j) = want m c (pl m S t) i j := by
  have e : ffn (fun k => (iblk m S c (0 : Fin 4) t : FVec Ideal S512x1024 .f32) (ix2 i k))
      (fun k f => (wn0 (W6 m c) (w0 (tabs m) (pl m S t)) : FVec Ideal S1024x2048 .bf16) (ix2 k f))
      (fun f => (iblk m S c (1 : Fin 4) t : FVec Ideal S1x1x2048 .f32) (ix3 0 0 f))
      (fun k f => (wn1 (W8 m c) (w0 (tabs m) (pl m S t)) : FVec Ideal S1024x1024 .bf16) (ix2 k f))
      (fun f => (iblk m S c (2 : Fin 4) t : FVec Ideal S1x1x1024 .f32) (ix3 0 0 f)) j
      = ffn (fun k => (m (c.tc.loc main_arg5) : FVec Ideal S91648x1024 .f32) (ix2 (rowOf (pl m S t) i) k))
        (fun k f => (m (c.tc.loc main_arg6) : FVec Ideal S32x1024x2048 .f32) (ix3 (exptOf (w0 (tabs m) (pl m S t))) k f))
        (fun f => (m (c.tc.loc main_arg7) : FVec Ideal S32x1x2048 .f32) (ix3 (exptOf (w0 (tabs m) (pl m S t))) 0 f))
        (fun k f => (m (c.tc.loc main_arg8) : FVec Ideal S32x1024x1024 .f32) (ix3 (exptOf (w0 (tabs m) (pl m S t))) k f))
        (fun f => (m (c.tc.loc main_arg9) : FVec Ideal S32x1x1024 .f32) (ix3 (exptOf (w0 (tabs m) (pl m S t))) 0 f)) j := by
    congr 1
    · funext k; exact x_at m S c t h i k
    · funext k f; exact w_at m c _ k f
    · funext f; exact b_at m S c t f
    · funext k f; exact w'_at m c _ k f
    · funext f; exact b'_at m S c t f
  unfold resAt want block
  rw [if_neg (by omega : ¬(w2 (tabs m) (pl m S t)).toNat = 0)]
  by_cases hu : (w2 (tabs m) (pl m S t)).toNat ≤ 256
  · rw [if_pos hu]
    refine (half_at _ _ _ _ _ i j).trans ?_
    by_cases hi : 256 ≤ (i : Nat)
    · rw [if_pos hi, if_pos ⟨hi, hu⟩]
    · rw [if_neg hi, if_neg (fun q => hi q.1)]
      exact e
  · rw [if_neg hu, if_neg (fun q => hu q.2)]
    exact (pay5_at _ _ _ _ _ i j).trans e

end

end Cert.Kernel2Ideal.Experts

end
-- ==== Proof.ExI.Final.lean ====
/- The array the expert call leaves, entry by entry. -/
module

public import proofs.«01_k».proof.Proof.ExI.Value
public import Idealize.ShloMosaic.Lib.Pipeline.Covers

@[expose] public section

set_option maxRecDepth 16384

noncomputable section

namespace Cert.Kernel2Ideal.Experts

open Idealize.ShloMosaic Idealize.ShloMosaic.TcCoe Idealize.SL.Sem Cert.Kernel2Ideal Cert.Kernel2Ideal.Gen Cert.Experts
open Idealize.ShloMosaic.Pipeline (Dat)

section
variable (m : (ℓ : Loc nD τ sig) → Buf (Elt Ideal) ℓ) (S : Ordered m) (c : Dev nD)

/-- Every row of the result from the ten arguments: its block's rule at its place in the block. -/
def outs : FVec Ideal S91648x1024 .f32 := fun y => want m c (blkOf (y 0)) (posOf (y 0)) (y 1)

theorem outs_row (s : Fin 179) (i : Fin 512) (j : Fin 1024) : outs m c (ix2 (rowOf s i) j) = want m c s i j := by
  have e1 : blkOf (rowOf s i) = s := Fin.ext (by show (s.val * 512 + i.val) / 512 = s.val; omega)
  have e2 : posOf (rowOf s i) = i := Fin.ext (by show (s.val * 512 + i.val) % 512 = i.val; omega)
  show want m c (blkOf (rowOf s i)) (posOf (rowOf s i)) j = _
  rw [e1, e2]

theorem of_rows (y : S91648x1024.Idx) : ∃ (s : Fin 179) (i : Fin 512) (j : Fin 1024), y = ix2 (rowOf s i) j :=
  ⟨blkOf (y 0), posOf (y 0), y 1, by funext a; fin_cases a; · exact (rowOf_blkOf (y 0)).symm
                                     · rfl⟩

/-- A step writes the rows of the block it works on. -/
theorem index3 (t : Fin (cfgA m S).N) : (((cfgA m S).win (3 : Fin 4)).index t : Fin 2 → ℕ) = ![(act m S t).val, 0] := by
  refine (tr5 (tabs m) (crd m S t)).trans ?_
  rw [crd_pl]
  rfl

theorem emb3 (t : Fin (cfgA m S).N) (s : Fin 179) (h : (((cfgA m S).win (3 : Fin 4)).index t : Fin 2 → ℕ) = ![s.val, 0]) (i : Fin 512) (j : Fin 1024) :
    (((((cfgA m S).win (3 : Fin 4)).blk t).view.emb (ix2 i j : S512x1024.Idx) : _) : S91648x1024.Idx) = ix2 (rowOf s i) j := by
  show (((cfgA m S).win (3 : Fin 4)).rect t).emb (ix2 i j : S512x1024.Idx) = _
  funext a
  apply Fin.ext
  refine (((cfgA m S).win (3 : Fin 4)).rect_emb_val t _ a rfl).trans ?_
  rw [h]
  fin_cases a
  · rfl
  · exact (congrArg (· + j.val) (Nat.zero_mul 1024)).trans (Nat.zero_add _)

theorem flushed3 (t : Fin (cfgA m S).N) : (dats m S 0 c).flushed (3 : Fin 4) t
    = (((cfgA m S).win (3 : Fin 4)).blk t).view.read (Elt Ideal) (outs m c) := by
  have hu : 0 < (w2 (tabs m) (pl m S (act m S t))).toNat := S.used_rb t.val (ltN m S t)
  funext y
  obtain ⟨i, j, rfl⟩ : ∃ (i : Fin 512) (j : Fin 1024), y = (ix2 i j : S512x1024.Idx) := ⟨y 0, y 1, by funext a; fin_cases a <;> rfl⟩
  refine Eq.trans (b := want m c (pl m S (act m S t)) i j) (res_at m S c (act m S t) hu i j) ?_
  exact ((congrArg (outs m c) (emb3 m S t (pl m S (act m S t)) (index3 m S t) i j)).trans (outs_row m c _ i j)).symm

theorem start3 : (dats m S 0 c).A (3 : Fin 4) = (m (c.tc.loc main_arg5) : FVec Ideal S91648x1024 .f32) := rfl

theorem final3 : (dats m S 0 c).arrAt (3 : Fin 4) (cfgA m S).N = outs m c := by
  funext y
  refine ((dats m S 0 c).arrAt_eq_piecewise (3 : Fin 4) (outs m c) (fun t _ => flushed3 m S c t) y).trans ?_
  split
  · rfl
  · rename_i hno
    obtain ⟨s, i, j, rfl⟩ : ∃ (s : Fin 179) (i : Fin 512) (j : Fin 1024), y = (ix2 (rowOf s i) j : S91648x1024.Idx) :=
      of_rows y
    have hz : (w2 (tabs m) s).toNat = 0 := by
      by_contra hn
      have hs : s.val < (cfgA m S).N := s.isLt.trans_eq N_0.symm
      obtain ⟨t, -, hf, hix⟩ := ((cfgA m S).win (3 : Fin 4)).exists_flush_same_index rfl ⟨s.val, hs⟩
      have ha : act m S ⟨s.val, hs⟩ = ⟨s.val, hs⟩ := act_used m S ⟨s.val, hs⟩ (Nat.pos_of_ne_zero hn)
      have h0 := hix.trans (index3 m S ⟨s.val, hs⟩)
      rw [ha] at h0
      have he := emb3 m S t s h0 i j
      exact hno ⟨t, hf, he ▸ (((cfgA m S).win (3 : Fin 4)).blk t).view.emb_mem_set (ix2 i j : S512x1024.Idx)⟩
    rw [outs_row]
    unfold want block
    rw [if_pos hz]
    exact congrFun (start3 m S c) _

end

end Cert.Kernel2Ideal.Experts

end
-- ==== Proof.RefExperts.lean ====
/- The expert reference's result, in named stages, and its value at an entry. -/
module

public import proofs.«01_k».proof.Proof.Swiglu
public import proofs.«01_k».proof.Proof.Tables
public import proofs.«01_k».proof.Proof.Gen.Reference2Ideal.Run
public import Idealize.ShloMosaic.Lib.Pointwise

@[expose] public section

set_option maxRecDepth 16384

noncomputable section

namespace Cert.Reference2Ideal.Stage
open Idealize.ShloMosaic Idealize.ShloMosaic.TcCoe Idealize.SL.Sem Cert.Reference2Ideal Cert.Reference2Ideal.Gen Cert.Experts

/-- The experts' numbers as a column of row numbers, a negative one counted from the end. -/
def rows (T : IVec S179 32) : IVec S179x1 32 :=
  broadcastInDim S179x1 ![0] bcast_S179_S179x1_0 (select (cmpi .slt T (broadcastInDim S179 ![] bcast_S_S179 (constantI S_ 32 0#32)))
    (addi T (broadcastInDim S179 ![] bcast_S_S179 (constantI S_ 32 32#32))) T)

/-- The rows by blocks. -/
def blocks (X : FVec Ideal S91648x1024 .f32) : FVec Ideal S179x512x1024 .f32 := shapeCast S179x512x1024 X shapeCasts_S91648x1024_S179x512x1024

/-- The first product and its bias. -/
def ups (T : IVec S179 32) (X : FVec Ideal S91648x1024 .f32) (W : FVec Ideal S32x1024x2048 .f32) (B : FVec Ideal S32x1x2048 .f32) :
    FVec Ideal S179x512x2048 .f32 :=
  addf (Host.dotGeneral dot_S179x512x1024_S179x1024x2048_S179x512x2048_2_1_1_2_0_0 none
      (blocks X)
      (Host.gather gather_S32x1024x2048_S179x1_S179x1024x2048_12_0_n_n_0_1_110242048 W (rows T)))
    (broadcastInDim S179x512x2048 ![0, 1, 2] bcast_S179x1x2048_S179x512x2048_0_1_2
      (Host.gather gather_S32x1x2048_S179x1_S179x1x2048_12_0_n_n_0_1_112048 B (rows T)))

/-- The clamped gate. -/
def glu (U : FVec Ideal S179x512x2048 .f32) : FVec Ideal S179x512x1024 .f32 :=
  minimumf (extractStridedSlice S179x512x1024 ![0, 0, 0] U slices_S179x512x2048_S179x512x1024_0_0_0)
    (broadcastInDim S179x512x1024 ![] bcast_S_S179x512x1024 (constant S_ .f32 0x40E00000#32))

/-- The activation. -/
def acts (U : FVec Ideal S179x512x2048 .f32) : FVec Ideal S179x512x1024 .f32 :=
  mulf (mulf (glu U) (Host.divf (broadcastInDim S179x512x1024 ![] bcast_S_S179x512x1024 (constant S_ .f32 0x3F800000#32))
      (addf (broadcastInDim S179x512x1024 ![] bcast_S_S179x512x1024 (constant S_ .f32 0x3F800000#32))
        (Host.exp (Host.negf (mulf (broadcastInDim S179x512x1024 ![] bcast_S_S179x512x1024 (constant S_ .f32 0x3FD9DB23#32)) (glu U)))))))
    (addf (minimumf (broadcastInDim S179x512x1024 ![] bcast_S_S179x512x1024 (id (constant S_ .f32 0x40E00000#32)))
        (maximumf (broadcastInDim S179x512x1024 ![] bcast_S_S179x512x1024 (id (constant S_ .f32 0xC0E00000#32)))
          (extractStridedSlice S179x512x1024 ![0, 0, 1024] U slices_S179x512x2048_S179x512x1024_0_0_1024)))
      (broadcastInDim S179x512x1024 ![] bcast_S_S179x512x1024 (constant S_ .f32 0x3F800000#32)))

/-- The second product and its bias. -/
def downs (T : IVec S179 32) (A : FVec Ideal S179x512x1024 .f32) (W : FVec Ideal S32x1024x1024 .f32) (B : FVec Ideal S32x1x1024 .f32) :
    FVec Ideal S179x512x1024 .f32 :=
  addf (Host.dotGeneral dot_S179x512x1024_S179x1024x1024_S179x512x1024_2_1_1_2_0_0 none
      A
      (Host.gather gather_S32x1024x1024_S179x1_S179x1024x1024_12_0_n_n_0_1_110241024 W (rows T)))
    (broadcastInDim S179x512x1024 ![0, 1, 2] bcast_S179x1x1024_S179x512x1024_0_1_2
      (Host.gather gather_S32x1x1024_S179x1_S179x1x1024_12_0_n_n_0_1_111024 B (rows T)))

/-- The counts, one to a block. -/
def counts (U : IVec S179 32) : IVec S179x1x1 32 := broadcastInDim S179x1x1 ![0] bcast_S179_S179x1x1_0 U

/-- Whether a row is out of use in a block in use. -/
def off (U : IVec S179 32) : IVec S179x512x1 1 :=
  andi (broadcastInDim S179x512x1 ![0, 1, 2] bcast_S1x512x1_S179x512x1_0_1_2
      (cmpi .sge (broadcastInDim S1x512x1 ![1] bcast_S512_S1x512x1_1 (iotaInDim S512 32 0)) (broadcastInDim S1x512x1 ![] bcast_S_S1x512x1 (constantI S_ 32 256#32))))
    (broadcastInDim S179x512x1 ![0, 1, 2] bcast_S179x1x1_S179x512x1_0_1_2
      (cmpi .sle (counts U) (broadcastInDim S179x1x1 ![] bcast_S_S179x1x1 (constantI S_ 32 256#32))))

/-- The result from the second product. -/
def chosen (U : IVec S179 32) (X : FVec Ideal S91648x1024 .f32) (Y : FVec Ideal S179x512x1024 .f32) : FVec Ideal S179x512x1024 .f32 :=
  select (broadcastInDim S179x512x1024 ![0, 1, 2] bcast_S179x1x1_S179x512x1024_0_1_2
      (cmpi .sgt (counts U) (broadcastInDim S179x1x1 ![] bcast_S_S179x1x1 (constantI S_ 32 0#32))))
    (select (broadcastInDim S179x512x1024 ![0, 1, 2] bcast_S179x512x1_S179x512x1024_0_1_2 (off U))
      (broadcastInDim S179x512x1024 ![] bcast_S_S179x512x1024 (id (constant S_ .f32 0x00000000#32))) Y)
    (blocks X)

theorem res_eq (m : (ℓ : Loc nD τ sig) → Buf (Elt Ideal) ℓ) (c : Dev nD) : Value.res_main_v66 (F := Ideal) m c
    = shapeCast S91648x1024 (chosen (m (c.tc.loc main_arg2)) (m (c.tc.loc main_arg5))
        (downs (m (c.tc.loc main_arg0)) (acts (ups (m (c.tc.loc main_arg0)) (m (c.tc.loc main_arg5)) (m (c.tc.loc main_arg6)) (m (c.tc.loc main_arg7))))
          (m (c.tc.loc main_arg8)) (m (c.tc.loc main_arg9)))) shapeCasts_S179x512x1024_S91648x1024 := rfl

section
variable (t : Fin 179) (i : Fin 512)

/-- A word of an expert's number is not negative. -/
theorem slt_small {v : BitVec 32} (h : v.toNat < 32) : IntOp.cmpi .slt v 0#32 = 0#1 := by
  refine ValueIdx.eq_zero_of_ne_one fun hh => ?_
  have h0 := slt0 hh
  have := toInt_eq v
  split at this <;> omega

theorem rows_at (T : IVec S179 32) (h : (T (ix1 t)).toNat < 32) : rows T (ix2 t 0) = T (ix1 t) := by
  pointwise [rows]
  rw [slt_small h]
  rfl

theorem blocks_at (X : FVec Ideal S91648x1024 .f32) (k : Fin 1024) : blocks X (ix3 t i k) = X (ix2 (rowOf t i) k) := by
  pointwise [blocks]
  rfl

/-- The dimension numbers of taking whole slices along the first of three axes, one for each entry of a column. -/
abbrev sliceDims (E n A C : Nat) (wf : GatherDims.WF ⟨3, ![E, A, C]⟩ ⟨2, ![n, 1]⟩ ⟨3, ![n, A, C]⟩ [1, 2] [0] [] [0] [] 1 ![1, A, C]) :
    GatherDims ⟨3, ![E, A, C]⟩ ⟨2, ![n, 1]⟩ ⟨3, ![n, A, C]⟩ where
  offsetDims := [1, 2]
  collapsedSliceDims := [0]
  operandBatchingDims := []
  startIndicesBatchingDims := []
  startIndexMap := [0]
  indexVectorDim := 1
  sliceSizes := ![1, A, C]
  wf := wf

/-- Slice `t` of the taken is the slice whose number entry `t` of the column holds. -/
theorem take_at {E n A C : Nat} (wf : GatherDims.WF ⟨3, ![E, A, C]⟩ ⟨2, ![n, 1]⟩ ⟨3, ![n, A, C]⟩ [1, 2] [0] [] [0] [] 1 ![1, A, C])
    {α : Type} (x : (⟨3, ![E, A, C]⟩ : Shape).Idx → α) (idx : IVec ⟨2, ![n, 1]⟩ 32) (t : Fin n) (a : Fin A) (c : Fin C) (e : Fin E)
    (h : (idx (ix2 t 0)).toInt.toNat = e.val) : Host.gather (sliceDims E n A C wf) x idx (ix3 t a c) = x (ix3 e a c) := by
  unfold Host.gather
  refine congrArg x (funext fun b => Fin.ext ?_)
  have hm : (0 : Fin 3) ∈ (sliceDims E n A C wf).startIndexMap := List.mem_singleton.2 rfl
  show (sliceDims E n A C wf).start (ix3 t a c) idx b + (sliceDims E n A C wf).batchCoord (ix3 t a c) b + (sliceDims E n A C wf).offCoord (ix3 t a c) b = _
  rw [GatherDims.batchCoord_eq_zero _ _ _ List.not_mem_nil, Nat.add_zero]
  match b with
  | ⟨0, _⟩ =>
    show (sliceDims E n A C wf).start (ix3 t a c) idx (0 : Fin 3) + (sliceDims E n A C wf).offCoord (ix3 t a c) (0 : Fin 3) = e.val
    rw [GatherDims.offCoord_eq_zero _ _ _ (fun h => ((GatherDims.mem_sKept _ _).mp h).1 (List.mem_singleton.mpr rfl)), Nat.add_zero]
    unfold GatherDims.start
    rw [dif_pos hm]
    have hsi : (sliceDims E n A C wf).siIdx (ix3 t a c) ⟨List.idxOf (0 : Fin 3) (sliceDims E n A C wf).startIndexMap,
        List.idxOf_lt_length_iff.2 hm⟩ = ix2 t 0 := by
      funext b'; refine Fin.ext ?_
      match b' with
      | ⟨0, _⟩ => rfl
      | ⟨1, _⟩ => rfl
    rw [hsi]
    show min (idx (ix2 t 0)).toInt.toNat (E - 1) = e.val
    have := e.isLt
    omega
  | ⟨1, _⟩ =>
    show (sliceDims E n A C wf).start (ix3 t a c) idx (1 : Fin 3) + (sliceDims E n A C wf).offCoord (ix3 t a c) (1 : Fin 3) = a.val
    unfold GatherDims.start
    rw [dif_neg (show (1 : Fin 3) ∉ ([0] : List (Fin 3)) by decide), Nat.zero_add]
    rfl
  | ⟨2, _⟩ =>
    show (sliceDims E n A C wf).start (ix3 t a c) idx (2 : Fin 3) + (sliceDims E n A C wf).offCoord (ix3 t a c) (2 : Fin 3) = c.val
    unfold GatherDims.start
    rw [dif_neg (show (2 : Fin 3) ∉ ([0] : List (Fin 3)) by decide), Nat.zero_add]
    rfl

theorem rows_expt (T : IVec S179 32) (h : (T (ix1 t)).toNat < 32) : (rows T (ix2 t 0)).toInt.toNat = (exptOf (T (ix1 t))).val := by
  rw [rows_at t T h]
  show _ = (T (ix1 t)).toNat % 32
  have := toInt_eq (T (ix1 t))
  split at this <;> omega

section
variable (T : IVec S179 32) (h : (T (ix1 t)).toNat < 32)
include h

theorem w_at (W : FVec Ideal S32x1024x2048 .f32) (a : Fin 1024) (c : Fin 2048) :
    Host.gather gather_S32x1024x2048_S179x1_S179x1024x2048_12_0_n_n_0_1_110242048 W (rows T) (ix3 t a c) = W (ix3 (exptOf (T (ix1 t))) a c) :=
  take_at _ W (rows T) t a c _ (rows_expt t T h)
theorem b_at (B : FVec Ideal S32x1x2048 .f32) (a : Fin 1) (c : Fin 2048) :
    Host.gather gather_S32x1x2048_S179x1_S179x1x2048_12_0_n_n_0_1_112048 B (rows T) (ix3 t a c) = B (ix3 (exptOf (T (ix1 t))) a c) :=
  take_at _ B (rows T) t a c _ (rows_expt t T h)
theorem w'_at (W : FVec Ideal S32x1024x1024 .f32) (a : Fin 1024) (c : Fin 1024) :
    Host.gather gather_S32x1024x1024_S179x1_S179x1024x1024_12_0_n_n_0_1_110241024 W (rows T) (ix3 t a c) = W (ix3 (exptOf (T (ix1 t))) a c) :=
  take_at _ W (rows T) t a c _ (rows_expt t T h)
theorem b'_at (B : FVec Ideal S32x1x1024 .f32) (a : Fin 1) (c : Fin 1024) :
    Host.gather gather_S32x1x1024_S179x1_S179x1x1024_12_0_n_n_0_1_111024 B (rows T) (ix3 t a c) = B (ix3 (exptOf (T (ix1 t))) a c) :=
  take_at _ B (rows T) t a c _ (rows_expt t T h)

theorem ups_at (X : FVec Ideal S91648x1024 .f32) (W : FVec Ideal S32x1024x2048 .f32) (B : FVec Ideal S32x1x2048 .f32) (n : Fin 2048) :
    ups T X W B (ix3 t i n) = up (fun k => X (ix2 (rowOf t i) k)) (fun k f => W (ix3 (exptOf (T (ix1 t))) k f)) (fun f => B (ix3 (exptOf (T (ix1 t))) 0 f)) n := by
  pointwise [ups]
  simp only [w_at t T h, b_at t T h, blocks_at]
  rfl

theorem downs_at (A : FVec Ideal S179x512x1024 .f32) (W : FVec Ideal S32x1024x1024 .f32) (B : FVec Ideal S32x1x1024 .f32) (j : Fin 1024) :
    downs T A W B (ix3 t i j) = (∑ f, A (ix3 t i f) * W (ix3 (exptOf (T (ix1 t))) f j)) + B (ix3 (exptOf (T (ix1 t))) 0 j) := by
  pointwise [downs]
  simp only [w'_at t T h, b'_at t T h]

end

theorem acts_at (U : FVec Ideal S179x512x2048 .f32) (f : Fin 1024) : acts U (ix3 t i f) = act (fun n => U (ix3 t i n)) f := by
  pointwise [acts, glu]
  rfl

theorem chosen_at (U : IVec S179 32) (X : FVec Ideal S91648x1024 .f32) (Y : FVec Ideal S179x512x1024 .f32) (j : Fin 1024) (h : (U (ix1 t)).toNat ≤ 512) :
    chosen U X Y (ix3 t i j) = if (U (ix1 t)).toNat = 0 then X (ix2 (rowOf t i) j)
      else if 256 ≤ (i : Nat) ∧ (U (ix1 t)).toNat ≤ 256 then 0 else Y (ix3 t i j) := by
  have hz : (id (constant S_ .f32 0x00000000#32) : FVec Ideal S_ .f32) ix0 = (0 : EReal) := by
    show (constant S_ .f32 0x00000000#32 : FVec Ideal S_ .f32) ix0 = (0 : EReal)
    pointwise
  pointwise [chosen, off, counts]
  rw [hz, blocks_at]
  have hi : (BitVec.ofNat 32 (i : Nat)).toNat = i := by rw [BitVec.toNat_ofNat]; omega
  have hI : (BitVec.ofNat 32 (i : Nat)).toInt = i := by
    have := toInt_eq (BitVec.ofNat 32 (i : Nat))
    rw [hi] at this; split at this <;> omega
  have hU : (U (ix1 t)).toInt = (U (ix1 t)).toNat := by
    have := toInt_eq (U (ix1 t))
    split at this <;> omega
  generalize U (ix1 t) = u at *
  have e1 : IntOp.cmpi .sgt u 0#32 = if u.toNat = 0 then 0#1 else 1#1 := by
    split
    · exact ValueIdx.eq_zero_of_ne_one fun hh => by have := sgt0.1 hh; omega
    · exact sgt0.2 (by omega)
  have e2 : IntOp.cmpi .sge (BitVec.ofNat 32 (i : Nat)) 256#32 = if 256 ≤ (i : Nat) then 1#1 else 0#1 := by
    have : BitVec.sle 256#32 (BitVec.ofNat 32 (i : Nat)) = decide (256 ≤ (i : Nat)) := by
      rw [BitVec.sle, hI]; exact decide_eq_decide.2 (by simp)
    show BitVec.ofBool (BitVec.sle 256#32 (BitVec.ofNat 32 (i : Nat))) = _
    rw [this]; split <;> simp [*]
  have e3 : IntOp.cmpi .sle u 256#32 = if u.toNat ≤ 256 then 1#1 else 0#1 := by
    have : BitVec.sle u 256#32 = decide (u.toNat ≤ 256) := by
      rw [BitVec.sle, hU]; exact decide_eq_decide.2 (by simp)
    show BitVec.ofBool (BitVec.sle u 256#32) = _
    rw [this]; split <;> simp [*]
  rw [e1, e2, e3]
  by_cases a : u.toNat = 0
  · rw [if_pos a, if_pos a]; rfl
  · rw [if_neg a, if_neg a]
    refine (ValueIdx.select_one _ _).trans ?_
    by_cases b : 256 ≤ (i : Nat) <;> by_cases c : u.toNat ≤ 256 <;> simp only [b, c, and_self, and_true, and_false, if_true, if_false] <;> rfl

/-- The result at a block's row. -/
theorem res_at (T U : IVec S179 32) (h : (T (ix1 t)).toNat < 32) (hu : (U (ix1 t)).toNat ≤ 512) (X : FVec Ideal S91648x1024 .f32)
    (W : FVec Ideal S32x1024x2048 .f32) (B : FVec Ideal S32x1x2048 .f32) (W' : FVec Ideal S32x1024x1024 .f32) (B' : FVec Ideal S32x1x1024 .f32) (j : Fin 1024) :
    chosen U X (downs T (acts (ups T X W B)) W' B') (ix3 t i j)
      = block (fun s => T (ix1 s)) (fun s => U (ix1 s)) (fun r k => X (ix2 r k)) (fun e k f => W (ix3 e k f)) (fun e f => B (ix3 e 0 f))
          (fun e k f => W' (ix3 e k f)) (fun e f => B' (ix3 e 0 f)) t i j := by
  rw [chosen_at t i U X _ j hu, downs_at t i T h]
  simp only [acts_at, ups_at t i T h]
  rfl

/-- Row `r` of the flat result is block `r / 512`'s row `r % 512`. -/
theorem flat_at (Y : FVec Ideal S179x512x1024 .f32) (r : Fin 91648) (j : Fin 1024) :
    shapeCast S91648x1024 Y shapeCasts_S179x512x1024_S91648x1024 (ix2 r j) = Y (ix3 (blkOf r) (posOf r) j) := by
  pointwise
  rfl

end

end Cert.Reference2Ideal.Stage

end
-- ==== Proof.ExI.Agree.lean ====
/- The expert call and its reference leave the same rows. -/
module

public import proofs.«01_k».proof.Defs
public import proofs.«01_k».proof.Proof.ExI.Final
public import proofs.«01_k».proof.Proof.RefExperts
public import proofs.«01_k».proof.Proof.Tables
public import proofs.«01_k».proof.Proof.Gen.Pre_tables
public import Idealize.ShloMosaic.Lib.Quiescent
public import Idealize.ShloMosaic.Lib.Claim

@[expose] public section

set_option maxRecDepth 16384

noncomputable section

namespace Cert.Experts

open Idealize.ShloMosaic Idealize.SL.Sem

/-- The five tables of a memory the precondition holds of. -/
theorem ordered (m : (ℓ : Loc Cert.Kernel2Ideal.nD Cert.Kernel2Ideal.τ Cert.Kernel2Ideal.sig) → Buf (Elt Ideal) ℓ) (h : Cert.Pre_Kernel2Ideal m) :
    Cert.Kernel2Ideal.Experts.Ordered m :=
  sched _ _ _ _ _ _ _ _ _ _ (h 0).1 (h 0).2.1 (h 0).2.2

/-- The reference's run, counters included. -/
theorem ref_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD, r.2.mem (c.tc.loc Cert.Reference2Ideal.main_v66) = Cert.Reference2Ideal.Value.res_main_v66 (F := Ideal) m c
        ∧ r.2.mem (c.tc.loc Cert.Reference2Ideal.main_arg0) = m (c.tc.loc Cert.Reference2Ideal.main_arg0)
        ∧ r.2.mem (c.tc.loc Cert.Reference2Ideal.main_arg1) = m (c.tc.loc Cert.Reference2Ideal.main_arg1)
        ∧ r.2.mem (c.tc.loc Cert.Reference2Ideal.main_arg2) = m (c.tc.loc Cert.Reference2Ideal.main_arg2)
        ∧ r.2.mem (c.tc.loc Cert.Reference2Ideal.main_arg3) = m (c.tc.loc Cert.Reference2Ideal.main_arg3)
        ∧ r.2.mem (c.tc.loc Cert.Reference2Ideal.main_arg4) = m (c.tc.loc Cert.Reference2Ideal.main_arg4)
        ∧ r.2.mem (c.tc.loc Cert.Reference2Ideal.main_arg5) = m (c.tc.loc Cert.Reference2Ideal.main_arg5)
        ∧ r.2.mem (c.tc.loc Cert.Reference2Ideal.main_arg6) = m (c.tc.loc Cert.Reference2Ideal.main_arg6)
        ∧ r.2.mem (c.tc.loc Cert.Reference2Ideal.main_arg7) = m (c.tc.loc Cert.Reference2Ideal.main_arg7)
        ∧ r.2.mem (c.tc.loc Cert.Reference2Ideal.main_arg8) = m (c.tc.loc Cert.Reference2Ideal.main_arg8)
        ∧ r.2.mem (c.tc.loc Cert.Reference2Ideal.main_arg9) = m (c.tc.loc Cert.Reference2Ideal.main_arg9)) ∧ r.2.sem = fun _ => 0) :=
  (θ_run (Cert.Reference2Ideal.defs (F := Ideal)) _ _).mono (fun _ h => ⟨h, sem_eq_zero_of_no_sems rfl _⟩) (Cert.Reference2Ideal.Value.run m g)

/-- The call's result is the reference's, over the extended reals. -/
theorem agree : Cert.algebraic_Kernel2Ideal_Reference2Ideal := by
  intro m g m' g' hpre hagree
  have S := ordered m hpre
  have hr : ∀ c, Cert.Reference2Ideal.Value.res_main_v66 (F := Ideal) m' c = Cert.Kernel2Ideal.Experts.outs m c := by
    intro c
    obtain rfl : c = 0 := Subsingleton.elim (α := Fin 1) _ _
    obtain ⟨h0, -, h2, -, -, h5, h6, h7, h8, h9⟩ := hagree 0
    funext y
    obtain ⟨r, j, rfl⟩ : ∃ (r : Fin 91648) (j : Fin 1024), y = (ix2 r j : Cert.Reference2Ideal.S91648x1024.Idx) :=
      ⟨y 0, y 1, by funext a; fin_cases a <;> rfl⟩
    refine (congrFun (Cert.Reference2Ideal.Stage.res_eq m' 0) _).trans ?_
    rw [h0, h2, h5, h6, h7, h8, h9]
    refine (Cert.Reference2Ideal.Stage.flat_at _ r j).trans ?_
    exact Cert.Reference2Ideal.Stage.res_at (blkOf r) (posOf r) _ _ (S.be_lt _) (S.used_le _) _ _ _ _ _ j
  refine ⟨fun c => Cert.Kernel2Ideal.Experts.outs m c, ?_, ?_⟩
  · exact (θ_run (Cert.Kernel2Ideal.defs (F := Ideal)) _ _).mono
      (fun r h c => ⟨(h.1 c).trans (Cert.Kernel2Ideal.Experts.final3 m S c), h.2.1 c⟩)
      (θ_run_and (Cert.Kernel2Ideal.Experts.value_main m g S) (Cert.Kernel2Ideal.Experts.frame_main m g S))
  · exact (θ_run (Cert.Reference2Ideal.defs (F := Ideal)) _ _).mono
      (fun r h c => ⟨((h.1 c).1).trans (hr c), (h.1 c).2⟩) (ref_run m' g')

end Cert.Experts

end
-- ==== Proof.Inproj.lean ====
/- The input projection's mathematics: the RMS norm of a row, its products with the weight's columns, and the GLU. -/
module

public import Idealize.ShloMosaic.Lib.Pipeline.ValueKit
public import Idealize.ShloMosaic.Lib.Pointwise

@[expose] public section

noncomputable section

namespace Cert.Inproj
open Idealize.ShloMosaic

/-- The mean's divisor and the norm's small constant. -/
def width : EReal := Ideal.ofBits .f32 0x44800000#32
def eps : EReal := Ideal.ofBits .f32 0x358637BD#32

/-- A row over its root mean square, times the gains. -/
def nrm (x g : Fin 1024 → EReal) (d : Fin 1024) : EReal :=
  x d * Ideal.rsqrt (Ideal.div (∑ k, x k * x k) width + eps) * g d

/-- The normed row times a weight's column. -/
def dot {n : Nat} (x g : Fin 1024 → EReal) (w : Fin 1024 → Fin n → EReal) (e : Fin n) : EReal := ∑ d, nrm x g d * w d e

/-- The GLU of a value and a gate. -/
def glu (a b : EReal) : EReal := a * Ideal.logistic b

section Row
variable (x g : Fin 1024 → EReal) (w : Fin 1024 → Fin 3080 → EReal) (b : Fin 1024 → EReal)

/-- The q|k|v columns of the projection, its gate columns, and the GLU of its last columns with their biases. -/
def qkv (n : Fin 1536) : EReal := dot x g w ⟨n, by omega⟩
def gates (n : Fin 512) : EReal := dot x g w ⟨1536 + n, by omega⟩
def pre (j : Fin 1024) : EReal := dot x g w ⟨2056 + j, by omega⟩ + b j
def conf (n : Fin 512) : EReal := glu (pre x g w b ⟨n, by omega⟩) (pre x g w b ⟨512 + n, by omega⟩)

end Row

end Cert.Inproj
-- ==== Proof.InP.Block.lean ====
/- What one grid point of the prompt's input projection stores, entry by entry. -/
module

public import proofs.«01_k».proof.Proof.Inproj
public import proofs.«01_k».proof.Proof.Gen.Kernel3Ideal.Frame

@[expose] public section

set_option maxRecDepth 16384

noncomputable section

namespace Cert.Kernel3Ideal.Proj

open Idealize.ShloMosaic Idealize.ShloMosaic.TcCoe Idealize.SL.Sem Cert.Kernel3Ideal Cert.Kernel3Ideal.Gen

theorem norm_at (x : FVec Ideal S512x1024 .f32) (g : FVec Ideal S1x1024 .f32) (i : Fin 512) (d : Fin 1024) :
    k0_pay4 (F := Ideal) x g (ix2 i d) = Inproj.nrm (fun k => x (ix2 i k)) (fun k => g (ix2 0 k)) d := by
  pointwise [k0_pay4]; rfl

theorem qkv_at (x : FVec Ideal S512x1024 .f32) (g : FVec Ideal S1x1024 .f32) (w : FVec Ideal S1024x1536 .bf16) (i : Fin 512) (n : Fin 1536) :
    k0_pay5 (F := Ideal) x g w (ix2 i n) = Inproj.dot (fun k => x (ix2 i k)) (fun k => g (ix2 0 k)) (fun k e => w (ix2 k e)) n := by
  pointwise [k0_pay5]
  simp only [norm_at]
  rfl

theorem gates_at (x : FVec Ideal S512x1024 .f32) (g : FVec Ideal S1x1024 .f32) (w : FVec Ideal S1024x512 .bf16) (i n : Fin 512) :
    k0_pay6 (F := Ideal) x g w (ix2 i n) = Inproj.dot (fun k => x (ix2 i k)) (fun k => g (ix2 0 k)) (fun k e => w (ix2 k e)) n := by
  pointwise [k0_pay6]
  simp only [norm_at]
  rfl

theorem pre_at (x : FVec Ideal S512x1024 .f32) (g : FVec Ideal S1x1024 .f32) (w : FVec Ideal S1024x1024 .bf16) (b : FVec Ideal S1x1024 .f32)
    (i : Fin 512) (n : Fin 1024) :
    k0_pay7 (F := Ideal) x g w b (ix2 i n)
      = Inproj.dot (fun k => x (ix2 i k)) (fun k => g (ix2 0 k)) (fun k e => w (ix2 k e)) n + b (ix2 0 n) := by
  pointwise [k0_pay7]
  simp only [norm_at]
  rfl

theorem conf_at (x : FVec Ideal S512x1024 .f32) (g : FVec Ideal S1x1024 .f32) (w : FVec Ideal S1024x1024 .bf16) (b : FVec Ideal S1x1024 .f32)
    (i n : Fin 512) :
    k0_pay10 (F := Ideal) (k0_pay8 x g w b) (k0_pay9 x g w b) (ix2 i n)
      = Inproj.glu (k0_pay7 (F := Ideal) x g w b (ix2 i ⟨n, by omega⟩)) (k0_pay7 (F := Ideal) x g w b (ix2 i ⟨512 + n, by omega⟩)) := by
  pointwise [k0_pay10, k0_pay8, k0_pay9]; rfl

section
variable (x0 : Vec Ideal S512x1024 .f32) (x1 : Vec Ideal S1x1024 .f32) (x2 : Vec Ideal S1024x1536 .bf16) (x3 : Vec Ideal S1024x512 .bf16)
  (x4 : Vec Ideal S1024x128 .bf16) (x5 : Vec Ideal S1024x1024 .bf16) (x6 : Vec Ideal S1x1024 .f32) (x7 x8 : Vec Ideal S8x1 .f32)
  (x9 : Vec Ideal S512x512 .bf16) (i : Fin 512)

theorem out10_at (n : Fin 1536) : out0_10 x0 x1 x2 x3 x4 x5 x6 x7 x8 x9 (ix2 i n)
    = Inproj.dot (fun k => x0 (ix2 i k)) (fun k => x1 (ix2 0 k)) (fun k e => x2 (ix2 k e)) n := by
  unfold out0_10
  rw [View.canon_cons_unit_lit _ _ _ (by decide)]
  rw [View.ld_unit_lit _ x0 (by decide), View.ld_unit_lit _ x1 (by decide), View.ld_unit_lit _ x2 (by decide)]
  exact qkv_at _ _ _ i n

theorem out11_at (n : Fin 512) : out0_11 x0 x1 x2 x3 x4 x5 x6 x7 x8 x9 (ix2 i n)
    = Inproj.dot (fun k => x0 (ix2 i k)) (fun k => x1 (ix2 0 k)) (fun k e => x3 (ix2 k e)) n := by
  unfold out0_11
  rw [View.canon_cons_unit_lit _ _ _ (by decide)]
  rw [View.ld_unit_lit _ x0 (by decide), View.ld_unit_lit _ x1 (by decide), View.ld_unit_lit _ x3 (by decide)]
  exact gates_at _ _ _ i n

theorem out14_at (n : Fin 512) : out0_14 x0 x1 x2 x3 x4 x5 x6 x7 x8 x9 (ix2 i n)
    = Inproj.glu (Inproj.dot (fun k => x0 (ix2 i k)) (fun k => x1 (ix2 0 k)) (fun k e => x5 (ix2 k e)) ⟨n, by omega⟩ + x6 (ix2 0 ⟨n, by omega⟩))
        (Inproj.dot (fun k => x0 (ix2 i k)) (fun k => x1 (ix2 0 k)) (fun k e => x5 (ix2 k e)) ⟨512 + n, by omega⟩ + x6 (ix2 0 ⟨512 + n, by omega⟩)) := by
  unfold out0_14
  rw [View.canon_cons_unit_lit _ _ _ (by decide)]
  rw [View.ld_unit_lit _ x0 (by decide), View.ld_unit_lit _ x1 (by decide), View.ld_unit_lit _ x5 (by decide), View.ld_unit_lit _ x6 (by decide)]
  refine (conf_at _ _ _ _ i n).trans ?_
  rw [pre_at, pre_at]

end

end Cert.Kernel3Ideal.Proj
-- ==== Proof.InP.Arrays.lean ====
/- The three arrays the prompt's input projection leaves, entry by entry, from its arguments. -/
module

public import proofs.«01_k».proof.Proof.InP.Block
public import Idealize.ShloMosaic.Lib.Claim

@[expose] public section

set_option maxRecDepth 16384

noncomputable section

namespace Cert.Kernel3Ideal.Proj

open Idealize.ShloMosaic Idealize.ShloMosaic.TcCoe Idealize.SL.Sem Cert.Kernel3Ideal Cert.Kernel3Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_5.index t = ![0, 0] ∧ win0_6.index t = ![0, 0]
    ∧ win0_10.index t = ![t.val, 0] ∧ win0_11.index t = ![t.val, 0] ∧ win0_14.index t = ![t.val, 0] ∧ t.val < 32 :=
  (by decide +kernel : ∀ t : Fin grid0.N, _)

theorem lt (t : Fin cfg0.N) (i : Fin 512) : 512 * t.val + (i : Nat) < 16384 := by
  have := (idx t).2.2.2.2.2.2.2.2.2
  omega

/-- Row `p` of the prompt's rows, the gains, the weight and the GLU's biases, on core `c`. -/
def row (c : Dev nD) (p : Fin 16384) (k : Fin 1024) : EReal :=
  (m ((c : Thread nD τ).loc main_arg0) : FVec Ideal S8x2048x1024 .f32) (ix3 ⟨p / 2048, by omega⟩ ⟨p % 2048, by omega⟩ k)
def gains (c : Dev nD) (k : Fin 1024) : EReal := (m ((c : Thread nD τ).loc main_arg1) : FVec Ideal S1x1024 .f32) (ix2 0 k)
def weight (c : Dev nD) (k : Fin 1024) (e : Fin 3080) : EReal := (m ((c : Thread nD τ).loc main_arg2) : FVec Ideal S1x1024x3080 .f32) (ix3 0 k e)
def biases (c : Dev nD) (k : Fin 1024) : EReal := (m ((c : Thread nD τ).loc main_arg5) : FVec Ideal S1x1024 .f32) (ix2 0 k)

/-- The prompt's rows, batches laid end to end. -/
theorem rows_at (x : FVec Ideal S8x2048x1024 .f32) (p : Fin 16384) (k : Fin 1024) :
    shapeCast S16384x1024 x shapeCasts_S8x2048x1024_S16384x1024 (ix2 p k) = x (ix3 ⟨p / 2048, by omega⟩ ⟨p % 2048, by omega⟩ k) := by
  pointwise []

/-! Columns of the weight, rounded to bf16: over the extended reals, the columns. -/

theorem cols0 (w : FVec Ideal S1x1024x3080 .f32) (k : Fin 1024) (n : Fin 1536) :
    (truncf .bf16 (extractStridedSlice S1024x1536 ![0, 0] (shapeCast S1024x3080 w shapeCasts_S1x1024x3080_S1024x3080)
      slices_S1024x3080_S1024x1536_0_0) bitsLt_bf16_f32 : FVec Ideal S1024x1536 .bf16) (ix2 k n) = w (ix3 0 k ⟨n, by omega⟩) := by
  pointwise []

theorem cols1 (w : FVec Ideal S1x1024x3080 .f32) (k : Fin 1024) (n : Fin 512) :
    (truncf .bf16 (extractStridedSlice S1024x512 ![0, 1536] (shapeCast S1024x3080 w shapeCasts_S1x1024x3080_S1024x3080)
      slices_S1024x3080_S1024x512_0_1536) bitsLt_bf16_f32 : FVec Ideal S1024x512 .bf16) (ix2 k n) = w (ix3 0 k ⟨1536 + n, by omega⟩) := by
  pointwise []

theorem cols2 (w : FVec Ideal S1x1024x3080 .f32) (k : Fin 1024) (n : Fin 1024) :
    (truncf .bf16 (extractStridedSlice S1024x1024 ![0, 2056] (shapeCast S1024x3080 w shapeCasts_S1x1024x3080_S1024x3080)
      slices_S1024x3080_S1024x1024_0_2056) bitsLt_bf16_f32 : FVec Ideal S1024x1024 .bf16) (ix2 k n) = w (ix3 0 k ⟨2056 + n, by omega⟩) := by
  pointwise []

section
variable (c : Dev nD)

/-! ### The windows' arrays when the grid starts, from the arguments -/

theorem v0 : V m c main_v0 = shapeCast S16384x1024 (m ((c : Thread nD τ).loc main_arg0) : FVec Ideal S8x2048x1024 .f32) shapeCasts_S8x2048x1024_S16384x1024 := by
  sl_kernel_rfl
theorem v22 : V m c main_v22 = broadcastInDim S1x1024 ![1] bcast_S1024_S1x1024_1
    (shapeCast S1024 (m ((c : Thread nD τ).loc main_arg1) : FVec Ideal S1x1024 .f32) shapeCasts_S1x1024_S1024) := by sl_kernel_rfl
theorem v3 : V m c main_v3 = (truncf .bf16 (extractStridedSlice S1024x1536 ![0, 0]
    (shapeCast S1024x3080 (m ((c : Thread nD τ).loc main_arg2) : FVec Ideal S1x1024x3080 .f32) shapeCasts_S1x1024x3080_S1024x3080)
    slices_S1024x3080_S1024x1536_0_0) bitsLt_bf16_f32 : FVec Ideal S1024x1536 .bf16) := by sl_kernel_rfl
theorem v5 : V m c main_v5 = (truncf .bf16 (extractStridedSlice S1024x512 ![0, 1536]
    (shapeCast S1024x3080 (m ((c : Thread nD τ).loc main_arg2) : FVec Ideal S1x1024x3080 .f32) shapeCasts_S1x1024x3080_S1024x3080)
    slices_S1024x3080_S1024x512_0_1536) bitsLt_bf16_f32 : FVec Ideal S1024x512 .bf16) := by sl_kernel_rfl
theorem v10 : V m c main_v10 = (truncf .bf16 (extractStridedSlice S1024x1024 ![0, 2056]
    (shapeCast S1024x3080 (m ((c : Thread nD τ).loc main_arg2) : FVec Ideal S1x1024x3080 .f32) shapeCasts_S1x1024x3080_S1024x3080)
    slices_S1024x3080_S1024x1024_0_2056) bitsLt_bf16_f32 : FVec Ideal S1024x1024 .bf16) := by sl_kernel_rfl
theorem v12 : V m c main_v12 = broadcastInDim S1x1024 ![1] bcast_S1024_S1x1024_1
    (shapeCast S1024 (m ((c : Thread nD τ).loc main_arg5) : FVec Ideal S1x1024 .f32) shapeCasts_S1x1024_S1024) := by sl_kernel_rfl

variable (t : Fin cfg0.N)

theorem rd0 (X : FVec Ideal S16384x1024 .f32) (i : Fin 512) (k : Fin 1024) :
    (win0_0.blk t).view.read (Elt Ideal) X (ix2 i k) = X (ix2 ⟨512 * t.val + i, lt t i⟩ k) := by
  have := lt t i
  blk_ext [idx t]
theorem rd1 (X : FVec Ideal S1x1024 .f32) (k : Fin 1024) : (win0_1.blk t).view.read (Elt Ideal) X (ix2 0 k) = X (ix2 0 k) := by
  blk_ext [idx t]
theorem rd2 (X : FVec Ideal S1024x1536 .bf16) (k : Fin 1024) (n : Fin 1536) : (win0_2.blk t).view.read (Elt Ideal) X (ix2 k n) = X (ix2 k n) := by
  blk_ext [idx t]
theorem rd3 (X : FVec Ideal S1024x512 .bf16) (k : Fin 1024) (n : Fin 512) : (win0_3.blk t).view.read (Elt Ideal) X (ix2 k n) = X (ix2 k n) := by
  blk_ext [idx t]
theorem rd5 (X : FVec Ideal S1024x1024 .bf16) (k n : Fin 1024) : (win0_5.blk t).view.read (Elt Ideal) X (ix2 k n) = X (ix2 k n) := by
  blk_ext [idx t]
theorem rd6 (X : FVec Ideal S1x1024 .f32) (k : Fin 1024) : (win0_6.blk t).view.read (Elt Ideal) X (ix2 0 k) = X (ix2 0 k) := by
  blk_ext [idx t]

/-! ### Each block at an entry -/

theorem x_at (i : Fin 512) (k : Fin 1024) : (iblk m c 0 t : FVec Ideal S512x1024 .f32) (ix2 i k) = row m c ⟨512 * t.val + i, lt t i⟩ k := by
  refine (congrFun (congrArg ((win0_0.blk t).view.read (Elt Ideal)) (v0 m c)) (ix2 i k)).trans ((rd0 t _ i k).trans ?_)
  exact rows_at _ _ k

theorem g_at (k : Fin 1024) : (iblk m c 1 t : FVec Ideal S1x1024 .f32) (ix2 0 k) = gains m c k := by
  refine (congrFun (congrArg ((win0_1.blk t).view.read (Elt Ideal)) (v22 m c)) (ix2 0 k)).trans ((rd1 t _ k).trans ?_)
  pointwise []
  rfl

theorem wqkv_at (k : Fin 1024) (n : Fin 1536) : (iblk m c 2 t : FVec Ideal S1024x1536 .bf16) (ix2 k n) = weight m c k ⟨n, by omega⟩ := by
  refine (congrFun (congrArg ((win0_2.blk t).view.read (Elt Ideal)) (v3 m c)) (ix2 k n)).trans ((rd2 t _ k n).trans ?_)
  exact cols0 _ k n

theorem wz_at (k : Fin 1024) (n : Fin 512) : (iblk m c 3 t : FVec Ideal S1024x512 .bf16) (ix2 k n) = weight m c k ⟨1536 + n, by omega⟩ := by
  refine (congrFun (congrArg ((win0_3.blk t).view.read (Elt Ideal)) (v5 m c)) (ix2 k n)).trans ((rd3 t _ k n).trans ?_)
  exact cols1 _ k n

theorem wglu_at (k n : Fin 1024) : (iblk m c 5 t : FVec Ideal S1024x1024 .bf16) (ix2 k n) = weight m c k ⟨2056 + n, by omega⟩ := by
  refine (congrFun (congrArg ((win0_5.blk t).view.read (Elt Ideal)) (v10 m c)) (ix2 k n)).trans ((rd5 t _ k n).trans ?_)
  exact cols2 _ k n

theorem b_at (k : Fin 1024) : (iblk m c 6 t : FVec Ideal S1x1024 .f32) (ix2 0 k) = biases m c k := by
  refine (congrFun (congrArg ((win0_6.blk t).view.read (Elt Ideal)) (v12 m c)) (ix2 0 k)).trans ((rd6 t _ k).trans ?_)
  pointwise []
  rfl

end

/-! ### The arrays after the run -/

def qkvs (c : Dev nD) : FVec Ideal S16384x1536 .f32 := fun y => Inproj.qkv (row m c (y 0)) (gains m c) (weight m c) (y 1)
def zs (c : Dev nD) : FVec Ideal S16384x512 .f32 := fun y => Inproj.gates (row m c (y 0)) (gains m c) (weight m c) (y 1)
def us (c : Dev nD) : FVec Ideal S16384x512 .f32 := fun y => Inproj.conf (row m c (y 0)) (gains m c) (weight m c) (biases m c) (y 1)

theorem dot_congr {n : Nat} {x x' g g' : Fin 1024 → EReal} {w : Fin 1024 → Fin n → EReal} {w' : Fin 1024 → Fin 3080 → EReal} {e : Fin n} {e' : Fin 3080}
    (hx : ∀ k, x k = x' k) (hg : ∀ k, g k = g' k) (hw : ∀ k, w k e = w' k e') : Inproj.dot x g w e = Inproj.dot x' g' w' e' := by
  obtain rfl : x = x' := funext hx
  obtain rfl : g = g' := funext hg
  unfold Inproj.dot
  exact Finset.sum_congr rfl fun k _ => by rw [hw k]

theorem point10 (c : Dev nD) (t : Fin cfg0.N) (i : Fin 512) (n : Fin 1536) :
    (dats m 0 c).after 10 t (ix2 i n) = qkvs m c (ix2 ⟨512 * t.val + i, lt t i⟩ n) := by
  refine (congrFun (after0_10 m c t) (ix2 i n)).trans ((out10_at _ _ _ _ _ _ _ _ _ _ i n).trans ?_)
  exact dot_congr (x_at m c t i) (g_at m c t) fun k => wqkv_at m c t k n

theorem point11 (c : Dev nD) (t : Fin cfg0.N) (i n : Fin 512) :
    (dats m 0 c).after 11 t (ix2 i n) = zs m c (ix2 ⟨512 * t.val + i, lt t i⟩ n) := by
  refine (congrFun (after0_11 m c t) (ix2 i n)).trans ((out11_at _ _ _ _ _ _ _ _ _ _ i n).trans ?_)
  exact dot_congr (x_at m c t i) (g_at m c t) fun k => wz_at m c t k n

theorem pre_eq (c : Dev nD) (t : Fin cfg0.N) (i : Fin 512) (n : Fin 1024) :
    Inproj.dot (fun k => (iblk m c 0 t : FVec Ideal S512x1024 .f32) (ix2 i k)) (fun k => (iblk m c 1 t : FVec Ideal S1x1024 .f32) (ix2 0 k))
        (fun k e => (iblk m c 5 t : FVec Ideal S1024x1024 .bf16) (ix2 k e)) n + (iblk m c 6 t : FVec Ideal S1x1024 .f32) (ix2 0 n)
      = Inproj.pre (row m c ⟨512 * t.val + i, lt t i⟩) (gains m c) (weight m c) (biases m c) n := by
  unfold Inproj.pre
  rw [b_at]
  exact congrArg (· + biases m c n) (dot_congr (x_at m c t i) (g_at m c t) fun k => wglu_at m c t k n)

theorem point14 (c : Dev nD) (t : Fin cfg0.N) (i n : Fin 512) :
    (dats m 0 c).after 14 t (ix2 i n) = us m c (ix2 ⟨512 * t.val + i, lt t i⟩ n) := by
  refine (congrFun (after0_14 m c t) (ix2 i n)).trans ((out14_at _ _ _ _ _ _ _ _ _ _ i n).trans ?_)
  exact congrArg₂ Inproj.glu (pre_eq m c t i _) (pre_eq m c t i _)

theorem final10 (c : Dev nD) : (dats m 0 c).arrAt 10 cfg0.N = qkvs m c := by
  refine (dats m 0 c).arrAt_eq_of_covers 10 _ (by decide +kernel) fun t _ y => ?_
  obtain ⟨i, n, rfl⟩ : ∃ (i : Fin 512) (n : Fin 1536), y = ix2 i n := ⟨y 0, y 1, by funext a; fin_cases a <;> rfl⟩
  blk_simp
  refine (point10 m c t i n).trans ?_
  have := lt t i
  refine congrArg (qkvs m c) ?_
  blk_ext [idx t]

theorem final11 (c : Dev nD) : (dats m 0 c).arrAt 11 cfg0.N = zs m c := by
  refine (dats m 0 c).arrAt_eq_of_covers 11 _ (by decide +kernel) fun t _ y => ?_
  obtain ⟨i, n, rfl⟩ : ∃ (i : Fin 512) (n : Fin 512), y = ix2 i n := ⟨y 0, y 1, by funext a; fin_cases a <;> rfl⟩
  blk_simp
  refine (point11 m c t i n).trans ?_
  have := lt t i
  refine congrArg (zs m c) ?_
  blk_ext [idx t]

theorem final14 (c : Dev nD) : (dats m 0 c).arrAt 14 cfg0.N = us m c := by
  refine (dats m 0 c).arrAt_eq_of_covers 14 _ (by decide +kernel) fun t _ y => ?_
  obtain ⟨i, n, rfl⟩ : ∃ (i : Fin 512) (n : Fin 512), y = ix2 i n := ⟨y 0, y 1, by funext a; fin_cases a <;> rfl⟩
  blk_simp
  refine (point14 m c t i n).trans ?_
  have := lt t i
  refine congrArg (us m c) ?_
  blk_ext [idx t]

end Cert.Kernel3Ideal.Proj
-- ==== Proof.InP.Final.lean ====
/- The prompt's input projection run whole: its three arrays, and the two tails the lines after the grid cut from them. -/
module

public import proofs.«01_k».proof.Proof.InP.Arrays

@[expose] public section

set_option maxRecDepth 16384

noncomputable section

namespace Cert.Kernel3Ideal.Proj

open Idealize.ShloMosaic Idealize.ShloMosaic.TcCoe Idealize.SL.Sem Cert.Kernel3Ideal Cert.Kernel3Ideal.Gen

variable (m : (ℓ : Loc nD τ sig) → Buf (Elt Ideal) ℓ)

/-- The last three rows of each batch. -/
def tailQ (x : FVec Ideal S16384x1536 .f32) : FVec Ideal S1x8x3x1536 .f32 :=
  broadcastInDim S1x8x3x1536 ![1, 2, 3] bcast_S8x3x1536_S1x8x3x1536_1_2_3
    (extractStridedSlice S8x3x1536 ![0, 2045, 0] (shapeCast S8x2048x1536 x shapeCasts_S16384x1536_S8x2048x1536) slices_S8x2048x1536_S8x3x1536_0_2045_0)

/-- The last thirty rows of each batch. -/
def tailU (x : FVec Ideal S16384x512 .f32) : FVec Ideal S1x8x30x512 .f32 :=
  broadcastInDim S1x8x30x512 ![1, 2, 3] bcast_S8x30x512_S1x8x30x512_1_2_3
    (extractStridedSlice S8x30x512 ![0, 2018, 0] (shapeCast S8x2048x512 x shapeCasts_S16384x512_S8x2048x512) slices_S8x2048x512_S8x30x512_0_2018_0)

theorem after42 (V : Valuation τ sig (Elt Ideal)) :
    StableHlo.after (List.flatten [hostOps1]) V (Proc.devRef .tc main_v42) = tailQ (V (Proc.devRef .tc main_v38_0)) := by sl_kernel_rfl
theorem after44 (V : Valuation τ sig (Elt Ideal)) :
    StableHlo.after (List.flatten [hostOps1]) V (Proc.devRef .tc main_v44) = tailU (V (Proc.devRef .tc main_v38_4)) := by sl_kernel_rfl

theorem distinct : Function.Injective (Pipeline.arrRef spec0) := by decide

theorem tail42 (c : Dev nD) : Pipeline.afterTail₀ cfgs (dats m) 0 (V0 m) [hostOps1] c main_v42 = tailQ (qkvs m c) := by
  unfold Pipeline.afterTail₀
  refine (after42 _).trans (congrArg tailQ ?_)
  exact (Pipeline.withArrays_arr spec0 distinct c (V0 m c) _ 10).trans (final10 m c)

theorem tail44 (c : Dev nD) : Pipeline.afterTail₀ cfgs (dats m) 0 (V0 m) [hostOps1] c main_v44 = tailU (us m c) := by
  unfold Pipeline.afterTail₀
  refine (after44 _).trans (congrArg tailU ?_)
  exact (Pipeline.withArrays_arr spec0 distinct c (V0 m c) _ 14).trans (final14 m c)

/-- The five results. -/
theorem results (ρ : Dev nD → PrngReg) : θ_run defs (onTc (τ := τ) (main (F := Ideal))) ⟨m, fun _ => 0, ρ⟩ (fun r => ∀ c : Dev nD,
      r.2.mem ((c.tc : Thread nD τ).loc main_v38_0) = qkvs m c ∧ r.2.mem ((c.tc : Thread nD τ).loc main_v38_1) = zs m c
      ∧ r.2.mem ((c.tc : Thread nD τ).loc main_v38_4) = us m c ∧ r.2.mem ((c.tc : Thread nD τ).loc main_v42) = tailQ (qkvs m c)
      ∧ r.2.mem ((c.tc : Thread nD τ).loc main_v44) = tailU (us m c)) :=
  (θ_run defs _ _).mono (fun _ h c => ⟨((h c).1 10).trans (final10 m c), ((h c).1 11).trans (final11 m c), ((h c).1 14).trans (final14 m c),
    ((h c).2 main_v42 (Pipeline.mem_restRefs_of main_v42 (by decide) (by decide))).trans (tail42 m c),
    ((h c).2 main_v44 (Pipeline.mem_restRefs_of main_v44 (by decide) (by decide))).trans (tail44 m c)⟩) (run_main m ρ)

end Cert.Kernel3Ideal.Proj
-- ==== Proof.InP.Ref.lean ====
/- The reference of the prompt's input projection, by stages and at an entry. -/
module

public import proofs.«01_k».proof.Proof.Inproj
public import proofs.«01_k».proof.Proof.Gen.Reference3Ideal.Run
public import Idealize.ShloMosaic.Lib.Quiescent

@[expose] public section

set_option maxRecDepth 16384

noncomputable section

namespace Cert.Reference3Ideal.Stage

open Idealize.ShloMosaic Idealize.ShloMosaic.TcCoe Idealize.SL.Sem Cert.Reference3Ideal Cert.Reference3Ideal.Gen

/-- The normed rows. -/
def normed (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast S1024 g shapeCasts_S1x1024_S1024)))

/-- The combined projection. -/
def proj (x : FVec Ideal S8x2048x1024 .f32) (g : FVec Ideal S1x1024 .f32) (w : FVec Ideal S1x1024x3080 .f32) : FVec Ideal S8x2048x3080 .f32 :=
  Host.dotGeneral dot_S8x2048x1024_S1024x3080_S8x2048x3080_2_0_01_1_n_n none (normed x g)
    (shapeCast S1024x3080 w shapeCasts_S1x1024x3080_S1024x3080)

def qkv (p : FVec Ideal S8x2048x3080 .f32) : FVec Ideal S8x2048x1536 .f32 :=
  extractStridedSlice S8x2048x1536 ![0, 0, 0] p slices_S8x2048x3080_S8x2048x1536_0_0_0
def gates (p : FVec Ideal S8x2048x3080 .f32) : FVec Ideal S8x2048x512 .f32 :=
  extractStridedSlice S8x2048x512 ![0, 0, 1536] p slices_S8x2048x3080_S8x2048x512_0_0_1536

/-- The GLU's columns with their biases. -/
def biased (p : FVec Ideal S8x2048x3080 .f32) (b : FVec Ideal S1x1024 .f32) : FVec Ideal S8x2048x1024 .f32 :=
  addf (extractStridedSlice S8x2048x1024 ![0, 0, 2056] p slices_S8x2048x3080_S8x2048x1024_0_0_2056)
    (broadcastInDim S8x2048x1024 ![0, 1, 2] bcast_S1x1x1024_S8x2048x1024_0_1_2
      (broadcastInDim S1x1x1024 ![2] bcast_S1024_S1x1x1024_2 (shapeCast S1024 b shapeCasts_S1x1024_S1024)))

def glu (q : FVec Ideal S8x2048x1024 .f32) : FVec Ideal S8x2048x512 .f32 :=
  mulf (extractStridedSlice S8x2048x512 ![0, 0, 0] q slices_S8x2048x1024_S8x2048x512_0_0_0)
    (Host.divf (broadcastInDim S8x2048x512 ![] bcast_S_S8x2048x512 (constant S_ .f32 0x3F800000#32))
      (addf (broadcastInDim S8x2048x512 ![] bcast_S_S8x2048x512 (constant S_ .f32 0x3F800000#32))
        (Host.exp (Host.negf (extractStridedSlice S8x2048x512 ![0, 0, 512] q slices_S8x2048x1024_S8x2048x512_0_0_512)))))

/-- The rows behind a zero history, and their last three and thirty. -/
def lastQ (x : FVec Ideal S8x2048x1536 .f32) : FVec Ideal S1x8x3x1536 .f32 :=
  broadcastInDim S1x8x3x1536 ![1, 2, 3] bcast_S8x3x1536_S1x8x3x1536_1_2_3
    (extractStridedSlice S8x3x1536 ![0, 2048, 0] (concatenate S8x2051x1536 1
        [⟨S8x3x1536, (broadcastInDim S8x3x1536 ![] bcast_S_S8x3x1536 (constant (F := Ideal) S_ .f32 0x00000000#32) : FVec Ideal S8x3x1536 .f32)⟩, ⟨S8x2048x1536, x⟩]
        concatenates_S8x3x1536_S8x2048x1536_S8x2051x1536_d1)
      slices_S8x2051x1536_S8x3x1536_0_2048_0)
def lastU (x : FVec Ideal S8x2048x512 .f32) : FVec Ideal S1x8x30x512 .f32 :=
  broadcastInDim S1x8x30x512 ![1, 2, 3] bcast_S8x30x512_S1x8x30x512_1_2_3
    (extractStridedSlice S8x30x512 ![0, 2048, 0] (concatenate S8x2078x512 1
        [⟨S8x30x512, (broadcastInDim S8x30x512 ![] bcast_S_S8x30x512 (constant (F := Ideal) S_ .f32 0x00000000#32) : FVec Ideal S8x30x512 .f32)⟩, ⟨S8x2048x512, x⟩]
        concatenates_S8x30x512_S8x2048x512_S8x2078x512_d1)
      slices_S8x2078x512_S8x30x512_0_2048_0)

/-! ### At an entry -/

section
variable (x : FVec Ideal S8x2048x1024 .f32) (g : FVec Ideal S1x1024 .f32) (w : FVec Ideal S1x1024x3080 .f32) (b : FVec Ideal S1x1024 .f32)
  (s : Fin 8) (r : Fin 2048)

theorem normed_at (d : Fin 1024) : normed x g (ix3 s r d) = Inproj.nrm (fun k => x (ix3 s r k)) (fun k => g (ix2 0 k)) d := by
  pointwise [normed]
  rfl

theorem proj_at (e : Fin 3080) : proj x g w (ix3 s r e)
    = Inproj.dot (fun k => x (ix3 s r k)) (fun k => g (ix2 0 k)) (fun k e => w (ix3 0 k e)) e := by
  pointwise [proj]
  simp only [normed_at]
  rfl

theorem qkv_at (n : Fin 1536) : qkv (proj x g w) (ix3 s r n)
    = Inproj.qkv (fun k => x (ix3 s r k)) (fun k => g (ix2 0 k)) (fun k e => w (ix3 0 k e)) n := by
  pointwise [qkv]
  exact proj_at x g w s r _

theorem gates_at (n : Fin 512) : gates (proj x g w) (ix3 s r n)
    = Inproj.gates (fun k => x (ix3 s r k)) (fun k => g (ix2 0 k)) (fun k e => w (ix3 0 k e)) n := by
  pointwise [gates]
  exact proj_at x g w s r _

theorem biased_at (n : Fin 1024) : biased (proj x g w) b (ix3 s r n)
    = Inproj.pre (fun k => x (ix3 s r k)) (fun k => g (ix2 0 k)) (fun k e => w (ix3 0 k e)) (fun k => b (ix2 0 k)) n := by
  pointwise [biased]
  exact congrArg (· + b (ix2 0 n)) (proj_at x g w s r _)

theorem glu_at (q : FVec Ideal S8x2048x1024 .f32) (n : Fin 512) : glu q (ix3 s r n)
    = Inproj.glu (q (ix3 s r ⟨n, by omega⟩)) (q (ix3 s r ⟨512 + n, by omega⟩)) := by
  pointwise [glu]
  rfl

theorem conf_at (n : Fin 512) : glu (biased (proj x g w) b) (ix3 s r n)
    = Inproj.conf (fun k => x (ix3 s r k)) (fun k => g (ix2 0 k)) (fun k e => w (ix3 0 k e)) (fun k => b (ix2 0 k)) n := by
  rw [glu_at, biased_at, biased_at]
  rfl

end

theorem lastQ_at (x : FVec Ideal S8x2048x1536 .f32) (s : Fin 8) (r : Fin 3) (n : Fin 1536) :
    lastQ x (ix4 0 s r n) = x (ix3 s ⟨2045 + r, by omega⟩ n) := by
  pointwise [lastQ]
  rw [dif_neg (by omega)]
  exact congrArg (fun p => x (ix3 s p n)) (Fin.ext (by show 2048 + (r : Nat) - 3 = 2045 + r; omega))

theorem lastU_at (x : FVec Ideal S8x2048x512 .f32) (s : Fin 8) (r : Fin 30) (n : Fin 512) :
    lastU x (ix4 0 s r n) = x (ix3 s ⟨2018 + r, by omega⟩ n) := by
  pointwise [lastU]
  rw [dif_neg (by omega)]
  exact congrArg (fun p => x (ix3 s p n)) (Fin.ext (by show 2048 + (r : Nat) - 30 = 2018 + r; omega))

/-! ### The run -/

/-- The five results and the arguments, from the launch's arguments. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v36) = shapeCast S16384x1536 (qkv (proj (m (c.tc.loc main_arg0)) (m (c.tc.loc main_arg1)) (m (c.tc.loc main_arg2)))) shapeCasts_S8x2048x1536_S16384x1536
      ∧ r.2.mem ((c.tc : Thread nD τ).loc main_v37) = shapeCast S16384x512 (gates (proj (m (c.tc.loc main_arg0)) (m (c.tc.loc main_arg1)) (m (c.tc.loc main_arg2)))) shapeCasts_S8x2048x512_S16384x512
      ∧ r.2.mem ((c.tc : Thread nD τ).loc main_v38) = shapeCast S16384x512 (glu (biased (proj (m (c.tc.loc main_arg0)) (m (c.tc.loc main_arg1)) (m (c.tc.loc main_arg2))) (m (c.tc.loc main_arg5)))) shapeCasts_S8x2048x512_S16384x512
      ∧ r.2.mem ((c.tc : Thread nD τ).loc main_v40) = lastQ (qkv (proj (m (c.tc.loc main_arg0)) (m (c.tc.loc main_arg1)) (m (c.tc.loc main_arg2))))
      ∧ r.2.mem ((c.tc : Thread nD τ).loc main_v42) = lastU (glu (biased (proj (m (c.tc.loc main_arg0)) (m (c.tc.loc main_arg1)) (m (c.tc.loc main_arg2))) (m (c.tc.loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 := by
  refine (θ_run defs _ _).mono ?_ (Value.run (F := Ideal) m ρ)
  intro r h
  refine ⟨fun c => ?_, sem_eq_zero_of_no_sems rfl _⟩
  obtain ⟨h0, h1, h2, h3, h4, rest⟩ := h c
  exact ⟨h0, h1, h2, h3, h4, rest⟩

end Cert.Reference3Ideal.Stage
-- ==== Proof.InP.Agree.lean ====
/- The prompt's input projection: the call's five results are its reference's, over the extended reals. -/
module

public import proofs.«01_k».proof.Defs
public import proofs.«01_k».proof.Proof.InP.Final
public import proofs.«01_k».proof.Proof.InP.Ref

@[expose] public section

set_option maxRecDepth 16384

noncomputable section

namespace Cert.InP

open Idealize.ShloMosaic Idealize.ShloMosaic.TcCoe Idealize.SL.Sem

section Flat
open Cert.Reference3Ideal

theorem flatQ_at (x : FVec Ideal S8x2048x1536 .f32) (p : Fin 16384) (n : Fin 1536) :
    shapeCast S16384x1536 x Gen.facts.shapeCasts_S8x2048x1536_S16384x1536 (ix2 p n) = x (ix3 ⟨p / 2048, by omega⟩ ⟨p % 2048, by omega⟩ n) := by
  pointwise []
theorem flatU_at (x : FVec Ideal S8x2048x512 .f32) (p : Fin 16384) (n : Fin 512) :
    shapeCast S16384x512 x Gen.facts.shapeCasts_S8x2048x512_S16384x512 (ix2 p n) = x (ix3 ⟨p / 2048, by omega⟩ ⟨p % 2048, by omega⟩ n) := by
  pointwise []

end Flat

section Tails
open Cert.Kernel3Ideal Cert.Kernel3Ideal.Proj

theorem tailQ_at (x : FVec Ideal S16384x1536 .f32) (s : Fin 8) (r : Fin 3) (n : Fin 1536) :
    tailQ x (ix4 0 s r n) = x (ix2 ⟨s * 2048 + (2045 + r), by omega⟩ n) := by
  pointwise [tailQ]
theorem tailU_at (x : FVec Ideal S16384x512 .f32) (s : Fin 8) (r : Fin 30) (n : Fin 512) :
    tailU x (ix4 0 s r n) = x (ix2 ⟨s * 2048 + (2018 + r), by omega⟩ n) := by
  pointwise [tailU]

variable (m : (ℓ : Loc nD τ sig) → Buf (Elt Ideal) ℓ)

theorem row_at (c : Dev nD) (s : Fin 8) (r : Fin 2048) :
    row m c ⟨s * 2048 + r, by omega⟩ = fun k => (m ((c : Thread nD τ).loc main_arg0) : FVec Ideal S8x2048x1024 .f32) (ix3 s r k) := by
  funext k
  unfold row
  have h1 : (⟨(s * 2048 + r : Nat) / 2048, by omega⟩ : Fin 8) = s := Fin.ext (by show (s * 2048 + r : Nat) / 2048 = s; omega)
  have h2 : (⟨(s * 2048 + r : Nat) % 2048, by omega⟩ : Fin 2048) = r := Fin.ext (by show (s * 2048 + r : Nat) % 2048 = r; omega)
  exact congrArg₂ (fun a b => (m ((c : Thread nD τ).loc main_arg0) : FVec Ideal S8x2048x1024 .f32) (ix3 a b k)) h1 h2

end Tails

open Cert.Kernel3Ideal.Proj in
theorem agree : Cert.algebraic_Kernel3Ideal_Reference3Ideal := by
  intro m g m' g' hpre hagree
  have h0 : ∀ c, _ := fun c => (hagree c).1
  have h1 : ∀ c, _ := fun c => (hagree c).2.1
  have h2 : ∀ c, _ := fun c => (hagree c).2.2.1
  have h5 : ∀ c, _ := fun c => (hagree c).2.2.2.2.2
  refine ⟨fun c => qkvs m c, fun c => zs m c, fun c => us m c, fun c => tailQ (qkvs m c), fun c => tailU (us m c), ?_, ?_⟩
  · exact (θ_run (Cert.Kernel3Ideal.defs (F := Ideal)) _ _).mono
      (fun r h c => ⟨(h.1 c).1, (h.1 c).2.1, (h.1 c).2.2.1, (h.1 c).2.2.2.1, (h.1 c).2.2.2.2, h.2 c⟩)
      (θ_run_and (results m g) (Cert.Kernel3Ideal.Gen.unchanged m g))
  · refine (θ_run (Cert.Reference3Ideal.defs (F := Ideal)) _ _).mono ?_ (Cert.Reference3Ideal.Stage.run m' g')
    intro r h c
    obtain ⟨e0, e1, e2, e3, e4, rest⟩ := h.1 c
    refine ⟨e0.trans ?_, e1.trans ?_, e2.trans ?_, e3.trans ?_, e4.trans ?_, rest⟩
    · rw [h0 c, h1 c, h2 c]
      funext y
      obtain ⟨p, n, rfl⟩ : ∃ (p : Fin 16384) (n : Fin 1536), y = (ix2 p n : Cert.Reference3Ideal.S16384x1536.Idx) :=
        ⟨y 0, y 1, by funext a; fin_cases a <;> rfl⟩
      exact (flatQ_at _ p n).trans (Cert.Reference3Ideal.Stage.qkv_at _ _ _ _ _ n)
    · rw [h0 c, h1 c, h2 c]
      funext y
      obtain ⟨p, n, rfl⟩ : ∃ (p : Fin 16384) (n : Fin 512), y = (ix2 p n : Cert.Reference3Ideal.S16384x512.Idx) :=
        ⟨y 0, y 1, by funext a; fin_cases a <;> rfl⟩
      exact (flatU_at _ p n).trans (Cert.Reference3Ideal.Stage.gates_at _ _ _ _ _ n)
    · rw [h0 c, h1 c, h2 c, h5 c]
      funext y
      obtain ⟨p, n, rfl⟩ : ∃ (p : Fin 16384) (n : Fin 512), y = (ix2 p n : Cert.Reference3Ideal.S16384x512.Idx) :=
        ⟨y 0, y 1, by funext a; fin_cases a <;> rfl⟩
      exact (flatU_at _ p n).trans (Cert.Reference3Ideal.Stage.conf_at _ _ _ _ _ _ n)
    · rw [h0 c, h1 c, h2 c]
      funext y
      obtain ⟨s, k, n, rfl⟩ : ∃ (s : Fin 8) (k : Fin 3) (n : Fin 1536), y = (ix4 0 s k n : Cert.Reference3Ideal.S1x8x3x1536.Idx) :=
        ⟨y 1, y 2, y 3, by funext a; fin_cases a; exacts [Subsingleton.elim (α := Fin 1) _ _, rfl, rfl, rfl]⟩
      refine (Cert.Reference3Ideal.Stage.lastQ_at _ s k n).trans ((Cert.Reference3Ideal.Stage.qkv_at _ _ _ _ _ n).trans ?_)
      refine Eq.trans ?_ (tailQ_at (qkvs m c) s k n).symm
      exact congrArg (fun x => Inproj.qkv x (gains m c) (weight m c) n) (row_at m c s ⟨2045 + k, by omega⟩).symm
    · rw [h0 c, h1 c, h2 c, h5 c]
      funext y
      obtain ⟨s, k, n, rfl⟩ : ∃ (s : Fin 8) (k : Fin 30) (n : Fin 512), y = (ix4 0 s k n : Cert.Reference3Ideal.S1x8x30x512.Idx) :=
        ⟨y 1, y 2, y 3, by funext a; fin_cases a; exacts [Subsingleton.elim (α := Fin 1) _ _, rfl, rfl, rfl]⟩
      refine (Cert.Reference3Ideal.Stage.lastU_at _ s k n).trans ((Cert.Reference3Ideal.Stage.conf_at _ _ _ _ _ _ n).trans ?_)
      refine Eq.trans ?_ (tailU_at (us m c) s k n).symm
      exact congrArg (fun x => Inproj.conf x (gains m c) (weight m c) (biases m c) n) (row_at m c s ⟨2018 + k, by omega⟩).symm

end Cert.InP
-- ==== Proof.InS.Block.lean ====
/- What one grid point of the sample's input projection stores, entry by entry. -/
module

public import proofs.«01_k».proof.Proof.Inproj
public import proofs.«01_k».proof.Proof.Gen.Kernel4Ideal.Frame

@[expose] public section

set_option maxRecDepth 512

noncomputable section

namespace Cert.Kernel4Ideal.Proj

open Idealize.ShloMosaic Idealize.ShloMosaic.TcCoe Idealize.SL.Sem Cert.Kernel4Ideal Cert.Kernel4Ideal.Gen

theorem norm_at (x : FVec Ideal S512x1024 .f32) (g : FVec Ideal S1x1024 .f32) (i : Fin 512) (d : Fin 1024) :
    k0_pay3 (F := Ideal) x g (ix2 i d) = Inproj.nrm (fun k => x (ix2 i k)) (fun k => g (ix2 0 k)) d := by
  pointwise [k0_pay3]; rfl

theorem qkv_at (x : FVec Ideal S512x1024 .f32) (g : FVec Ideal S1x1024 .f32) (w : FVec Ideal S1024x1536 .bf16) (i : Fin 512) (n : Fin 1536) :
    k0_pay4 (F := Ideal) x g w (ix2 i n) = Inproj.dot (fun k => x (ix2 i k)) (fun k => g (ix2 0 k)) (fun k e => w (ix2 k e)) n := by
  pointwise [k0_pay4]
  simp only [norm_at]
  rfl

theorem gates_at (x : FVec Ideal S512x1024 .f32) (g : FVec Ideal S1x1024 .f32) (w : FVec Ideal S1024x512 .bf16) (i n : Fin 512) :
    k0_pay5 (F := Ideal) x g w (ix2 i n) = Inproj.dot (fun k => x (ix2 i k)) (fun k => g (ix2 0 k)) (fun k e => w (ix2 k e)) n := by
  pointwise [k0_pay5]
  simp only [norm_at]
  rfl

theorem pre_at (x : FVec Ideal S512x1024 .f32) (g : FVec Ideal S1x1024 .f32) (w : FVec Ideal S1024x1024 .bf16) (b : FVec Ideal S1x1024 .f32)
    (i : Fin 512) (n : Fin 1024) :
    k0_pay6 (F := Ideal) x g w b (ix2 i n)
      = Inproj.dot (fun k => x (ix2 i k)) (fun k => g (ix2 0 k)) (fun k e => w (ix2 k e)) n + b (ix2 0 n) := by
  pointwise [k0_pay6]
  simp only [norm_at]
  rfl

theorem conf_at (x : FVec Ideal S512x1024 .f32) (g : FVec Ideal S1x1024 .f32) (w : FVec Ideal S1024x1024 .bf16) (b : FVec Ideal S1x1024 .f32)
    (i n : Fin 512) :
    k0_pay9 (F := Ideal) (k0_pay7 x g w b) (k0_pay8 x g w b) (ix2 i n)
      = Inproj.glu (k0_pay6 (F := Ideal) x g w b (ix2 i ⟨n, by omega⟩)) (k0_pay6 (F := Ideal) x g w b (ix2 i ⟨512 + n, by omega⟩)) := by
  pointwise [k0_pay9, k0_pay7, k0_pay8]; rfl

section
variable (x0 : Vec Ideal S512x1024 .f32) (x1 : Vec Ideal S1x1024 .f32) (x2 : Vec Ideal S1024x1536 .bf16) (x3 : Vec Ideal S1024x512 .bf16)
  (x4 : Vec Ideal S1024x128 .bf16) (x5 : Vec Ideal S1024x1024 .bf16) (x6 : Vec Ideal S1x1024 .f32) (x7 x8 : Vec Ideal S8x1 .f32)
  (x9 : Vec Ideal S512x512 .bf16) (i : Fin 512)

theorem out10_at (n : Fin 1536) : out0_10 x0 x1 x2 x3 x4 x5 x6 x7 x8 x9 (ix2 i n)
    = Inproj.dot (fun k => x0 (ix2 i k)) (fun k => x1 (ix2 0 k)) (fun k e => x2 (ix2 k e)) n := by
  unfold out0_10
  rw [View.canon_cons_unit_lit _ _ _ (by decide)]
  rw [View.ld_unit_lit _ x0 (by decide), View.ld_unit_lit _ x1 (by decide), View.ld_unit_lit _ x2 (by decide)]
  exact qkv_at _ _ _ i n

theorem out11_at (n : Fin 512) : out0_11 x0 x1 x2 x3 x4 x5 x6 x7 x8 x9 (ix2 i n)
    = Inproj.dot (fun k => x0 (ix2 i k)) (fun k => x1 (ix2 0 k)) (fun k e => x3 (ix2 k e)) n := by
  unfold out0_11
  rw [View.canon_cons_unit_lit _ _ _ (by decide)]
  rw [View.ld_unit_lit _ x0 (by decide), View.ld_unit_lit _ x1 (by decide), View.ld_unit_lit _ x3 (by decide)]
  exact gates_at _ _ _ i n

theorem out14_at (n : Fin 512) : out0_14 x0 x1 x2 x3 x4 x5 x6 x7 x8 x9 (ix2 i n)
    = Inproj.glu (Inproj.dot (fun k => x0 (ix2 i k)) (fun k => x1 (ix2 0 k)) (fun k e => x5 (ix2 k e)) ⟨n, by omega⟩ + x6 (ix2 0 ⟨n, by omega⟩))
        (Inproj.dot (fun k => x0 (ix2 i k)) (fun k => x1 (ix2 0 k)) (fun k e => x5 (ix2 k e)) ⟨512 + n, by omega⟩ + x6 (ix2 0 ⟨512 + n, by omega⟩)) := by
  unfold out0_14
  rw [View.canon_cons_unit_lit _ _ _ (by decide)]
  rw [View.ld_unit_lit _ x0 (by decide), View.ld_unit_lit _ x1 (by decide), View.ld_unit_lit _ x5 (by decide), View.ld_unit_lit _ x6 (by decide)]
  refine (conf_at _ _ _ _ i n).trans ?_
  rw [pre_at, pre_at]

end

end Cert.Kernel4Ideal.Proj
-- ==== Proof.InS.Arrays.lean ====
/- The three arrays the sample's input projection leaves, entry by entry, from its arguments. -/
module

public import proofs.«01_k».proof.Proof.InS.Block
public import Idealize.ShloMosaic.Lib.Claim

@[expose] public section

set_option maxRecDepth 512

noncomputable section

namespace Cert.Kernel4Ideal.Proj

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_5.index t = ![0, 0] ∧ win0_6.index t = ![0, 0]
    ∧ win0_10.index t = ![t.val, 0] ∧ win0_11.index t = ![t.val, 0] ∧ win0_14.index t = ![t.val, 0] ∧ t.val < 1 :=
  (by decide +kernel : ∀ t : Fin grid0.N, _)

theorem lt (t : Fin cfg0.N) (i : Fin 512) : 512 * t.val + (i : Nat) < 512 := by
  have := (idx t).2.2.2.2.2.2.2.2.2
  omega

/-- Row `p` of the sample's rows, the gains, the weight and the GLU's biases, on core `c`. -/
def row (c : Dev nD) (p : Fin 512) (k : Fin 1024) : EReal :=
  (m ((c : Thread nD τ).loc main_arg0) : FVec Ideal S32x16x1024 .f32) (ix3 ⟨p / 16, by omega⟩ ⟨p % 16, by omega⟩ k)
def gains (c : Dev nD) (k : Fin 1024) : EReal := (m ((c : Thread nD τ).loc main_arg3) : FVec Ideal S1x1024 .f32) (ix2 0 k)
def weight (c : Dev nD) (k : Fin 1024) (e : Fin 3080) : EReal := (m ((c : Thread nD τ).loc main_arg4) : FVec Ideal S1x1024x3080 .f32) (ix3 0 k e)
def biases (c : Dev nD) (k : Fin 1024) : EReal := (m ((c : Thread nD τ).loc main_arg7) : FVec Ideal S1x1024 .f32) (ix2 0 k)

/-- The sample's rows, batches laid end to end. -/
theorem rows_at (x : FVec Ideal S32x16x1024 .f32) (p : Fin 512) (k : Fin 1024) :
    shapeCast S512x1024 x shapeCasts_S32x16x1024_S512x1024 (ix2 p k) = x (ix3 ⟨p / 16, by omega⟩ ⟨p % 16, by omega⟩ k) := by
  pointwise []

/-- A vector argument as one row. -/
theorem vec_at (x : FVec Ideal S1x1024 .f32) (k : Fin 1024) :
    broadcastInDim S1x1024 ![1] bcast_S1024_S1x1024_1 (shapeCast S1024 x shapeCasts_S1x1024_S1024) (ix2 0 k) = x (ix2 0 k) := by
  pointwise []

/-! Columns of the weight, rounded to bf16: over the extended reals, the columns. -/

theorem cols0 (w : FVec Ideal S1x1024x3080 .f32) (k : Fin 1024) (n : Fin 1536) :
    (truncf .bf16 (extractStridedSlice S1024x1536 ![0, 0] (shapeCast S1024x3080 w shapeCasts_S1x1024x3080_S1024x3080)
      slices_S1024x3080_S1024x1536_0_0) bitsLt_bf16_f32 : FVec Ideal S1024x1536 .bf16) (ix2 k n) = w (ix3 0 k ⟨n, by omega⟩) := by
  pointwise []

theorem cols1 (w : FVec Ideal S1x1024x3080 .f32) (k : Fin 1024) (n : Fin 512) :
    (truncf .bf16 (extractStridedSlice S1024x512 ![0, 1536] (shapeCast S1024x3080 w shapeCasts_S1x1024x3080_S1024x3080)
      slices_S1024x3080_S1024x512_0_1536) bitsLt_bf16_f32 : FVec Ideal S1024x512 .bf16) (ix2 k n) = w (ix3 0 k ⟨1536 + n, by omega⟩) := by
  pointwise []

theorem cols2 (w : FVec Ideal S1x1024x3080 .f32) (k : Fin 1024) (n : Fin 1024) :
    (truncf .bf16 (extractStridedSlice S1024x1024 ![0, 2056] (shapeCast S1024x3080 w shapeCasts_S1x1024x3080_S1024x3080)
      slices_S1024x3080_S1024x1024_0_2056) bitsLt_bf16_f32 : FVec Ideal S1024x1024 .bf16) (ix2 k n) = w (ix3 0 k ⟨2056 + n, by omega⟩) := by
  pointwise []

section
variable (c : Dev nD)

/-! ### The windows' arrays when the grid starts, from the arguments -/

theorem v0 : V m c main_v0 = shapeCast S512x1024 (m ((c : Thread nD τ).loc main_arg0) : FVec Ideal S32x16x1024 .f32) shapeCasts_S32x16x1024_S512x1024 := by
  sl_kernel_rfl
theorem v22 : V m c main_v22 = broadcastInDim S1x1024 ![1] bcast_S1024_S1x1024_1
    (shapeCast S1024 (m ((c : Thread nD τ).loc main_arg3) : FVec Ideal S1x1024 .f32) shapeCasts_S1x1024_S1024) := by sl_kernel_rfl
theorem v3 : V m c main_v3 = (truncf .bf16 (extractStridedSlice S1024x1536 ![0, 0]
    (shapeCast S1024x3080 (m ((c : Thread nD τ).loc main_arg4) : FVec Ideal S1x1024x3080 .f32) shapeCasts_S1x1024x3080_S1024x3080)
    slices_S1024x3080_S1024x1536_0_0) bitsLt_bf16_f32 : FVec Ideal S1024x1536 .bf16) := by sl_kernel_rfl
theorem v5 : V m c main_v5 = (truncf .bf16 (extractStridedSlice S1024x512 ![0, 1536]
    (shapeCast S1024x3080 (m ((c : Thread nD τ).loc main_arg4) : FVec Ideal S1x1024x3080 .f32) shapeCasts_S1x1024x3080_S1024x3080)
    slices_S1024x3080_S1024x512_0_1536) bitsLt_bf16_f32 : FVec Ideal S1024x512 .bf16) := by sl_kernel_rfl
theorem v10 : V m c main_v10 = (truncf .bf16 (extractStridedSlice S1024x1024 ![0, 2056]
    (shapeCast S1024x3080 (m ((c : Thread nD τ).loc main_arg4) : FVec Ideal S1x1024x3080 .f32) shapeCasts_S1x1024x3080_S1024x3080)
    slices_S1024x3080_S1024x1024_0_2056) bitsLt_bf16_f32 : FVec Ideal S1024x1024 .bf16) := by sl_kernel_rfl
theorem v12 : V m c main_v12 = broadcastInDim S1x1024 ![1] bcast_S1024_S1x1024_1
    (shapeCast S1024 (m ((c : Thread nD τ).loc main_arg7) : FVec Ideal S1x1024 .f32) shapeCasts_S1x1024_S1024) := by sl_kernel_rfl

variable (t : Fin cfg0.N)

theorem rd0 (X : FVec Ideal S512x1024 .f32) (i : Fin 512) (k : Fin 1024) :
    (win0_0.blk t).view.read (Elt Ideal) X (ix2 i k) = X (ix2 ⟨512 * t.val + i, lt t i⟩ k) := by
  have := lt t i
  blk_ext [idx t]
theorem rd1 (X : FVec Ideal S1x1024 .f32) (k : Fin 1024) : (win0_1.blk t).view.read (Elt Ideal) X (ix2 0 k) = X (ix2 0 k) := by
  blk_ext [idx t]
theorem rd2 (X : FVec Ideal S1024x1536 .bf16) (k : Fin 1024) (n : Fin 1536) : (win0_2.blk t).view.read (Elt Ideal) X (ix2 k n) = X (ix2 k n) := by
  blk_ext [idx t]
theorem rd3 (X : FVec Ideal S1024x512 .bf16) (k : Fin 1024) (n : Fin 512) : (win0_3.blk t).view.read (Elt Ideal) X (ix2 k n) = X (ix2 k n) := by
  blk_ext [idx t]
theorem rd5 (X : FVec Ideal S1024x1024 .bf16) (k n : Fin 1024) : (win0_5.blk t).view.read (Elt Ideal) X (ix2 k n) = X (ix2 k n) := by
  blk_ext [idx t]
theorem rd6 (X : FVec Ideal S1x1024 .f32) (k : Fin 1024) : (win0_6.blk t).view.read (Elt Ideal) X (ix2 0 k) = X (ix2 0 k) := by
  blk_ext [idx t]

/-! ### Each block at an entry -/

theorem x_at (i : Fin 512) (k : Fin 1024) : (iblk m c 0 t : FVec Ideal S512x1024 .f32) (ix2 i k) = row m c ⟨512 * t.val + i, lt t i⟩ k := by
  refine (congrFun (congrArg ((win0_0.blk t).view.read (Elt Ideal)) (v0 m c)) (ix2 i k)).trans ((rd0 t _ i k).trans ?_)
  exact rows_at _ _ k

theorem g_at (k : Fin 1024) : (iblk m c 1 t : FVec Ideal S1x1024 .f32) (ix2 0 k) = gains m c k := by
  refine (congrFun (congrArg ((win0_1.blk t).view.read (Elt Ideal)) (v22 m c)) (ix2 0 k)).trans ((rd1 t _ k).trans ?_)
  exact vec_at _ k

theorem wqkv_at (k : Fin 1024) (n : Fin 1536) : (iblk m c 2 t : FVec Ideal S1024x1536 .bf16) (ix2 k n) = weight m c k ⟨n, by omega⟩ := by
  refine (congrFun (congrArg ((win0_2.blk t).view.read (Elt Ideal)) (v3 m c)) (ix2 k n)).trans ((rd2 t _ k n).trans ?_)
  exact cols0 _ k n

theorem wz_at (k : Fin 1024) (n : Fin 512) : (iblk m c 3 t : FVec Ideal S1024x512 .bf16) (ix2 k n) = weight m c k ⟨1536 + n, by omega⟩ := by
  refine (congrFun (congrArg ((win0_3.blk t).view.read (Elt Ideal)) (v5 m c)) (ix2 k n)).trans ((rd3 t _ k n).trans ?_)
  exact cols1 _ k n

theorem wglu_at (k n : Fin 1024) : (iblk m c 5 t : FVec Ideal S1024x1024 .bf16) (ix2 k n) = weight m c k ⟨2056 + n, by omega⟩ := by
  refine (congrFun (congrArg ((win0_5.blk t).view.read (Elt Ideal)) (v10 m c)) (ix2 k n)).trans ((rd5 t _ k n).trans ?_)
  exact cols2 _ k n

theorem b_at (k : Fin 1024) : (iblk m c 6 t : FVec Ideal S1x1024 .f32) (ix2 0 k) = biases m c k := by
  refine (congrFun (congrArg ((win0_6.blk t).view.read (Elt Ideal)) (v12 m c)) (ix2 0 k)).trans ((rd6 t _ k).trans ?_)
  exact vec_at _ k

end

/-! ### The arrays after the run -/

def qkvs (c : Dev nD) : FVec Ideal S512x1536 .f32 := fun y => Inproj.qkv (row m c (y 0)) (gains m c) (weight m c) (y 1)
def zs (c : Dev nD) : FVec Ideal S512x512 .f32 := fun y => Inproj.gates (row m c (y 0)) (gains m c) (weight m c) (y 1)
def us (c : Dev nD) : FVec Ideal S512x512 .f32 := fun y => Inproj.conf (row m c (y 0)) (gains m c) (weight m c) (biases m c) (y 1)

theorem qkvs_at (c : Dev nD) (p : Fin 512) (n : Fin 1536) :
    qkvs m c (ix2 p n) = Inproj.dot (row m c p) (gains m c) (weight m c) ⟨n, by omega⟩ := rfl
theorem zs_at (c : Dev nD) (p : Fin 512) (n : Fin 512) :
    zs m c (ix2 p n) = Inproj.dot (row m c p) (gains m c) (weight m c) ⟨1536 + n, by omega⟩ := rfl

theorem dot_congr {n : Nat} {x x' g g' : Fin 1024 → EReal} {w : Fin 1024 → Fin n → EReal} {w' : Fin 1024 → Fin 3080 → EReal} {e : Fin n} {e' : Fin 3080}
    (hx : ∀ k, x k = x' k) (hg : ∀ k, g k = g' k) (hw : ∀ k, w k e = w' k e') : Inproj.dot x g w e = Inproj.dot x' g' w' e' := by
  obtain rfl : x = x' := funext hx
  obtain rfl : g = g' := funext hg
  unfold Inproj.dot
  exact Finset.sum_congr rfl fun k _ => by rw [hw k]

theorem point10 (c : Dev nD) (t : Fin cfg0.N) (i : Fin 512) (n : Fin 1536) :
    (dats m 0 c).after 10 t (ix2 i n) = qkvs m c (ix2 ⟨512 * t.val + i, lt t i⟩ n) := by
  refine (congrFun (after0_10 m c t) (ix2 i n)).trans ((out10_at _ _ _ _ _ _ _ _ _ _ i n).trans ?_)
  rw [qkvs_at]
  exact dot_congr (x_at m c t i) (g_at m c t) fun k => wqkv_at m c t k n

theorem point11 (c : Dev nD) (t : Fin cfg0.N) (i n : Fin 512) :
    (dats m 0 c).after 11 t (ix2 i n) = zs m c (ix2 ⟨512 * t.val + i, lt t i⟩ n) := by
  refine (congrFun (after0_11 m c t) (ix2 i n)).trans ((out11_at _ _ _ _ _ _ _ _ _ _ i n).trans ?_)
  rw [zs_at]
  exact dot_congr (x_at m c t i) (g_at m c t) fun k => wz_at m c t k n

theorem pre_eq (c : Dev nD) (t : Fin cfg0.N) (i : Fin 512) (n : Fin 1024) :
    Inproj.dot (fun k => (iblk m c 0 t : FVec Ideal S512x1024 .f32) (ix2 i k)) (fun k => (iblk m c 1 t : FVec Ideal S1x1024 .f32) (ix2 0 k))
        (fun k e => (iblk m c 5 t : FVec Ideal S1024x1024 .bf16) (ix2 k e)) n + (iblk m c 6 t : FVec Ideal S1x1024 .f32) (ix2 0 n)
      = Inproj.pre (row m c ⟨512 * t.val + i, lt t i⟩) (gains m c) (weight m c) (biases m c) n := by
  unfold Inproj.pre
  rw [b_at]
  exact congrArg (· + biases m c n) (dot_congr (x_at m c t i) (g_at m c t) fun k => wglu_at m c t k n)

theorem point14 (c : Dev nD) (t : Fin cfg0.N) (i n : Fin 512) :
    (dats m 0 c).after 14 t (ix2 i n) = us m c (ix2 ⟨512 * t.val + i, lt t i⟩ n) := by
  refine (congrFun (after0_14 m c t) (ix2 i n)).trans ((out14_at _ _ _ _ _ _ _ _ _ _ i n).trans ?_)
  exact congrArg₂ Inproj.glu (pre_eq m c t i _) (pre_eq m c t i _)

theorem final10 (c : Dev nD) : (dats m 0 c).arrAt 10 cfg0.N = qkvs m c := by
  refine (dats m 0 c).arrAt_eq_of_covers 10 _ (by decide +kernel) fun t _ y => ?_
  obtain ⟨i, n, rfl⟩ : ∃ (i : Fin 512) (n : Fin 1536), y = ix2 i n := ⟨y 0, y 1, by funext a; fin_cases a <;> rfl⟩
  blk_simp
  refine (point10 m c t i n).trans ?_
  have := lt t i
  refine congrArg (qkvs m c) ?_
  blk_ext [idx t]

theorem final11 (c : Dev nD) : (dats m 0 c).arrAt 11 cfg0.N = zs m c := by
  refine (dats m 0 c).arrAt_eq_of_covers 11 _ (by decide +kernel) fun t _ y => ?_
  obtain ⟨i, n, rfl⟩ : ∃ (i : Fin 512) (n : Fin 512), y = ix2 i n := ⟨y 0, y 1, by funext a; fin_cases a <;> rfl⟩
  blk_simp
  refine (point11 m c t i n).trans ?_
  have := lt t i
  refine congrArg (zs m c) ?_
  blk_ext [idx t]

theorem final14 (c : Dev nD) : (dats m 0 c).arrAt 14 cfg0.N = us m c := by
  refine (dats m 0 c).arrAt_eq_of_covers 14 _ (by decide +kernel) fun t _ y => ?_
  obtain ⟨i, n, rfl⟩ : ∃ (i : Fin 512) (n : Fin 512), y = ix2 i n := ⟨y 0, y 1, by funext a; fin_cases a <;> rfl⟩
  blk_simp
  refine (point14 m c t i n).trans ?_
  have := lt t i
  refine congrArg (us m c) ?_
  blk_ext [idx t]

end Cert.Kernel4Ideal.Proj
-- ==== Proof.InS.Final.lean ====
/- The sample's input projection run whole: its three arrays, and the two tails, the second behind the earlier rows, the lines after the grid cut from them. -/
module

public import proofs.«01_k».proof.Proof.InS.Arrays

@[expose] public section

set_option maxRecDepth 512

noncomputable section

namespace Cert.Kernel4Ideal.Proj

open Idealize.ShloMosaic Idealize.ShloMosaic.TcCoe Idealize.SL.Sem Cert.Kernel4Ideal Cert.Kernel4Ideal.Gen

variable (m : (ℓ : Loc nD τ sig) → Buf (Elt Ideal) ℓ)

/-- The last three rows of each batch. -/
def tailQ (x : FVec Ideal S512x1536 .f32) : FVec Ideal S1x32x3x1536 .f32 :=
  broadcastInDim S1x32x3x1536 ![1, 2, 3] bcast_S32x3x1536_S1x32x3x1536_1_2_3
    (extractStridedSlice S32x3x1536 ![0, 13, 0] (shapeCast S32x16x1536 x shapeCasts_S512x1536_S32x16x1536) slices_S32x16x1536_S32x3x1536_0_13_0)

/-- The last thirty rows of each batch behind its thirty earlier rows. -/
def tailU (h : FVec Ideal S1x32x30x512 .f32) (x : FVec Ideal S512x512 .f32) : FVec Ideal S1x32x30x512 .f32 :=
  broadcastInDim S1x32x30x512 ![1, 2, 3] bcast_S32x30x512_S1x32x30x512_1_2_3
    (extractStridedSlice S32x30x512 ![0, 16, 0] (concatenate S32x46x512 1
        [⟨S32x30x512, (shapeCast S32x30x512 h shapeCasts_S1x32x30x512_S32x30x512 : FVec Ideal S32x30x512 .f32)⟩,
         ⟨S32x16x512, (shapeCast S32x16x512 x shapeCasts_S512x512_S32x16x512 : FVec Ideal S32x16x512 .f32)⟩]
        concatenates_S32x30x512_S32x16x512_S32x46x512_d1)
      slices_S32x46x512_S32x30x512_0_16_0)

theorem after45 (V : Valuation τ sig (Elt Ideal)) :
    StableHlo.after (List.flatten [hostOps1]) V (Proc.devRef .tc main_v45) = tailQ (V (Proc.devRef .tc main_v38_0)) := by sl_kernel_rfl
theorem after46 (V : Valuation τ sig (Elt Ideal)) :
    StableHlo.after (List.flatten [hostOps1]) V (Proc.devRef .tc main_v46) = tailU (V (Proc.devRef .tc main_arg2)) (V (Proc.devRef .tc main_v38_4)) := by sl_kernel_rfl

theorem distinct : Function.Injective (Pipeline.arrRef spec0) := by decide

theorem tail45 (c : Dev nD) : Pipeline.afterTail₀ cfgs (dats m) 0 (V0 m) [hostOps1] c main_v45 = tailQ (qkvs m c) := by
  unfold Pipeline.afterTail₀
  refine (after45 _).trans (congrArg tailQ ?_)
  exact (Pipeline.withArrays_arr spec0 distinct c (V0 m c) _ 10).trans (final10 m c)

theorem tail46 (c : Dev nD) : Pipeline.afterTail₀ cfgs (dats m) 0 (V0 m) [hostOps1] c main_v46 = tailU (m ((c : Thread nD τ).loc main_arg2)) (us m c) := by
  unfold Pipeline.afterTail₀
  refine (after46 _).trans (congrArg₂ tailU ?_ ?_)
  · exact (Pipeline.withArrays_of_ne _ c (V0 m c) _ main_arg2 (by exact (by decide : ∀ w, Pipeline.arrRef spec0 w ≠ main_arg2))).trans (V_main_arg2 m c)
  exact (Pipeline.withArrays_arr spec0 distinct c (V0 m c) _ 14).trans (final14 m c)

/-- The five results. -/
theorem results (ρ : Dev nD → PrngReg) : θ_run defs (onTc (τ := τ) (main (F := Ideal))) ⟨m, fun _ => 0, ρ⟩ (fun r => ∀ c : Dev nD,
      r.2.mem ((c.tc : Thread nD τ).loc main_v38_0) = qkvs m c ∧ r.2.mem ((c.tc : Thread nD τ).loc main_v38_1) = zs m c
      ∧ r.2.mem ((c.tc : Thread nD τ).loc main_v38_4) = us m c ∧ r.2.mem ((c.tc : Thread nD τ).loc main_v45) = tailQ (qkvs m c)
      ∧ r.2.mem ((c.tc : Thread nD τ).loc main_v46) = tailU (m ((c : Thread nD τ).loc main_arg2)) (us m c)) :=
  (θ_run defs _ _).mono (fun _ h c => ⟨((h c).1 10).trans (final10 m c), ((h c).1 11).trans (final11 m c), ((h c).1 14).trans (final14 m c),
    ((h c).2 main_v45 (Pipeline.mem_restRefs_of main_v45 (by decide) (by decide))).trans (tail45 m c),
    ((h c).2 main_v46 (Pipeline.mem_restRefs_of main_v46 (by decide) (by decide))).trans (tail46 m c)⟩) (run_main m ρ)

end Cert.Kernel4Ideal.Proj
-- ==== Proof.InS.Ref.lean ====
/- The reference of the sample's input projection, by stages and at an entry. -/
module

public import proofs.«01_k».proof.Proof.Inproj
public import proofs.«01_k».proof.Proof.Gen.Reference4Ideal.Run
public import Idealize.ShloMosaic.Lib.Quiescent

@[expose] public section

set_option maxRecDepth 512

noncomputable section

namespace Cert.Reference4Ideal.Stage

open Idealize.ShloMosaic Idealize.ShloMosaic.TcCoe Idealize.SL.Sem Cert.Reference4Ideal Cert.Reference4Ideal.Gen

/-- The normed rows. -/
def normed (x : FVec Ideal S32x16x1024 .f32) (g : FVec Ideal S1x1024 .f32) : FVec Ideal S32x16x1024 .f32 :=
  mulf (mulf x (broadcastInDim S32x16x1024 ![0, 1, 2] bcast_S32x16x1_S32x16x1024_0_1_2
      (Host.rsqrt (addf (Host.divf (broadcastInDim S32x16x1 ![0, 1] bcast_S32x16_S32x16x1_0_1
          (Host.reduceAdd (mulf x x) (constant S_ .f32 0x00000000#32) reducesTo_S32x16x1024_S32x16_d2 h_S_))
        (broadcastInDim S32x16x1 ![] bcast_S_S32x16x1 (constant S_ .f32 0x44800000#32)))
        (broadcastInDim S32x16x1 ![] bcast_S_S32x16x1 (constant S_ .f32 0x358637BD#32))))))
    (broadcastInDim S32x16x1024 ![0, 1, 2] bcast_S1x1x1024_S32x16x1024_0_1_2
      (broadcastInDim S1x1x1024 ![2] bcast_S1024_S1x1x1024_2 (shapeCast S1024 g shapeCasts_S1x1024_S1024)))

/-- The combined projection. -/
def proj (x : FVec Ideal S32x16x1024 .f32) (g : FVec Ideal S1x1024 .f32) (w : FVec Ideal S1x1024x3080 .f32) : FVec Ideal S32x16x3080 .f32 :=
  Host.dotGeneral dot_S32x16x1024_S1024x3080_S32x16x3080_2_0_01_1_n_n none (normed x g)
    (shapeCast S1024x3080 w shapeCasts_S1x1024x3080_S1024x3080)

def qkv (p : FVec Ideal S32x16x3080 .f32) : FVec Ideal S32x16x1536 .f32 :=
  extractStridedSlice S32x16x1536 ![0, 0, 0] p slices_S32x16x3080_S32x16x1536_0_0_0
def gates (p : FVec Ideal S32x16x3080 .f32) : FVec Ideal S32x16x512 .f32 :=
  extractStridedSlice S32x16x512 ![0, 0, 1536] p slices_S32x16x3080_S32x16x512_0_0_1536

/-- The GLU's columns with their biases. -/
def biased (p : FVec Ideal S32x16x3080 .f32) (b : FVec Ideal S1x1024 .f32) : FVec Ideal S32x16x1024 .f32 :=
  addf (extractStridedSlice S32x16x1024 ![0, 0, 2056] p slices_S32x16x3080_S32x16x1024_0_0_2056)
    (broadcastInDim S32x16x1024 ![0, 1, 2] bcast_S1x1x1024_S32x16x1024_0_1_2
      (broadcastInDim S1x1x1024 ![2] bcast_S1024_S1x1x1024_2 (shapeCast S1024 b shapeCasts_S1x1024_S1024)))

def glu (q : FVec Ideal S32x16x1024 .f32) : FVec Ideal S32x16x512 .f32 :=
  mulf (extractStridedSlice S32x16x512 ![0, 0, 0] q slices_S32x16x1024_S32x16x512_0_0_0)
    (Host.divf (broadcastInDim S32x16x512 ![] bcast_S_S32x16x512 (constant S_ .f32 0x3F800000#32))
      (addf (broadcastInDim S32x16x512 ![] bcast_S_S32x16x512 (constant S_ .f32 0x3F800000#32))
        (Host.exp (Host.negf (extractStridedSlice S32x16x512 ![0, 0, 512] q slices_S32x16x1024_S32x16x512_0_0_512)))))

/-- The rows behind the earlier ones, and their last three and thirty. -/
def lastQ (h : FVec Ideal S1x32x3x1536 .f32) (x : FVec Ideal S32x16x1536 .f32) : FVec Ideal S1x32x3x1536 .f32 :=
  broadcastInDim S1x32x3x1536 ![1, 2, 3] bcast_S32x3x1536_S1x32x3x1536_1_2_3
    (extractStridedSlice S32x3x1536 ![0, 16, 0] (concatenate S32x19x1536 1
        [⟨S32x3x1536, (shapeCast S32x3x1536 h shapeCasts_S1x32x3x1536_S32x3x1536 : FVec Ideal S32x3x1536 .f32)⟩, ⟨S32x16x1536, x⟩]
        concatenates_S32x3x1536_S32x16x1536_S32x19x1536_d1)
      slices_S32x19x1536_S32x3x1536_0_16_0)
def lastU (h : FVec Ideal S1x32x30x512 .f32) (x : FVec Ideal S32x16x512 .f32) : FVec Ideal S1x32x30x512 .f32 :=
  broadcastInDim S1x32x30x512 ![1, 2, 3] bcast_S32x30x512_S1x32x30x512_1_2_3
    (extractStridedSlice S32x30x512 ![0, 16, 0] (concatenate S32x46x512 1
        [⟨S32x30x512, (shapeCast S32x30x512 h shapeCasts_S1x32x30x512_S32x30x512 : FVec Ideal S32x30x512 .f32)⟩, ⟨S32x16x512, x⟩]
        concatenates_S32x30x512_S32x16x512_S32x46x512_d1)
      slices_S32x46x512_S32x30x512_0_16_0)

/-! ### At an entry -/

section
variable (x : FVec Ideal S32x16x1024 .f32) (g : FVec Ideal S1x1024 .f32) (w : FVec Ideal S1x1024x3080 .f32) (b : FVec Ideal S1x1024 .f32)
  (s : Fin 32) (r : Fin 16)

theorem normed_at (d : Fin 1024) : normed x g (ix3 s r d) = Inproj.nrm (fun k => x (ix3 s r k)) (fun k => g (ix2 0 k)) d := by
  pointwise [normed]
  rfl

theorem proj_at (e : Fin 3080) : proj x g w (ix3 s r e)
    = Inproj.dot (fun k => x (ix3 s r k)) (fun k => g (ix2 0 k)) (fun k e => w (ix3 0 k e)) e := by
  pointwise [proj]
  simp only [normed_at]
  rfl

theorem qkv_at (n : Fin 1536) : qkv (proj x g w) (ix3 s r n)
    = Inproj.qkv (fun k => x (ix3 s r k)) (fun k => g (ix2 0 k)) (fun k e => w (ix3 0 k e)) n := by
  pointwise [qkv]
  exact proj_at x g w s r _

theorem gates_at (n : Fin 512) : gates (proj x g w) (ix3 s r n)
    = Inproj.gates (fun k => x (ix3 s r k)) (fun k => g (ix2 0 k)) (fun k e => w (ix3 0 k e)) n := by
  pointwise [gates]
  exact proj_at x g w s r _

theorem biased_at (n : Fin 1024) : biased (proj x g w) b (ix3 s r n)
    = Inproj.pre (fun k => x (ix3 s r k)) (fun k => g (ix2 0 k)) (fun k e => w (ix3 0 k e)) (fun k => b (ix2 0 k)) n := by
  pointwise [biased]
  exact congrArg (· + b (ix2 0 n)) (proj_at x g w s r _)

theorem glu_at (q : FVec Ideal S32x16x1024 .f32) (n : Fin 512) : glu q (ix3 s r n)
    = Inproj.glu (q (ix3 s r ⟨n, by omega⟩)) (q (ix3 s r ⟨512 + n, by omega⟩)) := by
  pointwise [glu]
  rfl

theorem conf_at (n : Fin 512) : glu (biased (proj x g w) b) (ix3 s r n)
    = Inproj.conf (fun k => x (ix3 s r k)) (fun k => g (ix2 0 k)) (fun k e => w (ix3 0 k e)) (fun k => b (ix2 0 k)) n := by
  rw [glu_at, biased_at, biased_at]
  rfl

end

theorem lastQ_at (h : FVec Ideal S1x32x3x1536 .f32) (x : FVec Ideal S32x16x1536 .f32) (s : Fin 32) (r : Fin 3) (n : Fin 1536) :
    lastQ h x (ix4 0 s r n) = x (ix3 s ⟨13 + r, by omega⟩ n) := by
  pointwise [lastQ]
  rw [dif_neg (by omega)]
  exact congrArg (fun p => x (ix3 s p n)) (Fin.ext (by show 16 + (r : Nat) - 3 = 13 + r; omega))

/-! ### The run -/

/-- The five results and the arguments, from the launch's arguments. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v36) = shapeCast S512x1536 (qkv (proj (m (c.tc.loc main_arg0)) (m (c.tc.loc main_arg3)) (m (c.tc.loc main_arg4)))) shapeCasts_S32x16x1536_S512x1536
      ∧ r.2.mem ((c.tc : Thread nD τ).loc main_v37) = shapeCast S512x512 (gates (proj (m (c.tc.loc main_arg0)) (m (c.tc.loc main_arg3)) (m (c.tc.loc main_arg4)))) shapeCasts_S32x16x512_S512x512
      ∧ r.2.mem ((c.tc : Thread nD τ).loc main_v38) = shapeCast S512x512 (glu (biased (proj (m (c.tc.loc main_arg0)) (m (c.tc.loc main_arg3)) (m (c.tc.loc main_arg4))) (m (c.tc.loc main_arg7)))) shapeCasts_S32x16x512_S512x512
      ∧ r.2.mem ((c.tc : Thread nD τ).loc main_v40) = lastQ (m (c.tc.loc main_arg1)) (qkv (proj (m (c.tc.loc main_arg0)) (m (c.tc.loc main_arg3)) (m (c.tc.loc main_arg4))))
      ∧ r.2.mem ((c.tc : Thread nD τ).loc main_v42) = lastU (m (c.tc.loc main_arg2)) (glu (biased (proj (m (c.tc.loc main_arg0)) (m (c.tc.loc main_arg3)) (m (c.tc.loc main_arg4))) (m (c.tc.loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 := by
  refine (θ_run defs _ _).mono ?_ (Value.run (F := Ideal) m ρ)
  intro r h
  refine ⟨fun c => ?_, sem_eq_zero_of_no_sems rfl _⟩
  obtain ⟨h0, h1, h2, h3, h4, rest⟩ := h c
  exact ⟨h0, h1, h2, h3, h4, rest⟩

end Cert.Reference4Ideal.Stage
-- ==== Proof.InS.Agree.lean ====
/- The sample's input projection: the call's five results are its reference's, over the extended reals. -/
module

public import proofs.«01_k».proof.Defs
public import proofs.«01_k».proof.Proof.InS.Final
public import proofs.«01_k».proof.Proof.InS.Ref

@[expose] public section

set_option maxRecDepth 512

noncomputable section

namespace Cert.InS

open Idealize.ShloMosaic Idealize.ShloMosaic.TcCoe Idealize.SL.Sem

section Flat
open Cert.Reference4Ideal

theorem flatQ_at (x : FVec Ideal S32x16x1536 .f32) (p : Fin 512) (n : Fin 1536) :
    shapeCast S512x1536 x Gen.facts.shapeCasts_S32x16x1536_S512x1536 (ix2 p n) = x (ix3 ⟨p / 16, by omega⟩ ⟨p % 16, by omega⟩ n) := by
  pointwise []
theorem flatU_at (x : FVec Ideal S32x16x512 .f32) (p : Fin 512) (n : Fin 512) :
    shapeCast S512x512 x Gen.facts.shapeCasts_S32x16x512_S512x512 (ix2 p n) = x (ix3 ⟨p / 16, by omega⟩ ⟨p % 16, by omega⟩ n) := by
  pointwise []

end Flat

section Tails
open Cert.Kernel4Ideal Cert.Kernel4Ideal.Proj

theorem tailQ_at (x : FVec Ideal S512x1536 .f32) (s : Fin 32) (r : Fin 3) (n : Fin 1536) :
    tailQ x (ix4 0 s r n) = x (ix2 ⟨s * 16 + (13 + r), by omega⟩ n) := by
  pointwise [tailQ]
theorem fold_at (x : FVec Ideal S512x512 .f32) (s : Fin 32) (r : Fin 16) (n : Fin 512) :
    shapeCast S32x16x512 x Gen.facts.shapeCasts_S512x512_S32x16x512 (ix3 s r n) = x (ix2 ⟨s * 16 + r, by omega⟩ n) := by
  pointwise []

variable (m : (ℓ : Loc nD τ sig) → Buf (Elt Ideal) ℓ)

theorem row_at (c : Dev nD) (s : Fin 32) (r : Fin 16) :
    row m c ⟨s * 16 + r, by omega⟩ = fun k => (m ((c : Thread nD τ).loc main_arg0) : FVec Ideal S32x16x1024 .f32) (ix3 s r k) := by
  funext k
  unfold row
  have h1 : (⟨(s * 16 + r : Nat) / 16, by omega⟩ : Fin 32) = s := Fin.ext (by show (s * 16 + r : Nat) / 16 = s; omega)
  have h2 : (⟨(s * 16 + r : Nat) % 16, by omega⟩ : Fin 16) = r := Fin.ext (by show (s * 16 + r : Nat) % 16 = r; omega)
  exact congrArg₂ (fun a b => (m ((c : Thread nD τ).loc main_arg0) : FVec Ideal S32x16x1024 .f32) (ix3 a b k)) h1 h2

end Tails

open Cert.Kernel4Ideal.Proj in
theorem agree : Cert.algebraic_Kernel4Ideal_Reference4Ideal := by
  intro m g m' g' hpre hagree
  have h0 : ∀ c, _ := fun c => (hagree c).1
  have h1 : ∀ c, _ := fun c => (hagree c).2.1
  have h2 : ∀ c, _ := fun c => (hagree c).2.2.1
  have h3 : ∀ c, _ := fun c => (hagree c).2.2.2.1
  have h4 : ∀ c, _ := fun c => (hagree c).2.2.2.2.1
  have h7 : ∀ c, _ := fun c => (hagree c).2.2.2.2.2.2.2
  refine ⟨fun c => qkvs m c, fun c => zs m c, fun c => us m c, fun c => tailQ (qkvs m c), fun c => tailU (m (c.tc.loc Cert.Kernel4Ideal.main_arg2)) (us m c), ?_, ?_⟩
  · exact (θ_run (Cert.Kernel4Ideal.defs (F := Ideal)) _ _).mono
      (fun r h c => ⟨(h.1 c).1, (h.1 c).2.1, (h.1 c).2.2.1, (h.1 c).2.2.2.1, (h.1 c).2.2.2.2, h.2 c⟩)
      (θ_run_and (results m g) (Cert.Kernel4Ideal.Gen.unchanged m g))
  · refine (θ_run (Cert.Reference4Ideal.defs (F := Ideal)) _ _).mono ?_ (Cert.Reference4Ideal.Stage.run m' g')
    intro r h c
    obtain ⟨e0, e1, e2, e3, e4, rest⟩ := h.1 c
    refine ⟨e0.trans ?_, e1.trans ?_, e2.trans ?_, e3.trans ?_, e4.trans ?_, rest⟩
    · rw [h0 c, h3 c, h4 c]
      funext y
      obtain ⟨p, n, rfl⟩ : ∃ (p : Fin 512) (n : Fin 1536), y = (ix2 p n : Cert.Reference4Ideal.S512x1536.Idx) :=
        ⟨y 0, y 1, by funext a; fin_cases a <;> rfl⟩
      exact (flatQ_at _ p n).trans (Cert.Reference4Ideal.Stage.qkv_at _ _ _ _ _ n)
    · rw [h0 c, h3 c, h4 c]
      funext y
      obtain ⟨p, n, rfl⟩ : ∃ (p : Fin 512) (n : Fin 512), y = (ix2 p n : Cert.Reference4Ideal.S512x512.Idx) :=
        ⟨y 0, y 1, by funext a; fin_cases a <;> rfl⟩
      exact (flatU_at _ p n).trans (Cert.Reference4Ideal.Stage.gates_at _ _ _ _ _ n)
    · rw [h0 c, h3 c, h4 c, h7 c]
      funext y
      obtain ⟨p, n, rfl⟩ : ∃ (p : Fin 512) (n : Fin 512), y = (ix2 p n : Cert.Reference4Ideal.S512x512.Idx) :=
        ⟨y 0, y 1, by funext a; fin_cases a <;> rfl⟩
      exact (flatU_at _ p n).trans (Cert.Reference4Ideal.Stage.conf_at _ _ _ _ _ _ n)
    · rw [h0 c, h3 c, h4 c]
      funext y
      obtain ⟨s, k, n, rfl⟩ : ∃ (s : Fin 32) (k : Fin 3) (n : Fin 1536), y = (ix4 0 s k n : Cert.Reference4Ideal.S1x32x3x1536.Idx) :=
        ⟨y 1, y 2, y 3, by funext a; fin_cases a; exacts [Subsingleton.elim (α := Fin 1) _ _, rfl, rfl, rfl]⟩
      refine (Cert.Reference4Ideal.Stage.lastQ_at _ _ s k n).trans ((Cert.Reference4Ideal.Stage.qkv_at _ _ _ _ _ n).trans ?_)
      refine Eq.trans ?_ (tailQ_at (qkvs m c) s k n).symm
      exact congrArg (fun x => Inproj.qkv x (gains m c) (weight m c) n) (row_at m c s ⟨13 + k, by omega⟩).symm
    · rw [h0 c, h2 c, h3 c, h4 c, h7 c]
      refine congrArg (Cert.Reference4Ideal.Stage.lastU (m (c.tc.loc Cert.Kernel4Ideal.main_arg2))) ?_
      funext y
      obtain ⟨s, k, n, rfl⟩ : ∃ (s : Fin 32) (k : Fin 16) (n : Fin 512), y = (ix3 s k n : Cert.Reference4Ideal.S32x16x512.Idx) :=
        ⟨y 0, y 1, y 2, by funext a; fin_cases a <;> rfl⟩
      refine (Cert.Reference4Ideal.Stage.conf_at _ _ _ _ _ _ n).trans (Eq.trans ?_ (fold_at (us m c) s k n).symm)
      exact congrArg (fun x => Inproj.conf x (gains m c) (weight m c) (biases m c) n) (row_at m c s k).symm

end Cert.InS
-- ==== Proof.Outproj.lean ====
/- The output projection's mathematics: a row plus its two mixers' products with the weight, and the RMS norm of that. -/
module

public import proofs.«01_k».proof.Proof.Inproj

@[expose] public section

noncomputable section

namespace Cert.Outproj
open Idealize.ShloMosaic

/-- Element `n` of a row `x` plus the projection of its mixers' rows `o` and `a` by the weight's first and last 512 rows. -/
def mix (o a : Fin 512 → EReal) (x : Fin 1024 → EReal) (w : Fin 1024 → Fin 1024 → EReal) (n : Fin 1024) : EReal :=
  x n + (∑ k : Fin 512, o k * w ⟨k, by omega⟩ n + ∑ k : Fin 512, a k * w ⟨512 + k, by omega⟩ n)

/-- The product of the two mixers' rows laid side by side is the sum of their products. -/
theorem dot_joined (o a : Fin 512 → EReal) (w : Fin 1024 → EReal) (j : Fin 1024 → EReal)
    (h0 : ∀ k : Fin 512, j ⟨k, by omega⟩ = o k) (h1 : ∀ k : Fin 512, j ⟨512 + k, by omega⟩ = a k) :
    ∑ k, j k * w k = ∑ k : Fin 512, o k * w ⟨k, by omega⟩ + ∑ k : Fin 512, a k * w ⟨512 + k, by omega⟩ := by
  refine (Fin.sum_univ_add (a := 512) (b := 512) fun k => j k * w k).trans ?_
  exact congrArg₂ (· + ·) (Finset.sum_congr rfl fun k _ => congrArg (· * _) (h0 k)) (Finset.sum_congr rfl fun k _ => congrArg (· * _) (h1 k))

end Cert.Outproj
-- ==== Proof.OutP.Block.lean ====
/- What one grid point of the output projection stores, entry by entry. -/
module

public import proofs.«01_k».proof.Proof.Outproj
public import proofs.«01_k».proof.Proof.Gen.Kernel5Ideal.Frame

@[expose] public section

set_option maxRecDepth 16384

noncomputable section

namespace Cert.Kernel5Ideal.Proj

open Idealize.ShloMosaic Idealize.ShloMosaic.TcCoe Idealize.SL.Sem Cert.Kernel5Ideal Cert.Kernel5Ideal.Gen

/-! ### The stored values at an entry -/

section
variable (o a : FVec Ideal S512x512 .bf16) (wo wa : FVec Ideal S512x1024 .bf16) (x : FVec Ideal S512x1024 .f32) (g : FVec Ideal S1x1024 .f32)
  (i : Fin 512)

/-- The row of a block, from the block's rows and the weight's two blocks. -/
def mixed (n : Fin 1024) : EReal :=
  x (ix2 i n) + (∑ k : Fin 512, o (ix2 i k) * wo (ix2 k n) + ∑ k : Fin 512, a (ix2 i k) * wa (ix2 k n))

theorem pay5_at (n : Fin 1024) : k0_pay5 (F := Ideal) o wo a wa x (ix2 i n) = mixed o a wo wa x i n := by
  pointwise [k0_pay5]; rfl

theorem pay7_at (n : Fin 1024) : k0_pay7 (F := Ideal) o wo a wa x g (ix2 i n) = Inproj.nrm (mixed o a wo wa x i) (fun k => g (ix2 0 k)) n := by
  pointwise [k0_pay7, k0_pay6]
  simp only [pay5_at]
  rfl

theorem pay39_at (n : Fin 1024) : k0_pay39 (F := Ideal) o wo a wa x (ix2 i n) = mixed o a wo wa x i n := by
  pointwise [k0_pay39]; rfl

theorem pay41_at (n : Fin 1024) : k0_pay41 (F := Ideal) o wo a wa x g (ix2 i n) = Inproj.nrm (mixed o a wo wa x i) (fun k => g (ix2 0 k)) n := by
  pointwise [k0_pay41, k0_pay40]
  simp only [pay39_at]
  rfl

end

/-! ### What each kind of point leaves in its two blocks -/

section
variable (m : (ℓ : Loc nD τ sig) → Buf (Elt Ideal) ℓ) (c : Dev nD) (t : Fin cfg0.N)

/-- A point of the prompt: its rows. -/
theorem promptRows (h0 : t.val < 32) (h1 : ¬t.val % 33 = 32) : (outsAt0 m c t.val t.isLt).1
    = k0_pay5 (F := Ideal) (iblk m c 0 t) (iblk m c 6 t) (iblk m c 1 t) (iblk m c 7 t) (iblk m c 2 t) := by
  rw [outsAt0_A m c t h0 h1]
  dsimp only
  unfold out0_A_12
  rw [View.read_writes_junk_eq_canon]
  show View.canon ([⟨Rect.unit ![0, 0] S512x1024.size inb_S512x1024_S512x1024_0_0, k0_pay5
      (View.readAt (Elt Ideal) (ms0_0 t).view (Rect.unit (s := S512x512) ![0, 0] S512x512.size inb_S512x512_S512x512_0_0).toLoadRect ((hs0_0 t).unread (iblk m c 0 t)))
      (View.readAt (Elt Ideal) (ms0_6 t).view (Rect.unit (s := S512x1024) ![0, 0] S512x1024.size inb_S512x1024_S512x1024_0_0).toLoadRect ((hs0_6 t).unread (iblk m c 6 t)))
      (View.readAt (Elt Ideal) (ms0_1 t).view (Rect.unit (s := S512x512) ![0, 0] S512x512.size inb_S512x512_S512x512_0_0).toLoadRect ((hs0_1 t).unread (iblk m c 1 t)))
      (View.readAt (Elt Ideal) (ms0_7 t).view (Rect.unit (s := S512x1024) ![0, 0] S512x1024.size inb_S512x1024_S512x1024_0_0).toLoadRect ((hs0_7 t).unread (iblk m c 7 t)))
      (View.readAt (Elt Ideal) (ms0_2 t).view (Rect.unit (s := S512x1024) ![0, 0] S512x1024.size inb_S512x1024_S512x1024_0_0).toLoadRect ((hs0_2 t).unread (iblk m c 2 t)))⟩] :
      List (View.Piece (Elt Ideal) S512x1024 .f32)) = _
  rw [View.canon_cons_unit_lit _ _ _ (by decide)]
  rw [View.readAt_eq_ld, View.readAt_eq_ld, View.readAt_eq_ld, View.readAt_eq_ld, View.readAt_eq_ld,
    (hs0_0 t).read_unread, (hs0_6 t).read_unread, (hs0_1 t).read_unread, (hs0_7 t).read_unread, (hs0_2 t).read_unread,
    View.ld_unit_lit _ _ (by decide), View.ld_unit_lit _ _ (by decide), View.ld_unit_lit _ _ (by decide), View.ld_unit_lit _ _ (by decide), View.ld_unit_lit _ _ (by decide)]

/-- A point of the prompt: its normed rows. -/
theorem promptNormed (h0 : t.val < 32) (h1 : ¬t.val % 33 = 32) : (outsAt0 m c t.val t.isLt).2.1
    = k0_pay7 (F := Ideal) (iblk m c 0 t) (iblk m c 6 t) (iblk m c 1 t) (iblk m c 7 t) (iblk m c 2 t) (iblk m c 8 t) := by
  rw [outsAt0_A m c t h0 h1]
  dsimp only
  unfold out0_A_13
  rw [View.read_writes_junk_eq_canon]
  show View.canon ([⟨Rect.unit ![0, 0] S512x1024.size inb_S512x1024_S512x1024_0_0, k0_pay7
      (View.readAt (Elt Ideal) (ms0_0 t).view (Rect.unit (s := S512x512) ![0, 0] S512x512.size inb_S512x512_S512x512_0_0).toLoadRect ((hs0_0 t).unread (iblk m c 0 t)))
      (View.readAt (Elt Ideal) (ms0_6 t).view (Rect.unit (s := S512x1024) ![0, 0] S512x1024.size inb_S512x1024_S512x1024_0_0).toLoadRect ((hs0_6 t).unread (iblk m c 6 t)))
      (View.readAt (Elt Ideal) (ms0_1 t).view (Rect.unit (s := S512x512) ![0, 0] S512x512.size inb_S512x512_S512x512_0_0).toLoadRect ((hs0_1 t).unread (iblk m c 1 t)))
      (View.readAt (Elt Ideal) (ms0_7 t).view (Rect.unit (s := S512x1024) ![0, 0] S512x1024.size inb_S512x1024_S512x1024_0_0).toLoadRect ((hs0_7 t).unread (iblk m c 7 t)))
      (View.readAt (Elt Ideal) (ms0_2 t).view (Rect.unit (s := S512x1024) ![0, 0] S512x1024.size inb_S512x1024_S512x1024_0_0).toLoadRect ((hs0_2 t).unread (iblk m c 2 t)))
      (View.readAt (Elt Ideal) (ms0_8 t).view (Rect.unit (s := S1x1024) ![0, 0] S1x1024.size inb_S1x1024_S1x1024_0_0).toLoadRect ((hs0_8 t).unread (iblk m c 8 t)))⟩] :
      List (View.Piece (Elt Ideal) S512x1024 .bf16)) = _
  rw [View.canon_cons_unit_lit _ _ _ (by decide)]
  rw [View.readAt_eq_ld, View.readAt_eq_ld, View.readAt_eq_ld, View.readAt_eq_ld, View.readAt_eq_ld, View.readAt_eq_ld,
    (hs0_0 t).read_unread, (hs0_6 t).read_unread, (hs0_1 t).read_unread, (hs0_7 t).read_unread, (hs0_2 t).read_unread, (hs0_8 t).read_unread,
    View.ld_unit_lit _ _ (by decide), View.ld_unit_lit _ _ (by decide), View.ld_unit_lit _ _ (by decide), View.ld_unit_lit _ _ (by decide), View.ld_unit_lit _ _ (by decide), View.ld_unit_lit _ _ (by decide)]

/-- The running streams' point: its rows. -/
theorem streamRows (h0 : ¬t.val < 32) (h1 : t.val % 33 = 32) : (outsAt0 m c t.val t.isLt).1
    = k0_pay39 (F := Ideal) (iblk m c 3 t) (iblk m c 6 t) (iblk m c 4 t) (iblk m c 7 t) (iblk m c 5 t) := by
  rw [outsAt0_B m c t h0 h1]
  dsimp only
  unfold out0_B_12
  rw [View.read_writes_junk_eq_canon]
  show View.canon ([⟨Rect.unit ![0, 0] S512x1024.size inb_S512x1024_S512x1024_0_0, k0_pay39
      (View.readAt (Elt Ideal) (ms0_3 t).view (Rect.unit (s := S512x512) ![0, 0] S512x512.size inb_S512x512_S512x512_0_0).toLoadRect ((hs0_3 t).unread (iblk m c 3 t)))
      (View.readAt (Elt Ideal) (ms0_6 t).view (Rect.unit (s := S512x1024) ![0, 0] S512x1024.size inb_S512x1024_S512x1024_0_0).toLoadRect ((hs0_6 t).unread (iblk m c 6 t)))
      (View.readAt (Elt Ideal) (ms0_4 t).view (Rect.unit (s := S512x512) ![0, 0] S512x512.size inb_S512x512_S512x512_0_0).toLoadRect ((hs0_4 t).unread (iblk m c 4 t)))
      (View.readAt (Elt Ideal) (ms0_7 t).view (Rect.unit (s := S512x1024) ![0, 0] S512x1024.size inb_S512x1024_S512x1024_0_0).toLoadRect ((hs0_7 t).unread (iblk m c 7 t)))
      (View.readAt (Elt Ideal) (ms0_5 t).view (Rect.unit (s := S512x1024) ![0, 0] S512x1024.size inb_S512x1024_S512x1024_0_0).toLoadRect ((hs0_5 t).unread (iblk m c 5 t)))⟩] :
      List (View.Piece (Elt Ideal) S512x1024 .f32)) = _
  rw [View.canon_cons_unit_lit _ _ _ (by decide)]
  rw [View.readAt_eq_ld, View.readAt_eq_ld, View.readAt_eq_ld, View.readAt_eq_ld, View.readAt_eq_ld,
    (hs0_3 t).read_unread, (hs0_6 t).read_unread, (hs0_4 t).read_unread, (hs0_7 t).read_unread, (hs0_5 t).read_unread,
    View.ld_unit_lit _ _ (by decide), View.ld_unit_lit _ _ (by decide), View.ld_unit_lit _ _ (by decide), View.ld_unit_lit _ _ (by decide), View.ld_unit_lit _ _ (by decide)]

/-- The running streams' point: its normed rows. -/
theorem streamNormed (h0 : ¬t.val < 32) (h1 : t.val % 33 = 32) : (outsAt0 m c t.val t.isLt).2.1
    = k0_pay41 (F := Ideal) (iblk m c 3 t) (iblk m c 6 t) (iblk m c 4 t) (iblk m c 7 t) (iblk m c 5 t) (iblk m c 8 t) := by
  rw [outsAt0_B m c t h0 h1]
  dsimp only
  unfold out0_B_13
  rw [View.read_writes_junk_eq_canon]
  show View.canon ([⟨Rect.unit ![0, 0] S512x1024.size inb_S512x1024_S512x1024_0_0, k0_pay41
      (View.readAt (Elt Ideal) (ms0_3 t).view (Rect.unit (s := S512x512) ![0, 0] S512x512.size inb_S512x512_S512x512_0_0).toLoadRect ((hs0_3 t).unread (iblk m c 3 t)))
      (View.readAt (Elt Ideal) (ms0_6 t).view (Rect.unit (s := S512x1024) ![0, 0] S512x1024.size inb_S512x1024_S512x1024_0_0).toLoadRect ((hs0_6 t).unread (iblk m c 6 t)))
      (View.readAt (Elt Ideal) (ms0_4 t).view (Rect.unit (s := S512x512) ![0, 0] S512x512.size inb_S512x512_S512x512_0_0).toLoadRect ((hs0_4 t).unread (iblk m c 4 t)))
      (View.readAt (Elt Ideal) (ms0_7 t).view (Rect.unit (s := S512x1024) ![0, 0] S512x1024.size inb_S512x1024_S512x1024_0_0).toLoadRect ((hs0_7 t).unread (iblk m c 7 t)))
      (View.readAt (Elt Ideal) (ms0_5 t).view (Rect.unit (s := S512x1024) ![0, 0] S512x1024.size inb_S512x1024_S512x1024_0_0).toLoadRect ((hs0_5 t).unread (iblk m c 5 t)))
      (View.readAt (Elt Ideal) (ms0_8 t).view (Rect.unit (s := S1x1024) ![0, 0] S1x1024.size inb_S1x1024_S1x1024_0_0).toLoadRect ((hs0_8 t).unread (iblk m c 8 t)))⟩] :
      List (View.Piece (Elt Ideal) S512x1024 .bf16)) = _
  rw [View.canon_cons_unit_lit _ _ _ (by decide)]
  rw [View.readAt_eq_ld, View.readAt_eq_ld, View.readAt_eq_ld, View.readAt_eq_ld, View.readAt_eq_ld, View.readAt_eq_ld,
    (hs0_3 t).read_unread, (hs0_6 t).read_unread, (hs0_4 t).read_unread, (hs0_7 t).read_unread, (hs0_5 t).read_unread, (hs0_8 t).read_unread,
    View.ld_unit_lit _ _ (by decide), View.ld_unit_lit _ _ (by decide), View.ld_unit_lit _ _ (by decide), View.ld_unit_lit _ _ (by decide), View.ld_unit_lit _ _ (by decide), View.ld_unit_lit _ _ (by decide)]

end

end Cert.Kernel5Ideal.Proj
-- ==== Proof.OutP.Arrays.lean ====
/- The two arrays the output projection leaves, entry by entry, from its arguments. -/
module

public import proofs.«01_k».proof.Proof.OutP.Block
public import Idealize.ShloMosaic.Lib.Claim

@[expose] public section

set_option maxRecDepth 16384

noncomputable section

namespace Cert.Kernel5Ideal.Proj

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

theorem idx : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0]
    ∧ win0_12.index t = ![t.val, 0] ∧ win0_13.index t = ![t.val, 0] ∧ t.val < 33 :=
  (by decide +kernel : ∀ t : Fin grid0.N, _)

theorem idxP : ∀ t : Fin cfg0.N, t.val < 32 → win0_0.index t = ![t.val, 0] ∧ win0_1.index t = ![t.val, 0] ∧ win0_2.index t = ![t.val, 0] :=
  (by decide +kernel : ∀ t : Fin grid0.N, _)

theorem lt (t : Fin cfg0.N) (i : Fin 512) : 512 * t.val + (i : Nat) < 16896 := by
  have := (idx t).2.2.2.2.2.2.2.2
  omega

/-! The prompt's row `p` and the running streams' row `q`, their mixers' rows, the weight and the gains, on core `c`. -/

section
variable (c : Dev nD)

def oP (p : Fin 16384) (k : Fin 512) : EReal := (m ((c : Thread nD τ).loc main_arg0) : FVec Ideal S16384x512 .bf16) (ix2 p k)
def aP (p : Fin 16384) (k : Fin 512) : EReal := (m ((c : Thread nD τ).loc main_arg1) : FVec Ideal S16384x512 .bf16) (ix2 p k)
def xP (p : Fin 16384) (k : Fin 1024) : EReal :=
  (m ((c : Thread nD τ).loc main_arg2) : FVec Ideal S8x2048x1024 .f32) (ix3 ⟨p / 2048, by omega⟩ ⟨p % 2048, by omega⟩ k)
def oS (q : Fin 512) (k : Fin 512) : EReal := (m ((c : Thread nD τ).loc main_arg3) : FVec Ideal S512x512 .bf16) (ix2 q k)
def aS (q : Fin 512) (k : Fin 512) : EReal := (m ((c : Thread nD τ).loc main_arg4) : FVec Ideal S512x512 .bf16) (ix2 q k)
def xS (q : Fin 512) (k : Fin 1024) : EReal :=
  (m ((c : Thread nD τ).loc main_arg5) : FVec Ideal S32x16x1024 .f32) (ix3 ⟨q / 16, by omega⟩ ⟨q % 16, by omega⟩ k)
def weight (k n : Fin 1024) : EReal := (m ((c : Thread nD τ).loc main_arg6) : FVec Ideal S1x1024x1024 .f32) (ix3 0 k n)
def gains (k : Fin 1024) : EReal := (m ((c : Thread nD τ).loc main_arg7) : FVec Ideal S1x1024 .f32) (ix2 0 k)

end

/-! Lines before the grid, at an entry. -/

theorem rowsP_at (x : FVec Ideal S8x2048x1024 .f32) (p : Fin 16384) (k : Fin 1024) :
    shapeCast S16384x1024 x shapeCasts_S8x2048x1024_S16384x1024 (ix2 p k) = x (ix3 ⟨p / 2048, by omega⟩ ⟨p % 2048, by omega⟩ k) := by
  pointwise []
theorem rowsS_at (x : FVec Ideal S32x16x1024 .f32) (q : Fin 512) (k : Fin 1024) :
    shapeCast S512x1024 x shapeCasts_S32x16x1024_S512x1024 (ix2 q k) = x (ix3 ⟨q / 16, by omega⟩ ⟨q % 16, by omega⟩ k) := by
  pointwise []
theorem first_at (w : FVec Ideal S1x1024x1024 .f32) (k : Fin 512) (n : Fin 1024) :
    (truncf .bf16 (extractStridedSlice S512x1024 ![0, 0] (shapeCast S1024x1024 w shapeCasts_S1x1024x1024_S1024x1024)
      slices_S1024x1024_S512x1024_0_0) bitsLt_bf16_f32 : FVec Ideal S512x1024 .bf16) (ix2 k n) = w (ix3 0 ⟨k, by omega⟩ n) := by
  pointwise []
theorem last_at (w : FVec Ideal S1x1024x1024 .f32) (k : Fin 512) (n : Fin 1024) :
    (truncf .bf16 (extractStridedSlice S512x1024 ![512, 0] (shapeCast S1024x1024 w shapeCasts_S1x1024x1024_S1024x1024)
      slices_S1024x1024_S512x1024_512_0) bitsLt_bf16_f32 : FVec Ideal S512x1024 .bf16) (ix2 k n) = w (ix3 0 ⟨512 + k, by omega⟩ n) := by
  pointwise []
theorem vec_at (g : FVec Ideal S1x1024 .f32) (k : Fin 1024) : broadcastInDim S1x1024 ![1] bcast_S1024_S1x1024_1
    (shapeCast S1024 g shapeCasts_S1x1024_S1024) (ix2 0 k) = g (ix2 0 k) := by
  pointwise []

section
variable (c : Dev nD)

/-! ### The windows' arrays when the grid starts, from the arguments -/

theorem v0 : V m c main_arg0 = (m ((c : Thread nD τ).loc main_arg0) : FVec Ideal S16384x512 .bf16) := by sl_kernel_rfl
theorem v1 : V m c main_arg1 = (m ((c : Thread nD τ).loc main_arg1) : FVec Ideal S16384x512 .bf16) := by sl_kernel_rfl
theorem v11 : V m c main_v11 = shapeCast S16384x1024 (m ((c : Thread nD τ).loc main_arg2) : FVec Ideal S8x2048x1024 .f32)
    shapeCasts_S8x2048x1024_S16384x1024 := by sl_kernel_rfl
theorem v3 : V m c main_arg3 = (m ((c : Thread nD τ).loc main_arg3) : FVec Ideal S512x512 .bf16) := by sl_kernel_rfl
theorem v4 : V m c main_arg4 = (m ((c : Thread nD τ).loc main_arg4) : FVec Ideal S512x512 .bf16) := by sl_kernel_rfl
theorem v12 : V m c main_v12 = shapeCast S512x1024 (m ((c : Thread nD τ).loc main_arg5) : FVec Ideal S32x16x1024 .f32)
    shapeCasts_S32x16x1024_S512x1024 := by sl_kernel_rfl
theorem v2 : V m c main_v2 = (truncf .bf16 (extractStridedSlice S512x1024 ![0, 0]
    (shapeCast S1024x1024 (m ((c : Thread nD τ).loc main_arg6) : FVec Ideal S1x1024x1024 .f32) shapeCasts_S1x1024x1024_S1024x1024)
    slices_S1024x1024_S512x1024_0_0) bitsLt_bf16_f32 : FVec Ideal S512x1024 .bf16) := by sl_kernel_rfl
theorem v5 : V m c main_v5 = (truncf .bf16 (extractStridedSlice S512x1024 ![512, 0]
    (shapeCast S1024x1024 (m ((c : Thread nD τ).loc main_arg6) : FVec Ideal S1x1024x1024 .f32) shapeCasts_S1x1024x1024_S1024x1024)
    slices_S1024x1024_S512x1024_512_0) bitsLt_bf16_f32 : FVec Ideal S512x1024 .bf16) := by sl_kernel_rfl
theorem v14 : V m c main_v14 = broadcastInDim S1x1024 ![1] bcast_S1024_S1x1024_1
    (shapeCast S1024 (m ((c : Thread nD τ).loc main_arg7) : FVec Ideal S1x1024 .f32) shapeCasts_S1x1024_S1024) := by sl_kernel_rfl

variable (t : Fin cfg0.N)

theorem rd0 (h : t.val < 32) (X : FVec Ideal S16384x512 .bf16) (i k : Fin 512) :
    (win0_0.blk t).view.read (Elt Ideal) X (ix2 i k) = X (ix2 ⟨512 * t.val + i, by omega⟩ k) := by
  blk_ext [idxP t h]
theorem rd1 (h : t.val < 32) (X : FVec Ideal S16384x512 .bf16) (i k : Fin 512) :
    (win0_1.blk t).view.read (Elt Ideal) X (ix2 i k) = X (ix2 ⟨512 * t.val + i, by omega⟩ k) := by
  blk_ext [idxP t h]
theorem rd2 (h : t.val < 32) (X : FVec Ideal S16384x1024 .f32) (i : Fin 512) (k : Fin 1024) :
    (win0_2.blk t).view.read (Elt Ideal) X (ix2 i k) = X (ix2 ⟨512 * t.val + i, by omega⟩ k) := by
  blk_ext [idxP t h]
theorem rd3 (X : FVec Ideal S512x512 .bf16) (i k : Fin 512) : (win0_3.blk t).view.read (Elt Ideal) X (ix2 i k) = X (ix2 i k) := by
  blk_ext [idx t]
theorem rd4 (X : FVec Ideal S512x512 .bf16) (i k : Fin 512) : (win0_4.blk t).view.read (Elt Ideal) X (ix2 i k) = X (ix2 i k) := by
  blk_ext [idx t]
theorem rd5 (X : FVec Ideal S512x1024 .f32) (i : Fin 512) (k : Fin 1024) : (win0_5.blk t).view.read (Elt Ideal) X (ix2 i k) = X (ix2 i k) := by
  blk_ext [idx t]
theorem rd6 (X : FVec Ideal S512x1024 .bf16) (k : Fin 512) (n : Fin 1024) : (win0_6.blk t).view.read (Elt Ideal) X (ix2 k n) = X (ix2 k n) := by
  blk_ext [idx t]
theorem rd7 (X : FVec Ideal S512x1024 .bf16) (k : Fin 512) (n : Fin 1024) : (win0_7.blk t).view.read (Elt Ideal) X (ix2 k n) = X (ix2 k n) := by
  blk_ext [idx t]
theorem rd8 (X : FVec Ideal S1x1024 .f32) (k : Fin 1024) : (win0_8.blk t).view.read (Elt Ideal) X (ix2 0 k) = X (ix2 0 k) := by
  blk_ext [idx t]

/-! ### Each block at an entry -/

theorem oP_at (h : t.val < 32) (i k : Fin 512) : (iblk m c 0 t : FVec Ideal S512x512 .bf16) (ix2 i k) = oP m c ⟨512 * t.val + i, by omega⟩ k :=
  (congrFun (congrArg ((win0_0.blk t).view.read (Elt Ideal)) (v0 m c)) (ix2 i k)).trans (rd0 t h _ i k)
theorem aP_at (h : t.val < 32) (i k : Fin 512) : (iblk m c 1 t : FVec Ideal S512x512 .bf16) (ix2 i k) = aP m c ⟨512 * t.val + i, by omega⟩ k :=
  (congrFun (congrArg ((win0_1.blk t).view.read (Elt Ideal)) (v1 m c)) (ix2 i k)).trans (rd1 t h _ i k)
theorem xP_at (h : t.val < 32) (i : Fin 512) (k : Fin 1024) :
    (iblk m c 2 t : FVec Ideal S512x1024 .f32) (ix2 i k) = xP m c ⟨512 * t.val + i, by omega⟩ k := by
  refine (congrFun (congrArg ((win0_2.blk t).view.read (Elt Ideal)) (v11 m c)) (ix2 i k)).trans ((rd2 t h _ i k).trans ?_)
  exact rowsP_at _ _ k
theorem oS_at (i k : Fin 512) : (iblk m c 3 t : FVec Ideal S512x512 .bf16) (ix2 i k) = oS m c i k :=
  (congrFun (congrArg ((win0_3.blk t).view.read (Elt Ideal)) (v3 m c)) (ix2 i k)).trans (rd3 t _ i k)
theorem aS_at (i k : Fin 512) : (iblk m c 4 t : FVec Ideal S512x512 .bf16) (ix2 i k) = aS m c i k :=
  (congrFun (congrArg ((win0_4.blk t).view.read (Elt Ideal)) (v4 m c)) (ix2 i k)).trans (rd4 t _ i k)
theorem xS_at (i : Fin 512) (k : Fin 1024) : (iblk m c 5 t : FVec Ideal S512x1024 .f32) (ix2 i k) = xS m c i k := by
  refine (congrFun (congrArg ((win0_5.blk t).view.read (Elt Ideal)) (v12 m c)) (ix2 i k)).trans ((rd5 t _ i k).trans ?_)
  exact rowsS_at _ _ k
theorem wo_at (k : Fin 512) (n : Fin 1024) : (iblk m c 6 t : FVec Ideal S512x1024 .bf16) (ix2 k n) = weight m c ⟨k, by omega⟩ n := by
  refine (congrFun (congrArg ((win0_6.blk t).view.read (Elt Ideal)) (v2 m c)) (ix2 k n)).trans ((rd6 t _ k n).trans ?_)
  exact first_at _ k n
theorem wa_at (k : Fin 512) (n : Fin 1024) : (iblk m c 7 t : FVec Ideal S512x1024 .bf16) (ix2 k n) = weight m c ⟨512 + k, by omega⟩ n := by
  refine (congrFun (congrArg ((win0_7.blk t).view.read (Elt Ideal)) (v5 m c)) (ix2 k n)).trans ((rd7 t _ k n).trans ?_)
  exact last_at _ k n
theorem g_at (k : Fin 1024) : (iblk m c 8 t : FVec Ideal S1x1024 .f32) (ix2 0 k) = gains m c k := by
  refine (congrFun (congrArg ((win0_8.blk t).view.read (Elt Ideal)) (v14 m c)) (ix2 0 k)).trans ((rd8 t _ k).trans ?_)
  exact vec_at _ k

end

/-! ### The arrays after the run -/

/-- Row `r` of the prompt's rows and then the running streams', projected. -/
def mixedRow (c : Dev nD) (r : Fin 16896) : Fin 1024 → EReal :=
  if h : (r : Nat) < 16384 then Outproj.mix (oP m c ⟨r, h⟩) (aP m c ⟨r, h⟩) (xP m c ⟨r, h⟩) (weight m c)
  else Outproj.mix (oS m c ⟨r - 16384, by omega⟩) (aS m c ⟨r - 16384, by omega⟩) (xS m c ⟨r - 16384, by omega⟩) (weight m c)

def rows (c : Dev nD) : FVec Ideal S16896x1024 .f32 := fun y => mixedRow m c (y 0) (y 1)
def normed (c : Dev nD) : FVec Ideal S16896x1024 .bf16 := fun y => Inproj.nrm (mixedRow m c (y 0)) (gains m c) (y 1)

theorem mixed_eq {o a : FVec Ideal S512x512 .bf16} {wo wa : FVec Ideal S512x1024 .bf16} {x : FVec Ideal S512x1024 .f32} {i : Fin 512}
    {o' a' : Fin 512 → EReal} {x' : Fin 1024 → EReal} {w : Fin 1024 → Fin 1024 → EReal}
    (ho : ∀ k, o (ix2 i k) = o' k) (ha : ∀ k, a (ix2 i k) = a' k) (hx : ∀ n, x (ix2 i n) = x' n)
    (hwo : ∀ (k : Fin 512) n, wo (ix2 k n) = w ⟨k, by omega⟩ n) (hwa : ∀ (k : Fin 512) n, wa (ix2 k n) = w ⟨512 + k, by omega⟩ n) :
    mixed o a wo wa x i = Outproj.mix o' a' x' w := by
  funext n
  unfold mixed Outproj.mix
  rw [hx n]
  exact congrArg₂ (fun p q => x' n + (p + q)) (Finset.sum_congr rfl fun k _ => by rw [ho k, hwo k n])
    (Finset.sum_congr rfl fun k _ => by rw [ha k, hwa k n])

section
variable (c : Dev nD) (t : Fin cfg0.N) (i : Fin 512)

theorem promptMixed (h : t.val < 32) : mixed (iblk m c 0 t) (iblk m c 1 t) (iblk m c 6 t) (iblk m c 7 t) (iblk m c 2 t) i
    = mixedRow m c ⟨512 * t.val + i, lt t i⟩ := by
  unfold mixedRow
  rw [dif_pos (show 512 * t.val + (i : Nat) < 16384 by omega)]
  exact mixed_eq (oP_at m c t h i) (aP_at m c t h i) (xP_at m c t h i) (wo_at m c t) (wa_at m c t)

theorem streamMixed (h : ¬t.val < 32) : mixed (iblk m c 3 t) (iblk m c 4 t) (iblk m c 6 t) (iblk m c 7 t) (iblk m c 5 t) i
    = mixedRow m c ⟨512 * t.val + i, lt t i⟩ := by
  unfold mixedRow
  have ht := (idx t).2.2.2.2.2.2.2.2
  rw [dif_neg (show ¬512 * t.val + (i : Nat) < 16384 by omega)]
  have hi : (⟨512 * t.val + (i : Nat) - 16384, by omega⟩ : Fin 512) = i := Fin.ext (by show 512 * t.val + (i : Nat) - 16384 = i; omega)
  simp only [hi]
  exact mixed_eq (oS_at m c t i) (aS_at m c t i) (xS_at m c t i) (wo_at m c t) (wa_at m c t)

theorem point12 (n : Fin 1024) : (dats m 0 c).after 12 t (ix2 i n) = rows m c (ix2 ⟨512 * t.val + i, lt t i⟩ n) := by
  refine (congrFun (after0_12 m c t) (ix2 i n)).trans ?_
  have ht := (idx t).2.2.2.2.2.2.2.2
  by_cases h : t.val < 32
  · refine (congrFun (promptRows m c t h (by omega)) (ix2 i n)).trans ((pay5_at _ _ _ _ _ i n).trans ?_)
    exact congrFun (promptMixed m c t i h) n
  · refine (congrFun (streamRows m c t h (by omega)) (ix2 i n)).trans ((pay39_at _ _ _ _ _ i n).trans ?_)
    exact congrFun (streamMixed m c t i h) n

theorem nrm_eq {x x' g g' : Fin 1024 → EReal} (hx : x = x') (hg : ∀ k, g k = g' k) (n : Fin 1024) : Inproj.nrm x g n = Inproj.nrm x' g' n := by
  obtain rfl := hx
  obtain rfl : g = g' := funext hg
  rfl

theorem point13 (n : Fin 1024) : (dats m 0 c).after 13 t (ix2 i n) = normed m c (ix2 ⟨512 * t.val + i, lt t i⟩ n) := by
  refine (congrFun (after0_13 m c t) (ix2 i n)).trans ?_
  have ht := (idx t).2.2.2.2.2.2.2.2
  by_cases h : t.val < 32
  · refine (congrFun (promptNormed m c t h (by omega)) (ix2 i n)).trans ((pay7_at _ _ _ _ _ _ i n).trans ?_)
    exact nrm_eq (promptMixed m c t i h) (g_at m c t) n
  · refine (congrFun (streamNormed m c t h (by omega)) (ix2 i n)).trans ((pay41_at _ _ _ _ _ _ i n).trans ?_)
    exact nrm_eq (streamMixed m c t i h) (g_at m c t) n

end

theorem final12 (c : Dev nD) : (dats m 0 c).arrAt 12 cfg0.N = rows m c := by
  refine (dats m 0 c).arrAt_eq_of_covers 12 _ (by decide +kernel) fun t _ y => ?_
  obtain ⟨i, n, rfl⟩ : ∃ (i : Fin 512) (n : Fin 1024), y = ix2 i n := ⟨y 0, y 1, by funext a; fin_cases a <;> rfl⟩
  blk_simp
  refine (point12 m c t i n).trans ?_
  have := lt t i
  refine congrArg (rows m c) ?_
  blk_ext [idx t]

theorem final13 (c : Dev nD) : (dats m 0 c).arrAt 13 cfg0.N = normed m c := by
  refine (dats m 0 c).arrAt_eq_of_covers 13 _ (by decide +kernel) fun t _ y => ?_
  obtain ⟨i, n, rfl⟩ : ∃ (i : Fin 512) (n : Fin 1024), y = ix2 i n := ⟨y 0, y 1, by funext a; fin_cases a <;> rfl⟩
  blk_simp
  refine (point13 m c t i n).trans ?_
  have := lt t i
  refine congrArg (normed m c) ?_
  blk_ext [idx t]

/-- The two results. -/
theorem results (ρ : Dev nD → PrngReg) : θ_run defs (onTc (τ := τ) (main (F := Ideal))) ⟨m, fun _ => 0, ρ⟩ (fun r => ∀ c : Dev nD,
      r.2.mem ((c.tc : Thread nD τ).loc main_v23_0) = rows m c ∧ r.2.mem ((c.tc : Thread nD τ).loc main_v23_1) = normed m c) :=
  (θ_run defs _ _).mono (fun _ h c => ⟨((h c).1 12).trans (final12 m c), ((h c).1 13).trans (final13 m c)⟩) (run_main m ρ)

end Cert.Kernel5Ideal.Proj
-- ==== Proof.OutP.Ref.lean ====
/- The reference of the output projection, by stages and at an entry. -/
module

public import proofs.«01_k».proof.Proof.Outproj
public import proofs.«01_k».proof.Proof.Gen.Reference5Ideal.Run
public import Idealize.ShloMosaic.Lib.Quiescent

@[expose] public section

set_option maxRecDepth 16384

noncomputable section

namespace Cert.Reference5Ideal.Stage

open Idealize.ShloMosaic Idealize.ShloMosaic.TcCoe Idealize.SL.Sem Cert.Reference5Ideal Cert.Reference5Ideal.Gen

/-- The two mixers' rows side by side, for the prompt and for the running streams. -/
def joinedP (o a : FVec Ideal S16384x512 .bf16) : FVec Ideal S16384x1024 .bf16 :=
  concatenate S16384x1024 1 [⟨S16384x512, o⟩, ⟨S16384x512, a⟩] concatenates_S16384x512_S16384x512_S16384x1024_d1
def joinedS (o a : FVec Ideal S512x512 .bf16) : FVec Ideal S512x1024 .bf16 :=
  concatenate S512x1024 1 [⟨S512x512, o⟩, ⟨S512x512, a⟩] concatenates_S512x512_S512x512_S512x1024_d1

/-- The rows plus the projection of their mixers' rows. -/
def mixP (o a : FVec Ideal S16384x512 .bf16) (x : FVec Ideal S8x2048x1024 .f32) (w : FVec Ideal S1x1024x1024 .f32) : FVec Ideal S16384x1024 .f32 :=
  addf (shapeCast S16384x1024 x shapeCasts_S8x2048x1024_S16384x1024)
    (Host.dotGeneral dot_S16384x1024_S1024x1024_S16384x1024_1_0_0_1_n_n none (extf .f32 (joinedP o a) bitsLt_bf16_f32)
      (shapeCast S1024x1024 w shapeCasts_S1x1024x1024_S1024x1024))
def mixS (o a : FVec Ideal S512x512 .bf16) (x : FVec Ideal S32x16x1024 .f32) (w : FVec Ideal S1x1024x1024 .f32) : FVec Ideal S512x1024 .f32 :=
  addf (shapeCast S512x1024 x shapeCasts_S32x16x1024_S512x1024)
    (Host.dotGeneral dot_S512x1024_S1024x1024_S512x1024_1_0_0_1_n_n none (extf .f32 (joinedS o a) bitsLt_bf16_f32)
      (shapeCast S1024x1024 w shapeCasts_S1x1024x1024_S1024x1024))

/-- The prompt's rows and then the running streams'. -/
def rows (p : FVec Ideal S16384x1024 .f32) (s : FVec Ideal S512x1024 .f32) : FVec Ideal S16896x1024 .f32 :=
  concatenate S16896x1024 0 [⟨S16384x1024, p⟩, ⟨S512x1024, s⟩] concatenates_S16384x1024_S512x1024_S16896x1024_d0

/-- The normed rows. -/
def normed (x : FVec Ideal S16896x1024 .f32) (g : FVec Ideal S1x1024 .f32) : FVec Ideal S16896x1024 .bf16 :=
  truncf .bf16 (mulf (mulf x (broadcastInDim S16896x1024 ![0, 1] bcast_S16896x1_S16896x1024_0_1
      (Host.rsqrt (addf (Host.divf (broadcastInDim S16896x1 ![0] bcast_S16896_S16896x1_0
          (Host.reduceAdd (mulf x x) (constant S_ .f32 0x00000000#32) reducesTo_S16896x1024_S16896_d1 h_S_))
        (broadcastInDim S16896x1 ![] bcast_S_S16896x1 (constant S_ .f32 0x44800000#32)))
        (broadcastInDim S16896x1 ![] bcast_S_S16896x1 (constant S_ .f32 0x358637BD#32))))))
    (broadcastInDim S16896x1024 ![0, 1] bcast_S1x1024_S16896x1024_0_1
      (broadcastInDim S1x1024 ![1] bcast_S1024_S1x1024_1 (shapeCast S1024 g shapeCasts_S1x1024_S1024)))) bitsLt_bf16_f32

/-! ### At an entry -/

section
variable (o a : FVec Ideal S16384x512 .bf16) (x : FVec Ideal S8x2048x1024 .f32) (w : FVec Ideal S1x1024x1024 .f32) (p : Fin 16384)

theorem firstP (k : Fin 512) : joinedP o a (ix2 p ⟨k, by omega⟩) = o (ix2 p k) := by
  pointwise [joinedP]
theorem lastP (k : Fin 512) : joinedP o a (ix2 p ⟨512 + k, by omega⟩) = a (ix2 p k) := by
  pointwise [joinedP]

theorem mixP_at (n : Fin 1024) : mixP o a x w (ix2 p n)
    = Outproj.mix (fun k => o (ix2 p k)) (fun k => a (ix2 p k)) (fun k => x (ix3 ⟨p / 2048, by omega⟩ ⟨p % 2048, by omega⟩ k))
        (fun k n => w (ix3 0 k n)) n := by
  pointwise [mixP]
  refine congrArg (x _ + ·) ?_
  exact Outproj.dot_joined _ _ _ _ (firstP o a p) (lastP o a p)

end

section
variable (o a : FVec Ideal S512x512 .bf16) (x : FVec Ideal S32x16x1024 .f32) (w : FVec Ideal S1x1024x1024 .f32) (q : Fin 512)

theorem firstS (k : Fin 512) : joinedS o a (ix2 q ⟨k, by omega⟩) = o (ix2 q k) := by
  pointwise [joinedS]
theorem lastS (k : Fin 512) : joinedS o a (ix2 q ⟨512 + k, by omega⟩) = a (ix2 q k) := by
  pointwise [joinedS]

theorem mixS_at (n : Fin 1024) : mixS o a x w (ix2 q n)
    = Outproj.mix (fun k => o (ix2 q k)) (fun k => a (ix2 q k)) (fun k => x (ix3 ⟨q / 16, by omega⟩ ⟨q % 16, by omega⟩ k))
        (fun k n => w (ix3 0 k n)) n := by
  pointwise [mixS]
  refine congrArg (x _ + ·) ?_
  exact Outproj.dot_joined _ _ _ _ (firstS o a q) (lastS o a q)

end

theorem rows_at (p : FVec Ideal S16384x1024 .f32) (s : FVec Ideal S512x1024 .f32) (r : Fin 16896) (n : Fin 1024) :
    rows p s (ix2 r n) = if h : (r : Nat) < 16384 then p (ix2 ⟨r, h⟩ n) else s (ix2 ⟨r - 16384, by omega⟩ n) := by
  pointwise [rows]

theorem normed_at (x : FVec Ideal S16896x1024 .f32) (g : FVec Ideal S1x1024 .f32) (r : Fin 16896) (n : Fin 1024) :
    normed x g (ix2 r n) = Inproj.nrm (fun k => x (ix2 r k)) (fun k => g (ix2 0 k)) n := by
  pointwise [normed]
  rfl

/-! ### The run -/

/-- The two results and the arguments, from the launch's arguments. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v12) = rows (mixP (m (c.tc.loc main_arg0)) (m (c.tc.loc main_arg1)) (m (c.tc.loc main_arg2)) (m (c.tc.loc main_arg6)))
          (mixS (m (c.tc.loc main_arg3)) (m (c.tc.loc main_arg4)) (m (c.tc.loc main_arg5)) (m (c.tc.loc main_arg6)))
      ∧ r.2.mem ((c.tc : Thread nD τ).loc main_v27) = normed (rows (mixP (m (c.tc.loc main_arg0)) (m (c.tc.loc main_arg1)) (m (c.tc.loc main_arg2)) (m (c.tc.loc main_arg6)))
          (mixS (m (c.tc.loc main_arg3)) (m (c.tc.loc main_arg4)) (m (c.tc.loc main_arg5)) (m (c.tc.loc main_arg6)))) (m (c.tc.loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 := by
  refine (θ_run defs _ _).mono ?_ (Value.run (F := Ideal) m ρ)
  intro r h
  refine ⟨fun c => ?_, sem_eq_zero_of_no_sems rfl _⟩
  obtain ⟨h0, h1, rest⟩ := h c
  exact ⟨h0, h1, rest⟩

end Cert.Reference5Ideal.Stage
-- ==== Proof.OutP.Agree.lean ====
/- The output projection: the call's two results are its reference's, over the extended reals. -/
module

public import proofs.«01_k».proof.Defs
public import proofs.«01_k».proof.Proof.OutP.Arrays
public import proofs.«01_k».proof.Proof.OutP.Ref

@[expose] public section

set_option maxRecDepth 16384

noncomputable section

namespace Cert.OutP

open Idealize.ShloMosaic Idealize.ShloMosaic.TcCoe Idealize.SL.Sem

open Cert.Kernel5Ideal.Proj in
open Cert.Kernel5Ideal in
/-- The reference's row is the call's. -/
theorem hidden_eq (m : (ℓ : Loc nD τ sig) → Buf (Elt Ideal) ℓ) (c : Dev nD) (r : Fin 16896) (n : Fin 1024) :
    Cert.Reference5Ideal.Stage.rows
        (Cert.Reference5Ideal.Stage.mixP (m (c.tc.loc main_arg0)) (m (c.tc.loc main_arg1)) (m (c.tc.loc main_arg2)) (m (c.tc.loc main_arg6)))
        (Cert.Reference5Ideal.Stage.mixS (m (c.tc.loc main_arg3)) (m (c.tc.loc main_arg4)) (m (c.tc.loc main_arg5)) (m (c.tc.loc main_arg6)))
        (ix2 r n) = mixedRow m c r n := by
  rw [Cert.Reference5Ideal.Stage.rows_at]
  unfold mixedRow
  by_cases h : (r : Nat) < 16384
  · rw [dif_pos h, dif_pos h]
    exact Cert.Reference5Ideal.Stage.mixP_at _ _ _ _ _ n
  · rw [dif_neg h, dif_neg h]
    exact Cert.Reference5Ideal.Stage.mixS_at _ _ _ _ _ n

open Cert.Kernel5Ideal.Proj in
theorem agree : Cert.algebraic_Kernel5Ideal_Reference5Ideal := by
  intro m g m' g' hpre hagree
  have h0 : ∀ c, _ := fun c => (hagree c).1
  have h1 : ∀ c, _ := fun c => (hagree c).2.1
  have h2 : ∀ c, _ := fun c => (hagree c).2.2.1
  have h3 : ∀ c, _ := fun c => (hagree c).2.2.2.1
  have h4 : ∀ c, _ := fun c => (hagree c).2.2.2.2.1
  have h5 : ∀ c, _ := fun c => (hagree c).2.2.2.2.2.1
  have h6 : ∀ c, _ := fun c => (hagree c).2.2.2.2.2.2.1
  have h7 : ∀ c, _ := fun c => (hagree c).2.2.2.2.2.2.2.1
  refine ⟨fun c => rows m c, fun c => normed m c, ?_, ?_⟩
  · exact (θ_run (Cert.Kernel5Ideal.defs (F := Ideal)) _ _).mono
      (fun r h c => ⟨(h.1 c).1, (h.1 c).2, h.2 c⟩)
      (θ_run_and (results m g) (Cert.Kernel5Ideal.Gen.unchanged m g))
  · refine (θ_run (Cert.Reference5Ideal.defs (F := Ideal)) _ _).mono ?_ (Cert.Reference5Ideal.Stage.run m' g')
    intro r h c
    obtain ⟨e0, e1, rest⟩ := h.1 c
    refine ⟨e0.trans ?_, e1.trans ?_, rest⟩
    · rw [h0 c, h1 c, h2 c, h3 c, h4 c, h5 c, h6 c]
      funext y
      obtain ⟨p, n, rfl⟩ : ∃ (p : Fin 16896) (n : Fin 1024), y = (ix2 p n : Cert.Reference5Ideal.S16896x1024.Idx) :=
        ⟨y 0, y 1, by funext a; fin_cases a <;> rfl⟩
      exact hidden_eq m c p n
    · rw [h0 c, h1 c, h2 c, h3 c, h4 c, h5 c, h6 c, h7 c]
      funext y
      obtain ⟨p, n, rfl⟩ : ∃ (p : Fin 16896) (n : Fin 1024), y = (ix2 p n : Cert.Reference5Ideal.S16896x1024.Idx) :=
        ⟨y 0, y 1, by funext a; fin_cases a <;> rfl⟩
      refine (Cert.Reference5Ideal.Stage.normed_at _ _ p n).trans ?_
      exact congrArg (fun x => Inproj.nrm x (gains m c) n) (funext fun k => hidden_eq m c p k)

end Cert.OutP
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Arrays
public import proofs.«01_k».proof.Proof.RefRun
public import proofs.«01_k».proof.Proof.PreFinite
public import proofs.«01_k».proof.Proof.ExB.Frame
public import proofs.«01_k».proof.Proof.ExI.Agree
public import proofs.«01_k».proof.Proof.InP.Agree
public import proofs.«01_k».proof.Proof.InS.Agree
public import proofs.«01_k».proof.Proof.OutP.Agree
public import Idealize.ShloMosaic.Adequacy
public import Idealize.ShloMosaic.Init
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Pre_tables
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run

@[expose] public section

noncomputable section

namespace Cert.Proof

open Idealize.ShloMosaic Idealize.SL.Sem Cert.Kernel

/-- The reference with its arguments and counters only. -/
theorem reference_frame [Cert.Pre_finite.Facts] : Cert.quiescent_ReferenceIdeal := fun m ρ _ =>
  (θ_run (Cert.ReferenceIdeal.defs (F := Ideal)) _ _).mono (fun _ h => ⟨fun c => (h.1 c).2.2, h.2⟩) (Cert.ReferenceIdeal.Stage.run m ρ)

/-- The call's results are the reference's, over the extended reals. -/
theorem value : Cert.algebraic_KernelIdeal_ReferenceIdeal_pre_finite := by
  intro m g m' g' hpre hagree
  have f : ∀ c b, (Cert.KernelIdeal.Unit.str m c b).Fin' := fun c b => Cert.Pre_finite.finite _ _ _ _ _ _ _ (hpre c) b
  have hs : ∀ c b, Cert.ReferenceIdeal.Stage.str m' c b = Cert.KernelIdeal.Unit.str m c b := by
    intro c b
    obtain ⟨h0, h1, h2, h3, h4, h5, h6⟩ := hagree c
    unfold Cert.ReferenceIdeal.Stage.str Cert.KernelIdeal.Unit.str
    rw [h0, h1, h2, h3, h4, h5, h6]
  have ho : ∀ c, Cert.ReferenceIdeal.Stage.outs m' c = Cert.KernelIdeal.Unit.outs m c := fun c => by
    funext y
    exact (congrArg (fun a : Gdn.Chunk => a.outSub (y 1) (y 2)) (hs c (y 0))).trans (Gdn.Chunk.out_eq (f c (y 0)) (y 1) (y 2)).symm
  have hn : ∀ c, Cert.ReferenceIdeal.Stage.news m' c = Cert.KernelIdeal.Unit.news m c := fun c => by
    funext y
    exact (congrArg (fun a : Gdn.Chunk => a.newSub (y 1) (y 2) (y 3)) (hs c (y 0))).trans (Gdn.Chunk.new_eq (f c (y 0)) (y 1) (y 2) (y 3)).symm
  refine ⟨fun c => Cert.KernelIdeal.Unit.outs m c, fun c => Cert.KernelIdeal.Unit.news m c, ?_, ?_⟩
  · exact (θ_run (Cert.KernelIdeal.defs (F := Ideal)) _ _).mono
      (fun r h c => ⟨(h c).1.trans (Cert.KernelIdeal.Unit.final8 m c), (h c).2.1.trans (Cert.KernelIdeal.Unit.final9 m c), (h c).2.2⟩)
      (Cert.KernelIdeal.Value.run_blocks m g)
  · exact (θ_run (Cert.ReferenceIdeal.defs (F := Ideal)) _ _).mono
      (fun r h c => ⟨(h.1 c).1.trans (ho c), (h.1 c).2.1.trans (hn c), (h.1 c).2.2⟩) (Cert.ReferenceIdeal.Stage.run m' g')

/-- The expert call at its own formats: it runs, and leaves its arguments and counters. -/
theorem experts_frame [Cert.Pre_tables.Facts] : Cert.quiescent_Kernel2 := fun m ρ h =>
  Cert.Kernel2.Experts.frame_main m ρ (Cert.Experts.sched _ _ _ _ _ _ _ _ _ _ (h 0).1 (h 0).2.1 (h 0).2.2)

theorem experts_reference_frame : Cert.quiescent_Reference2Ideal := fun m ρ _ =>
  (θ_run (Cert.Reference2Ideal.defs (F := Ideal)) _ _).mono (fun _ h => ⟨fun c => (h.1 c).2, h.2⟩) (Cert.Experts.ref_run m ρ)

theorem prompt_reference_frame : Cert.quiescent_Reference3Ideal := fun m ρ _ =>
  (θ_run (Cert.Reference3Ideal.defs (F := Ideal)) _ _).mono (fun _ h => ⟨fun c => (h.1 c).2.2.2.2.2, h.2⟩) (Cert.Reference3Ideal.Stage.run m ρ)

theorem sample_reference_frame : Cert.quiescent_Reference4Ideal := fun m ρ _ =>
  (θ_run (Cert.Reference4Ideal.defs (F := Ideal)) _ _).mono (fun _ h => ⟨fun c => (h.1 c).2.2.2.2.2, h.2⟩) (Cert.Reference4Ideal.Stage.run m ρ)

theorem output_reference_frame : Cert.quiescent_Reference5Ideal := fun m ρ _ =>
  (θ_run (Cert.Reference5Ideal.defs (F := Ideal)) _ _).mono (fun _ h => ⟨fun c => (h.1 c).2.2, h.2⟩) (Cert.Reference5Ideal.Stage.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_tables.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  experts_frame, fun m ρ h => Cert.Kernel2Ideal.Experts.frame_main m ρ (Cert.Experts.ordered m h),
  experts_reference_frame, fun m ρ _ => experts_reference_frame m ρ trivial,
  fun m ρ _ => Cert.Kernel3.Gen.frame m ρ, fun m ρ _ => Cert.Kernel3Ideal.Gen.frame m ρ, prompt_reference_frame,
  fun m ρ _ => Cert.Kernel4.Gen.frame m ρ, fun m ρ _ => Cert.Kernel4Ideal.Gen.frame m ρ, sample_reference_frame,
  fun m ρ _ => Cert.Kernel5.Gen.frame m ρ, fun m ρ _ => Cert.Kernel5Ideal.Gen.frame m ρ, output_reference_frame,
  trivial, value, trivial, Cert.Experts.agree, trivial, Cert.InP.agree, trivial, Cert.InS.agree, trivial, Cert.OutP.agree⟩

end Cert.Proof

end
